-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x8192x3072 : Shape := ⟨3, ![2, 8192, 3072]⟩
abbrev S2x8192x128 : Shape := ⟨3, ![2, 8192, 128]⟩
abbrev S2x8192x512 : Shape := ⟨3, ![2, 8192, 512]⟩
abbrev S1x2048x256 : Shape := ⟨3, ![1, 2048, 256]⟩
abbrev S1x2048x128 : Shape := ⟨3, ![1, 2048, 128]⟩
abbrev S1x8192x256 : Shape := ⟨3, ![1, 8192, 256]⟩
abbrev S1x8192x128 : Shape := ⟨3, ![1, 8192, 128]⟩
abbrev S2048x256 : Shape := ⟨2, ![2048, 256]⟩
abbrev S2x2048x256 : Shape := ⟨3, ![2, 2048, 256]⟩
abbrev S2x2048x128 : Shape := ⟨3, ![2, 2048, 128]⟩
abbrev S2048x128 : Shape := ⟨2, ![2048, 128]⟩
abbrev S256x128 : Shape := ⟨2, ![256, 128]⟩
abbrev S1x256x128 : Shape := ⟨3, ![1, 256, 128]⟩
abbrev S256x256 : Shape := ⟨2, ![256, 256]⟩
abbrev S2048 : Shape := ⟨1, ![2048]⟩
abbrev S2048x1 : Shape := ⟨2, ![2048, 1]⟩
abbrev S1792x256 : Shape := ⟨2, ![1792, 256]⟩
abbrev S1x1792x128 : Shape := ⟨3, ![1, 1792, 128]⟩
abbrev S1792x128 : Shape := ⟨2, ![1792, 128]⟩
abbrev S1792 : Shape := ⟨1, ![1792]⟩
abbrev S1792x1 : Shape := ⟨2, ![1792, 1]⟩
abbrev S1536x256 : Shape := ⟨2, ![1536, 256]⟩
abbrev S1x1792x256 : Shape := ⟨3, ![1, 1792, 256]⟩
abbrev S1x1536x128 : Shape := ⟨3, ![1, 1536, 128]⟩
abbrev S1536x128 : Shape := ⟨2, ![1536, 128]⟩
abbrev S1536 : Shape := ⟨1, ![1536]⟩
abbrev S1536x1 : Shape := ⟨2, ![1536, 1]⟩
abbrev S1280x256 : Shape := ⟨2, ![1280, 256]⟩
abbrev S1x1536x256 : Shape := ⟨3, ![1, 1536, 256]⟩
abbrev S1x1280x128 : Shape := ⟨3, ![1, 1280, 128]⟩
abbrev S1280x128 : Shape := ⟨2, ![1280, 128]⟩
abbrev S1280 : Shape := ⟨1, ![1280]⟩
abbrev S1280x1 : Shape := ⟨2, ![1280, 1]⟩
abbrev S1024x256 : Shape := ⟨2, ![1024, 256]⟩
abbrev S1x1280x256 : Shape := ⟨3, ![1, 1280, 256]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S768x256 : Shape := ⟨2, ![768, 256]⟩
abbrev S1x1024x256 : Shape := ⟨3, ![1, 1024, 256]⟩
abbrev S1x768x128 : Shape := ⟨3, ![1, 768, 128]⟩
abbrev S768x128 : Shape := ⟨2, ![768, 128]⟩
abbrev S768 : Shape := ⟨1, ![768]⟩
abbrev S768x1 : Shape := ⟨2, ![768, 1]⟩
abbrev S512x256 : Shape := ⟨2, ![512, 256]⟩
abbrev S1x768x256 : Shape := ⟨3, ![1, 768, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x512x256 : Shape := ⟨3, ![1, 512, 256]⟩
abbrev S256 : Shape := ⟨1, ![256]⟩
abbrev S256x1 : Shape := ⟨2, ![256, 1]⟩
abbrev S1x256x256 : Shape := ⟨3, ![1, 256, 256]⟩

abbrev nBuf : Space → Nat
  | .hbm => 4
  | .vmem => 19
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x128, .bf16⟩
  | .hbm, ⟨2, _⟩ => ⟨S2x8192x128, .bf16⟩
  | .hbm, ⟨3, _⟩ => ⟨S2x8192x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x8192x256, .bf16⟩
  | .local _ .vmem, ⟨9, _⟩ => ⟨S1x8192x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2x2048x256, .f32⟩
  | .local _ .vmem, ⟨17, _⟩ => ⟨S2x2048x128, .f32⟩
  | .local _ .vmem, ⟨18, _⟩ => ⟨S2x2048x128, .f32⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 4], ![false, false, false]⟩

def k0_mult1 : BitVec 32 :=
  let c0_i32_37 : BitVec 32 := 0#32
  c0_i32_37
@[reducible] def k0_t1_loop (i : grid0.Coords) : Scf.Loop 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_48 : BitVec 32 := 1#32
  ⟨c0_i32_45, v102, c1_i32_48⟩
def k0_mult2 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c0_i32_765 : BitVec 32 := 0#32
  let v1140 : BitVec 32 := Scalar.addi v1139 c0_i32_765
  let c256_i32_766 : BitVec 32 := 256#32
  let v1141 : BitVec 32 := Scalar.muli v1140 c256_i32_766
  v1141
def k0_off1 (i : grid0.Coords) (k0_t1 : Fin (k0_t1_loop i).trips) (c0_i32_765 : BitVec 32) : Fin 3 → Nat :=
  let c0_767 : Index := 0#32
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let v1140 : BitVec 32 := Scalar.addi v1139 c0_i32_765
  let c256_i32_766 : BitVec 32 := 256#32
  let v1141 : BitVec 32 := Scalar.muli v1140 c256_i32_766
  let v1142 : BitVec 32 := v1141
  let v1143 : Index := Scalar.indexCast v1142
  let c128_768 : Index := 128#32
  ![0, v1143.toNat, 128]
def k0_off2 (i : grid0.Coords) (k0_t1 : Fin (k0_t1_loop i).trips) (c0_i32_765 : BitVec 32) : Fin 3 → Nat :=
  let c0_769 : Index := 0#32
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let v1140 : BitVec 32 := Scalar.addi v1139 c0_i32_765
  let c256_i32_766 : BitVec 32 := 256#32
  let v1141 : BitVec 32 := Scalar.muli v1140 c256_i32_766
  let v1142 : BitVec 32 := v1141
  let v1146 : Index := Scalar.indexCast v1142
  let c0_770 : Index := 0#32
  ![0, v1146.toNat, 0]
def k0_mult3 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c1_i32_774 : BitVec 32 := 1#32
  let v1154 : BitVec 32 := Scalar.subi v1139 c1_i32_774
  let c0_i32_783 : BitVec 32 := 0#32
  let v1162 : BitVec 32 := Scalar.maxsi v1154 c0_i32_783
  let c256_i32_784 : BitVec 32 := 256#32
  let v1163 : BitVec 32 := Scalar.muli v1162 c256_i32_784
  v1163
def k0_off3 (i : grid0.Coords) (k0_t1 : Fin (k0_t1_loop i).trips) : Fin 3 → Nat :=
  let c0_785 : Index := 0#32
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c1_i32_774 : BitVec 32 := 1#32
  let v1154 : BitVec 32 := Scalar.subi v1139 c1_i32_774
  let c0_i32_783 : BitVec 32 := 0#32
  let v1162 : BitVec 32 := Scalar.maxsi v1154 c0_i32_783
  let c256_i32_784 : BitVec 32 := 256#32
  let v1163 : BitVec 32 := Scalar.muli v1162 c256_i32_784
  let v1164 : BitVec 32 := v1163
  let v1165 : Index := Scalar.indexCast v1164
  let c128_786 : Index := 128#32
  ![0, v1165.toNat, 128]
def k0_mult4 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c1_i32_807 : BitVec 32 := 1#32
  let v1197 : BitVec 32 := Scalar.addi v1139 c1_i32_807
  let c256_i32_808 : BitVec 32 := 256#32
  let v1198 : BitVec 32 := Scalar.muli v1197 c256_i32_808
  v1198
def k0_off4 (i : grid0.Coords) (k0_t1 : Fin (k0_t1_loop i).trips) (c1_i32_807 : BitVec 32) : Fin 3 → Nat :=
  let c0_809 : Index := 0#32
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let v1197 : BitVec 32 := Scalar.addi v1139 c1_i32_807
  let c256_i32_808 : BitVec 32 := 256#32
  let v1198 : BitVec 32 := Scalar.muli v1197 c256_i32_808
  let v1199 : BitVec 32 := v1198
  let v1200 : Index := Scalar.indexCast v1199
  let c0_810 : Index := 0#32
  ![0, v1200.toNat, 0]
def k0_mult5 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c0_i32_816 : BitVec 32 := 0#32
  let v1211 : BitVec 32 := Scalar.addi v1139 c0_i32_816
  let c0_i32_825 : BitVec 32 := 0#32
  let v1219 : BitVec 32 := Scalar.maxsi v1211 c0_i32_825
  let c256_i32_826 : BitVec 32 := 256#32
  let v1220 : BitVec 32 := Scalar.muli v1219 c256_i32_826
  v1220
def k0_off5 (i : grid0.Coords) (k0_t1 : Fin (k0_t1_loop i).trips) (c0_i32_816 : BitVec 32) : Fin 3 → Nat :=
  let c0_827 : Index := 0#32
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let v1211 : BitVec 32 := Scalar.addi v1139 c0_i32_816
  let c0_i32_825 : BitVec 32 := 0#32
  let v1219 : BitVec 32 := Scalar.maxsi v1211 c0_i32_825
  let c256_i32_826 : BitVec 32 := 256#32
  let v1220 : BitVec 32 := Scalar.muli v1219 c256_i32_826
  let v1221 : BitVec 32 := v1220
  let v1222 : Index := Scalar.indexCast v1221
  let c0_828 : Index := 0#32
  ![0, v1222.toNat, 0]
def k0_mult6 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c1_i32_849 : BitVec 32 := 1#32
  let v1254 : BitVec 32 := Scalar.addi v1139 c1_i32_849
  let c256_i32_850 : BitVec 32 := 256#32
  let v1255 : BitVec 32 := Scalar.muli v1254 c256_i32_850
  v1255
def k0_mult7 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c0_i32_858 : BitVec 32 := 0#32
  let v1268 : BitVec 32 := Scalar.addi v1139 c0_i32_858
  let c0_i32_867 : BitVec 32 := 0#32
  let v1276 : BitVec 32 := Scalar.maxsi v1268 c0_i32_867
  let c256_i32_868 : BitVec 32 := 256#32
  let v1277 : BitVec 32 := Scalar.muli v1276 c256_i32_868
  v1277
def k0_off6 (i : grid0.Coords) (k0_t1 : Fin (k0_t1_loop i).trips) (c0_i32_858 : BitVec 32) : Fin 3 → Nat :=
  let c0_869 : Index := 0#32
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let v1268 : BitVec 32 := Scalar.addi v1139 c0_i32_858
  let c0_i32_867 : BitVec 32 := 0#32
  let v1276 : BitVec 32 := Scalar.maxsi v1268 c0_i32_867
  let c256_i32_868 : BitVec 32 := 256#32
  let v1277 : BitVec 32 := Scalar.muli v1276 c256_i32_868
  let v1278 : BitVec 32 := v1277
  let v1279 : Index := Scalar.indexCast v1278
  let c128_870 : Index := 128#32
  ![0, v1279.toNat, 128]
def k0_mult8 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c2_i32_891 : BitVec 32 := 2#32
  let v1311 : BitVec 32 := Scalar.addi v1139 c2_i32_891
  let c256_i32_892 : BitVec 32 := 256#32
  let v1312 : BitVec 32 := Scalar.muli v1311 c256_i32_892
  v1312
def k0_mult9 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c1_i32_900 : BitVec 32 := 1#32
  let v1325 : BitVec 32 := Scalar.addi v1139 c1_i32_900
  let c0_i32_909 : BitVec 32 := 0#32
  let v1333 : BitVec 32 := Scalar.maxsi v1325 c0_i32_909
  let c256_i32_910 : BitVec 32 := 256#32
  let v1334 : BitVec 32 := Scalar.muli v1333 c256_i32_910
  v1334
def k0_mult10 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c2_i32_933 : BitVec 32 := 2#32
  let v1368 : BitVec 32 := Scalar.addi v1139 c2_i32_933
  let c256_i32_934 : BitVec 32 := 256#32
  let v1369 : BitVec 32 := Scalar.muli v1368 c256_i32_934
  v1369
def k0_mult11 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c1_i32_942 : BitVec 32 := 1#32
  let v1382 : BitVec 32 := Scalar.addi v1139 c1_i32_942
  let c0_i32_951 : BitVec 32 := 0#32
  let v1390 : BitVec 32 := Scalar.maxsi v1382 c0_i32_951
  let c256_i32_952 : BitVec 32 := 256#32
  let v1391 : BitVec 32 := Scalar.muli v1390 c256_i32_952
  v1391
def k0_mult12 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c3_i32_975 : BitVec 32 := 3#32
  let v1425 : BitVec 32 := Scalar.addi v1139 c3_i32_975
  let c256_i32_976 : BitVec 32 := 256#32
  let v1426 : BitVec 32 := Scalar.muli v1425 c256_i32_976
  v1426
def k0_mult13 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c2_i32_984 : BitVec 32 := 2#32
  let v1439 : BitVec 32 := Scalar.addi v1139 c2_i32_984
  let c0_i32_993 : BitVec 32 := 0#32
  let v1447 : BitVec 32 := Scalar.maxsi v1439 c0_i32_993
  let c256_i32_994 : BitVec 32 := 256#32
  let v1448 : BitVec 32 := Scalar.muli v1447 c256_i32_994
  v1448
def k0_mult14 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c3_i32_1017 : BitVec 32 := 3#32
  let v1482 : BitVec 32 := Scalar.addi v1139 c3_i32_1017
  let c256_i32_1018 : BitVec 32 := 256#32
  let v1483 : BitVec 32 := Scalar.muli v1482 c256_i32_1018
  v1483
def k0_mult15 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c2_i32_1026 : BitVec 32 := 2#32
  let v1496 : BitVec 32 := Scalar.addi v1139 c2_i32_1026
  let c0_i32_1035 : BitVec 32 := 0#32
  let v1504 : BitVec 32 := Scalar.maxsi v1496 c0_i32_1035
  let c256_i32_1036 : BitVec 32 := 256#32
  let v1505 : BitVec 32 := Scalar.muli v1504 c256_i32_1036
  v1505
def k0_mult16 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c4_i32_1059 : BitVec 32 := 4#32
  let v1539 : BitVec 32 := Scalar.addi v1139 c4_i32_1059
  let c256_i32_1060 : BitVec 32 := 256#32
  let v1540 : BitVec 32 := Scalar.muli v1539 c256_i32_1060
  v1540
def k0_mult17 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c3_i32_1068 : BitVec 32 := 3#32
  let v1553 : BitVec 32 := Scalar.addi v1139 c3_i32_1068
  let c0_i32_1077 : BitVec 32 := 0#32
  let v1561 : BitVec 32 := Scalar.maxsi v1553 c0_i32_1077
  let c256_i32_1078 : BitVec 32 := 256#32
  let v1562 : BitVec 32 := Scalar.muli v1561 c256_i32_1078
  v1562
def k0_mult18 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c4_i32_1101 : BitVec 32 := 4#32
  let v1596 : BitVec 32 := Scalar.addi v1139 c4_i32_1101
  let c256_i32_1102 : BitVec 32 := 256#32
  let v1597 : BitVec 32 := Scalar.muli v1596 c256_i32_1102
  v1597
def k0_mult19 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c3_i32_1110 : BitVec 32 := 3#32
  let v1610 : BitVec 32 := Scalar.addi v1139 c3_i32_1110
  let c0_i32_1119 : BitVec 32 := 0#32
  let v1618 : BitVec 32 := Scalar.maxsi v1610 c0_i32_1119
  let c256_i32_1120 : BitVec 32 := 256#32
  let v1619 : BitVec 32 := Scalar.muli v1618 c256_i32_1120
  v1619
def k0_mult20 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c5_i32_1143 : BitVec 32 := 5#32
  let v1653 : BitVec 32 := Scalar.addi v1139 c5_i32_1143
  let c256_i32_1144 : BitVec 32 := 256#32
  let v1654 : BitVec 32 := Scalar.muli v1653 c256_i32_1144
  v1654
def k0_mult21 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c4_i32_1152 : BitVec 32 := 4#32
  let v1667 : BitVec 32 := Scalar.addi v1139 c4_i32_1152
  let c0_i32_1161 : BitVec 32 := 0#32
  let v1675 : BitVec 32 := Scalar.maxsi v1667 c0_i32_1161
  let c256_i32_1162 : BitVec 32 := 256#32
  let v1676 : BitVec 32 := Scalar.muli v1675 c256_i32_1162
  v1676
def k0_mult22 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c5_i32_1185 : BitVec 32 := 5#32
  let v1710 : BitVec 32 := Scalar.addi v1139 c5_i32_1185
  let c256_i32_1186 : BitVec 32 := 256#32
  let v1711 : BitVec 32 := Scalar.muli v1710 c256_i32_1186
  v1711
def k0_mult23 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c4_i32_1194 : BitVec 32 := 4#32
  let v1724 : BitVec 32 := Scalar.addi v1139 c4_i32_1194
  let c0_i32_1203 : BitVec 32 := 0#32
  let v1732 : BitVec 32 := Scalar.maxsi v1724 c0_i32_1203
  let c256_i32_1204 : BitVec 32 := 256#32
  let v1733 : BitVec 32 := Scalar.muli v1732 c256_i32_1204
  v1733
def k0_mult24 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c6_i32_1227 : BitVec 32 := 6#32
  let v1767 : BitVec 32 := Scalar.addi v1139 c6_i32_1227
  let c256_i32_1228 : BitVec 32 := 256#32
  let v1768 : BitVec 32 := Scalar.muli v1767 c256_i32_1228
  v1768
def k0_mult25 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c5_i32_1236 : BitVec 32 := 5#32
  let v1781 : BitVec 32 := Scalar.addi v1139 c5_i32_1236
  let c0_i32_1245 : BitVec 32 := 0#32
  let v1789 : BitVec 32 := Scalar.maxsi v1781 c0_i32_1245
  let c256_i32_1246 : BitVec 32 := 256#32
  let v1790 : BitVec 32 := Scalar.muli v1789 c256_i32_1246
  v1790
def k0_mult26 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c6_i32_1269 : BitVec 32 := 6#32
  let v1824 : BitVec 32 := Scalar.addi v1139 c6_i32_1269
  let c256_i32_1270 : BitVec 32 := 256#32
  let v1825 : BitVec 32 := Scalar.muli v1824 c256_i32_1270
  v1825
def k0_mult27 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c5_i32_1278 : BitVec 32 := 5#32
  let v1838 : BitVec 32 := Scalar.addi v1139 c5_i32_1278
  let c0_i32_1287 : BitVec 32 := 0#32
  let v1846 : BitVec 32 := Scalar.maxsi v1838 c0_i32_1287
  let c256_i32_1288 : BitVec 32 := 256#32
  let v1847 : BitVec 32 := Scalar.muli v1846 c256_i32_1288
  v1847
def k0_mult28 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c7_i32_1311 : BitVec 32 := 7#32
  let v1881 : BitVec 32 := Scalar.addi v1139 c7_i32_1311
  let c256_i32_1312 : BitVec 32 := 256#32
  let v1882 : BitVec 32 := Scalar.muli v1881 c256_i32_1312
  v1882
def k0_mult29 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c6_i32_1320 : BitVec 32 := 6#32
  let v1895 : BitVec 32 := Scalar.addi v1139 c6_i32_1320
  let c0_i32_1329 : BitVec 32 := 0#32
  let v1903 : BitVec 32 := Scalar.maxsi v1895 c0_i32_1329
  let c256_i32_1330 : BitVec 32 := 256#32
  let v1904 : BitVec 32 := Scalar.muli v1903 c256_i32_1330
  v1904
def k0_mult30 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c7_i32_1353 : BitVec 32 := 7#32
  let v1938 : BitVec 32 := Scalar.addi v1139 c7_i32_1353
  let c256_i32_1354 : BitVec 32 := 256#32
  let v1939 : BitVec 32 := Scalar.muli v1938 c256_i32_1354
  v1939
def k0_mult31 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c6_i32_1362 : BitVec 32 := 6#32
  let v1952 : BitVec 32 := Scalar.addi v1139 c6_i32_1362
  let c0_i32_1371 : BitVec 32 := 0#32
  let v1960 : BitVec 32 := Scalar.maxsi v1952 c0_i32_1371
  let c256_i32_1372 : BitVec 32 := 256#32
  let v1961 : BitVec 32 := Scalar.muli v1960 c256_i32_1372
  v1961
def k0_mult32 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c8_i32_1395 : BitVec 32 := 8#32
  let v1995 : BitVec 32 := Scalar.addi v1139 c8_i32_1395
  let c256_i32_1396 : BitVec 32 := 256#32
  let v1996 : BitVec 32 := Scalar.muli v1995 c256_i32_1396
  v1996
def k0_mult33 (i : grid0.Coords) (k0_t1 : Fin (k0_t1_loop i).trips) : BitVec 32 :=
  let c0_i32_45 : BitVec 32 := 0#32
  let c1_i32_48 : BitVec 32 := 1#32
  let arg16 : BitVec 32 := Scf.iv c0_i32_45 c1_i32_48 k0_t1
  let c8_i32_764 : BitVec 32 := 8#32
  let v1139 : BitVec 32 := Scalar.muli arg16 c8_i32_764
  let c7_i32_1404 : BitVec 32 := 7#32
  let v2009 : BitVec 32 := Scalar.addi v1139 c7_i32_1404
  let c0_i32_1413 : BitVec 32 := 0#32
  let v2017 : BitVec 32 := Scalar.maxsi v2009 c0_i32_1413
  let c256_i32_1414 : BitVec 32 := 256#32
  let v2018 : BitVec 32 := Scalar.muli v2017 c256_i32_1414
  v2018
@[reducible] def k0_t2_loop (i : grid0.Coords) : Scf.Loop 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let v99 : BitVec 32 := Scalar.addi c0_i32_45 v98
  let c1_i32_49 : BitVec 32 := 1#32
  ⟨v102, v99, c1_i32_49⟩
def k0_mult34 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c0_i32_765 : BitVec 32 := 0#32
  let v1140 : BitVec 32 := Scalar.addi v1139 c0_i32_765
  let c256_i32_766 : BitVec 32 := 256#32
  let v1141 : BitVec 32 := Scalar.muli v1140 c256_i32_766
  v1141
def k0_off7 (i : grid0.Coords) (k0_t2 : Fin (k0_t2_loop i).trips) (c0_i32_765 : BitVec 32) : Fin 3 → Nat :=
  let c0_767 : Index := 0#32
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let v1140 : BitVec 32 := Scalar.addi v1139 c0_i32_765
  let c256_i32_766 : BitVec 32 := 256#32
  let v1141 : BitVec 32 := Scalar.muli v1140 c256_i32_766
  let v1142 : BitVec 32 := v1141
  let v1143 : Index := Scalar.indexCast v1142
  let c128_768 : Index := 128#32
  ![0, v1143.toNat, 128]
def k0_off8 (i : grid0.Coords) (k0_t2 : Fin (k0_t2_loop i).trips) (c0_i32_765 : BitVec 32) : Fin 3 → Nat :=
  let c0_769 : Index := 0#32
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let v1140 : BitVec 32 := Scalar.addi v1139 c0_i32_765
  let c256_i32_766 : BitVec 32 := 256#32
  let v1141 : BitVec 32 := Scalar.muli v1140 c256_i32_766
  let v1142 : BitVec 32 := v1141
  let v1146 : Index := Scalar.indexCast v1142
  let c0_770 : Index := 0#32
  ![0, v1146.toNat, 0]
def k0_mult35 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c1_i32_774 : BitVec 32 := 1#32
  let v1154 : BitVec 32 := Scalar.subi v1139 c1_i32_774
  let c0_i32_783 : BitVec 32 := 0#32
  let v1162 : BitVec 32 := Scalar.maxsi v1154 c0_i32_783
  let c256_i32_784 : BitVec 32 := 256#32
  let v1163 : BitVec 32 := Scalar.muli v1162 c256_i32_784
  v1163
def k0_off9 (i : grid0.Coords) (k0_t2 : Fin (k0_t2_loop i).trips) : Fin 3 → Nat :=
  let c0_785 : Index := 0#32
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c1_i32_774 : BitVec 32 := 1#32
  let v1154 : BitVec 32 := Scalar.subi v1139 c1_i32_774
  let c0_i32_783 : BitVec 32 := 0#32
  let v1162 : BitVec 32 := Scalar.maxsi v1154 c0_i32_783
  let c256_i32_784 : BitVec 32 := 256#32
  let v1163 : BitVec 32 := Scalar.muli v1162 c256_i32_784
  let v1164 : BitVec 32 := v1163
  let v1165 : Index := Scalar.indexCast v1164
  let c128_786 : Index := 128#32
  ![0, v1165.toNat, 128]
def k0_mult36 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c1_i32_807 : BitVec 32 := 1#32
  let v1197 : BitVec 32 := Scalar.addi v1139 c1_i32_807
  let c256_i32_808 : BitVec 32 := 256#32
  let v1198 : BitVec 32 := Scalar.muli v1197 c256_i32_808
  v1198
def k0_off10 (i : grid0.Coords) (k0_t2 : Fin (k0_t2_loop i).trips) (c1_i32_807 : BitVec 32) : Fin 3 → Nat :=
  let c0_809 : Index := 0#32
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let v1197 : BitVec 32 := Scalar.addi v1139 c1_i32_807
  let c256_i32_808 : BitVec 32 := 256#32
  let v1198 : BitVec 32 := Scalar.muli v1197 c256_i32_808
  let v1199 : BitVec 32 := v1198
  let v1200 : Index := Scalar.indexCast v1199
  let c0_810 : Index := 0#32
  ![0, v1200.toNat, 0]
def k0_mult37 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c0_i32_816 : BitVec 32 := 0#32
  let v1211 : BitVec 32 := Scalar.addi v1139 c0_i32_816
  let c0_i32_825 : BitVec 32 := 0#32
  let v1219 : BitVec 32 := Scalar.maxsi v1211 c0_i32_825
  let c256_i32_826 : BitVec 32 := 256#32
  let v1220 : BitVec 32 := Scalar.muli v1219 c256_i32_826
  v1220
def k0_off11 (i : grid0.Coords) (k0_t2 : Fin (k0_t2_loop i).trips) (c0_i32_816 : BitVec 32) : Fin 3 → Nat :=
  let c0_827 : Index := 0#32
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let v1211 : BitVec 32 := Scalar.addi v1139 c0_i32_816
  let c0_i32_825 : BitVec 32 := 0#32
  let v1219 : BitVec 32 := Scalar.maxsi v1211 c0_i32_825
  let c256_i32_826 : BitVec 32 := 256#32
  let v1220 : BitVec 32 := Scalar.muli v1219 c256_i32_826
  let v1221 : BitVec 32 := v1220
  let v1222 : Index := Scalar.indexCast v1221
  let c0_828 : Index := 0#32
  ![0, v1222.toNat, 0]
def k0_mult38 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c1_i32_849 : BitVec 32 := 1#32
  let v1254 : BitVec 32 := Scalar.addi v1139 c1_i32_849
  let c256_i32_850 : BitVec 32 := 256#32
  let v1255 : BitVec 32 := Scalar.muli v1254 c256_i32_850
  v1255
def k0_mult39 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c0_i32_858 : BitVec 32 := 0#32
  let v1268 : BitVec 32 := Scalar.addi v1139 c0_i32_858
  let c0_i32_867 : BitVec 32 := 0#32
  let v1276 : BitVec 32 := Scalar.maxsi v1268 c0_i32_867
  let c256_i32_868 : BitVec 32 := 256#32
  let v1277 : BitVec 32 := Scalar.muli v1276 c256_i32_868
  v1277
def k0_off12 (i : grid0.Coords) (k0_t2 : Fin (k0_t2_loop i).trips) (c0_i32_858 : BitVec 32) : Fin 3 → Nat :=
  let c0_869 : Index := 0#32
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let v1268 : BitVec 32 := Scalar.addi v1139 c0_i32_858
  let c0_i32_867 : BitVec 32 := 0#32
  let v1276 : BitVec 32 := Scalar.maxsi v1268 c0_i32_867
  let c256_i32_868 : BitVec 32 := 256#32
  let v1277 : BitVec 32 := Scalar.muli v1276 c256_i32_868
  let v1278 : BitVec 32 := v1277
  let v1279 : Index := Scalar.indexCast v1278
  let c128_870 : Index := 128#32
  ![0, v1279.toNat, 128]
def k0_mult40 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c2_i32_891 : BitVec 32 := 2#32
  let v1311 : BitVec 32 := Scalar.addi v1139 c2_i32_891
  let c256_i32_892 : BitVec 32 := 256#32
  let v1312 : BitVec 32 := Scalar.muli v1311 c256_i32_892
  v1312
def k0_mult41 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c1_i32_900 : BitVec 32 := 1#32
  let v1325 : BitVec 32 := Scalar.addi v1139 c1_i32_900
  let c0_i32_909 : BitVec 32 := 0#32
  let v1333 : BitVec 32 := Scalar.maxsi v1325 c0_i32_909
  let c256_i32_910 : BitVec 32 := 256#32
  let v1334 : BitVec 32 := Scalar.muli v1333 c256_i32_910
  v1334
def k0_mult42 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c2_i32_933 : BitVec 32 := 2#32
  let v1368 : BitVec 32 := Scalar.addi v1139 c2_i32_933
  let c256_i32_934 : BitVec 32 := 256#32
  let v1369 : BitVec 32 := Scalar.muli v1368 c256_i32_934
  v1369
def k0_mult43 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c1_i32_942 : BitVec 32 := 1#32
  let v1382 : BitVec 32 := Scalar.addi v1139 c1_i32_942
  let c0_i32_951 : BitVec 32 := 0#32
  let v1390 : BitVec 32 := Scalar.maxsi v1382 c0_i32_951
  let c256_i32_952 : BitVec 32 := 256#32
  let v1391 : BitVec 32 := Scalar.muli v1390 c256_i32_952
  v1391
def k0_mult44 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c3_i32_975 : BitVec 32 := 3#32
  let v1425 : BitVec 32 := Scalar.addi v1139 c3_i32_975
  let c256_i32_976 : BitVec 32 := 256#32
  let v1426 : BitVec 32 := Scalar.muli v1425 c256_i32_976
  v1426
def k0_mult45 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c2_i32_984 : BitVec 32 := 2#32
  let v1439 : BitVec 32 := Scalar.addi v1139 c2_i32_984
  let c0_i32_993 : BitVec 32 := 0#32
  let v1447 : BitVec 32 := Scalar.maxsi v1439 c0_i32_993
  let c256_i32_994 : BitVec 32 := 256#32
  let v1448 : BitVec 32 := Scalar.muli v1447 c256_i32_994
  v1448
def k0_mult46 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c3_i32_1017 : BitVec 32 := 3#32
  let v1482 : BitVec 32 := Scalar.addi v1139 c3_i32_1017
  let c256_i32_1018 : BitVec 32 := 256#32
  let v1483 : BitVec 32 := Scalar.muli v1482 c256_i32_1018
  v1483
def k0_mult47 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c2_i32_1026 : BitVec 32 := 2#32
  let v1496 : BitVec 32 := Scalar.addi v1139 c2_i32_1026
  let c0_i32_1035 : BitVec 32 := 0#32
  let v1504 : BitVec 32 := Scalar.maxsi v1496 c0_i32_1035
  let c256_i32_1036 : BitVec 32 := 256#32
  let v1505 : BitVec 32 := Scalar.muli v1504 c256_i32_1036
  v1505
def k0_mult48 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c4_i32_1059 : BitVec 32 := 4#32
  let v1539 : BitVec 32 := Scalar.addi v1139 c4_i32_1059
  let c256_i32_1060 : BitVec 32 := 256#32
  let v1540 : BitVec 32 := Scalar.muli v1539 c256_i32_1060
  v1540
def k0_mult49 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c3_i32_1068 : BitVec 32 := 3#32
  let v1553 : BitVec 32 := Scalar.addi v1139 c3_i32_1068
  let c0_i32_1077 : BitVec 32 := 0#32
  let v1561 : BitVec 32 := Scalar.maxsi v1553 c0_i32_1077
  let c256_i32_1078 : BitVec 32 := 256#32
  let v1562 : BitVec 32 := Scalar.muli v1561 c256_i32_1078
  v1562
def k0_mult50 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c4_i32_1101 : BitVec 32 := 4#32
  let v1596 : BitVec 32 := Scalar.addi v1139 c4_i32_1101
  let c256_i32_1102 : BitVec 32 := 256#32
  let v1597 : BitVec 32 := Scalar.muli v1596 c256_i32_1102
  v1597
def k0_mult51 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c3_i32_1110 : BitVec 32 := 3#32
  let v1610 : BitVec 32 := Scalar.addi v1139 c3_i32_1110
  let c0_i32_1119 : BitVec 32 := 0#32
  let v1618 : BitVec 32 := Scalar.maxsi v1610 c0_i32_1119
  let c256_i32_1120 : BitVec 32 := 256#32
  let v1619 : BitVec 32 := Scalar.muli v1618 c256_i32_1120
  v1619
def k0_mult52 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c5_i32_1143 : BitVec 32 := 5#32
  let v1653 : BitVec 32 := Scalar.addi v1139 c5_i32_1143
  let c256_i32_1144 : BitVec 32 := 256#32
  let v1654 : BitVec 32 := Scalar.muli v1653 c256_i32_1144
  v1654
def k0_mult53 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c4_i32_1152 : BitVec 32 := 4#32
  let v1667 : BitVec 32 := Scalar.addi v1139 c4_i32_1152
  let c0_i32_1161 : BitVec 32 := 0#32
  let v1675 : BitVec 32 := Scalar.maxsi v1667 c0_i32_1161
  let c256_i32_1162 : BitVec 32 := 256#32
  let v1676 : BitVec 32 := Scalar.muli v1675 c256_i32_1162
  v1676
def k0_mult54 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c5_i32_1185 : BitVec 32 := 5#32
  let v1710 : BitVec 32 := Scalar.addi v1139 c5_i32_1185
  let c256_i32_1186 : BitVec 32 := 256#32
  let v1711 : BitVec 32 := Scalar.muli v1710 c256_i32_1186
  v1711
def k0_mult55 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c4_i32_1194 : BitVec 32 := 4#32
  let v1724 : BitVec 32 := Scalar.addi v1139 c4_i32_1194
  let c0_i32_1203 : BitVec 32 := 0#32
  let v1732 : BitVec 32 := Scalar.maxsi v1724 c0_i32_1203
  let c256_i32_1204 : BitVec 32 := 256#32
  let v1733 : BitVec 32 := Scalar.muli v1732 c256_i32_1204
  v1733
def k0_mult56 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c6_i32_1227 : BitVec 32 := 6#32
  let v1767 : BitVec 32 := Scalar.addi v1139 c6_i32_1227
  let c256_i32_1228 : BitVec 32 := 256#32
  let v1768 : BitVec 32 := Scalar.muli v1767 c256_i32_1228
  v1768
def k0_mult57 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c5_i32_1236 : BitVec 32 := 5#32
  let v1781 : BitVec 32 := Scalar.addi v1139 c5_i32_1236
  let c0_i32_1245 : BitVec 32 := 0#32
  let v1789 : BitVec 32 := Scalar.maxsi v1781 c0_i32_1245
  let c256_i32_1246 : BitVec 32 := 256#32
  let v1790 : BitVec 32 := Scalar.muli v1789 c256_i32_1246
  v1790
def k0_mult58 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c6_i32_1269 : BitVec 32 := 6#32
  let v1824 : BitVec 32 := Scalar.addi v1139 c6_i32_1269
  let c256_i32_1270 : BitVec 32 := 256#32
  let v1825 : BitVec 32 := Scalar.muli v1824 c256_i32_1270
  v1825
def k0_mult59 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c5_i32_1278 : BitVec 32 := 5#32
  let v1838 : BitVec 32 := Scalar.addi v1139 c5_i32_1278
  let c0_i32_1287 : BitVec 32 := 0#32
  let v1846 : BitVec 32 := Scalar.maxsi v1838 c0_i32_1287
  let c256_i32_1288 : BitVec 32 := 256#32
  let v1847 : BitVec 32 := Scalar.muli v1846 c256_i32_1288
  v1847
def k0_mult60 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c7_i32_1311 : BitVec 32 := 7#32
  let v1881 : BitVec 32 := Scalar.addi v1139 c7_i32_1311
  let c256_i32_1312 : BitVec 32 := 256#32
  let v1882 : BitVec 32 := Scalar.muli v1881 c256_i32_1312
  v1882
def k0_mult61 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c6_i32_1320 : BitVec 32 := 6#32
  let v1895 : BitVec 32 := Scalar.addi v1139 c6_i32_1320
  let c0_i32_1329 : BitVec 32 := 0#32
  let v1903 : BitVec 32 := Scalar.maxsi v1895 c0_i32_1329
  let c256_i32_1330 : BitVec 32 := 256#32
  let v1904 : BitVec 32 := Scalar.muli v1903 c256_i32_1330
  v1904
def k0_mult62 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c7_i32_1353 : BitVec 32 := 7#32
  let v1938 : BitVec 32 := Scalar.addi v1139 c7_i32_1353
  let c256_i32_1354 : BitVec 32 := 256#32
  let v1939 : BitVec 32 := Scalar.muli v1938 c256_i32_1354
  v1939
def k0_mult63 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c6_i32_1362 : BitVec 32 := 6#32
  let v1952 : BitVec 32 := Scalar.addi v1139 c6_i32_1362
  let c0_i32_1371 : BitVec 32 := 0#32
  let v1960 : BitVec 32 := Scalar.maxsi v1952 c0_i32_1371
  let c256_i32_1372 : BitVec 32 := 256#32
  let v1961 : BitVec 32 := Scalar.muli v1960 c256_i32_1372
  v1961
def k0_mult64 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c8_i32_1395 : BitVec 32 := 8#32
  let v1995 : BitVec 32 := Scalar.addi v1139 c8_i32_1395
  let c256_i32_1396 : BitVec 32 := 256#32
  let v1996 : BitVec 32 := Scalar.muli v1995 c256_i32_1396
  v1996
def k0_mult65 (i : grid0.Coords) (k0_t2 : Fin (k0_t2_loop i).trips) : BitVec 32 :=
  let c0_i32_45 : BitVec 32 := 0#32
  let arg2 : BitVec 32 := BitVec.ofNat 32 (i 2).val
  let v98 : BitVec 32 := Scalar.subi arg2 c0_i32_45
  let c1_i32_47 : BitVec 32 := 1#32
  let v100 : BitVec 32 := Scalar.divsi v98 c1_i32_47
  let v101 : BitVec 32 := Scalar.muli v100 c1_i32_47
  let v102 : BitVec 32 := Scalar.addi c0_i32_45 v101
  let c1_i32_49 : BitVec 32 := 1#32
  let arg16 : BitVec 32 := Scf.iv v102 c1_i32_49 k0_t2
  let c8_i32_764 : BitVec 32 := 8#32
  let v1139 : BitVec 32 := Scalar.muli arg16 c8_i32_764
  let c7_i32_1404 : BitVec 32 := 7#32
  let v2009 : BitVec 32 := Scalar.addi v1139 c7_i32_1404
  let c0_i32_1413 : BitVec 32 := 0#32
  let v2017 : BitVec 32 := Scalar.maxsi v2009 c0_i32_1413
  let c256_i32_1414 : BitVec 32 := 256#32
  let v2018 : BitVec 32 := Scalar.muli v2017 c256_i32_1414
  v2018
def k0_mult66 (i : grid0.Coords) : BitVec 32 :=
  let arg2 : BitVec 32 := BitVec.ofNat 32 (i 2).val
  let c8_i32_50 : BitVec 32 := 8#32
  let v107 : BitVec 32 := Scalar.muli arg2 c8_i32_50
  let c0_i32_51 : BitVec 32 := 0#32
  let v109 : BitVec 32 := Scalar.addi v107 c0_i32_51
  let c256_i32 : BitVec 32 := 256#32
  let v110 : BitVec 32 := Scalar.muli v109 c256_i32
  v110
def k0_off13 (i : grid0.Coords) (c0_i32_51 : BitVec 32) : Fin 3 → Nat :=
  let c0_52 : Index := 0#32
  let arg2 : BitVec 32 := BitVec.ofNat 32 (i 2).val
  let c8_i32_50 : BitVec 32 := 8#32
  let v107 : BitVec 32 := Scalar.muli arg2 c8_i32_50
  let v109 : BitVec 32 := Scalar.addi v107 c0_i32_51
  let c256_i32 : BitVec 32 := 256#32
  let v110 : BitVec 32 := Scalar.muli v109 c256_i32
  let v111 : BitVec 32 := v110
  let v112 : Index := Scalar.indexCast v111
  let c128_53 : Index := 128#32
  ![0, v112.toNat, 128]
def k0_off14 (i : grid0.Coords) (c0_i32_51 : BitVec 32) : Fin 3 → Nat :=
  let c0_54 : Index := 0#32
  let arg2 : BitVec 32 := BitVec.ofNat 32 (i 2).val
  let c8_i32_50 : BitVec 32 := 8#32
  let v107 : BitVec 32 := Scalar.muli arg2 c8_i32_50
  let v109 : BitVec 32 := Scalar.addi v107 c0_i32_51
  let c256_i32 : BitVec 32 := 256#32
  let v110 : BitVec 32 := Scalar.muli v109 c256_i32
  let v111 : BitVec 32 := v110
  let v115 : Index := Scalar.indexCast v111
  let c0_55 : Index := 0#32
  ![0, v115.toNat, 0]
def k0_mult67 (i : grid0.Coords) : BitVec 32 :=
  let arg2 : BitVec 32 := BitVec.ofNat 32 (i 2).val
  let c8_i32_50 : BitVec 32 := 8#32
  let v107 : BitVec 32 := Scalar.muli arg2 c8_i32_50
  let c1_i32_59 : BitVec 32 := 1#32
  let v123 : BitVec 32 := Scalar.subi v107 c1_i32_59
  let c0_i32_68 : BitVec 32 := 0#32
  let v131 : BitVec 32 := Scalar.maxsi v123 c0_i32_68
  let c256_i32_69 : BitVec 32 := 256#32
  let v132 : BitVec 32 := Scalar.muli v131 c256_i32_69
  v132
def k0_off15 (i : grid0.Coords) : Fin 3 → Nat :=
  let c0_70 : Index := 0#32
  let arg2 : BitVec 32 := BitVec.ofNat 32 (i 2).val
  let c8_i32_50 : BitVec 32 := 8#32
  let v107 : BitVec 32 := Scalar.muli arg2 c8_i32_50
  let c1_i32_59 : BitVec 32 := 1#32
  let v123 : BitVec 32 := Scalar.subi v107 c1_i32_59
  let c0_i32_68 : BitVec 32 := 0#32
  let v131 : BitVec 32 := Scalar.maxsi v123 c0_i32_68
  let c256_i32_69 : BitVec 32 := 256#32
  let v132 : BitVec 32 := Scalar.muli v131 c256_i32_69
  let v133 : BitVec 32 := v132
  let v134 : Index := Scalar.indexCast v133
  let c128_71 : Index := 128#32
  ![0, v134.toNat, 128]
def k0_mult68 (i : grid0.Coords) : BitVec 32 :=
  let arg2 : BitVec 32 := BitVec.ofNat 32 (i 2).val
  let c8_i32_50 : BitVec 32 := 8#32
  let v107 : BitVec 32 := Scalar.muli arg2 c8_i32_50
  let c1_i32_94 : BitVec 32 := 1#32
  let v170 : BitVec 32 := Scalar.addi v107 c1_i32_94
  let c256_i32_95 : BitVec 32 := 256#32
  let v172 : BitVec 32 := Scalar.muli v170 c256_i32_95
  v172
def k0_off16 (i : grid0.Coords) (c1_i32_94 : BitVec 32) : Fin 3 → Nat :=
  let c0_96 : Index := 0#32
  let arg2 : BitVec 32 := BitVec.ofNat 32 (i 2).val
  let c8_i32_50 : BitVec 32 := 8#32
  let v107 : BitVec 32 := Scalar.muli arg2 c8_i32_50
  let v170 : BitVec 32 := Scalar.addi v107 c1_i32_94
  let c256_i32_95 : BitVec 32 := 256#32
  let v172 : BitVec 32 := Scalar.muli v170 c256_i32_95
  let v173 : BitVec 32 := v172
  let v174 : Index := Scalar.indexCast v173
  let c0_97 : Index := 0#32
  ![0, v174.toNat, 0]
def k0_mult69 (i : grid0.Coords) : BitVec 32 :=
  let arg2 : BitVec 32 := BitVec.ofNat 32 (i 2).val
  let c8_i32_50 : BitVec 32 := 8#32
  let v107 : BitVec 32 := Scalar.muli arg2 c8_i32_50
  let c0_i32_102 : BitVec 32 := 0#32
  let v185 : BitVec 32 := Scalar.addi v107 c0_i32_102
  let c0_i32_111 : BitVec 32 := 0#32
  let v193 : BitVec 32 := Scalar.maxsi v185 c0_i32_111
  let c256_i32_112 : BitVec 32 := 256#32
  let v194 : BitVec 32 := Scalar.muli v193 c256_i32_112
  v194
def k0_off17 (i : grid0.Coords) (c0_i32_102 : BitVec 32) : Fin 3 → Nat :=
  let c0_113 : Index := 0#32
  let arg2 : BitVec 32 := BitVec.ofNat 32 (i 2).val
  let c8_i32_50 : BitVec 32 := 8#32
  let v107 : BitVec 32 := Scalar.muli arg2 c8_i32_50
  let v185 : BitVec 32 := Scalar.addi v107 c0_i32_102
  let c0_i32_111 : BitVec 32 := 0#32
  let v193 : BitVec 32 := Scalar.maxsi v185 c0_i32_111
  let c256_i32_112 : BitVec 32 := 256#32
  let v194 : BitVec 32 := Scalar.muli v193 c256_i32_112
  let v195 : BitVec 32 := v194
  let v196 : Index := Scalar.indexCast v195
  let c0_114 : Index := 0#32
  ![0, v196.toNat, 0]
def k0_mult70 (i : grid0.Coords) : BitVec 32 :=
  let arg2 : BitVec 32 := BitVec.ofNat 32 (i 2).val
  let c8_i32_50 : BitVec 32 := 8#32
  let v107 : BitVec 32 := Scalar.muli arg2 c8_i32_50
  let c1_i32_137 : BitVec 32 := 1#32
  let v232 : BitVec 32 := Scalar.addi v107 c1_i32_137
  let c256_i32_138 : BitVec 32 := 256#32
  let v234 : BitVec 32 := Scalar.muli v232 c256_i32_138
  v234
def k0_mult71 (i : grid0.Coords) : BitVec 32 :=
  let arg2 : BitVec 32 := BitVec.ofNat 32 (i 2).val
  let c8_i32_50 : BitVec 32 := 8#32
  let v107 : BitVec 32 := Scalar.muli arg2 c8_i32_50
  let c0_i32_146 : BitVec 32 := 0#32
  let v247 : BitVec 32 := Scalar.addi v107 c0_i32_146
  let c0_i32_155 : BitVec 32 := 0#32
  let v255 : BitVec 32 := Scalar.maxsi v247 c0_i32_155
  let c256_i32_156 : BitVec 32 := 256#32
  let v256 : BitVec 32 := Scalar.muli v255 c256_i32_156
  v256
def k0_off18 (i : grid0.Coords) (c0_i32_146 : BitVec 32) : Fin 3 → Nat :=
  let c0_157 : Index := 0#32
  let arg2 : BitVec 32 := BitVec.ofNat 32 (i 2).val
  let c8_i32_50 : BitVec 32 := 8#32
  let v107 : BitVec 32 := Scalar.muli arg2 c8_i32_50
  let v247 : BitVec 32 := Scalar.addi v107 c0_i32_146
  let c0_i32_155 : BitVec 32 := 0#32
  let v255 : BitVec 32 := Scalar.maxsi v247 c0_i32_155
  let c256_i32_156 : BitVec 32 := 256#32
  let v256 : BitVec 32 := Scalar.muli v255 c256_i32_156
  let v257 : BitVec 32 := v256
  let v258 : Index := Scalar.indexCast v257
  let c128_158 : Index := 128#32
  ![0, v258.toNat, 128]
def k0_mult72 (i : grid0.Coords) : BitVec 32 :=
  let arg2 : BitVec 32 := BitVec.ofNat 32 (i 2).val
  let c8_i32_50 : BitVec 32 := 8#32
  let v107 : BitVec 32 := Scalar.muli arg2 c8_i32_50
  let c2_i32_181 : BitVec 32 := 2#32
  let v295 : BitVec 32 := Scalar.addi v107 c2_i32_181
  let c256_i32_182 : BitVec 32 := 256#32
  let v297 : BitVec 32 := Scalar.muli v295 c256_i32_182
  v297
def k0_mult73 (i : grid0.Coords) : BitVec 32 :=
  let arg2 : BitVec 32 := BitVec.ofNat 32 (i 2).val
  let c8_i32_50 : BitVec 32 := 8#32
  let v107 : BitVec 32 := Scalar.muli arg2 c8_i32_50
  let c1_i32_189 : BitVec 32 := 1#32
  let v310 : BitVec 32 := Scalar.addi v107 c1_i32_189
  let c0_i32_198 : BitVec 32 := 0#32
  let v318 : BitVec 32 := Scalar.maxsi v310 c0_i32_198
  let c256_i32_199 : BitVec 32 := 256#32
  let v319 : BitVec 32 := Scalar.muli v318 c256_i32_199
  v319
def k0_mult74 (i : grid0.Coords) : BitVec 32 :=
  let arg2 : BitVec 32 := BitVec.ofNat 32 (i 2).val
  let c8_i32_50 : BitVec 32 := 8#32
  let v107 : BitVec 32 := Scalar.muli arg2 c8_i32_50
  let c2_i32_224 : BitVec 32 := 2#32
  let v358 : BitVec 32 := Scalar.addi v107 c2_i32_224
  let c256_i32_225 : BitVec 32 := 256#32
  let v360 : BitVec 32 := Scalar.muli v358 c256_i32_225
  v360
def k0_mult75 (i : grid0.Coords) : BitVec 32 :=
  let arg2 : BitVec 32 := BitVec.ofNat 32 (i 2).val
  let c8_i32_50 : BitVec 32 := 8#32
  let v107 : BitVec 32 := Scalar.muli arg2 c8_i32_50
  let c1_i32_233 : BitVec 32 := 1#32
  let v373 : BitVec 32 := Scalar.addi v107 c1_i32_233
  let c0_i32_242 : BitVec 32 := 0#32
  let v381 : BitVec 32 := Scalar.maxsi v373 c0_i32_242
  let c256_i32_243 : BitVec 32 := 256#32
  let v382 : BitVec 32 := Scalar.muli v381 c256_i32_243
  v382
def k0_mult76 (i : grid0.Coords) : BitVec 32 :=
  let arg2 : BitVec 32 := BitVec.ofNat 32 (i 2).val
  let c8_i32_50 : BitVec 32 := 8#32
  let v107 : BitVec 32 := Scalar.muli arg2 c8_i32_50
  let c3_i32 : BitVec 32 := 3#32
  let v421 : BitVec 32 := Scalar.addi v107 c3_i32
  let c256_i32_268 : BitVec 32 := 256#32
  let v423 : BitVec 32 := Scalar.muli v421 c256_i32_268
  v423
def k0_mult77 (i : grid0.Coords) : BitVec 32 :=
  let arg2 : BitVec 32 := BitVec.ofNat 32 (i 2).val
  let c8_i32_50 : BitVec 32 := 8#32
  let v107 : BitVec 32 := Scalar.muli arg2 c8_i32_50
  let c2_i32_275 : BitVec 32 := 2#32
  let v436 : BitVec 32 := Scalar.addi v107 c2_i32_275
  let c0_i32_284 : BitVec 32 := 0#32
  let v444 : BitVec 32 := Scalar.maxsi v436 c0_i32_284
  let c256_i32_285 : BitVec 32 := 256#32
  let v445 : BitVec 32 := Scalar.muli v444 c256_i32_285
  v445
def k0_mult78 (i : grid0.Coords) : BitVec 32 :=
  let arg2 : BitVec 32 := BitVec.ofNat 32 (i 2).val
  let c8_i32_50 : BitVec 32 := 8#32
  let v107 : BitVec 32 := Scalar.muli arg2 c8_i32_50
  let c3_i32_310 : BitVec 32 := 3#32
  let v484 : BitVec 32 := Scalar.addi v107 c3_i32_310
  let c256_i32_311 : BitVec 32 := 256#32
  let v486 : BitVec 32 := Scalar.muli v484 c256_i32_311
  v486
def k0_mult79 (i : grid0.Coords) : BitVec 32 :=
  let arg2 : BitVec 32 := BitVec.ofNat 32 (i 2).val
  let c8_i32_50 : BitVec 32 := 8#32
  let v107 : BitVec 32 := Scalar.muli arg2 c8_i32_50
  let c2_i32_319 : BitVec 32 := 2#32
  let v499 : BitVec 32 := Scalar.addi v107 c2_i32_319
  let c0_i32_328 : BitVec 32 := 0#32
  let v507 : BitVec 32 := Scalar.maxsi v499 c0_i32_328
  let c256_i32_329 : BitVec 32 := 256#32
  let v508 : BitVec 32 := Scalar.muli v507 c256_i32_329
  v508
def k0_mult80 (i : grid0.Coords) : BitVec 32 :=
  let arg2 : BitVec 32 := BitVec.ofNat 32 (i 2).val
  let c8_i32_50 : BitVec 32 := 8#32
  let v107 : BitVec 32 := Scalar.muli arg2 c8_i32_50
  let c4_i32 : BitVec 32 := 4#32
  let v547 : BitVec 32 := Scalar.addi v107 c4_i32
  let c256_i32_354 : BitVec 32 := 256#32
  let v549 : BitVec 32 := Scalar.muli v547 c256_i32_354
  v549
def k0_mult81 (i : grid0.Coords) : BitVec 32 :=
  let arg2 : BitVec 32 := BitVec.ofNat 32 (i 2).val
  let c8_i32_50 : BitVec 32 := 8#32
  let v107 : BitVec 32 := Scalar.muli arg2 c8_i32_50
  let c3_i32_361 : BitVec 32 := 3#32
  let v562 : BitVec 32 := Scalar.addi v107 c3_i32_361
  let c0_i32_370 : BitVec 32 := 0#32
  let v570 : BitVec 32 := Scalar.maxsi v562 c0_i32_370
  let c256_i32_371 : BitVec 32 := 256#32
  let v571 : BitVec 32 := Scalar.muli v570 c256_i32_371
  v571
def k0_mult82 (i : grid0.Coords) : BitVec 32 :=
  let arg2 : BitVec 32 := BitVec.ofNat 32 (i 2).val
  let c8_i32_50 : BitVec 32 := 8#32
  let v107 : BitVec 32 := Scalar.muli arg2 c8_i32_50
  let c4_i32_396 : BitVec 32 := 4#32
  let v610 : BitVec 32 := Scalar.addi v107 c4_i32_396
  let c256_i32_397 : BitVec 32 := 256#32
  let v612 : BitVec 32 := Scalar.muli v610 c256_i32_397
  v612
def k0_mult83 (i : grid0.Coords) : BitVec 32 :=
  let arg2 : BitVec 32 := BitVec.ofNat 32 (i 2).val
  let c8_i32_50 : BitVec 32 := 8#32
  let v107 : BitVec 32 := Scalar.muli arg2 c8_i32_50
  let c3_i32_405 : BitVec 32 := 3#32
  let v625 : BitVec 32 := Scalar.addi v107 c3_i32_405
  let c0_i32_414 : BitVec 32 := 0#32
  let v633 : BitVec 32 := Scalar.maxsi v625 c0_i32_414
  let c256_i32_415 : BitVec 32 := 256#32
  let v634 : BitVec 32 := Scalar.muli v633 c256_i32_415
  v634
def k0_mult84 (i : grid0.Coords) : BitVec 32 :=
  let arg2 : BitVec 32 := BitVec.ofNat 32 (i 2).val
  let c8_i32_50 : BitVec 32 := 8#32
  let v107 : BitVec 32 := Scalar.muli arg2 c8_i32_50
  let c5_i32 : BitVec 32 := 5#32
  let v673 : BitVec 32 := Scalar.addi v107 c5_i32
  let c256_i32_440 : BitVec 32 := 256#32
  let v675 : BitVec 32 := Scalar.muli v673 c256_i32_440
  v675
def k0_mult85 (i : grid0.Coords) : BitVec 32 :=
  let arg2 : BitVec 32 := BitVec.ofNat 32 (i 2).val
  let c8_i32_50 : BitVec 32 := 8#32
  let v107 : BitVec 32 := Scalar.muli arg2 c8_i32_50
  let c4_i32_447 : BitVec 32 := 4#32
  let v688 : BitVec 32 := Scalar.addi v107 c4_i32_447
  let c0_i32_456 : BitVec 32 := 0#32
  let v696 : BitVec 32 := Scalar.maxsi v688 c0_i32_456
  let c256_i32_457 : BitVec 32 := 256#32
  let v697 : BitVec 32 := Scalar.muli v696 c256_i32_457
  v697
def k0_mult86 (i : grid0.Coords) : BitVec 32 :=
  let arg2 : BitVec 32 := BitVec.ofNat 32 (i 2).val
  let c8_i32_50 : BitVec 32 := 8#32
  let v107 : BitVec 32 := Scalar.muli arg2 c8_i32_50
  let c5_i32_482 : BitVec 32 := 5#32
  let v736 : BitVec 32 := Scalar.addi v107 c5_i32_482
  let c256_i32_483 : BitVec 32 := 256#32
  let v738 : BitVec 32 := Scalar.muli v736 c256_i32_483
  v738
def k0_mult87 (i : grid0.Coords) : BitVec 32 :=
  let arg2 : BitVec 32 := BitVec.ofNat 32 (i 2).val
  let c8_i32_50 : BitVec 32 := 8#32
  let v107 : BitVec 32 := Scalar.muli arg2 c8_i32_50
  let c4_i32_491 : BitVec 32 := 4#32
  let v751 : BitVec 32 := Scalar.addi v107 c4_i32_491
  let c0_i32_500 : BitVec 32 := 0#32
  let v759 : BitVec 32 := Scalar.maxsi v751 c0_i32_500
  let c256_i32_501 : BitVec 32 := 256#32
  let v760 : BitVec 32 := Scalar.muli v759 c256_i32_501
  v760
def k0_mult88 (i : grid0.Coords) : BitVec 32 :=
  let arg2 : BitVec 32 := BitVec.ofNat 32 (i 2).val
  let c8_i32_50 : BitVec 32 := 8#32
  let v107 : BitVec 32 := Scalar.muli arg2 c8_i32_50
  let c6_i32 : BitVec 32 := 6#32
  let v799 : BitVec 32 := Scalar.addi v107 c6_i32
  let c256_i32_526 : BitVec 32 := 256#32
  let v801 : BitVec 32 := Scalar.muli v799 c256_i32_526
  v801
def k0_mult89 (i : grid0.Coords) : BitVec 32 :=
  let arg2 : BitVec 32 := BitVec.ofNat 32 (i 2).val
  let c8_i32_50 : BitVec 32 := 8#32
  let v107 : BitVec 32 := Scalar.muli arg2 c8_i32_50
  let c5_i32_533 : BitVec 32 := 5#32
  let v814 : BitVec 32 := Scalar.addi v107 c5_i32_533
  let c0_i32_542 : BitVec 32 := 0#32
  let v822 : BitVec 32 := Scalar.maxsi v814 c0_i32_542
  let c256_i32_543 : BitVec 32 := 256#32
  let v823 : BitVec 32 := Scalar.muli v822 c256_i32_543
  v823
def k0_mult90 (i : grid0.Coords) : BitVec 32 :=
  let arg2 : BitVec 32 := BitVec.ofNat 32 (i 2).val
  let c8_i32_50 : BitVec 32 := 8#32
  let v107 : BitVec 32 := Scalar.muli arg2 c8_i32_50
  let c6_i32_568 : BitVec 32 := 6#32
  let v862 : BitVec 32 := Scalar.addi v107 c6_i32_568
  let c256_i32_569 : BitVec 32 := 256#32
  let v864 : BitVec 32 := Scalar.muli v862 c256_i32_569
  v864
def k0_mult91 (i : grid0.Coords) : BitVec 32 :=
  let arg2 : BitVec 32 := BitVec.ofNat 32 (i 2).val
  let c8_i32_50 : BitVec 32 := 8#32
  let v107 : BitVec 32 := Scalar.muli arg2 c8_i32_50
  let c5_i32_577 : BitVec 32 := 5#32
  let v877 : BitVec 32 := Scalar.addi v107 c5_i32_577
  let c0_i32_586 : BitVec 32 := 0#32
  let v885 : BitVec 32 := Scalar.maxsi v877 c0_i32_586
  let c256_i32_587 : BitVec 32 := 256#32
  let v886 : BitVec 32 := Scalar.muli v885 c256_i32_587
  v886
def k0_mult92 (i : grid0.Coords) : BitVec 32 :=
  let arg2 : BitVec 32 := BitVec.ofNat 32 (i 2).val
  let c8_i32_50 : BitVec 32 := 8#32
  let v107 : BitVec 32 := Scalar.muli arg2 c8_i32_50
  let c7_i32 : BitVec 32 := 7#32
  let v925 : BitVec 32 := Scalar.addi v107 c7_i32
  let c256_i32_612 : BitVec 32 := 256#32
  let v927 : BitVec 32 := Scalar.muli v925 c256_i32_612
  v927
def k0_mult93 (i : grid0.Coords) : BitVec 32 :=
  let arg2 : BitVec 32 := BitVec.ofNat 32 (i 2).val
  let c8_i32_50 : BitVec 32 := 8#32
  let v107 : BitVec 32 := Scalar.muli arg2 c8_i32_50
  let c6_i32_619 : BitVec 32 := 6#32
  let v940 : BitVec 32 := Scalar.addi v107 c6_i32_619
  let c0_i32_628 : BitVec 32 := 0#32
  let v948 : BitVec 32 := Scalar.maxsi v940 c0_i32_628
  let c256_i32_629 : BitVec 32 := 256#32
  let v949 : BitVec 32 := Scalar.muli v948 c256_i32_629
  v949
def k0_mult94 (i : grid0.Coords) : BitVec 32 :=
  let arg2 : BitVec 32 := BitVec.ofNat 32 (i 2).val
  let c8_i32_50 : BitVec 32 := 8#32
  let v107 : BitVec 32 := Scalar.muli arg2 c8_i32_50
  let c7_i32_654 : BitVec 32 := 7#32
  let v988 : BitVec 32 := Scalar.addi v107 c7_i32_654
  let c256_i32_655 : BitVec 32 := 256#32
  let v990 : BitVec 32 := Scalar.muli v988 c256_i32_655
  v990
def k0_mult95 (i : grid0.Coords) : BitVec 32 :=
  let arg2 : BitVec 32 := BitVec.ofNat 32 (i 2).val
  let c8_i32_50 : BitVec 32 := 8#32
  let v107 : BitVec 32 := Scalar.muli arg2 c8_i32_50
  let c6_i32_663 : BitVec 32 := 6#32
  let v1003 : BitVec 32 := Scalar.addi v107 c6_i32_663
  let c0_i32_672 : BitVec 32 := 0#32
  let v1011 : BitVec 32 := Scalar.maxsi v1003 c0_i32_672
  let c256_i32_673 : BitVec 32 := 256#32
  let v1012 : BitVec 32 := Scalar.muli v1011 c256_i32_673
  v1012
def k0_mult96 (i : grid0.Coords) : BitVec 32 :=
  let arg2 : BitVec 32 := BitVec.ofNat 32 (i 2).val
  let c8_i32_50 : BitVec 32 := 8#32
  let v107 : BitVec 32 := Scalar.muli arg2 c8_i32_50
  let c7_i32_698 : BitVec 32 := 7#32
  let v1051 : BitVec 32 := Scalar.addi v107 c7_i32_698
  let c0_i32_707 : BitVec 32 := 0#32
  let v1059 : BitVec 32 := Scalar.maxsi v1051 c0_i32_707
  let c256_i32_708 : BitVec 32 := 256#32
  let v1060 : BitVec 32 := Scalar.muli v1059 c256_i32_708
  v1060
def k0_mult97 (i : grid0.Coords) : BitVec 32 :=
  let arg2 : BitVec 32 := BitVec.ofNat 32 (i 2).val
  let c8_i32_733 : BitVec 32 := 8#32
  let v1099 : BitVec 32 := Scalar.muli arg2 c8_i32_733
  let c8_i32_734 : BitVec 32 := 8#32
  let v1100 : BitVec 32 := Scalar.addi v1099 c8_i32_734
  let c1_i32_735 : BitVec 32 := 1#32
  let v1101 : BitVec 32 := Scalar.subi v1100 c1_i32_735
  let c0_i32_744 : BitVec 32 := 0#32
  let v1109 : BitVec 32 := Scalar.maxsi v1101 c0_i32_744
  let c256_i32_745 : BitVec 32 := 256#32
  let v1110 : BitVec 32 := Scalar.muli v1109 c256_i32_745
  v1110
def k0_off19 (i : grid0.Coords) : Fin 3 → Nat :=
  let c0_746 : Index := 0#32
  let arg2 : BitVec 32 := BitVec.ofNat 32 (i 2).val
  let c8_i32_733 : BitVec 32 := 8#32
  let v1099 : BitVec 32 := Scalar.muli arg2 c8_i32_733
  let c8_i32_734 : BitVec 32 := 8#32
  let v1100 : BitVec 32 := Scalar.addi v1099 c8_i32_734
  let c1_i32_735 : BitVec 32 := 1#32
  let v1101 : BitVec 32 := Scalar.subi v1100 c1_i32_735
  let c0_i32_744 : BitVec 32 := 0#32
  let v1109 : BitVec 32 := Scalar.maxsi v1101 c0_i32_744
  let c256_i32_745 : BitVec 32 := 256#32
  let v1110 : BitVec 32 := Scalar.muli v1109 c256_i32_745
  let v1111 : BitVec 32 := v1110
  let v1112 : Index := Scalar.indexCast v1111
  let c128_747 : Index := 128#32
  ![0, v1112.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x3072 : Shape := ⟨3, ![2, 8192, 3072]⟩
abbrev S2x8192x128 : Shape := ⟨3, ![2, 8192, 128]⟩
abbrev S2x8192x512 : Shape := ⟨3, ![2, 8192, 512]⟩
abbrev S2x8192x4x128 : Shape := ⟨4, ![2, 8192, 4, 128]⟩
abbrev S2x4x8192x128 : Shape := ⟨4, ![2, 4, 8192, 128]⟩
abbrev S2x8192x32 : Shape := ⟨3, ![2, 8192, 32]⟩
abbrev S2x8192x4x8 : Shape := ⟨4, ![2, 8192, 4, 8]⟩
abbrev S2x4x8192x8 : Shape := ⟨4, ![2, 4, 8192, 8]⟩
abbrev S2x4x8192x8192 : Shape := ⟨4, ![2, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x4x8192 : Shape := ⟨3, ![2, 4, 8192]⟩
abbrev S2x4x8192x1 : Shape := ⟨4, ![2, 4, 8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x128, .bf16⟩
  | .hbm, ⟨2, _⟩ => ⟨S2x8192x128, .bf16⟩
  | .hbm, ⟨3, _⟩ => ⟨S2x8192x3072, .f32⟩
  | .hbm, ⟨4, _⟩ => ⟨S2x8192x512, .f32⟩
  | .hbm, ⟨5, _⟩ => ⟨S2x8192x4x128, .f32⟩
  | .hbm, ⟨6, _⟩ => ⟨S2x4x8192x128, .f32⟩
  | .hbm, ⟨7, _⟩ => ⟨S2x8192x512, .f32⟩
  | .hbm, ⟨8, _⟩ => ⟨S2x8192x4x128, .f32⟩
  | .hbm, ⟨9, _⟩ => ⟨S2x4x8192x128, .f32⟩
  | .hbm, ⟨10, _⟩ => ⟨S2x8192x512, .f32⟩
  | .hbm, ⟨11, _⟩ => ⟨S2x8192x4x128, .f32⟩
  | .hbm, ⟨12, _⟩ => ⟨S2x4x8192x128, .f32⟩
  | .hbm, ⟨13, _⟩ => ⟨S2x8192x128, .f32⟩
  | .hbm, ⟨14, _⟩ => ⟨S2x8192x32, .f32⟩
  | .hbm, ⟨15, _⟩ => ⟨S2x8192x4x8, .f32⟩
  | .hbm, ⟨16, _⟩ => ⟨S2x4x8192x8, .f32⟩
  | .hbm, ⟨17, _⟩ => ⟨S2x8192x128, .f32⟩
  | .hbm, ⟨18, _⟩ => ⟨S2x8192x32, .f32⟩
  | .hbm, ⟨19, _⟩ => ⟨S2x8192x4x8, .f32⟩
  | .hbm, ⟨20, _⟩ => ⟨S2x4x8192x8, .f32⟩
  | .hbm, ⟨21, _⟩ => ⟨S2x4x8192x8192, .f32⟩
  | .hbm, ⟨22, _⟩ => ⟨S2x4x8192x8192, .f32⟩
  | .hbm, ⟨23, _⟩ => ⟨S2x4x8192x8192, .f32⟩
  | .hbm, ⟨24, _⟩ => ⟨S8192, .i32⟩
  | .hbm, ⟨25, _⟩ => ⟨S1x8192, .i32⟩
  | .hbm, ⟨26, _⟩ => ⟨S8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S2x4x8192x8192, .i1⟩
  | .hbm, ⟨32, _⟩ => ⟨S_, .f32⟩
  | .hbm, ⟨33, _⟩ => ⟨S2x4x8192x8192, .f32⟩
  | .hbm, ⟨34, _⟩ => ⟨S2x4x8192x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8192, .f32⟩
  | .hbm, ⟨41, _⟩ => ⟨S2x4x8192x8192, .f32⟩
  | .hbm, ⟨42, _⟩ => ⟨S2x4x8192x8192, .f32⟩
  | .hbm, ⟨43, _⟩ => ⟨S2x4x8192x8192, .f32⟩
  | .hbm, ⟨44, _⟩ => ⟨S2x4x8192x8192, .f32⟩
  | .hbm, ⟨45, _⟩ => ⟨S2x4x8192x128, .f32⟩
  | .hbm, ⟨46, _⟩ => ⟨S_, .f32⟩
  | .hbm, ⟨47, _⟩ => ⟨S2x4x8192, .f32⟩
  | .hbm, ⟨48, _⟩ => ⟨S2x4x8192x1, .f32⟩
  | .hbm, ⟨49, _⟩ => ⟨S2x4x8192x128, .f32⟩
  | .hbm, ⟨50, _⟩ => ⟨S2x4x8192x128, .f32⟩
  | .hbm, ⟨51, _⟩ => ⟨S2x8192x4x128, .f32⟩
  | .hbm, ⟨52, _⟩ => ⟨S2x8192x512, .f32⟩
  | .hbm, ⟨53, _⟩ => ⟨S2x8192x512, .bf16⟩
  | _, _ => ⟨S2x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S2x16384x256 : Shape := ⟨3, ![2, 16384, 256]⟩
abbrev S2x256x1024 : Shape := ⟨3, ![2, 256, 1024]⟩
abbrev S512x1024 : Shape := ⟨2, ![512, 1024]⟩
abbrev S512x512 : Shape := ⟨2, ![512, 512]⟩
abbrev S1x512x256 : Shape := ⟨3, ![1, 512, 256]⟩
abbrev S1x256x1024 : Shape := ⟨3, ![1, 256, 1024]⟩
abbrev S512 : Shape := ⟨1, ![512]⟩
abbrev S512x1 : Shape := ⟨2, ![512, 1]⟩
abbrev S512x128 : Shape := ⟨2, ![512, 128]⟩
abbrev S1024x2048 : Shape := ⟨2, ![1024, 2048]⟩
abbrev S512x2048 : Shape := ⟨2, ![512, 2048]⟩
abbrev S2048x1024 : Shape := ⟨2, ![2048, 1024]⟩
abbrev S512x256 : Shape := ⟨2, ![512, 256]⟩
abbrev S256x1024 : Shape := ⟨2, ![256, 1024]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .bf16⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1024x1024, .bf16⟩
  | .hbm, ⟨9, _⟩ => ⟨S2x16384x256, .f32⟩
  | .hbm, ⟨10, _⟩ => ⟨S2x256x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1024x1024, .bf16⟩
  | .local _ .vmem, ⟨12, _⟩ => ⟨S1x512x256, .f32⟩
  | .local _ .vmem, ⟨13, _⟩ => ⟨S1x512x256, .f32⟩
  | .local _ .vmem, ⟨14, _⟩ => ⟨S1x256x1024, .bf16⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S16384x512 : Shape := ⟨2, ![16384, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S2x16384x256 : Shape := ⟨3, ![2, 16384, 256]⟩
abbrev S2x256x1024 : Shape := ⟨3, ![2, 256, 1024]⟩
abbrev S1x16384x256 : Shape := ⟨3, ![1, 16384, 256]⟩
abbrev S16384x256 : Shape := ⟨2, ![16384, 256]⟩
abbrev S1x256x1024 : Shape := ⟨3, ![1, 256, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .bf16⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1024x1024, .bf16⟩
  | .hbm, ⟨9, _⟩ => ⟨S2x16384x256, .f32⟩
  | .hbm, ⟨10, _⟩ => ⟨S2x256x1024, .bf16⟩
  | .hbm, ⟨11, _⟩ => ⟨S16384x1024, .bf16⟩
  | .hbm, ⟨12, _⟩ => ⟨S16384x1024, .f32⟩
  | .hbm, ⟨13, _⟩ => ⟨S1024x1024, .f32⟩
  | .hbm, ⟨14, _⟩ => ⟨S16384x1024, .f32⟩
  | .hbm, ⟨15, _⟩ => ⟨S16384x1024, .f32⟩
  | .hbm, ⟨16, _⟩ => ⟨S1x16384x256, .f32⟩
  | .hbm, ⟨17, _⟩ => ⟨S16384x256, .f32⟩
  | .hbm, ⟨18, _⟩ => ⟨S1x256x1024, .bf16⟩
  | .hbm, ⟨19, _⟩ => ⟨S256x1024, .bf16⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S1024x4096, .f32⟩
  | .hbm, ⟨36, _⟩ => ⟨S16384x4096, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S4096x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1024x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S256x1024, .f32⟩
  | .hbm, ⟨70, _⟩ => ⟨S16384x1024, .f32⟩
  | .hbm, ⟨71, _⟩ => ⟨S16384x1024, .f32⟩
  | .hbm, ⟨72, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S2x16384x256 : Shape := ⟨3, ![2, 16384, 256]⟩
abbrev S2x256x1024 : Shape := ⟨3, ![2, 256, 1024]⟩
abbrev S512x1024 : Shape := ⟨2, ![512, 1024]⟩
abbrev S1x512x256 : Shape := ⟨3, ![1, 512, 256]⟩
abbrev S1x256x1024 : Shape := ⟨3, ![1, 256, 1024]⟩
abbrev S512 : Shape := ⟨1, ![512]⟩
abbrev S512x1 : Shape := ⟨2, ![512, 1]⟩
abbrev S512x128 : Shape := ⟨2, ![512, 128]⟩
abbrev S1024x2048 : Shape := ⟨2, ![1024, 2048]⟩
abbrev S512x2048 : Shape := ⟨2, ![512, 2048]⟩
abbrev S2048x1024 : Shape := ⟨2, ![2048, 1024]⟩
abbrev S512x256 : Shape := ⟨2, ![512, 256]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S1024x1024, .bf16⟩
  | .hbm, ⟨8, _⟩ => ⟨S2x16384x256, .f32⟩
  | .hbm, ⟨9, _⟩ => ⟨S2x256x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1024x1024, .bf16⟩
  | .local _ .vmem, ⟨10, _⟩ => ⟨S1x512x256, .f32⟩
  | .local _ .vmem, ⟨11, _⟩ => ⟨S1x512x256, .f32⟩
  | .local _ .vmem, ⟨12, _⟩ => ⟨S1x256x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S2x16384x256 : Shape := ⟨3, ![2, 16384, 256]⟩
abbrev S2x256x1024 : Shape := ⟨3, ![2, 256, 1024]⟩
abbrev S1x16384x256 : Shape := ⟨3, ![1, 16384, 256]⟩
abbrev S16384x256 : Shape := ⟨2, ![16384, 256]⟩
abbrev S1x256x1024 : Shape := ⟨3, ![1, 256, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S1024x1024, .bf16⟩
  | .hbm, ⟨8, _⟩ => ⟨S2x16384x256, .f32⟩
  | .hbm, ⟨9, _⟩ => ⟨S2x256x1024, .bf16⟩
  | .hbm, ⟨10, _⟩ => ⟨S1x1024, .f32⟩
  | .hbm, ⟨11, _⟩ => ⟨S16384x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S1x16384x256, .f32⟩
  | .hbm, ⟨16, _⟩ => ⟨S16384x256, .f32⟩
  | .hbm, ⟨17, _⟩ => ⟨S1x256x1024, .bf16⟩
  | .hbm, ⟨18, _⟩ => ⟨S256x1024, .bf16⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x4096, .f32⟩
  | .hbm, ⟨35, _⟩ => ⟨S16384x4096, .f32⟩
  | .hbm, ⟨36, _⟩ => ⟨S_, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S4096x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1024x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S256x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Kernel4.lean ====
abbrev S2x8192x3072 : Shape := ⟨3, ![2, 8192, 3072]⟩
abbrev S1x64 : Shape := ⟨2, ![1, 64]⟩
abbrev S1x128 : Shape := ⟨2, ![1, 128]⟩
abbrev S2x8192x512 : Shape := ⟨3, ![2, 8192, 512]⟩
abbrev S1x2048x256 : Shape := ⟨3, ![1, 2048, 256]⟩
abbrev S1x8192x256 : Shape := ⟨3, ![1, 8192, 256]⟩
abbrev S2048x256 : Shape := ⟨2, ![2048, 256]⟩
abbrev S4x2048x256 : Shape := ⟨3, ![4, 2048, 256]⟩
abbrev S4x2048x128 : Shape := ⟨3, ![4, 2048, 128]⟩
abbrev S2x2048x128 : Shape := ⟨3, ![2, 2048, 128]⟩
abbrev S2048x128 : Shape := ⟨2, ![2048, 128]⟩
abbrev S1x2048x128 : Shape := ⟨3, ![1, 2048, 128]⟩
abbrev S256x128 : Shape := ⟨2, ![256, 128]⟩
abbrev S1x256x128 : Shape := ⟨3, ![1, 256, 128]⟩
abbrev S256x256 : Shape := ⟨2, ![256, 256]⟩
abbrev S2048 : Shape := ⟨1, ![2048]⟩
abbrev S2048x1 : Shape := ⟨2, ![2048, 1]⟩
abbrev S1792x128 : Shape := ⟨2, ![1792, 128]⟩
abbrev S1792x256 : Shape := ⟨2, ![1792, 256]⟩
abbrev S1x1792x128 : Shape := ⟨3, ![1, 1792, 128]⟩
abbrev S1792 : Shape := ⟨1, ![1792]⟩
abbrev S1792x1 : Shape := ⟨2, ![1792, 1]⟩
abbrev S1x1792x256 : Shape := ⟨3, ![1, 1792, 256]⟩
abbrev S1536x128 : Shape := ⟨2, ![1536, 128]⟩
abbrev S1536x256 : Shape := ⟨2, ![1536, 256]⟩
abbrev S1x1536x128 : Shape := ⟨3, ![1, 1536, 128]⟩
abbrev S1536 : Shape := ⟨1, ![1536]⟩
abbrev S1536x1 : Shape := ⟨2, ![1536, 1]⟩
abbrev S1x1536x256 : Shape := ⟨3, ![1, 1536, 256]⟩
abbrev S1280x128 : Shape := ⟨2, ![1280, 128]⟩
abbrev S1280x256 : Shape := ⟨2, ![1280, 256]⟩
abbrev S1x1280x128 : Shape := ⟨3, ![1, 1280, 128]⟩
abbrev S1280 : Shape := ⟨1, ![1280]⟩
abbrev S1280x1 : Shape := ⟨2, ![1280, 1]⟩
abbrev S1x1280x256 : Shape := ⟨3, ![1, 1280, 256]⟩
abbrev S1024x128 : Shape := ⟨2, ![1024, 128]⟩
abbrev S1024x256 : Shape := ⟨2, ![1024, 256]⟩
abbrev S1x1024x128 : Shape := ⟨3, ![1, 1024, 128]⟩
abbrev S1024 : Shape := ⟨1, ![1024]⟩
abbrev S1024x1 : Shape := ⟨2, ![1024, 1]⟩
abbrev S1x1024x256 : Shape := ⟨3, ![1, 1024, 256]⟩
abbrev S768x128 : Shape := ⟨2, ![768, 128]⟩
abbrev S768x256 : Shape := ⟨2, ![768, 256]⟩
abbrev S1x768x128 : Shape := ⟨3, ![1, 768, 128]⟩
abbrev S768 : Shape := ⟨1, ![768]⟩
abbrev S768x1 : Shape := ⟨2, ![768, 1]⟩
abbrev S1x768x256 : Shape := ⟨3, ![1, 768, 256]⟩
abbrev S512x128 : Shape := ⟨2, ![512, 128]⟩
abbrev S512x256 : Shape := ⟨2, ![512, 256]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩
abbrev S256 : Shape := ⟨1, ![256]⟩
abbrev S256x1 : Shape := ⟨2, ![256, 1]⟩
abbrev S1x256x256 : Shape := ⟨3, ![1, 256, 256]⟩
abbrev S1 : Shape := ⟨1, ![1]⟩
abbrev S1x1 : Shape := ⟨2, ![1, 1]⟩

abbrev nBuf : Space → Nat
  | .hbm => 7
  | .vmem => 20
  | .smem => 0
  | _ => 0

abbrev bufTy : (tb : Table) → Fin (tcTables nBuf tb) → BufTy
  | .hbm, ⟨0, _⟩ => ⟨S2x8192x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S2x8192x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x2048x256, .bf16⟩
  | .local _ .vmem, ⟨12, _⟩ => ⟨S1x2048x256, .bf16⟩
  | .local _ .vmem, ⟨13, _⟩ => ⟨S2048x256, .f32⟩
  | .local _ .vmem, ⟨14, _⟩ => ⟨S2048x256, .f32⟩
  | .local _ .vmem, ⟨15, _⟩ => ⟨S2048x256, .bf16⟩
  | .local _ .vmem, ⟨16, _⟩ => ⟨S2048x256, .bf16⟩
  | .local _ .vmem, ⟨17, _⟩ => ⟨S4x2048x256, .f32⟩
  | .local _ .vmem, ⟨18, _⟩ => ⟨S4x2048x128, .f32⟩
  | .local _ .vmem, ⟨19, _⟩ => ⟨S2x2048x128, .f32⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 2, 4], ![false, false, false]⟩

def k0_mult1 : BitVec 32 :=
  let c0_i32 : BitVec 32 := 0#32
  c0_i32
@[reducible] def k0_t1_loop (i : grid0.Coords) : Scf.Loop 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_30 : BitVec 32 := 1#32
  ⟨c0_i32_28, v48, c1_i32_30⟩
def k0_mult2 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c0_i32_1414 : BitVec 32 := 0#32
  let v2027 : BitVec 32 := Scalar.addi v2026 c0_i32_1414
  let c256_i32_1415 : BitVec 32 := 256#32
  let v2028 : BitVec 32 := Scalar.muli v2027 c256_i32_1415
  v2028
def k0_off1 (i : grid0.Coords) (k0_t1 : Fin (k0_t1_loop i).trips) (c0_i32_1414 : BitVec 32) : Fin 3 → Nat :=
  let c0_1416 : Index := 0#32
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let v2027 : BitVec 32 := Scalar.addi v2026 c0_i32_1414
  let c256_i32_1415 : BitVec 32 := 256#32
  let v2028 : BitVec 32 := Scalar.muli v2027 c256_i32_1415
  let v2029 : BitVec 32 := v2028
  let v2030 : Index := Scalar.indexCast v2029
  let c0_1417 : Index := 0#32
  ![0, v2030.toNat, 0]
def k0_mult3 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c1_i32_1421 : BitVec 32 := 1#32
  let v2037 : BitVec 32 := Scalar.subi v2026 c1_i32_1421
  let c0_i32_1430 : BitVec 32 := 0#32
  let v2045 : BitVec 32 := Scalar.maxsi v2037 c0_i32_1430
  let c256_i32_1431 : BitVec 32 := 256#32
  let v2046 : BitVec 32 := Scalar.muli v2045 c256_i32_1431
  v2046
def k0_off2 (i : grid0.Coords) (k0_t1 : Fin (k0_t1_loop i).trips) : Fin 3 → Nat :=
  let c0_1432 : Index := 0#32
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c1_i32_1421 : BitVec 32 := 1#32
  let v2037 : BitVec 32 := Scalar.subi v2026 c1_i32_1421
  let c0_i32_1430 : BitVec 32 := 0#32
  let v2045 : BitVec 32 := Scalar.maxsi v2037 c0_i32_1430
  let c256_i32_1431 : BitVec 32 := 256#32
  let v2046 : BitVec 32 := Scalar.muli v2045 c256_i32_1431
  let v2047 : BitVec 32 := v2046
  let v2048 : Index := Scalar.indexCast v2047
  let c128_1433 : Index := 128#32
  ![0, v2048.toNat, 128]
def k0_mult4 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c0_i32_1454 : BitVec 32 := 0#32
  let v2080 : BitVec 32 := Scalar.addi v2026 c0_i32_1454
  let c256_i32_1455 : BitVec 32 := 256#32
  let v2081 : BitVec 32 := Scalar.muli v2080 c256_i32_1455
  v2081
def k0_off3 (i : grid0.Coords) (k0_t1 : Fin (k0_t1_loop i).trips) (c0_i32_1454 : BitVec 32) : Fin 3 → Nat :=
  let c0_1456 : Index := 0#32
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let v2080 : BitVec 32 := Scalar.addi v2026 c0_i32_1454
  let c256_i32_1455 : BitVec 32 := 256#32
  let v2081 : BitVec 32 := Scalar.muli v2080 c256_i32_1455
  let v2082 : BitVec 32 := v2081
  let v2083 : Index := Scalar.indexCast v2082
  let c128_1457 : Index := 128#32
  ![0, v2083.toNat, 128]
def k0_mult5 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c0_i32_1461 : BitVec 32 := 0#32
  let v2090 : BitVec 32 := Scalar.addi v2026 c0_i32_1461
  let c0_i32_1470 : BitVec 32 := 0#32
  let v2098 : BitVec 32 := Scalar.maxsi v2090 c0_i32_1470
  let c256_i32_1471 : BitVec 32 := 256#32
  let v2099 : BitVec 32 := Scalar.muli v2098 c256_i32_1471
  v2099
def k0_off4 (i : grid0.Coords) (k0_t1 : Fin (k0_t1_loop i).trips) (c0_i32_1461 : BitVec 32) : Fin 3 → Nat :=
  let c0_1472 : Index := 0#32
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let v2090 : BitVec 32 := Scalar.addi v2026 c0_i32_1461
  let c0_i32_1470 : BitVec 32 := 0#32
  let v2098 : BitVec 32 := Scalar.maxsi v2090 c0_i32_1470
  let c256_i32_1471 : BitVec 32 := 256#32
  let v2099 : BitVec 32 := Scalar.muli v2098 c256_i32_1471
  let v2100 : BitVec 32 := v2099
  let v2101 : Index := Scalar.indexCast v2100
  let c0_1473 : Index := 0#32
  ![0, v2101.toNat, 0]
def k0_mult6 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c0_i32_1494 : BitVec 32 := 0#32
  let v2133 : BitVec 32 := Scalar.addi v2026 c0_i32_1494
  let c256_i32_1495 : BitVec 32 := 256#32
  let v2134 : BitVec 32 := Scalar.muli v2133 c256_i32_1495
  v2134
def k0_mult7 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c0_i32_1501 : BitVec 32 := 0#32
  let v2143 : BitVec 32 := Scalar.addi v2026 c0_i32_1501
  let c0_i32_1510 : BitVec 32 := 0#32
  let v2151 : BitVec 32 := Scalar.maxsi v2143 c0_i32_1510
  let c256_i32_1511 : BitVec 32 := 256#32
  let v2152 : BitVec 32 := Scalar.muli v2151 c256_i32_1511
  v2152
def k0_mult8 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c1_i32_1534 : BitVec 32 := 1#32
  let v2186 : BitVec 32 := Scalar.addi v2026 c1_i32_1534
  let c256_i32_1535 : BitVec 32 := 256#32
  let v2187 : BitVec 32 := Scalar.muli v2186 c256_i32_1535
  v2187
def k0_mult9 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c0_i32_1541 : BitVec 32 := 0#32
  let v2196 : BitVec 32 := Scalar.addi v2026 c0_i32_1541
  let c0_i32_1550 : BitVec 32 := 0#32
  let v2204 : BitVec 32 := Scalar.maxsi v2196 c0_i32_1550
  let c256_i32_1551 : BitVec 32 := 256#32
  let v2205 : BitVec 32 := Scalar.muli v2204 c256_i32_1551
  v2205
def k0_off5 (i : grid0.Coords) (k0_t1 : Fin (k0_t1_loop i).trips) (c0_i32_1541 : BitVec 32) : Fin 3 → Nat :=
  let c0_1552 : Index := 0#32
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let v2196 : BitVec 32 := Scalar.addi v2026 c0_i32_1541
  let c0_i32_1550 : BitVec 32 := 0#32
  let v2204 : BitVec 32 := Scalar.maxsi v2196 c0_i32_1550
  let c256_i32_1551 : BitVec 32 := 256#32
  let v2205 : BitVec 32 := Scalar.muli v2204 c256_i32_1551
  let v2206 : BitVec 32 := v2205
  let v2207 : Index := Scalar.indexCast v2206
  let c128_1553 : Index := 128#32
  ![0, v2207.toNat, 128]
def k0_mult10 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c1_i32_1574 : BitVec 32 := 1#32
  let v2239 : BitVec 32 := Scalar.addi v2026 c1_i32_1574
  let c256_i32_1575 : BitVec 32 := 256#32
  let v2240 : BitVec 32 := Scalar.muli v2239 c256_i32_1575
  v2240
def k0_mult11 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c0_i32_1581 : BitVec 32 := 0#32
  let v2249 : BitVec 32 := Scalar.addi v2026 c0_i32_1581
  let c0_i32_1590 : BitVec 32 := 0#32
  let v2257 : BitVec 32 := Scalar.maxsi v2249 c0_i32_1590
  let c256_i32_1591 : BitVec 32 := 256#32
  let v2258 : BitVec 32 := Scalar.muli v2257 c256_i32_1591
  v2258
def k0_mult12 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c1_i32_1614 : BitVec 32 := 1#32
  let v2292 : BitVec 32 := Scalar.addi v2026 c1_i32_1614
  let c256_i32_1615 : BitVec 32 := 256#32
  let v2293 : BitVec 32 := Scalar.muli v2292 c256_i32_1615
  v2293
def k0_mult13 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c1_i32_1621 : BitVec 32 := 1#32
  let v2302 : BitVec 32 := Scalar.addi v2026 c1_i32_1621
  let c0_i32_1630 : BitVec 32 := 0#32
  let v2310 : BitVec 32 := Scalar.maxsi v2302 c0_i32_1630
  let c256_i32_1631 : BitVec 32 := 256#32
  let v2311 : BitVec 32 := Scalar.muli v2310 c256_i32_1631
  v2311
def k0_mult14 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c1_i32_1654 : BitVec 32 := 1#32
  let v2345 : BitVec 32 := Scalar.addi v2026 c1_i32_1654
  let c256_i32_1655 : BitVec 32 := 256#32
  let v2346 : BitVec 32 := Scalar.muli v2345 c256_i32_1655
  v2346
def k0_mult15 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c1_i32_1661 : BitVec 32 := 1#32
  let v2355 : BitVec 32 := Scalar.addi v2026 c1_i32_1661
  let c0_i32_1670 : BitVec 32 := 0#32
  let v2363 : BitVec 32 := Scalar.maxsi v2355 c0_i32_1670
  let c256_i32_1671 : BitVec 32 := 256#32
  let v2364 : BitVec 32 := Scalar.muli v2363 c256_i32_1671
  v2364
def k0_mult16 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c2_i32_1694 : BitVec 32 := 2#32
  let v2398 : BitVec 32 := Scalar.addi v2026 c2_i32_1694
  let c256_i32_1695 : BitVec 32 := 256#32
  let v2399 : BitVec 32 := Scalar.muli v2398 c256_i32_1695
  v2399
def k0_mult17 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c1_i32_1701 : BitVec 32 := 1#32
  let v2408 : BitVec 32 := Scalar.addi v2026 c1_i32_1701
  let c0_i32_1710 : BitVec 32 := 0#32
  let v2416 : BitVec 32 := Scalar.maxsi v2408 c0_i32_1710
  let c256_i32_1711 : BitVec 32 := 256#32
  let v2417 : BitVec 32 := Scalar.muli v2416 c256_i32_1711
  v2417
def k0_mult18 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c2_i32_1734 : BitVec 32 := 2#32
  let v2451 : BitVec 32 := Scalar.addi v2026 c2_i32_1734
  let c256_i32_1735 : BitVec 32 := 256#32
  let v2452 : BitVec 32 := Scalar.muli v2451 c256_i32_1735
  v2452
def k0_mult19 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c1_i32_1741 : BitVec 32 := 1#32
  let v2461 : BitVec 32 := Scalar.addi v2026 c1_i32_1741
  let c0_i32_1750 : BitVec 32 := 0#32
  let v2469 : BitVec 32 := Scalar.maxsi v2461 c0_i32_1750
  let c256_i32_1751 : BitVec 32 := 256#32
  let v2470 : BitVec 32 := Scalar.muli v2469 c256_i32_1751
  v2470
def k0_mult20 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c2_i32_1774 : BitVec 32 := 2#32
  let v2504 : BitVec 32 := Scalar.addi v2026 c2_i32_1774
  let c256_i32_1775 : BitVec 32 := 256#32
  let v2505 : BitVec 32 := Scalar.muli v2504 c256_i32_1775
  v2505
def k0_mult21 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c2_i32_1781 : BitVec 32 := 2#32
  let v2514 : BitVec 32 := Scalar.addi v2026 c2_i32_1781
  let c0_i32_1790 : BitVec 32 := 0#32
  let v2522 : BitVec 32 := Scalar.maxsi v2514 c0_i32_1790
  let c256_i32_1791 : BitVec 32 := 256#32
  let v2523 : BitVec 32 := Scalar.muli v2522 c256_i32_1791
  v2523
def k0_mult22 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c2_i32_1814 : BitVec 32 := 2#32
  let v2557 : BitVec 32 := Scalar.addi v2026 c2_i32_1814
  let c256_i32_1815 : BitVec 32 := 256#32
  let v2558 : BitVec 32 := Scalar.muli v2557 c256_i32_1815
  v2558
def k0_mult23 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c2_i32_1821 : BitVec 32 := 2#32
  let v2567 : BitVec 32 := Scalar.addi v2026 c2_i32_1821
  let c0_i32_1830 : BitVec 32 := 0#32
  let v2575 : BitVec 32 := Scalar.maxsi v2567 c0_i32_1830
  let c256_i32_1831 : BitVec 32 := 256#32
  let v2576 : BitVec 32 := Scalar.muli v2575 c256_i32_1831
  v2576
def k0_mult24 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c3_i32_1854 : BitVec 32 := 3#32
  let v2610 : BitVec 32 := Scalar.addi v2026 c3_i32_1854
  let c256_i32_1855 : BitVec 32 := 256#32
  let v2611 : BitVec 32 := Scalar.muli v2610 c256_i32_1855
  v2611
def k0_mult25 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c2_i32_1861 : BitVec 32 := 2#32
  let v2620 : BitVec 32 := Scalar.addi v2026 c2_i32_1861
  let c0_i32_1870 : BitVec 32 := 0#32
  let v2628 : BitVec 32 := Scalar.maxsi v2620 c0_i32_1870
  let c256_i32_1871 : BitVec 32 := 256#32
  let v2629 : BitVec 32 := Scalar.muli v2628 c256_i32_1871
  v2629
def k0_mult26 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c3_i32_1894 : BitVec 32 := 3#32
  let v2663 : BitVec 32 := Scalar.addi v2026 c3_i32_1894
  let c256_i32_1895 : BitVec 32 := 256#32
  let v2664 : BitVec 32 := Scalar.muli v2663 c256_i32_1895
  v2664
def k0_mult27 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c2_i32_1901 : BitVec 32 := 2#32
  let v2673 : BitVec 32 := Scalar.addi v2026 c2_i32_1901
  let c0_i32_1910 : BitVec 32 := 0#32
  let v2681 : BitVec 32 := Scalar.maxsi v2673 c0_i32_1910
  let c256_i32_1911 : BitVec 32 := 256#32
  let v2682 : BitVec 32 := Scalar.muli v2681 c256_i32_1911
  v2682
def k0_mult28 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c3_i32_1934 : BitVec 32 := 3#32
  let v2716 : BitVec 32 := Scalar.addi v2026 c3_i32_1934
  let c256_i32_1935 : BitVec 32 := 256#32
  let v2717 : BitVec 32 := Scalar.muli v2716 c256_i32_1935
  v2717
def k0_mult29 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c3_i32_1941 : BitVec 32 := 3#32
  let v2726 : BitVec 32 := Scalar.addi v2026 c3_i32_1941
  let c0_i32_1950 : BitVec 32 := 0#32
  let v2734 : BitVec 32 := Scalar.maxsi v2726 c0_i32_1950
  let c256_i32_1951 : BitVec 32 := 256#32
  let v2735 : BitVec 32 := Scalar.muli v2734 c256_i32_1951
  v2735
def k0_mult30 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c3_i32_1974 : BitVec 32 := 3#32
  let v2769 : BitVec 32 := Scalar.addi v2026 c3_i32_1974
  let c256_i32_1975 : BitVec 32 := 256#32
  let v2770 : BitVec 32 := Scalar.muli v2769 c256_i32_1975
  v2770
def k0_mult31 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c3_i32_1981 : BitVec 32 := 3#32
  let v2779 : BitVec 32 := Scalar.addi v2026 c3_i32_1981
  let c0_i32_1990 : BitVec 32 := 0#32
  let v2787 : BitVec 32 := Scalar.maxsi v2779 c0_i32_1990
  let c256_i32_1991 : BitVec 32 := 256#32
  let v2788 : BitVec 32 := Scalar.muli v2787 c256_i32_1991
  v2788
def k0_mult32 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c4_i32_2014 : BitVec 32 := 4#32
  let v2822 : BitVec 32 := Scalar.addi v2026 c4_i32_2014
  let c256_i32_2015 : BitVec 32 := 256#32
  let v2823 : BitVec 32 := Scalar.muli v2822 c256_i32_2015
  v2823
def k0_mult33 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c3_i32_2021 : BitVec 32 := 3#32
  let v2832 : BitVec 32 := Scalar.addi v2026 c3_i32_2021
  let c0_i32_2030 : BitVec 32 := 0#32
  let v2840 : BitVec 32 := Scalar.maxsi v2832 c0_i32_2030
  let c256_i32_2031 : BitVec 32 := 256#32
  let v2841 : BitVec 32 := Scalar.muli v2840 c256_i32_2031
  v2841
def k0_mult34 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c4_i32_2054 : BitVec 32 := 4#32
  let v2875 : BitVec 32 := Scalar.addi v2026 c4_i32_2054
  let c256_i32_2055 : BitVec 32 := 256#32
  let v2876 : BitVec 32 := Scalar.muli v2875 c256_i32_2055
  v2876
def k0_mult35 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c3_i32_2061 : BitVec 32 := 3#32
  let v2885 : BitVec 32 := Scalar.addi v2026 c3_i32_2061
  let c0_i32_2070 : BitVec 32 := 0#32
  let v2893 : BitVec 32 := Scalar.maxsi v2885 c0_i32_2070
  let c256_i32_2071 : BitVec 32 := 256#32
  let v2894 : BitVec 32 := Scalar.muli v2893 c256_i32_2071
  v2894
def k0_mult36 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c4_i32_2094 : BitVec 32 := 4#32
  let v2928 : BitVec 32 := Scalar.addi v2026 c4_i32_2094
  let c256_i32_2095 : BitVec 32 := 256#32
  let v2929 : BitVec 32 := Scalar.muli v2928 c256_i32_2095
  v2929
def k0_mult37 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c4_i32_2101 : BitVec 32 := 4#32
  let v2938 : BitVec 32 := Scalar.addi v2026 c4_i32_2101
  let c0_i32_2110 : BitVec 32 := 0#32
  let v2946 : BitVec 32 := Scalar.maxsi v2938 c0_i32_2110
  let c256_i32_2111 : BitVec 32 := 256#32
  let v2947 : BitVec 32 := Scalar.muli v2946 c256_i32_2111
  v2947
def k0_mult38 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c4_i32_2134 : BitVec 32 := 4#32
  let v2981 : BitVec 32 := Scalar.addi v2026 c4_i32_2134
  let c256_i32_2135 : BitVec 32 := 256#32
  let v2982 : BitVec 32 := Scalar.muli v2981 c256_i32_2135
  v2982
def k0_mult39 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c4_i32_2141 : BitVec 32 := 4#32
  let v2991 : BitVec 32 := Scalar.addi v2026 c4_i32_2141
  let c0_i32_2150 : BitVec 32 := 0#32
  let v2999 : BitVec 32 := Scalar.maxsi v2991 c0_i32_2150
  let c256_i32_2151 : BitVec 32 := 256#32
  let v3000 : BitVec 32 := Scalar.muli v2999 c256_i32_2151
  v3000
def k0_mult40 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c5_i32_2174 : BitVec 32 := 5#32
  let v3034 : BitVec 32 := Scalar.addi v2026 c5_i32_2174
  let c256_i32_2175 : BitVec 32 := 256#32
  let v3035 : BitVec 32 := Scalar.muli v3034 c256_i32_2175
  v3035
def k0_mult41 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c4_i32_2181 : BitVec 32 := 4#32
  let v3044 : BitVec 32 := Scalar.addi v2026 c4_i32_2181
  let c0_i32_2190 : BitVec 32 := 0#32
  let v3052 : BitVec 32 := Scalar.maxsi v3044 c0_i32_2190
  let c256_i32_2191 : BitVec 32 := 256#32
  let v3053 : BitVec 32 := Scalar.muli v3052 c256_i32_2191
  v3053
def k0_mult42 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c5_i32_2214 : BitVec 32 := 5#32
  let v3087 : BitVec 32 := Scalar.addi v2026 c5_i32_2214
  let c256_i32_2215 : BitVec 32 := 256#32
  let v3088 : BitVec 32 := Scalar.muli v3087 c256_i32_2215
  v3088
def k0_mult43 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c4_i32_2221 : BitVec 32 := 4#32
  let v3097 : BitVec 32 := Scalar.addi v2026 c4_i32_2221
  let c0_i32_2230 : BitVec 32 := 0#32
  let v3105 : BitVec 32 := Scalar.maxsi v3097 c0_i32_2230
  let c256_i32_2231 : BitVec 32 := 256#32
  let v3106 : BitVec 32 := Scalar.muli v3105 c256_i32_2231
  v3106
def k0_mult44 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c5_i32_2254 : BitVec 32 := 5#32
  let v3140 : BitVec 32 := Scalar.addi v2026 c5_i32_2254
  let c256_i32_2255 : BitVec 32 := 256#32
  let v3141 : BitVec 32 := Scalar.muli v3140 c256_i32_2255
  v3141
def k0_mult45 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c5_i32_2261 : BitVec 32 := 5#32
  let v3150 : BitVec 32 := Scalar.addi v2026 c5_i32_2261
  let c0_i32_2270 : BitVec 32 := 0#32
  let v3158 : BitVec 32 := Scalar.maxsi v3150 c0_i32_2270
  let c256_i32_2271 : BitVec 32 := 256#32
  let v3159 : BitVec 32 := Scalar.muli v3158 c256_i32_2271
  v3159
def k0_mult46 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c5_i32_2294 : BitVec 32 := 5#32
  let v3193 : BitVec 32 := Scalar.addi v2026 c5_i32_2294
  let c256_i32_2295 : BitVec 32 := 256#32
  let v3194 : BitVec 32 := Scalar.muli v3193 c256_i32_2295
  v3194
def k0_mult47 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c5_i32_2301 : BitVec 32 := 5#32
  let v3203 : BitVec 32 := Scalar.addi v2026 c5_i32_2301
  let c0_i32_2310 : BitVec 32 := 0#32
  let v3211 : BitVec 32 := Scalar.maxsi v3203 c0_i32_2310
  let c256_i32_2311 : BitVec 32 := 256#32
  let v3212 : BitVec 32 := Scalar.muli v3211 c256_i32_2311
  v3212
def k0_mult48 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c6_i32_2334 : BitVec 32 := 6#32
  let v3246 : BitVec 32 := Scalar.addi v2026 c6_i32_2334
  let c256_i32_2335 : BitVec 32 := 256#32
  let v3247 : BitVec 32 := Scalar.muli v3246 c256_i32_2335
  v3247
def k0_mult49 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c5_i32_2341 : BitVec 32 := 5#32
  let v3256 : BitVec 32 := Scalar.addi v2026 c5_i32_2341
  let c0_i32_2350 : BitVec 32 := 0#32
  let v3264 : BitVec 32 := Scalar.maxsi v3256 c0_i32_2350
  let c256_i32_2351 : BitVec 32 := 256#32
  let v3265 : BitVec 32 := Scalar.muli v3264 c256_i32_2351
  v3265
def k0_mult50 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c6_i32_2374 : BitVec 32 := 6#32
  let v3299 : BitVec 32 := Scalar.addi v2026 c6_i32_2374
  let c256_i32_2375 : BitVec 32 := 256#32
  let v3300 : BitVec 32 := Scalar.muli v3299 c256_i32_2375
  v3300
def k0_mult51 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c5_i32_2381 : BitVec 32 := 5#32
  let v3309 : BitVec 32 := Scalar.addi v2026 c5_i32_2381
  let c0_i32_2390 : BitVec 32 := 0#32
  let v3317 : BitVec 32 := Scalar.maxsi v3309 c0_i32_2390
  let c256_i32_2391 : BitVec 32 := 256#32
  let v3318 : BitVec 32 := Scalar.muli v3317 c256_i32_2391
  v3318
def k0_mult52 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c6_i32_2414 : BitVec 32 := 6#32
  let v3352 : BitVec 32 := Scalar.addi v2026 c6_i32_2414
  let c256_i32_2415 : BitVec 32 := 256#32
  let v3353 : BitVec 32 := Scalar.muli v3352 c256_i32_2415
  v3353
def k0_mult53 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c6_i32_2421 : BitVec 32 := 6#32
  let v3362 : BitVec 32 := Scalar.addi v2026 c6_i32_2421
  let c0_i32_2430 : BitVec 32 := 0#32
  let v3370 : BitVec 32 := Scalar.maxsi v3362 c0_i32_2430
  let c256_i32_2431 : BitVec 32 := 256#32
  let v3371 : BitVec 32 := Scalar.muli v3370 c256_i32_2431
  v3371
def k0_mult54 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c6_i32_2454 : BitVec 32 := 6#32
  let v3405 : BitVec 32 := Scalar.addi v2026 c6_i32_2454
  let c256_i32_2455 : BitVec 32 := 256#32
  let v3406 : BitVec 32 := Scalar.muli v3405 c256_i32_2455
  v3406
def k0_mult55 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c6_i32_2461 : BitVec 32 := 6#32
  let v3415 : BitVec 32 := Scalar.addi v2026 c6_i32_2461
  let c0_i32_2470 : BitVec 32 := 0#32
  let v3423 : BitVec 32 := Scalar.maxsi v3415 c0_i32_2470
  let c256_i32_2471 : BitVec 32 := 256#32
  let v3424 : BitVec 32 := Scalar.muli v3423 c256_i32_2471
  v3424
def k0_mult56 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c7_i32_2494 : BitVec 32 := 7#32
  let v3458 : BitVec 32 := Scalar.addi v2026 c7_i32_2494
  let c256_i32_2495 : BitVec 32 := 256#32
  let v3459 : BitVec 32 := Scalar.muli v3458 c256_i32_2495
  v3459
def k0_mult57 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c6_i32_2501 : BitVec 32 := 6#32
  let v3468 : BitVec 32 := Scalar.addi v2026 c6_i32_2501
  let c0_i32_2510 : BitVec 32 := 0#32
  let v3476 : BitVec 32 := Scalar.maxsi v3468 c0_i32_2510
  let c256_i32_2511 : BitVec 32 := 256#32
  let v3477 : BitVec 32 := Scalar.muli v3476 c256_i32_2511
  v3477
def k0_mult58 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c7_i32_2534 : BitVec 32 := 7#32
  let v3511 : BitVec 32 := Scalar.addi v2026 c7_i32_2534
  let c256_i32_2535 : BitVec 32 := 256#32
  let v3512 : BitVec 32 := Scalar.muli v3511 c256_i32_2535
  v3512
def k0_mult59 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c6_i32_2541 : BitVec 32 := 6#32
  let v3521 : BitVec 32 := Scalar.addi v2026 c6_i32_2541
  let c0_i32_2550 : BitVec 32 := 0#32
  let v3529 : BitVec 32 := Scalar.maxsi v3521 c0_i32_2550
  let c256_i32_2551 : BitVec 32 := 256#32
  let v3530 : BitVec 32 := Scalar.muli v3529 c256_i32_2551
  v3530
def k0_mult60 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c7_i32_2574 : BitVec 32 := 7#32
  let v3564 : BitVec 32 := Scalar.addi v2026 c7_i32_2574
  let c256_i32_2575 : BitVec 32 := 256#32
  let v3565 : BitVec 32 := Scalar.muli v3564 c256_i32_2575
  v3565
def k0_mult61 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c7_i32_2581 : BitVec 32 := 7#32
  let v3574 : BitVec 32 := Scalar.addi v2026 c7_i32_2581
  let c0_i32_2590 : BitVec 32 := 0#32
  let v3582 : BitVec 32 := Scalar.maxsi v3574 c0_i32_2590
  let c256_i32_2591 : BitVec 32 := 256#32
  let v3583 : BitVec 32 := Scalar.muli v3582 c256_i32_2591
  v3583
def k0_mult62 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c7_i32_2614 : BitVec 32 := 7#32
  let v3617 : BitVec 32 := Scalar.addi v2026 c7_i32_2614
  let c256_i32_2615 : BitVec 32 := 256#32
  let v3618 : BitVec 32 := Scalar.muli v3617 c256_i32_2615
  v3618
def k0_mult63 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c7_i32_2621 : BitVec 32 := 7#32
  let v3627 : BitVec 32 := Scalar.addi v2026 c7_i32_2621
  let c0_i32_2630 : BitVec 32 := 0#32
  let v3635 : BitVec 32 := Scalar.maxsi v3627 c0_i32_2630
  let c256_i32_2631 : BitVec 32 := 256#32
  let v3636 : BitVec 32 := Scalar.muli v3635 c256_i32_2631
  v3636
def k0_mult64 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c8_i32_2654 : BitVec 32 := 8#32
  let v3670 : BitVec 32 := Scalar.addi v2026 c8_i32_2654
  let c256_i32_2655 : BitVec 32 := 256#32
  let v3671 : BitVec 32 := Scalar.muli v3670 c256_i32_2655
  v3671
def k0_mult65 (i : grid0.Coords) (k0_t1 : Fin (k0_t1_loop i).trips) : BitVec 32 :=
  let c0_i32_28 : BitVec 32 := 0#32
  let c1_i32_30 : BitVec 32 := 1#32
  let arg19 : BitVec 32 := Scf.iv c0_i32_28 c1_i32_30 k0_t1
  let c8_i32_1413 : BitVec 32 := 8#32
  let v2026 : BitVec 32 := Scalar.muli arg19 c8_i32_1413
  let c7_i32_2661 : BitVec 32 := 7#32
  let v3680 : BitVec 32 := Scalar.addi v2026 c7_i32_2661
  let c0_i32_2670 : BitVec 32 := 0#32
  let v3688 : BitVec 32 := Scalar.maxsi v3680 c0_i32_2670
  let c256_i32_2671 : BitVec 32 := 256#32
  let v3689 : BitVec 32 := Scalar.muli v3688 c256_i32_2671
  v3689
@[reducible] def k0_t2_loop (i : grid0.Coords) : Scf.Loop 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let v45 : BitVec 32 := Scalar.addi c0_i32_28 v44
  let c1_i32_31 : BitVec 32 := 1#32
  ⟨v48, v45, c1_i32_31⟩
def k0_mult66 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c0_i32_1414 : BitVec 32 := 0#32
  let v2027 : BitVec 32 := Scalar.addi v2026 c0_i32_1414
  let c256_i32_1415 : BitVec 32 := 256#32
  let v2028 : BitVec 32 := Scalar.muli v2027 c256_i32_1415
  v2028
def k0_off6 (i : grid0.Coords) (k0_t2 : Fin (k0_t2_loop i).trips) (c0_i32_1414 : BitVec 32) : Fin 3 → Nat :=
  let c0_1416 : Index := 0#32
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let v2027 : BitVec 32 := Scalar.addi v2026 c0_i32_1414
  let c256_i32_1415 : BitVec 32 := 256#32
  let v2028 : BitVec 32 := Scalar.muli v2027 c256_i32_1415
  let v2029 : BitVec 32 := v2028
  let v2030 : Index := Scalar.indexCast v2029
  let c0_1417 : Index := 0#32
  ![0, v2030.toNat, 0]
def k0_mult67 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c1_i32_1421 : BitVec 32 := 1#32
  let v2037 : BitVec 32 := Scalar.subi v2026 c1_i32_1421
  let c0_i32_1430 : BitVec 32 := 0#32
  let v2045 : BitVec 32 := Scalar.maxsi v2037 c0_i32_1430
  let c256_i32_1431 : BitVec 32 := 256#32
  let v2046 : BitVec 32 := Scalar.muli v2045 c256_i32_1431
  v2046
def k0_off7 (i : grid0.Coords) (k0_t2 : Fin (k0_t2_loop i).trips) : Fin 3 → Nat :=
  let c0_1432 : Index := 0#32
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c1_i32_1421 : BitVec 32 := 1#32
  let v2037 : BitVec 32 := Scalar.subi v2026 c1_i32_1421
  let c0_i32_1430 : BitVec 32 := 0#32
  let v2045 : BitVec 32 := Scalar.maxsi v2037 c0_i32_1430
  let c256_i32_1431 : BitVec 32 := 256#32
  let v2046 : BitVec 32 := Scalar.muli v2045 c256_i32_1431
  let v2047 : BitVec 32 := v2046
  let v2048 : Index := Scalar.indexCast v2047
  let c128_1433 : Index := 128#32
  ![0, v2048.toNat, 128]
def k0_mult68 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c0_i32_1454 : BitVec 32 := 0#32
  let v2080 : BitVec 32 := Scalar.addi v2026 c0_i32_1454
  let c256_i32_1455 : BitVec 32 := 256#32
  let v2081 : BitVec 32 := Scalar.muli v2080 c256_i32_1455
  v2081
def k0_off8 (i : grid0.Coords) (k0_t2 : Fin (k0_t2_loop i).trips) (c0_i32_1454 : BitVec 32) : Fin 3 → Nat :=
  let c0_1456 : Index := 0#32
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let v2080 : BitVec 32 := Scalar.addi v2026 c0_i32_1454
  let c256_i32_1455 : BitVec 32 := 256#32
  let v2081 : BitVec 32 := Scalar.muli v2080 c256_i32_1455
  let v2082 : BitVec 32 := v2081
  let v2083 : Index := Scalar.indexCast v2082
  let c128_1457 : Index := 128#32
  ![0, v2083.toNat, 128]
def k0_mult69 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c0_i32_1461 : BitVec 32 := 0#32
  let v2090 : BitVec 32 := Scalar.addi v2026 c0_i32_1461
  let c0_i32_1470 : BitVec 32 := 0#32
  let v2098 : BitVec 32 := Scalar.maxsi v2090 c0_i32_1470
  let c256_i32_1471 : BitVec 32 := 256#32
  let v2099 : BitVec 32 := Scalar.muli v2098 c256_i32_1471
  v2099
def k0_off9 (i : grid0.Coords) (k0_t2 : Fin (k0_t2_loop i).trips) (c0_i32_1461 : BitVec 32) : Fin 3 → Nat :=
  let c0_1472 : Index := 0#32
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let v2090 : BitVec 32 := Scalar.addi v2026 c0_i32_1461
  let c0_i32_1470 : BitVec 32 := 0#32
  let v2098 : BitVec 32 := Scalar.maxsi v2090 c0_i32_1470
  let c256_i32_1471 : BitVec 32 := 256#32
  let v2099 : BitVec 32 := Scalar.muli v2098 c256_i32_1471
  let v2100 : BitVec 32 := v2099
  let v2101 : Index := Scalar.indexCast v2100
  let c0_1473 : Index := 0#32
  ![0, v2101.toNat, 0]
def k0_mult70 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c0_i32_1494 : BitVec 32 := 0#32
  let v2133 : BitVec 32 := Scalar.addi v2026 c0_i32_1494
  let c256_i32_1495 : BitVec 32 := 256#32
  let v2134 : BitVec 32 := Scalar.muli v2133 c256_i32_1495
  v2134
def k0_mult71 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c0_i32_1501 : BitVec 32 := 0#32
  let v2143 : BitVec 32 := Scalar.addi v2026 c0_i32_1501
  let c0_i32_1510 : BitVec 32 := 0#32
  let v2151 : BitVec 32 := Scalar.maxsi v2143 c0_i32_1510
  let c256_i32_1511 : BitVec 32 := 256#32
  let v2152 : BitVec 32 := Scalar.muli v2151 c256_i32_1511
  v2152
def k0_mult72 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c1_i32_1534 : BitVec 32 := 1#32
  let v2186 : BitVec 32 := Scalar.addi v2026 c1_i32_1534
  let c256_i32_1535 : BitVec 32 := 256#32
  let v2187 : BitVec 32 := Scalar.muli v2186 c256_i32_1535
  v2187
def k0_mult73 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c0_i32_1541 : BitVec 32 := 0#32
  let v2196 : BitVec 32 := Scalar.addi v2026 c0_i32_1541
  let c0_i32_1550 : BitVec 32 := 0#32
  let v2204 : BitVec 32 := Scalar.maxsi v2196 c0_i32_1550
  let c256_i32_1551 : BitVec 32 := 256#32
  let v2205 : BitVec 32 := Scalar.muli v2204 c256_i32_1551
  v2205
def k0_off10 (i : grid0.Coords) (k0_t2 : Fin (k0_t2_loop i).trips) (c0_i32_1541 : BitVec 32) : Fin 3 → Nat :=
  let c0_1552 : Index := 0#32
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let v2196 : BitVec 32 := Scalar.addi v2026 c0_i32_1541
  let c0_i32_1550 : BitVec 32 := 0#32
  let v2204 : BitVec 32 := Scalar.maxsi v2196 c0_i32_1550
  let c256_i32_1551 : BitVec 32 := 256#32
  let v2205 : BitVec 32 := Scalar.muli v2204 c256_i32_1551
  let v2206 : BitVec 32 := v2205
  let v2207 : Index := Scalar.indexCast v2206
  let c128_1553 : Index := 128#32
  ![0, v2207.toNat, 128]
def k0_mult74 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c1_i32_1574 : BitVec 32 := 1#32
  let v2239 : BitVec 32 := Scalar.addi v2026 c1_i32_1574
  let c256_i32_1575 : BitVec 32 := 256#32
  let v2240 : BitVec 32 := Scalar.muli v2239 c256_i32_1575
  v2240
def k0_mult75 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c0_i32_1581 : BitVec 32 := 0#32
  let v2249 : BitVec 32 := Scalar.addi v2026 c0_i32_1581
  let c0_i32_1590 : BitVec 32 := 0#32
  let v2257 : BitVec 32 := Scalar.maxsi v2249 c0_i32_1590
  let c256_i32_1591 : BitVec 32 := 256#32
  let v2258 : BitVec 32 := Scalar.muli v2257 c256_i32_1591
  v2258
def k0_mult76 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c1_i32_1614 : BitVec 32 := 1#32
  let v2292 : BitVec 32 := Scalar.addi v2026 c1_i32_1614
  let c256_i32_1615 : BitVec 32 := 256#32
  let v2293 : BitVec 32 := Scalar.muli v2292 c256_i32_1615
  v2293
def k0_mult77 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c1_i32_1621 : BitVec 32 := 1#32
  let v2302 : BitVec 32 := Scalar.addi v2026 c1_i32_1621
  let c0_i32_1630 : BitVec 32 := 0#32
  let v2310 : BitVec 32 := Scalar.maxsi v2302 c0_i32_1630
  let c256_i32_1631 : BitVec 32 := 256#32
  let v2311 : BitVec 32 := Scalar.muli v2310 c256_i32_1631
  v2311
def k0_mult78 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c1_i32_1654 : BitVec 32 := 1#32
  let v2345 : BitVec 32 := Scalar.addi v2026 c1_i32_1654
  let c256_i32_1655 : BitVec 32 := 256#32
  let v2346 : BitVec 32 := Scalar.muli v2345 c256_i32_1655
  v2346
def k0_mult79 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c1_i32_1661 : BitVec 32 := 1#32
  let v2355 : BitVec 32 := Scalar.addi v2026 c1_i32_1661
  let c0_i32_1670 : BitVec 32 := 0#32
  let v2363 : BitVec 32 := Scalar.maxsi v2355 c0_i32_1670
  let c256_i32_1671 : BitVec 32 := 256#32
  let v2364 : BitVec 32 := Scalar.muli v2363 c256_i32_1671
  v2364
def k0_mult80 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c2_i32_1694 : BitVec 32 := 2#32
  let v2398 : BitVec 32 := Scalar.addi v2026 c2_i32_1694
  let c256_i32_1695 : BitVec 32 := 256#32
  let v2399 : BitVec 32 := Scalar.muli v2398 c256_i32_1695
  v2399
def k0_mult81 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c1_i32_1701 : BitVec 32 := 1#32
  let v2408 : BitVec 32 := Scalar.addi v2026 c1_i32_1701
  let c0_i32_1710 : BitVec 32 := 0#32
  let v2416 : BitVec 32 := Scalar.maxsi v2408 c0_i32_1710
  let c256_i32_1711 : BitVec 32 := 256#32
  let v2417 : BitVec 32 := Scalar.muli v2416 c256_i32_1711
  v2417
def k0_mult82 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c2_i32_1734 : BitVec 32 := 2#32
  let v2451 : BitVec 32 := Scalar.addi v2026 c2_i32_1734
  let c256_i32_1735 : BitVec 32 := 256#32
  let v2452 : BitVec 32 := Scalar.muli v2451 c256_i32_1735
  v2452
def k0_mult83 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c1_i32_1741 : BitVec 32 := 1#32
  let v2461 : BitVec 32 := Scalar.addi v2026 c1_i32_1741
  let c0_i32_1750 : BitVec 32 := 0#32
  let v2469 : BitVec 32 := Scalar.maxsi v2461 c0_i32_1750
  let c256_i32_1751 : BitVec 32 := 256#32
  let v2470 : BitVec 32 := Scalar.muli v2469 c256_i32_1751
  v2470
def k0_mult84 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c2_i32_1774 : BitVec 32 := 2#32
  let v2504 : BitVec 32 := Scalar.addi v2026 c2_i32_1774
  let c256_i32_1775 : BitVec 32 := 256#32
  let v2505 : BitVec 32 := Scalar.muli v2504 c256_i32_1775
  v2505
def k0_mult85 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c2_i32_1781 : BitVec 32 := 2#32
  let v2514 : BitVec 32 := Scalar.addi v2026 c2_i32_1781
  let c0_i32_1790 : BitVec 32 := 0#32
  let v2522 : BitVec 32 := Scalar.maxsi v2514 c0_i32_1790
  let c256_i32_1791 : BitVec 32 := 256#32
  let v2523 : BitVec 32 := Scalar.muli v2522 c256_i32_1791
  v2523
def k0_mult86 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c2_i32_1814 : BitVec 32 := 2#32
  let v2557 : BitVec 32 := Scalar.addi v2026 c2_i32_1814
  let c256_i32_1815 : BitVec 32 := 256#32
  let v2558 : BitVec 32 := Scalar.muli v2557 c256_i32_1815
  v2558
def k0_mult87 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c2_i32_1821 : BitVec 32 := 2#32
  let v2567 : BitVec 32 := Scalar.addi v2026 c2_i32_1821
  let c0_i32_1830 : BitVec 32 := 0#32
  let v2575 : BitVec 32 := Scalar.maxsi v2567 c0_i32_1830
  let c256_i32_1831 : BitVec 32 := 256#32
  let v2576 : BitVec 32 := Scalar.muli v2575 c256_i32_1831
  v2576
def k0_mult88 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c3_i32_1854 : BitVec 32 := 3#32
  let v2610 : BitVec 32 := Scalar.addi v2026 c3_i32_1854
  let c256_i32_1855 : BitVec 32 := 256#32
  let v2611 : BitVec 32 := Scalar.muli v2610 c256_i32_1855
  v2611
def k0_mult89 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c2_i32_1861 : BitVec 32 := 2#32
  let v2620 : BitVec 32 := Scalar.addi v2026 c2_i32_1861
  let c0_i32_1870 : BitVec 32 := 0#32
  let v2628 : BitVec 32 := Scalar.maxsi v2620 c0_i32_1870
  let c256_i32_1871 : BitVec 32 := 256#32
  let v2629 : BitVec 32 := Scalar.muli v2628 c256_i32_1871
  v2629
def k0_mult90 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c3_i32_1894 : BitVec 32 := 3#32
  let v2663 : BitVec 32 := Scalar.addi v2026 c3_i32_1894
  let c256_i32_1895 : BitVec 32 := 256#32
  let v2664 : BitVec 32 := Scalar.muli v2663 c256_i32_1895
  v2664
def k0_mult91 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c2_i32_1901 : BitVec 32 := 2#32
  let v2673 : BitVec 32 := Scalar.addi v2026 c2_i32_1901
  let c0_i32_1910 : BitVec 32 := 0#32
  let v2681 : BitVec 32 := Scalar.maxsi v2673 c0_i32_1910
  let c256_i32_1911 : BitVec 32 := 256#32
  let v2682 : BitVec 32 := Scalar.muli v2681 c256_i32_1911
  v2682
def k0_mult92 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c3_i32_1934 : BitVec 32 := 3#32
  let v2716 : BitVec 32 := Scalar.addi v2026 c3_i32_1934
  let c256_i32_1935 : BitVec 32 := 256#32
  let v2717 : BitVec 32 := Scalar.muli v2716 c256_i32_1935
  v2717
def k0_mult93 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c3_i32_1941 : BitVec 32 := 3#32
  let v2726 : BitVec 32 := Scalar.addi v2026 c3_i32_1941
  let c0_i32_1950 : BitVec 32 := 0#32
  let v2734 : BitVec 32 := Scalar.maxsi v2726 c0_i32_1950
  let c256_i32_1951 : BitVec 32 := 256#32
  let v2735 : BitVec 32 := Scalar.muli v2734 c256_i32_1951
  v2735
def k0_mult94 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c3_i32_1974 : BitVec 32 := 3#32
  let v2769 : BitVec 32 := Scalar.addi v2026 c3_i32_1974
  let c256_i32_1975 : BitVec 32 := 256#32
  let v2770 : BitVec 32 := Scalar.muli v2769 c256_i32_1975
  v2770
def k0_mult95 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c3_i32_1981 : BitVec 32 := 3#32
  let v2779 : BitVec 32 := Scalar.addi v2026 c3_i32_1981
  let c0_i32_1990 : BitVec 32 := 0#32
  let v2787 : BitVec 32 := Scalar.maxsi v2779 c0_i32_1990
  let c256_i32_1991 : BitVec 32 := 256#32
  let v2788 : BitVec 32 := Scalar.muli v2787 c256_i32_1991
  v2788
def k0_mult96 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c4_i32_2014 : BitVec 32 := 4#32
  let v2822 : BitVec 32 := Scalar.addi v2026 c4_i32_2014
  let c256_i32_2015 : BitVec 32 := 256#32
  let v2823 : BitVec 32 := Scalar.muli v2822 c256_i32_2015
  v2823
def k0_mult97 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c3_i32_2021 : BitVec 32 := 3#32
  let v2832 : BitVec 32 := Scalar.addi v2026 c3_i32_2021
  let c0_i32_2030 : BitVec 32 := 0#32
  let v2840 : BitVec 32 := Scalar.maxsi v2832 c0_i32_2030
  let c256_i32_2031 : BitVec 32 := 256#32
  let v2841 : BitVec 32 := Scalar.muli v2840 c256_i32_2031
  v2841
def k0_mult98 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c4_i32_2054 : BitVec 32 := 4#32
  let v2875 : BitVec 32 := Scalar.addi v2026 c4_i32_2054
  let c256_i32_2055 : BitVec 32 := 256#32
  let v2876 : BitVec 32 := Scalar.muli v2875 c256_i32_2055
  v2876
def k0_mult99 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c3_i32_2061 : BitVec 32 := 3#32
  let v2885 : BitVec 32 := Scalar.addi v2026 c3_i32_2061
  let c0_i32_2070 : BitVec 32 := 0#32
  let v2893 : BitVec 32 := Scalar.maxsi v2885 c0_i32_2070
  let c256_i32_2071 : BitVec 32 := 256#32
  let v2894 : BitVec 32 := Scalar.muli v2893 c256_i32_2071
  v2894
def k0_mult100 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c4_i32_2094 : BitVec 32 := 4#32
  let v2928 : BitVec 32 := Scalar.addi v2026 c4_i32_2094
  let c256_i32_2095 : BitVec 32 := 256#32
  let v2929 : BitVec 32 := Scalar.muli v2928 c256_i32_2095
  v2929
def k0_mult101 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c4_i32_2101 : BitVec 32 := 4#32
  let v2938 : BitVec 32 := Scalar.addi v2026 c4_i32_2101
  let c0_i32_2110 : BitVec 32 := 0#32
  let v2946 : BitVec 32 := Scalar.maxsi v2938 c0_i32_2110
  let c256_i32_2111 : BitVec 32 := 256#32
  let v2947 : BitVec 32 := Scalar.muli v2946 c256_i32_2111
  v2947
def k0_mult102 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c4_i32_2134 : BitVec 32 := 4#32
  let v2981 : BitVec 32 := Scalar.addi v2026 c4_i32_2134
  let c256_i32_2135 : BitVec 32 := 256#32
  let v2982 : BitVec 32 := Scalar.muli v2981 c256_i32_2135
  v2982
def k0_mult103 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c4_i32_2141 : BitVec 32 := 4#32
  let v2991 : BitVec 32 := Scalar.addi v2026 c4_i32_2141
  let c0_i32_2150 : BitVec 32 := 0#32
  let v2999 : BitVec 32 := Scalar.maxsi v2991 c0_i32_2150
  let c256_i32_2151 : BitVec 32 := 256#32
  let v3000 : BitVec 32 := Scalar.muli v2999 c256_i32_2151
  v3000
def k0_mult104 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c5_i32_2174 : BitVec 32 := 5#32
  let v3034 : BitVec 32 := Scalar.addi v2026 c5_i32_2174
  let c256_i32_2175 : BitVec 32 := 256#32
  let v3035 : BitVec 32 := Scalar.muli v3034 c256_i32_2175
  v3035
def k0_mult105 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c4_i32_2181 : BitVec 32 := 4#32
  let v3044 : BitVec 32 := Scalar.addi v2026 c4_i32_2181
  let c0_i32_2190 : BitVec 32 := 0#32
  let v3052 : BitVec 32 := Scalar.maxsi v3044 c0_i32_2190
  let c256_i32_2191 : BitVec 32 := 256#32
  let v3053 : BitVec 32 := Scalar.muli v3052 c256_i32_2191
  v3053
def k0_mult106 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c5_i32_2214 : BitVec 32 := 5#32
  let v3087 : BitVec 32 := Scalar.addi v2026 c5_i32_2214
  let c256_i32_2215 : BitVec 32 := 256#32
  let v3088 : BitVec 32 := Scalar.muli v3087 c256_i32_2215
  v3088
def k0_mult107 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c4_i32_2221 : BitVec 32 := 4#32
  let v3097 : BitVec 32 := Scalar.addi v2026 c4_i32_2221
  let c0_i32_2230 : BitVec 32 := 0#32
  let v3105 : BitVec 32 := Scalar.maxsi v3097 c0_i32_2230
  let c256_i32_2231 : BitVec 32 := 256#32
  let v3106 : BitVec 32 := Scalar.muli v3105 c256_i32_2231
  v3106
def k0_mult108 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c5_i32_2254 : BitVec 32 := 5#32
  let v3140 : BitVec 32 := Scalar.addi v2026 c5_i32_2254
  let c256_i32_2255 : BitVec 32 := 256#32
  let v3141 : BitVec 32 := Scalar.muli v3140 c256_i32_2255
  v3141
def k0_mult109 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c5_i32_2261 : BitVec 32 := 5#32
  let v3150 : BitVec 32 := Scalar.addi v2026 c5_i32_2261
  let c0_i32_2270 : BitVec 32 := 0#32
  let v3158 : BitVec 32 := Scalar.maxsi v3150 c0_i32_2270
  let c256_i32_2271 : BitVec 32 := 256#32
  let v3159 : BitVec 32 := Scalar.muli v3158 c256_i32_2271
  v3159
def k0_mult110 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c5_i32_2294 : BitVec 32 := 5#32
  let v3193 : BitVec 32 := Scalar.addi v2026 c5_i32_2294
  let c256_i32_2295 : BitVec 32 := 256#32
  let v3194 : BitVec 32 := Scalar.muli v3193 c256_i32_2295
  v3194
def k0_mult111 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c5_i32_2301 : BitVec 32 := 5#32
  let v3203 : BitVec 32 := Scalar.addi v2026 c5_i32_2301
  let c0_i32_2310 : BitVec 32 := 0#32
  let v3211 : BitVec 32 := Scalar.maxsi v3203 c0_i32_2310
  let c256_i32_2311 : BitVec 32 := 256#32
  let v3212 : BitVec 32 := Scalar.muli v3211 c256_i32_2311
  v3212
def k0_mult112 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c6_i32_2334 : BitVec 32 := 6#32
  let v3246 : BitVec 32 := Scalar.addi v2026 c6_i32_2334
  let c256_i32_2335 : BitVec 32 := 256#32
  let v3247 : BitVec 32 := Scalar.muli v3246 c256_i32_2335
  v3247
def k0_mult113 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c5_i32_2341 : BitVec 32 := 5#32
  let v3256 : BitVec 32 := Scalar.addi v2026 c5_i32_2341
  let c0_i32_2350 : BitVec 32 := 0#32
  let v3264 : BitVec 32 := Scalar.maxsi v3256 c0_i32_2350
  let c256_i32_2351 : BitVec 32 := 256#32
  let v3265 : BitVec 32 := Scalar.muli v3264 c256_i32_2351
  v3265
def k0_mult114 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c6_i32_2374 : BitVec 32 := 6#32
  let v3299 : BitVec 32 := Scalar.addi v2026 c6_i32_2374
  let c256_i32_2375 : BitVec 32 := 256#32
  let v3300 : BitVec 32 := Scalar.muli v3299 c256_i32_2375
  v3300
def k0_mult115 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c5_i32_2381 : BitVec 32 := 5#32
  let v3309 : BitVec 32 := Scalar.addi v2026 c5_i32_2381
  let c0_i32_2390 : BitVec 32 := 0#32
  let v3317 : BitVec 32 := Scalar.maxsi v3309 c0_i32_2390
  let c256_i32_2391 : BitVec 32 := 256#32
  let v3318 : BitVec 32 := Scalar.muli v3317 c256_i32_2391
  v3318
def k0_mult116 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c6_i32_2414 : BitVec 32 := 6#32
  let v3352 : BitVec 32 := Scalar.addi v2026 c6_i32_2414
  let c256_i32_2415 : BitVec 32 := 256#32
  let v3353 : BitVec 32 := Scalar.muli v3352 c256_i32_2415
  v3353
def k0_mult117 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c6_i32_2421 : BitVec 32 := 6#32
  let v3362 : BitVec 32 := Scalar.addi v2026 c6_i32_2421
  let c0_i32_2430 : BitVec 32 := 0#32
  let v3370 : BitVec 32 := Scalar.maxsi v3362 c0_i32_2430
  let c256_i32_2431 : BitVec 32 := 256#32
  let v3371 : BitVec 32 := Scalar.muli v3370 c256_i32_2431
  v3371
def k0_mult118 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c6_i32_2454 : BitVec 32 := 6#32
  let v3405 : BitVec 32 := Scalar.addi v2026 c6_i32_2454
  let c256_i32_2455 : BitVec 32 := 256#32
  let v3406 : BitVec 32 := Scalar.muli v3405 c256_i32_2455
  v3406
def k0_mult119 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c6_i32_2461 : BitVec 32 := 6#32
  let v3415 : BitVec 32 := Scalar.addi v2026 c6_i32_2461
  let c0_i32_2470 : BitVec 32 := 0#32
  let v3423 : BitVec 32 := Scalar.maxsi v3415 c0_i32_2470
  let c256_i32_2471 : BitVec 32 := 256#32
  let v3424 : BitVec 32 := Scalar.muli v3423 c256_i32_2471
  v3424
def k0_mult120 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c7_i32_2494 : BitVec 32 := 7#32
  let v3458 : BitVec 32 := Scalar.addi v2026 c7_i32_2494
  let c256_i32_2495 : BitVec 32 := 256#32
  let v3459 : BitVec 32 := Scalar.muli v3458 c256_i32_2495
  v3459
def k0_mult121 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c6_i32_2501 : BitVec 32 := 6#32
  let v3468 : BitVec 32 := Scalar.addi v2026 c6_i32_2501
  let c0_i32_2510 : BitVec 32 := 0#32
  let v3476 : BitVec 32 := Scalar.maxsi v3468 c0_i32_2510
  let c256_i32_2511 : BitVec 32 := 256#32
  let v3477 : BitVec 32 := Scalar.muli v3476 c256_i32_2511
  v3477
def k0_mult122 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c7_i32_2534 : BitVec 32 := 7#32
  let v3511 : BitVec 32 := Scalar.addi v2026 c7_i32_2534
  let c256_i32_2535 : BitVec 32 := 256#32
  let v3512 : BitVec 32 := Scalar.muli v3511 c256_i32_2535
  v3512
def k0_mult123 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c6_i32_2541 : BitVec 32 := 6#32
  let v3521 : BitVec 32 := Scalar.addi v2026 c6_i32_2541
  let c0_i32_2550 : BitVec 32 := 0#32
  let v3529 : BitVec 32 := Scalar.maxsi v3521 c0_i32_2550
  let c256_i32_2551 : BitVec 32 := 256#32
  let v3530 : BitVec 32 := Scalar.muli v3529 c256_i32_2551
  v3530
def k0_mult124 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c7_i32_2574 : BitVec 32 := 7#32
  let v3564 : BitVec 32 := Scalar.addi v2026 c7_i32_2574
  let c256_i32_2575 : BitVec 32 := 256#32
  let v3565 : BitVec 32 := Scalar.muli v3564 c256_i32_2575
  v3565
def k0_mult125 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c7_i32_2581 : BitVec 32 := 7#32
  let v3574 : BitVec 32 := Scalar.addi v2026 c7_i32_2581
  let c0_i32_2590 : BitVec 32 := 0#32
  let v3582 : BitVec 32 := Scalar.maxsi v3574 c0_i32_2590
  let c256_i32_2591 : BitVec 32 := 256#32
  let v3583 : BitVec 32 := Scalar.muli v3582 c256_i32_2591
  v3583
def k0_mult126 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c7_i32_2614 : BitVec 32 := 7#32
  let v3617 : BitVec 32 := Scalar.addi v2026 c7_i32_2614
  let c256_i32_2615 : BitVec 32 := 256#32
  let v3618 : BitVec 32 := Scalar.muli v3617 c256_i32_2615
  v3618
def k0_mult127 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c7_i32_2621 : BitVec 32 := 7#32
  let v3627 : BitVec 32 := Scalar.addi v2026 c7_i32_2621
  let c0_i32_2630 : BitVec 32 := 0#32
  let v3635 : BitVec 32 := Scalar.maxsi v3627 c0_i32_2630
  let c256_i32_2631 : BitVec 32 := 256#32
  let v3636 : BitVec 32 := Scalar.muli v3635 c256_i32_2631
  v3636
def k0_mult128 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c8_i32_2654 : BitVec 32 := 8#32
  let v3670 : BitVec 32 := Scalar.addi v2026 c8_i32_2654
  let c256_i32_2655 : BitVec 32 := 256#32
  let v3671 : BitVec 32 := Scalar.muli v3670 c256_i32_2655
  v3671
def k0_mult129 (i : grid0.Coords) (k0_t2 : Fin (k0_t2_loop i).trips) : BitVec 32 :=
  let c0_i32_28 : BitVec 32 := 0#32
  let arg2 : BitVec 32 := BitVec.ofNat 32 (i 2).val
  let v44 : BitVec 32 := Scalar.subi arg2 c0_i32_28
  let c1_i32 : BitVec 32 := 1#32
  let v46 : BitVec 32 := Scalar.divsi v44 c1_i32
  let v47 : BitVec 32 := Scalar.muli v46 c1_i32
  let v48 : BitVec 32 := Scalar.addi c0_i32_28 v47
  let c1_i32_31 : BitVec 32 := 1#32
  let arg19 : BitVec 32 := Scf.iv v48 c1_i32_31 k0_t2
  let c8_i32_1413 : BitVec 32 := 8#32
  let v2026 : BitVec 32 := Scalar.muli arg19 c8_i32_1413
  let c7_i32_2661 : BitVec 32 := 7#32
  let v3680 : BitVec 32 := Scalar.addi v2026 c7_i32_2661
  let c0_i32_2670 : BitVec 32 := 0#32
  let v3688 : BitVec 32 := Scalar.maxsi v3680 c0_i32_2670
  let c256_i32_2671 : BitVec 32 := 256#32
  let v3689 : BitVec 32 := Scalar.muli v3688 c256_i32_2671
  v3689
def k0_mult130 (i : grid0.Coords) : BitVec 32 :=
  let arg2 : BitVec 32 := BitVec.ofNat 32 (i 2).val
  let c8_i32 : BitVec 32 := 8#32
  let v53 : BitVec 32 := Scalar.muli arg2 c8_i32
  let c0_i32_32 : BitVec 32 := 0#32
  let v55 : BitVec 32 := Scalar.addi v53 c0_i32_32
  let c256_i32 : BitVec 32 := 256#32
  let v56 : BitVec 32 := Scalar.muli v55 c256_i32
  v56
def k0_off11 (i : grid0.Coords) (c0_i32_32 : BitVec 32) : Fin 3 → Nat :=
  let c0_33 : Index := 0#32
  let arg2 : BitVec 32 := BitVec.ofNat 32 (i 2).val
  let c8_i32 : BitVec 32 := 8#32
  let v53 : BitVec 32 := Scalar.muli arg2 c8_i32
  let v55 : BitVec 32 := Scalar.addi v53 c0_i32_32
  let c256_i32 : BitVec 32 := 256#32
  let v56 : BitVec 32 := Scalar.muli v55 c256_i32
  let v57 : BitVec 32 := v56
  let v58 : Index := Scalar.indexCast v57
  let c0_34 : Index := 0#32
  ![0, v58.toNat, 0]
def k0_mult131 (i : grid0.Coords) : BitVec 32 :=
  let arg2 : BitVec 32 := BitVec.ofNat 32 (i 2).val
  let c8_i32 : BitVec 32 := 8#32
  let v53 : BitVec 32 := Scalar.muli arg2 c8_i32
  let c1_i32_38 : BitVec 32 := 1#32
  let v65 : BitVec 32 := Scalar.subi v53 c1_i32_38
  let c0_i32_46 : BitVec 32 := 0#32
  let v73 : BitVec 32 := Scalar.maxsi v65 c0_i32_46
  let c256_i32_47 : BitVec 32 := 256#32
  let v74 : BitVec 32 := Scalar.muli v73 c256_i32_47
  v74
def k0_off12 (i : grid0.Coords) : Fin 3 → Nat :=
  let c0_48 : Index := 0#32
  let arg2 : BitVec 32 := BitVec.ofNat 32 (i 2).val
  let c8_i32 : BitVec 32 := 8#32
  let v53 : BitVec 32 := Scalar.muli arg2 c8_i32
  let c1_i32_38 : BitVec 32 := 1#32
  let v65 : BitVec 32 := Scalar.subi v53 c1_i32_38
  let c0_i32_46 : BitVec 32 := 0#32
  let v73 : BitVec 32 := Scalar.maxsi v65 c0_i32_46
  let c256_i32_47 : BitVec 32 := 256#32
  let v74 : BitVec 32 := Scalar.muli v73 c256_i32_47
  let v75 : BitVec 32 := v74
  let v76 : Index := Scalar.indexCast v75
  let c128_49 : Index := 128#32
  ![0, v76.toNat, 128]
def k0_mult132 (i : grid0.Coords) : BitVec 32 :=
  let arg2 : BitVec 32 := BitVec.ofNat 32 (i 2).val
  let c8_i32 : BitVec 32 := 8#32
  let v53 : BitVec 32 := Scalar.muli arg2 c8_i32
  let c0_i32_72 : BitVec 32 := 0#32
  let v112 : BitVec 32 := Scalar.addi v53 c0_i32_72
  let c256_i32_73 : BitVec 32 := 256#32
  let v113 : BitVec 32 := Scalar.muli v112 c256_i32_73
  v113
def k0_off13 (i : grid0.Coords) (c0_i32_72 : BitVec 32) : Fin 3 → Nat :=
  let c0_74 : Index := 0#32
  let arg2 : BitVec 32 := BitVec.ofNat 32 (i 2).val
  let c8_i32 : BitVec 32 := 8#32
  let v53 : BitVec 32 := Scalar.muli arg2 c8_i32
  let v112 : BitVec 32 := Scalar.addi v53 c0_i32_72
  let c256_i32_73 : BitVec 32 := 256#32
  let v113 : BitVec 32 := Scalar.muli v112 c256_i32_73
  let v114 : BitVec 32 := v113
  let v115 : Index := Scalar.indexCast v114
  let c128_75 : Index := 128#32
  ![0, v115.toNat, 128]
def k0_mult133 (i : grid0.Coords) : BitVec 32 :=
  let arg2 : BitVec 32 := BitVec.ofNat 32 (i 2).val
  let c8_i32 : BitVec 32 := 8#32
  let v53 : BitVec 32 := Scalar.muli arg2 c8_i32
  let c0_i32_79 : BitVec 32 := 0#32
  let v122 : BitVec 32 := Scalar.addi v53 c0_i32_79
  let c0_i32_88 : BitVec 32 := 0#32
  let v130 : BitVec 32 := Scalar.maxsi v122 c0_i32_88
  let c256_i32_89 : BitVec 32 := 256#32
  let v131 : BitVec 32 := Scalar.muli v130 c256_i32_89
  v131
def k0_off14 (i : grid0.Coords) (c0_i32_79 : BitVec 32) : Fin 3 → Nat :=
  let c0_90 : Index := 0#32
  let arg2 : BitVec 32 := BitVec.ofNat 32 (i 2).val
  let c8_i32 : BitVec 32 := 8#32
  let v53 : BitVec 32 := Scalar.muli arg2 c8_i32
  let v122 : BitVec 32 := Scalar.addi v53 c0_i32_79
  let c0_i32_88 : BitVec 32 := 0#32
  let v130 : BitVec 32 := Scalar.maxsi v122 c0_i32_88
  let c256_i32_89 : BitVec 32 := 256#32
  let v131 : BitVec 32 := Scalar.muli v130 c256_i32_89
  let v132 : BitVec 32 := v131
  let v133 : Index := Scalar.indexCast v132
  let c0_91 : Index := 0#32
  ![0, v133.toNat, 0]
def k0_mult134 (i : grid0.Coords) : BitVec 32 :=
  let arg2 : BitVec 32 := BitVec.ofNat 32 (i 2).val
  let c8_i32 : BitVec 32 := 8#32
  let v53 : BitVec 32 := Scalar.muli arg2 c8_i32
  let c0_i32_114 : BitVec 32 := 0#32
  let v169 : BitVec 32 := Scalar.addi v53 c0_i32_114
  let c256_i32_115 : BitVec 32 := 256#32
  let v170 : BitVec 32 := Scalar.muli v169 c256_i32_115
  v170
def k0_mult135 (i : grid0.Coords) : BitVec 32 :=
  let arg2 : BitVec 32 := BitVec.ofNat 32 (i 2).val
  let c8_i32 : BitVec 32 := 8#32
  let v53 : BitVec 32 := Scalar.muli arg2 c8_i32
  let c0_i32_121 : BitVec 32 := 0#32
  let v179 : BitVec 32 := Scalar.addi v53 c0_i32_121
  let c0_i32_130 : BitVec 32 := 0#32
  let v187 : BitVec 32 := Scalar.maxsi v179 c0_i32_130
  let c256_i32_131 : BitVec 32 := 256#32
  let v188 : BitVec 32 := Scalar.muli v187 c256_i32_131
  v188
def k0_mult136 (i : grid0.Coords) : BitVec 32 :=
  let arg2 : BitVec 32 := BitVec.ofNat 32 (i 2).val
  let c8_i32 : BitVec 32 := 8#32
  let v53 : BitVec 32 := Scalar.muli arg2 c8_i32
  let c1_i32_155 : BitVec 32 := 1#32
  let v226 : BitVec 32 := Scalar.addi v53 c1_i32_155
  let c256_i32_156 : BitVec 32 := 256#32
  let v228 : BitVec 32 := Scalar.muli v226 c256_i32_156
  v228
def k0_mult137 (i : grid0.Coords) : BitVec 32 :=
  let arg2 : BitVec 32 := BitVec.ofNat 32 (i 2).val
  let c8_i32 : BitVec 32 := 8#32
  let v53 : BitVec 32 := Scalar.muli arg2 c8_i32
  let c0_i32_161 : BitVec 32 := 0#32
  let v237 : BitVec 32 := Scalar.addi v53 c0_i32_161
  let c0_i32_170 : BitVec 32 := 0#32
  let v245 : BitVec 32 := Scalar.maxsi v237 c0_i32_170
  let c256_i32_171 : BitVec 32 := 256#32
  let v246 : BitVec 32 := Scalar.muli v245 c256_i32_171
  v246
def k0_off15 (i : grid0.Coords) (c0_i32_161 : BitVec 32) : Fin 3 → Nat :=
  let c0_172 : Index := 0#32
  let arg2 : BitVec 32 := BitVec.ofNat 32 (i 2).val
  let c8_i32 : BitVec 32 := 8#32
  let v53 : BitVec 32 := Scalar.muli arg2 c8_i32
  let v237 : BitVec 32 := Scalar.addi v53 c0_i32_161
  let c0_i32_170 : BitVec 32 := 0#32
  let v245 : BitVec 32 := Scalar.maxsi v237 c0_i32_170
  let c256_i32_171 : BitVec 32 := 256#32
  let v246 : BitVec 32 := Scalar.muli v245 c256_i32_171
  let v247 : BitVec 32 := v246
  let v248 : Index := Scalar.indexCast v247
  let c128_173 : Index := 128#32
  ![0, v248.toNat, 128]
def k0_mult138 (i : grid0.Coords) : BitVec 32 :=
  let arg2 : BitVec 32 := BitVec.ofNat 32 (i 2).val
  let c8_i32 : BitVec 32 := 8#32
  let v53 : BitVec 32 := Scalar.muli arg2 c8_i32
  let c1_i32_196 : BitVec 32 := 1#32
  let v284 : BitVec 32 := Scalar.addi v53 c1_i32_196
  let c256_i32_197 : BitVec 32 := 256#32
  let v286 : BitVec 32 := Scalar.muli v284 c256_i32_197
  v286
def k0_mult139 (i : grid0.Coords) : BitVec 32 :=
  let arg2 : BitVec 32 := BitVec.ofNat 32 (i 2).val
  let c8_i32 : BitVec 32 := 8#32
  let v53 : BitVec 32 := Scalar.muli arg2 c8_i32
  let c0_i32_203 : BitVec 32 := 0#32
  let v295 : BitVec 32 := Scalar.addi v53 c0_i32_203
  let c0_i32_212 : BitVec 32 := 0#32
  let v303 : BitVec 32 := Scalar.maxsi v295 c0_i32_212
  let c256_i32_213 : BitVec 32 := 256#32
  let v304 : BitVec 32 := Scalar.muli v303 c256_i32_213
  v304
def k0_mult140 (i : grid0.Coords) : BitVec 32 :=
  let arg2 : BitVec 32 := BitVec.ofNat 32 (i 2).val
  let c8_i32 : BitVec 32 := 8#32
  let v53 : BitVec 32 := Scalar.muli arg2 c8_i32
  let c1_i32_238 : BitVec 32 := 1#32
  let v343 : BitVec 32 := Scalar.addi v53 c1_i32_238
  let c256_i32_239 : BitVec 32 := 256#32
  let v345 : BitVec 32 := Scalar.muli v343 c256_i32_239
  v345
def k0_mult141 (i : grid0.Coords) : BitVec 32 :=
  let arg2 : BitVec 32 := BitVec.ofNat 32 (i 2).val
  let c8_i32 : BitVec 32 := 8#32
  let v53 : BitVec 32 := Scalar.muli arg2 c8_i32
  let c1_i32_245 : BitVec 32 := 1#32
  let v354 : BitVec 32 := Scalar.addi v53 c1_i32_245
  let c0_i32_254 : BitVec 32 := 0#32
  let v362 : BitVec 32 := Scalar.maxsi v354 c0_i32_254
  let c256_i32_255 : BitVec 32 := 256#32
  let v363 : BitVec 32 := Scalar.muli v362 c256_i32_255
  v363
def k0_mult142 (i : grid0.Coords) : BitVec 32 :=
  let arg2 : BitVec 32 := BitVec.ofNat 32 (i 2).val
  let c8_i32 : BitVec 32 := 8#32
  let v53 : BitVec 32 := Scalar.muli arg2 c8_i32
  let c1_i32_280 : BitVec 32 := 1#32
  let v402 : BitVec 32 := Scalar.addi v53 c1_i32_280
  let c256_i32_281 : BitVec 32 := 256#32
  let v404 : BitVec 32 := Scalar.muli v402 c256_i32_281
  v404
def k0_mult143 (i : grid0.Coords) : BitVec 32 :=
  let arg2 : BitVec 32 := BitVec.ofNat 32 (i 2).val
  let c8_i32 : BitVec 32 := 8#32
  let v53 : BitVec 32 := Scalar.muli arg2 c8_i32
  let c1_i32_287 : BitVec 32 := 1#32
  let v413 : BitVec 32 := Scalar.addi v53 c1_i32_287
  let c0_i32_296 : BitVec 32 := 0#32
  let v421 : BitVec 32 := Scalar.maxsi v413 c0_i32_296
  let c256_i32_297 : BitVec 32 := 256#32
  let v422 : BitVec 32 := Scalar.muli v421 c256_i32_297
  v422
def k0_mult144 (i : grid0.Coords) : BitVec 32 :=
  let arg2 : BitVec 32 := BitVec.ofNat 32 (i 2).val
  let c8_i32 : BitVec 32 := 8#32
  let v53 : BitVec 32 := Scalar.muli arg2 c8_i32
  let c2_i32 : BitVec 32 := 2#32
  let v461 : BitVec 32 := Scalar.addi v53 c2_i32
  let c256_i32_322 : BitVec 32 := 256#32
  let v463 : BitVec 32 := Scalar.muli v461 c256_i32_322
  v463
def k0_mult145 (i : grid0.Coords) : BitVec 32 :=
  let arg2 : BitVec 32 := BitVec.ofNat 32 (i 2).val
  let c8_i32 : BitVec 32 := 8#32
  let v53 : BitVec 32 := Scalar.muli arg2 c8_i32
  let c1_i32_327 : BitVec 32 := 1#32
  let v472 : BitVec 32 := Scalar.addi v53 c1_i32_327
  let c0_i32_336 : BitVec 32 := 0#32
  let v480 : BitVec 32 := Scalar.maxsi v472 c0_i32_336
  let c256_i32_337 : BitVec 32 := 256#32
  let v481 : BitVec 32 := Scalar.muli v480 c256_i32_337
  v481
def k0_mult146 (i : grid0.Coords) : BitVec 32 :=
  let arg2 : BitVec 32 := BitVec.ofNat 32 (i 2).val
  let c8_i32 : BitVec 32 := 8#32
  let v53 : BitVec 32 := Scalar.muli arg2 c8_i32
  let c2_i32_362 : BitVec 32 := 2#32
  let v520 : BitVec 32 := Scalar.addi v53 c2_i32_362
  let c256_i32_363 : BitVec 32 := 256#32
  let v522 : BitVec 32 := Scalar.muli v520 c256_i32_363
  v522
def k0_mult147 (i : grid0.Coords) : BitVec 32 :=
  let arg2 : BitVec 32 := BitVec.ofNat 32 (i 2).val
  let c8_i32 : BitVec 32 := 8#32
  let v53 : BitVec 32 := Scalar.muli arg2 c8_i32
  let c1_i32_369 : BitVec 32 := 1#32
  let v531 : BitVec 32 := Scalar.addi v53 c1_i32_369
  let c0_i32_378 : BitVec 32 := 0#32
  let v539 : BitVec 32 := Scalar.maxsi v531 c0_i32_378
  let c256_i32_379 : BitVec 32 := 256#32
  let v540 : BitVec 32 := Scalar.muli v539 c256_i32_379
  v540
def k0_mult148 (i : grid0.Coords) : BitVec 32 :=
  let arg2 : BitVec 32 := BitVec.ofNat 32 (i 2).val
  let c8_i32 : BitVec 32 := 8#32
  let v53 : BitVec 32 := Scalar.muli arg2 c8_i32
  let c2_i32_404 : BitVec 32 := 2#32
  let v579 : BitVec 32 := Scalar.addi v53 c2_i32_404
  let c256_i32_405 : BitVec 32 := 256#32
  let v581 : BitVec 32 := Scalar.muli v579 c256_i32_405
  v581
def k0_mult149 (i : grid0.Coords) : BitVec 32 :=
  let arg2 : BitVec 32 := BitVec.ofNat 32 (i 2).val
  let c8_i32 : BitVec 32 := 8#32
  let v53 : BitVec 32 := Scalar.muli arg2 c8_i32
  let c2_i32_411 : BitVec 32 := 2#32
  let v590 : BitVec 32 := Scalar.addi v53 c2_i32_411
  let c0_i32_420 : BitVec 32 := 0#32
  let v598 : BitVec 32 := Scalar.maxsi v590 c0_i32_420
  let c256_i32_421 : BitVec 32 := 256#32
  let v599 : BitVec 32 := Scalar.muli v598 c256_i32_421
  v599
def k0_mult150 (i : grid0.Coords) : BitVec 32 :=
  let arg2 : BitVec 32 := BitVec.ofNat 32 (i 2).val
  let c8_i32 : BitVec 32 := 8#32
  let v53 : BitVec 32 := Scalar.muli arg2 c8_i32
  let c2_i32_446 : BitVec 32 := 2#32
  let v638 : BitVec 32 := Scalar.addi v53 c2_i32_446
  let c256_i32_447 : BitVec 32 := 256#32
  let v640 : BitVec 32 := Scalar.muli v638 c256_i32_447
  v640
def k0_mult151 (i : grid0.Coords) : BitVec 32 :=
  let arg2 : BitVec 32 := BitVec.ofNat 32 (i 2).val
  let c8_i32 : BitVec 32 := 8#32
  let v53 : BitVec 32 := Scalar.muli arg2 c8_i32
  let c2_i32_453 : BitVec 32 := 2#32
  let v649 : BitVec 32 := Scalar.addi v53 c2_i32_453
  let c0_i32_462 : BitVec 32 := 0#32
  let v657 : BitVec 32 := Scalar.maxsi v649 c0_i32_462
  let c256_i32_463 : BitVec 32 := 256#32
  let v658 : BitVec 32 := Scalar.muli v657 c256_i32_463
  v658
def k0_mult152 (i : grid0.Coords) : BitVec 32 :=
  let arg2 : BitVec 32 := BitVec.ofNat 32 (i 2).val
  let c8_i32 : BitVec 32 := 8#32
  let v53 : BitVec 32 := Scalar.muli arg2 c8_i32
  let c3_i32 : BitVec 32 := 3#32
  let v697 : BitVec 32 := Scalar.addi v53 c3_i32
  let c256_i32_488 : BitVec 32 := 256#32
  let v699 : BitVec 32 := Scalar.muli v697 c256_i32_488
  v699
def k0_mult153 (i : grid0.Coords) : BitVec 32 :=
  let arg2 : BitVec 32 := BitVec.ofNat 32 (i 2).val
  let c8_i32 : BitVec 32 := 8#32
  let v53 : BitVec 32 := Scalar.muli arg2 c8_i32
  let c2_i32_493 : BitVec 32 := 2#32
  let v708 : BitVec 32 := Scalar.addi v53 c2_i32_493
  let c0_i32_502 : BitVec 32 := 0#32
  let v716 : BitVec 32 := Scalar.maxsi v708 c0_i32_502
  let c256_i32_503 : BitVec 32 := 256#32
  let v717 : BitVec 32 := Scalar.muli v716 c256_i32_503
  v717
def k0_mult154 (i : grid0.Coords) : BitVec 32 :=
  let arg2 : BitVec 32 := BitVec.ofNat 32 (i 2).val
  let c8_i32 : BitVec 32 := 8#32
  let v53 : BitVec 32 := Scalar.muli arg2 c8_i32
  let c3_i32_528 : BitVec 32 := 3#32
  let v756 : BitVec 32 := Scalar.addi v53 c3_i32_528
  let c256_i32_529 : BitVec 32 := 256#32
  let v758 : BitVec 32 := Scalar.muli v756 c256_i32_529
  v758
def k0_mult155 (i : grid0.Coords) : BitVec 32 :=
  let arg2 : BitVec 32 := BitVec.ofNat 32 (i 2).val
  let c8_i32 : BitVec 32 := 8#32
  let v53 : BitVec 32 := Scalar.muli arg2 c8_i32
  let c2_i32_535 : BitVec 32 := 2#32
  let v767 : BitVec 32 := Scalar.addi v53 c2_i32_535
  let c0_i32_544 : BitVec 32 := 0#32
  let v775 : BitVec 32 := Scalar.maxsi v767 c0_i32_544
  let c256_i32_545 : BitVec 32 := 256#32
  let v776 : BitVec 32 := Scalar.muli v775 c256_i32_545
  v776
def k0_mult156 (i : grid0.Coords) : BitVec 32 :=
  let arg2 : BitVec 32 := BitVec.ofNat 32 (i 2).val
  let c8_i32 : BitVec 32 := 8#32
  let v53 : BitVec 32 := Scalar.muli arg2 c8_i32
  let c3_i32_570 : BitVec 32 := 3#32
  let v815 : BitVec 32 := Scalar.addi v53 c3_i32_570
  let c256_i32_571 : BitVec 32 := 256#32
  let v817 : BitVec 32 := Scalar.muli v815 c256_i32_571
  v817
def k0_mult157 (i : grid0.Coords) : BitVec 32 :=
  let arg2 : BitVec 32 := BitVec.ofNat 32 (i 2).val
  let c8_i32 : BitVec 32 := 8#32
  let v53 : BitVec 32 := Scalar.muli arg2 c8_i32
  let c3_i32_577 : BitVec 32 := 3#32
  let v826 : BitVec 32 := Scalar.addi v53 c3_i32_577
  let c0_i32_586 : BitVec 32 := 0#32
  let v834 : BitVec 32 := Scalar.maxsi v826 c0_i32_586
  let c256_i32_587 : BitVec 32 := 256#32
  let v835 : BitVec 32 := Scalar.muli v834 c256_i32_587
  v835
def k0_mult158 (i : grid0.Coords) : BitVec 32 :=
  let arg2 : BitVec 32 := BitVec.ofNat 32 (i 2).val
  let c8_i32 : BitVec 32 := 8#32
  let v53 : BitVec 32 := Scalar.muli arg2 c8_i32
  let c3_i32_612 : BitVec 32 := 3#32
  let v874 : BitVec 32 := Scalar.addi v53 c3_i32_612
  let c256_i32_613 : BitVec 32 := 256#32
  let v876 : BitVec 32 := Scalar.muli v874 c256_i32_613
  v876
def k0_mult159 (i : grid0.Coords) : BitVec 32 :=
  let arg2 : BitVec 32 := BitVec.ofNat 32 (i 2).val
  let c8_i32 : BitVec 32 := 8#32
  let v53 : BitVec 32 := Scalar.muli arg2 c8_i32
  let c3_i32_619 : BitVec 32 := 3#32
  let v885 : BitVec 32 := Scalar.addi v53 c3_i32_619
  let c0_i32_628 : BitVec 32 := 0#32
  let v893 : BitVec 32 := Scalar.maxsi v885 c0_i32_628
  let c256_i32_629 : BitVec 32 := 256#32
  let v894 : BitVec 32 := Scalar.muli v893 c256_i32_629
  v894
def k0_mult160 (i : grid0.Coords) : BitVec 32 :=
  let arg2 : BitVec 32 := BitVec.ofNat 32 (i 2).val
  let c8_i32 : BitVec 32 := 8#32
  let v53 : BitVec 32 := Scalar.muli arg2 c8_i32
  let c4_i32 : BitVec 32 := 4#32
  let v933 : BitVec 32 := Scalar.addi v53 c4_i32
  let c256_i32_654 : BitVec 32 := 256#32
  let v935 : BitVec 32 := Scalar.muli v933 c256_i32_654
  v935
def k0_mult161 (i : grid0.Coords) : BitVec 32 :=
  let arg2 : BitVec 32 := BitVec.ofNat 32 (i 2).val
  let c8_i32 : BitVec 32 := 8#32
  let v53 : BitVec 32 := Scalar.muli arg2 c8_i32
  let c3_i32_659 : BitVec 32 := 3#32
  let v944 : BitVec 32 := Scalar.addi v53 c3_i32_659
  let c0_i32_668 : BitVec 32 := 0#32
  let v952 : BitVec 32 := Scalar.maxsi v944 c0_i32_668
  let c256_i32_669 : BitVec 32 := 256#32
  let v953 : BitVec 32 := Scalar.muli v952 c256_i32_669
  v953
def k0_mult162 (i : grid0.Coords) : BitVec 32 :=
  let arg2 : BitVec 32 := BitVec.ofNat 32 (i 2).val
  let c8_i32 : BitVec 32 := 8#32
  let v53 : BitVec 32 := Scalar.muli arg2 c8_i32
  let c4_i32_694 : BitVec 32 := 4#32
  let v992 : BitVec 32 := Scalar.addi v53 c4_i32_694
  let c256_i32_695 : BitVec 32 := 256#32
  let v994 : BitVec 32 := Scalar.muli v992 c256_i32_695
  v994
def k0_mult163 (i : grid0.Coords) : BitVec 32 :=
  let arg2 : BitVec 32 := BitVec.ofNat 32 (i 2).val
  let c8_i32 : BitVec 32 := 8#32
  let v53 : BitVec 32 := Scalar.muli arg2 c8_i32
  let c3_i32_701 : BitVec 32 := 3#32
  let v1003 : BitVec 32 := Scalar.addi v53 c3_i32_701
  let c0_i32_710 : BitVec 32 := 0#32
  let v1011 : BitVec 32 := Scalar.maxsi v1003 c0_i32_710
  let c256_i32_711 : BitVec 32 := 256#32
  let v1012 : BitVec 32 := Scalar.muli v1011 c256_i32_711
  v1012
def k0_mult164 (i : grid0.Coords) : BitVec 32 :=
  let arg2 : BitVec 32 := BitVec.ofNat 32 (i 2).val
  let c8_i32 : BitVec 32 := 8#32
  let v53 : BitVec 32 := Scalar.muli arg2 c8_i32
  let c4_i32_736 : BitVec 32 := 4#32
  let v1051 : BitVec 32 := Scalar.addi v53 c4_i32_736
  let c256_i32_737 : BitVec 32 := 256#32
  let v1053 : BitVec 32 := Scalar.muli v1051 c256_i32_737
  v1053
def k0_mult165 (i : grid0.Coords) : BitVec 32 :=
  let arg2 : BitVec 32 := BitVec.ofNat 32 (i 2).val
  let c8_i32 : BitVec 32 := 8#32
  let v53 : BitVec 32 := Scalar.muli arg2 c8_i32
  let c4_i32_743 : BitVec 32 := 4#32
  let v1062 : BitVec 32 := Scalar.addi v53 c4_i32_743
  let c0_i32_752 : BitVec 32 := 0#32
  let v1070 : BitVec 32 := Scalar.maxsi v1062 c0_i32_752
  let c256_i32_753 : BitVec 32 := 256#32
  let v1071 : BitVec 32 := Scalar.muli v1070 c256_i32_753
  v1071
def k0_mult166 (i : grid0.Coords) : BitVec 32 :=
  let arg2 : BitVec 32 := BitVec.ofNat 32 (i 2).val
  let c8_i32 : BitVec 32 := 8#32
  let v53 : BitVec 32 := Scalar.muli arg2 c8_i32
  let c4_i32_778 : BitVec 32 := 4#32
  let v1110 : BitVec 32 := Scalar.addi v53 c4_i32_778
  let c256_i32_779 : BitVec 32 := 256#32
  let v1112 : BitVec 32 := Scalar.muli v1110 c256_i32_779
  v1112
def k0_mult167 (i : grid0.Coords) : BitVec 32 :=
  let arg2 : BitVec 32 := BitVec.ofNat 32 (i 2).val
  let c8_i32 : BitVec 32 := 8#32
  let v53 : BitVec 32 := Scalar.muli arg2 c8_i32
  let c4_i32_785 : BitVec 32 := 4#32
  let v1121 : BitVec 32 := Scalar.addi v53 c4_i32_785
  let c0_i32_794 : BitVec 32 := 0#32
  let v1129 : BitVec 32 := Scalar.maxsi v1121 c0_i32_794
  let c256_i32_795 : BitVec 32 := 256#32
  let v1130 : BitVec 32 := Scalar.muli v1129 c256_i32_795
  v1130
def k0_mult168 (i : grid0.Coords) : BitVec 32 :=
  let arg2 : BitVec 32 := BitVec.ofNat 32 (i 2).val
  let c8_i32 : BitVec 32 := 8#32
  let v53 : BitVec 32 := Scalar.muli arg2 c8_i32
  let c5_i32 : BitVec 32 := 5#32
  let v1169 : BitVec 32 := Scalar.addi v53 c5_i32
  let c256_i32_820 : BitVec 32 := 256#32
  let v1171 : BitVec 32 := Scalar.muli v1169 c256_i32_820
  v1171
def k0_mult169 (i : grid0.Coords) : BitVec 32 :=
  let arg2 : BitVec 32 := BitVec.ofNat 32 (i 2).val
  let c8_i32 : BitVec 32 := 8#32
  let v53 : BitVec 32 := Scalar.muli arg2 c8_i32
  let c4_i32_825 : BitVec 32 := 4#32
  let v1180 : BitVec 32 := Scalar.addi v53 c4_i32_825
  let c0_i32_834 : BitVec 32 := 0#32
  let v1188 : BitVec 32 := Scalar.maxsi v1180 c0_i32_834
  let c256_i32_835 : BitVec 32 := 256#32
  let v1189 : BitVec 32 := Scalar.muli v1188 c256_i32_835
  v1189
def k0_mult170 (i : grid0.Coords) : BitVec 32 :=
  let arg2 : BitVec 32 := BitVec.ofNat 32 (i 2).val
  let c8_i32 : BitVec 32 := 8#32
  let v53 : BitVec 32 := Scalar.muli arg2 c8_i32
  let c5_i32_860 : BitVec 32 := 5#32
  let v1228 : BitVec 32 := Scalar.addi v53 c5_i32_860
  let c256_i32_861 : BitVec 32 := 256#32
  let v1230 : BitVec 32 := Scalar.muli v1228 c256_i32_861
  v1230
def k0_mult171 (i : grid0.Coords) : BitVec 32 :=
  let arg2 : BitVec 32 := BitVec.ofNat 32 (i 2).val
  let c8_i32 : BitVec 32 := 8#32
  let v53 : BitVec 32 := Scalar.muli arg2 c8_i32
  let c4_i32_867 : BitVec 32 := 4#32
  let v1239 : BitVec 32 := Scalar.addi v53 c4_i32_867
  let c0_i32_876 : BitVec 32 := 0#32
  let v1247 : BitVec 32 := Scalar.maxsi v1239 c0_i32_876
  let c256_i32_877 : BitVec 32 := 256#32
  let v1248 : BitVec 32 := Scalar.muli v1247 c256_i32_877
  v1248
def k0_mult172 (i : grid0.Coords) : BitVec 32 :=
  let arg2 : BitVec 32 := BitVec.ofNat 32 (i 2).val
  let c8_i32 : BitVec 32 := 8#32
  let v53 : BitVec 32 := Scalar.muli arg2 c8_i32
  let c5_i32_902 : BitVec 32 := 5#32
  let v1287 : BitVec 32 := Scalar.addi v53 c5_i32_902
  let c256_i32_903 : BitVec 32 := 256#32
  let v1289 : BitVec 32 := Scalar.muli v1287 c256_i32_903
  v1289
def k0_mult173 (i : grid0.Coords) : BitVec 32 :=
  let arg2 : BitVec 32 := BitVec.ofNat 32 (i 2).val
  let c8_i32 : BitVec 32 := 8#32
  let v53 : BitVec 32 := Scalar.muli arg2 c8_i32
  let c5_i32_909 : BitVec 32 := 5#32
  let v1298 : BitVec 32 := Scalar.addi v53 c5_i32_909
  let c0_i32_918 : BitVec 32 := 0#32
  let v1306 : BitVec 32 := Scalar.maxsi v1298 c0_i32_918
  let c256_i32_919 : BitVec 32 := 256#32
  let v1307 : BitVec 32 := Scalar.muli v1306 c256_i32_919
  v1307
def k0_mult174 (i : grid0.Coords) : BitVec 32 :=
  let arg2 : BitVec 32 := BitVec.ofNat 32 (i 2).val
  let c8_i32 : BitVec 32 := 8#32
  let v53 : BitVec 32 := Scalar.muli arg2 c8_i32
  let c5_i32_944 : BitVec 32 := 5#32
  let v1346 : BitVec 32 := Scalar.addi v53 c5_i32_944
  let c256_i32_945 : BitVec 32 := 256#32
  let v1348 : BitVec 32 := Scalar.muli v1346 c256_i32_945
  v1348
def k0_mult175 (i : grid0.Coords) : BitVec 32 :=
  let arg2 : BitVec 32 := BitVec.ofNat 32 (i 2).val
  let c8_i32 : BitVec 32 := 8#32
  let v53 : BitVec 32 := Scalar.muli arg2 c8_i32
  let c5_i32_951 : BitVec 32 := 5#32
  let v1357 : BitVec 32 := Scalar.addi v53 c5_i32_951
  let c0_i32_960 : BitVec 32 := 0#32
  let v1365 : BitVec 32 := Scalar.maxsi v1357 c0_i32_960
  let c256_i32_961 : BitVec 32 := 256#32
  let v1366 : BitVec 32 := Scalar.muli v1365 c256_i32_961
  v1366
def k0_mult176 (i : grid0.Coords) : BitVec 32 :=
  let arg2 : BitVec 32 := BitVec.ofNat 32 (i 2).val
  let c8_i32 : BitVec 32 := 8#32
  let v53 : BitVec 32 := Scalar.muli arg2 c8_i32
  let c6_i32 : BitVec 32 := 6#32
  let v1405 : BitVec 32 := Scalar.addi v53 c6_i32
  let c256_i32_986 : BitVec 32 := 256#32
  let v1407 : BitVec 32 := Scalar.muli v1405 c256_i32_986
  v1407
def k0_mult177 (i : grid0.Coords) : BitVec 32 :=
  let arg2 : BitVec 32 := BitVec.ofNat 32 (i 2).val
  let c8_i32 : BitVec 32 := 8#32
  let v53 : BitVec 32 := Scalar.muli arg2 c8_i32
  let c5_i32_991 : BitVec 32 := 5#32
  let v1416 : BitVec 32 := Scalar.addi v53 c5_i32_991
  let c0_i32_1000 : BitVec 32 := 0#32
  let v1424 : BitVec 32 := Scalar.maxsi v1416 c0_i32_1000
  let c256_i32_1001 : BitVec 32 := 256#32
  let v1425 : BitVec 32 := Scalar.muli v1424 c256_i32_1001
  v1425
def k0_mult178 (i : grid0.Coords) : BitVec 32 :=
  let arg2 : BitVec 32 := BitVec.ofNat 32 (i 2).val
  let c8_i32 : BitVec 32 := 8#32
  let v53 : BitVec 32 := Scalar.muli arg2 c8_i32
  let c6_i32_1026 : BitVec 32 := 6#32
  let v1464 : BitVec 32 := Scalar.addi v53 c6_i32_1026
  let c256_i32_1027 : BitVec 32 := 256#32
  let v1466 : BitVec 32 := Scalar.muli v1464 c256_i32_1027
  v1466
def k0_mult179 (i : grid0.Coords) : BitVec 32 :=
  let arg2 : BitVec 32 := BitVec.ofNat 32 (i 2).val
  let c8_i32 : BitVec 32 := 8#32
  let v53 : BitVec 32 := Scalar.muli arg2 c8_i32
  let c5_i32_1033 : BitVec 32 := 5#32
  let v1475 : BitVec 32 := Scalar.addi v53 c5_i32_1033
  let c0_i32_1042 : BitVec 32 := 0#32
  let v1483 : BitVec 32 := Scalar.maxsi v1475 c0_i32_1042
  let c256_i32_1043 : BitVec 32 := 256#32
  let v1484 : BitVec 32 := Scalar.muli v1483 c256_i32_1043
  v1484
def k0_mult180 (i : grid0.Coords) : BitVec 32 :=
  let arg2 : BitVec 32 := BitVec.ofNat 32 (i 2).val
  let c8_i32 : BitVec 32 := 8#32
  let v53 : BitVec 32 := Scalar.muli arg2 c8_i32
  let c6_i32_1068 : BitVec 32 := 6#32
  let v1523 : BitVec 32 := Scalar.addi v53 c6_i32_1068
  let c256_i32_1069 : BitVec 32 := 256#32
  let v1525 : BitVec 32 := Scalar.muli v1523 c256_i32_1069
  v1525
def k0_mult181 (i : grid0.Coords) : BitVec 32 :=
  let arg2 : BitVec 32 := BitVec.ofNat 32 (i 2).val
  let c8_i32 : BitVec 32 := 8#32
  let v53 : BitVec 32 := Scalar.muli arg2 c8_i32
  let c6_i32_1075 : BitVec 32 := 6#32
  let v1534 : BitVec 32 := Scalar.addi v53 c6_i32_1075
  let c0_i32_1084 : BitVec 32 := 0#32
  let v1542 : BitVec 32 := Scalar.maxsi v1534 c0_i32_1084
  let c256_i32_1085 : BitVec 32 := 256#32
  let v1543 : BitVec 32 := Scalar.muli v1542 c256_i32_1085
  v1543
def k0_mult182 (i : grid0.Coords) : BitVec 32 :=
  let arg2 : BitVec 32 := BitVec.ofNat 32 (i 2).val
  let c8_i32 : BitVec 32 := 8#32
  let v53 : BitVec 32 := Scalar.muli arg2 c8_i32
  let c6_i32_1110 : BitVec 32 := 6#32
  let v1582 : BitVec 32 := Scalar.addi v53 c6_i32_1110
  let c256_i32_1111 : BitVec 32 := 256#32
  let v1584 : BitVec 32 := Scalar.muli v1582 c256_i32_1111
  v1584
def k0_mult183 (i : grid0.Coords) : BitVec 32 :=
  let arg2 : BitVec 32 := BitVec.ofNat 32 (i 2).val
  let c8_i32 : BitVec 32 := 8#32
  let v53 : BitVec 32 := Scalar.muli arg2 c8_i32
  let c6_i32_1117 : BitVec 32 := 6#32
  let v1593 : BitVec 32 := Scalar.addi v53 c6_i32_1117
  let c0_i32_1126 : BitVec 32 := 0#32
  let v1601 : BitVec 32 := Scalar.maxsi v1593 c0_i32_1126
  let c256_i32_1127 : BitVec 32 := 256#32
  let v1602 : BitVec 32 := Scalar.muli v1601 c256_i32_1127
  v1602
def k0_mult184 (i : grid0.Coords) : BitVec 32 :=
  let arg2 : BitVec 32 := BitVec.ofNat 32 (i 2).val
  let c8_i32 : BitVec 32 := 8#32
  let v53 : BitVec 32 := Scalar.muli arg2 c8_i32
  let c7_i32 : BitVec 32 := 7#32
  let v1641 : BitVec 32 := Scalar.addi v53 c7_i32
  let c256_i32_1152 : BitVec 32 := 256#32
  let v1643 : BitVec 32 := Scalar.muli v1641 c256_i32_1152
  v1643
def k0_mult185 (i : grid0.Coords) : BitVec 32 :=
  let arg2 : BitVec 32 := BitVec.ofNat 32 (i 2).val
  let c8_i32 : BitVec 32 := 8#32
  let v53 : BitVec 32 := Scalar.muli arg2 c8_i32
  let c6_i32_1157 : BitVec 32 := 6#32
  let v1652 : BitVec 32 := Scalar.addi v53 c6_i32_1157
  let c0_i32_1166 : BitVec 32 := 0#32
  let v1660 : BitVec 32 := Scalar.maxsi v1652 c0_i32_1166
  let c256_i32_1167 : BitVec 32 := 256#32
  let v1661 : BitVec 32 := Scalar.muli v1660 c256_i32_1167
  v1661
def k0_mult186 (i : grid0.Coords) : BitVec 32 :=
  let arg2 : BitVec 32 := BitVec.ofNat 32 (i 2).val
  let c8_i32 : BitVec 32 := 8#32
  let v53 : BitVec 32 := Scalar.muli arg2 c8_i32
  let c7_i32_1192 : BitVec 32 := 7#32
  let v1700 : BitVec 32 := Scalar.addi v53 c7_i32_1192
  let c256_i32_1193 : BitVec 32 := 256#32
  let v1702 : BitVec 32 := Scalar.muli v1700 c256_i32_1193
  v1702
def k0_mult187 (i : grid0.Coords) : BitVec 32 :=
  let arg2 : BitVec 32 := BitVec.ofNat 32 (i 2).val
  let c8_i32 : BitVec 32 := 8#32
  let v53 : BitVec 32 := Scalar.muli arg2 c8_i32
  let c6_i32_1199 : BitVec 32 := 6#32
  let v1711 : BitVec 32 := Scalar.addi v53 c6_i32_1199
  let c0_i32_1208 : BitVec 32 := 0#32
  let v1719 : BitVec 32 := Scalar.maxsi v1711 c0_i32_1208
  let c256_i32_1209 : BitVec 32 := 256#32
  let v1720 : BitVec 32 := Scalar.muli v1719 c256_i32_1209
  v1720
def k0_mult188 (i : grid0.Coords) : BitVec 32 :=
  let arg2 : BitVec 32 := BitVec.ofNat 32 (i 2).val
  let c8_i32 : BitVec 32 := 8#32
  let v53 : BitVec 32 := Scalar.muli arg2 c8_i32
  let c7_i32_1234 : BitVec 32 := 7#32
  let v1759 : BitVec 32 := Scalar.addi v53 c7_i32_1234
  let c256_i32_1235 : BitVec 32 := 256#32
  let v1761 : BitVec 32 := Scalar.muli v1759 c256_i32_1235
  v1761
def k0_mult189 (i : grid0.Coords) : BitVec 32 :=
  let arg2 : BitVec 32 := BitVec.ofNat 32 (i 2).val
  let c8_i32 : BitVec 32 := 8#32
  let v53 : BitVec 32 := Scalar.muli arg2 c8_i32
  let c7_i32_1241 : BitVec 32 := 7#32
  let v1770 : BitVec 32 := Scalar.addi v53 c7_i32_1241
  let c0_i32_1250 : BitVec 32 := 0#32
  let v1778 : BitVec 32 := Scalar.maxsi v1770 c0_i32_1250
  let c256_i32_1251 : BitVec 32 := 256#32
  let v1779 : BitVec 32 := Scalar.muli v1778 c256_i32_1251
  v1779
def k0_mult190 (i : grid0.Coords) : BitVec 32 :=
  let arg2 : BitVec 32 := BitVec.ofNat 32 (i 2).val
  let c8_i32 : BitVec 32 := 8#32
  let v53 : BitVec 32 := Scalar.muli arg2 c8_i32
  let c7_i32_1276 : BitVec 32 := 7#32
  let v1818 : BitVec 32 := Scalar.addi v53 c7_i32_1276
  let c256_i32_1277 : BitVec 32 := 256#32
  let v1820 : BitVec 32 := Scalar.muli v1818 c256_i32_1277
  v1820
def k0_mult191 (i : grid0.Coords) : BitVec 32 :=
  let arg2 : BitVec 32 := BitVec.ofNat 32 (i 2).val
  let c8_i32 : BitVec 32 := 8#32
  let v53 : BitVec 32 := Scalar.muli arg2 c8_i32
  let c7_i32_1283 : BitVec 32 := 7#32
  let v1829 : BitVec 32 := Scalar.addi v53 c7_i32_1283
  let c0_i32_1292 : BitVec 32 := 0#32
  let v1837 : BitVec 32 := Scalar.maxsi v1829 c0_i32_1292
  let c256_i32_1293 : BitVec 32 := 256#32
  let v1838 : BitVec 32 := Scalar.muli v1837 c256_i32_1293
  v1838
def k0_mult192 (i : grid0.Coords) : BitVec 32 :=
  let arg2 : BitVec 32 := BitVec.ofNat 32 (i 2).val
  let c8_i32 : BitVec 32 := 8#32
  let v53 : BitVec 32 := Scalar.muli arg2 c8_i32
  let c7_i32_1318 : BitVec 32 := 7#32
  let v1877 : BitVec 32 := Scalar.addi v53 c7_i32_1318
  let c0_i32_1327 : BitVec 32 := 0#32
  let v1885 : BitVec 32 := Scalar.maxsi v1877 c0_i32_1327
  let c256_i32_1328 : BitVec 32 := 256#32
  let v1886 : BitVec 32 := Scalar.muli v1885 c256_i32_1328
  v1886
def k0_mult193 (i : grid0.Coords) : BitVec 32 :=
  let arg2 : BitVec 32 := BitVec.ofNat 32 (i 2).val
  let c8_i32_1353 : BitVec 32 := 8#32
  let v1925 : BitVec 32 := Scalar.muli arg2 c8_i32_1353
  let c8_i32_1354 : BitVec 32 := 8#32
  let v1926 : BitVec 32 := Scalar.addi v1925 c8_i32_1354
  let c1_i32_1355 : BitVec 32 := 1#32
  let v1927 : BitVec 32 := Scalar.subi v1926 c1_i32_1355
  let c0_i32_1364 : BitVec 32 := 0#32
  let v1935 : BitVec 32 := Scalar.maxsi v1927 c0_i32_1364
  let c256_i32_1365 : BitVec 32 := 256#32
  let v1936 : BitVec 32 := Scalar.muli v1935 c256_i32_1365
  v1936
def k0_off16 (i : grid0.Coords) : Fin 3 → Nat :=
  let c0_1366 : Index := 0#32
  let arg2 : BitVec 32 := BitVec.ofNat 32 (i 2).val
  let c8_i32_1353 : BitVec 32 := 8#32
  let v1925 : BitVec 32 := Scalar.muli arg2 c8_i32_1353
  let c8_i32_1354 : BitVec 32 := 8#32
  let v1926 : BitVec 32 := Scalar.addi v1925 c8_i32_1354
  let c1_i32_1355 : BitVec 32 := 1#32
  let v1927 : BitVec 32 := Scalar.subi v1926 c1_i32_1355
  let c0_i32_1364 : BitVec 32 := 0#32
  let v1935 : BitVec 32 := Scalar.maxsi v1927 c0_i32_1364
  let c256_i32_1365 : BitVec 32 := 256#32
  let v1936 : BitVec 32 := Scalar.muli v1935 c256_i32_1365
  let v1937 : BitVec 32 := v1936
  let v1938 : Index := Scalar.indexCast v1937
  let c128_1367 : Index := 128#32
  ![0, v1938.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S2x8192x3072 : Shape := ⟨3, ![2, 8192, 3072]⟩
abbrev S1x64 : Shape := ⟨2, ![1, 64]⟩
abbrev S1x128 : Shape := ⟨2, ![1, 128]⟩
abbrev S2x8192x512 : Shape := ⟨3, ![2, 8192, 512]⟩
abbrev S2x8192x4x128 : Shape := ⟨4, ![2, 8192, 4, 128]⟩
abbrev S2x4x8192x128 : Shape := ⟨4, ![2, 4, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x4x8192x64 : Shape := ⟨4, ![2, 4, 8192, 64]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S1x1x1x128 : Shape := ⟨4, ![1, 1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S2x8192x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S2x8192x3072, .f32⟩
  | .hbm, ⟨7, _⟩ => ⟨S2x8192x512, .f32⟩
  | .hbm, ⟨8, _⟩ => ⟨S2x8192x4x128, .f32⟩
  | .hbm, ⟨9, _⟩ => ⟨S2x4x8192x128, .f32⟩
  | .hbm, ⟨10, _⟩ => ⟨S2x8192x512, .f32⟩
  | .hbm, ⟨11, _⟩ => ⟨S2x8192x4x128, .f32⟩
  | .hbm, ⟨12, _⟩ => ⟨S2x4x8192x128, .f32⟩
  | .hbm, ⟨13, _⟩ => ⟨S2x8192x512, .f32⟩
  | .hbm, ⟨14, _⟩ => ⟨S2x8192x4x128, .f32⟩
  | .hbm, ⟨15, _⟩ => ⟨S2x4x8192x128, .f32⟩
  | .hbm, ⟨16, _⟩ => ⟨S8192, .i32⟩
  | .hbm, ⟨17, _⟩ => ⟨S1x8192, .i32⟩
  | .hbm, ⟨18, _⟩ => ⟨S8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S1x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x4x8192x64, .f32⟩
  | .hbm, ⟨35, _⟩ => ⟨S2x4x8192x64, .f32⟩
  | .hbm, ⟨36, _⟩ => ⟨S2x4x8192x8192, .f32⟩
  | .hbm, ⟨37, _⟩ => ⟨S2x4x8192x8192, .i1⟩
  | .hbm, ⟨38, _⟩ => ⟨S_, .f32⟩
  | .hbm, ⟨39, _⟩ => ⟨S2x4x8192x8192, .f32⟩
  | .hbm, ⟨40, _⟩ => ⟨S2x4x8192x8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2x4x8192, .f32⟩
  | .hbm, ⟨45, _⟩ => ⟨S2x4x8192x1, .f32⟩
  | .hbm, ⟨46, _⟩ => ⟨S2x4x8192x8192, .f32⟩
  | .hbm, ⟨47, _⟩ => ⟨S2x4x8192x8192, .f32⟩
  | .hbm, ⟨48, _⟩ => ⟨S2x4x8192x8192, .f32⟩
  | .hbm, ⟨49, _⟩ => ⟨S2x4x8192x8192, .f32⟩
  | .hbm, ⟨50, _⟩ => ⟨S2x4x8192x8192, .f32⟩
  | .hbm, ⟨51, _⟩ => ⟨S2x4x8192x128, .f32⟩
  | .hbm, ⟨52, _⟩ => ⟨S_, .f32⟩
  | .hbm, ⟨53, _⟩ => ⟨S2x4x8192, .f32⟩
  | .hbm, ⟨54, _⟩ => ⟨S2x4x8192x1, .f32⟩
  | .hbm, ⟨55, _⟩ => ⟨S2x4x8192x128, .f32⟩
  | .hbm, ⟨56, _⟩ => ⟨S2x4x8192x128, .f32⟩
  | .hbm, ⟨57, _⟩ => ⟨S2x4x8192x64, .f32⟩
  | .hbm, ⟨58, _⟩ => ⟨S2x4x8192x64, .f32⟩
  | .hbm, ⟨59, _⟩ => ⟨S2x4x8192x8192, .f32⟩
  | .hbm, ⟨60, _⟩ => ⟨S2x4x8192x8192, .i1⟩
  | .hbm, ⟨61, _⟩ => ⟨S_, .f32⟩
  | .hbm, ⟨62, _⟩ => ⟨S2x4x8192x8192, .f32⟩
  | .hbm, ⟨63, _⟩ => ⟨S2x4x8192x8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S2x4x8192, .f32⟩
  | .hbm, ⟨68, _⟩ => ⟨S2x4x8192x1, .f32⟩
  | .hbm, ⟨69, _⟩ => ⟨S2x4x8192x8192, .f32⟩
  | .hbm, ⟨70, _⟩ => ⟨S2x4x8192x8192, .f32⟩
  | .hbm, ⟨71, _⟩ => ⟨S2x4x8192x8192, .f32⟩
  | .hbm, ⟨72, _⟩ => ⟨S2x4x8192x8192, .f32⟩
  | .hbm, ⟨73, _⟩ => ⟨S2x4x8192x8192, .f32⟩
  | .hbm, ⟨74, _⟩ => ⟨S2x4x8192x128, .f32⟩
  | .hbm, ⟨75, _⟩ => ⟨S_, .f32⟩
  | .hbm, ⟨76, _⟩ => ⟨S2x4x8192, .f32⟩
  | .hbm, ⟨77, _⟩ => ⟨S2x4x8192x1, .f32⟩
  | .hbm, ⟨78, _⟩ => ⟨S2x4x8192x128, .f32⟩
  | .hbm, ⟨79, _⟩ => ⟨S2x4x8192x128, .f32⟩
  | .hbm, ⟨80, _⟩ => ⟨S2x4x8192x128, .f32⟩
  | .hbm, ⟨81, _⟩ => ⟨S2x4x8192x128, .f32⟩
  | .hbm, ⟨82, _⟩ => ⟨S2x4x8192x128, .f32⟩
  | .hbm, ⟨83, _⟩ => ⟨S2x4x8192x128, .f32⟩
  | .hbm, ⟨84, _⟩ => ⟨S_, .f32⟩
  | .hbm, ⟨85, _⟩ => ⟨S2x4x8192, .f32⟩
  | .hbm, ⟨86, _⟩ => ⟨S2x4x8192x1, .f32⟩
  | .hbm, ⟨87, _⟩ => ⟨S_, .f32⟩
  | .hbm, ⟨88, _⟩ => ⟨S2x4x8192x1, .f32⟩
  | .hbm, ⟨89, _⟩ => ⟨S2x4x8192x1, .f32⟩
  | .hbm, ⟨90, _⟩ => ⟨S_, .f32⟩
  | .hbm, ⟨91, _⟩ => ⟨S2x4x8192x1, .f32⟩
  | .hbm, ⟨92, _⟩ => ⟨S2x4x8192x1, .f32⟩
  | .hbm, ⟨93, _⟩ => ⟨S2x4x8192x1, .f32⟩
  | .hbm, ⟨94, _⟩ => ⟨S2x4x8192x128, .f32⟩
  | .hbm, ⟨95, _⟩ => ⟨S2x4x8192x128, .f32⟩
  | .hbm, ⟨96, _⟩ => ⟨S1x1x1x128, .f32⟩
  | .hbm, ⟨97, _⟩ => ⟨S2x4x8192x128, .f32⟩
  | .hbm, ⟨98, _⟩ => ⟨S2x4x8192x128, .f32⟩
  | .hbm, ⟨99, _⟩ => ⟨S_, .f32⟩
  | .hbm, ⟨100, _⟩ => ⟨S2x4x8192x128, .f32⟩
  | .hbm, ⟨101, _⟩ => ⟨S2x4x8192x128, .f32⟩
  | .hbm, ⟨102, _⟩ => ⟨S2x8192x4x128, .f32⟩
  | .hbm, ⟨103, _⟩ => ⟨S2x8192x512, .f32⟩
  | .hbm, ⟨104, _⟩ => ⟨S2x8192x512, .bf16⟩
  | _, _ => ⟨S2x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_13 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Proof.Acts.lean ====
/-
  Straight-line pieces of a kernel body over a fixed family of buffers: a piece is a program together with what it
  returns and what it leaves in each buffer, as a function of what each buffer held, and the proof that it does so.
-/
module

public import Idealize.ShloMosaic.Lib.Pipeline.FrameBody
public import Idealize.ShloMosaic.Lib.Ring
public import Idealize.ShloMosaic.Lib.Tactic
public import Idealize.ShloMosaic.Lib.Exec
public import Idealize.ShloMosaic.Lib.Pipeline.Kit

@[expose] public section

noncomputable section

namespace Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A vector with the elements under a rectangle replaced. -/
def upd {s : Shape} {α : Type} (r : Rect s) (w : r.shape.Idx → α) (X : s.Idx → α) : s.Idx → α :=
  open Classical in fun y => if h : ∃ x, r.idx x = y then w h.choose else X y

theorem upd_idx {s : Shape} {α : Type} (r : Rect s) (w : r.shape.Idx → α) (X : s.Idx → α) (x : r.shape.Idx) :
    upd r w X (r.idx x) = w x := by
  have h : ∃ x', r.idx x' = r.idx x := ⟨x, rfl⟩
  have e : h.choose = x := r.emb.injective h.choose_spec
  rw [upd, dif_pos h, e]

theorem upd_off {s : Shape} {α : Type} (r : Rect s) (w : r.shape.Idx → α) (X : s.Idx → α) {y : s.Idx}
    (hy : ∀ x, r.idx x ≠ y) : upd r w X y = X y := by
  rw [upd, dif_neg]; rintro ⟨x, hx⟩; exact hy x hx

/-- The buffers of the family: their names, shapes and element types. -/
structure Fam where
  L : Type
  [fin : Fintype L]
  [dec : DecidableEq L]
  shape : L → Shape
  elt : L → EltTy

attribute [instance] Fam.fin Fam.dec

variable {nD : Nat} {τ : Topo} {sig : RefSig} {Λ : Labels} {F : FTy → Type} [FloatOps F]
variable {B : Fam}

/-- What each buffer holds. -/
abbrev St (F : FTy → Type) (B : Fam) : Type := (l : B.L) → (B.shape l).Idx → Elt F (B.elt l)

/-- A memref for each buffer. -/
abbrev Refs (sig : RefSig) (B : Fam) : Type := (l : B.L) → Memref sig .tc .vmem (B.shape l) (B.elt l)

local notation "𝕄" => MT nD τ sig Unit (Elt F) ℕ (UR sig nD τ) ℕ

/-- Every buffer of the family held whole, at its contents in `σ`. -/
def SP (c : Dev nD) (R : Refs sig B) (σ : St F B) : sProp 𝕄 :=
  bigSep Finset.univ fun l => owns (c : Thread nD τ) (R l) fullShare (σ l)

/-- One buffer apart from the others. -/
def SPoff (c : Dev nD) (R : Refs sig B) (σ : St F B) (l : B.L) : sProp 𝕄 :=
  bigSep (Finset.univ.erase l) fun l => owns (c : Thread nD τ) (R l) fullShare (σ l)

theorem SP_split (c : Dev nD) (R : Refs sig B) (σ : St F B) (l : B.L) :
    (SP c R σ : sProp 𝕄) = iprop(owns (c : Thread nD τ) (R l) fullShare (σ l) ∗ SPoff c R σ l) :=
  bigSep_univ_split l

theorem SP_update (c : Dev nD) (R : Refs sig B) (σ : St F B) (l : B.L) (X : (B.shape l).Idx → Elt F (B.elt l)) :
    (SP c R (Function.update σ l X) : sProp 𝕄) = iprop(owns (c : Thread nD τ) (R l) fullShare X ∗ SPoff c R σ l) := by
  have e : (SPoff c R (Function.update σ l X) l : sProp 𝕄) = SPoff c R σ l :=
    bigSep_congr fun l' hl' => by rw [Function.update_of_ne (Finset.ne_of_mem_erase hl')]
  rw [SP_split, e, Function.update_self]

variable (defs : Defs nD τ sig (Elt F) Λ) (𝒱 : Variants) (c : Dev nD) (R : Refs sig B)

/-- The program runs from `σ` to `σ'` and returns `a`. -/
def Runs {α : Type} (p : Prog (TpuEff nD τ sig (Elt F) Λ .tc) α) (σ : St F B) (a : α) (σ' : St F B) : Prop :=
  ∀ Φ : α → sProp 𝕄, iprop(SP c R σ ∗ (SP c R σ' -∗ Φ a))
    ⊢ wp frame (wpE (Lvl := ℕ) (U := UR sig nD τ) defs 𝒱 (c : Thread nD τ) none) Set.univ p Φ

variable {defs 𝒱 c R}

theorem Runs.ret {α : Type} (a : α) (σ : St F B) : Runs defs 𝒱 c R (Prog.ret a) σ a σ := fun Φ =>
  wand_elim_right.trans (le_wp_ret _ _ _ a Φ)

theorem Runs.bind {α β : Type} {p : Prog (TpuEff nD τ sig (Elt F) Λ .tc) α} {k : α → Prog (TpuEff nD τ sig (Elt F) Λ .tc) β}
    {σ σ' σ'' : St F B} {a : α} {b : β} (hp : Runs defs 𝒱 c R p σ a σ') (hk : Runs defs 𝒱 c R (k a) σ' b σ'') :
    Runs defs 𝒱 c R (p >>= k) σ b σ'' := fun Φ => by
  rw [wp_bind]
  refine BIBase.Entails.trans ?_ (hp _)
  iintro ⟨H, Hk⟩
  isplitl [H]; · iexact H
  iintro H
  iapply (hk Φ)
  isplitl [H]; · iexact H
  iexact Hk

theorem Runs.load (l : B.L) (r : LoadRect (B.shape l)) (hl : (R l).view.LoadsAt r) (σ : St F B) :
    Runs defs 𝒱 c R (Prog.lift (.load (R l) r hl)) σ (fun x => σ l (r.idx x)) σ := fun Φ => by
  rw [SP_split c R σ l]
  unfold owns
  iintro ⟨⟨⟨%f, %hf, Hl⟩, Hrest⟩, Hk⟩
  iapply (wp_load 𝒱 (c : Thread nD τ) none Set.univ (S := (R l).view.set) (f := f) (hl := hl)
    (by rw [← View.setOn_univ]; exact Finset.map_subset_map.mpr (Finset.subset_univ _))) $$ Hl
  iintro Hl
  have e : (R l).view.readAt (Elt F) r f = fun x => σ l (r.idx x) := by
    funext x; rw [View.readAt_apply, hf]
  rw [e]
  iapply (le_wp_ret _ _ _ _ Φ)
  iapply Hk
  isplitl [Hl]
  · iexists f; isplitr
    · ipureintro; exact hf
    · iexact Hl
  iexact Hrest

theorem Runs.store (l : B.L) (r : Rect (B.shape l)) (w : r.shape.Idx → Elt F (B.elt l))
    (hx : ((R l).access r).Stores Finset.univ) (hm : Finset.univ = Finset.univ ∨ ∀ a, r.stride a = 1) (σ : St F B) :
    Runs defs 𝒱 c R (Prog.lift (.store (R l) r w Finset.univ hx hm)) σ ⟨⟩ (Function.update σ l (upd r w (σ l))) := fun Φ => by
  rw [SP_split c R σ l, SP_update c R σ l]
  unfold owns
  iintro ⟨⟨⟨%f, %hf, Hl⟩, Hrest⟩, Hk⟩
  iapply (wp_store 𝒱 (c : Thread nD τ) none Set.univ (S := (R l).view.set) (f := f) (hx := hx) (hm := hm)
    (by rw [← View.setOn_univ, show ((R l).access r).setOn Finset.univ = ((Finset.univ : Finset r.shape.Idx).map r.emb).map (R l).view.emb
          from (Finset.map_map _ _ _).symm]
        exact Finset.map_subset_map.mpr (Finset.subset_univ _))) $$ Hl
  iintro Hl
  iapply (le_wp_ret _ _ _ _ Φ)
  iapply Hk
  isplitl [Hl]
  · iexists (((R l).access r).write (Elt F) f w Finset.univ); isplitr
    · ipureintro
      funext y
      by_cases hy : ∃ x, r.idx x = y
      · obtain ⟨x, rfl⟩ := hy
        rw [upd_idx]
        exact View.read_slice_write_emb r f w (Finset.mem_univ x)
      · rw [upd_off _ _ _ (fun x hx => hy ⟨x, hx⟩), ← hf]
        refine View.read_slice_write_of_not_mem r f w _ fun hm => hy ?_
        obtain ⟨x, -, hx⟩ := Finset.mem_map.mp hm
        exact ⟨x, hx⟩
    · iexact Hl
  iexact Hrest

/-- Trips run in order: what each returns and leaves, from what the one before did. -/
theorem Runs.forFrom {n : Nat} {α : Type} {body : Fin n → α → Prog (TpuEff nD τ sig (Elt F) Λ .tc) α}
    {g : Fin n → α × St F B → α × St F B} (h : ∀ k a σ, Runs defs 𝒱 c R (body k a) σ (g k (a, σ)).1 (g k (a, σ)).2)
    (ks : List (Fin n)) (a : α) (σ : St F B) :
    Runs defs 𝒱 c R (Scf.forFrom body ks a) σ (ks.foldl (fun x k => g k x) (a, σ)).1 (ks.foldl (fun x k => g k x) (a, σ)).2 := by
  induction ks generalizing a σ with
  | nil => exact Runs.ret a σ
  | cons k ks ih => exact (h k a σ).bind (ih _ _)

theorem Runs.for {w : Nat} {α : Type} (l : Scf.Loop w) (hok : l.OK) (a : α)
    {body : Fin l.trips → α → Prog (TpuEff nD τ sig (Elt F) Λ .tc) α}
    {g : Fin l.trips → α × St F B → α × St F B} (h : ∀ k a σ, Runs defs 𝒱 c R (body k a) σ (g k (a, σ)).1 (g k (a, σ)).2) (σ : St F B) :
    Runs defs 𝒱 c R (l.for hok a body) σ ((List.finRange l.trips).foldl (fun x k => g k x) (a, σ)).1
      ((List.finRange l.trips).foldl (fun x k => g k x) (a, σ)).2 := by
  rw [show l.for hok a body = _ from Scf.for_eq _ _ _ hok a body]
  exact Runs.forFrom h _ a σ

variable (nD τ Λ R) in
/-- A piece: a program, with what it returns and leaves as a function of what the buffers held. -/
structure Act (α : Type) where
  prog : Prog (TpuEff nD τ sig (Elt F) Λ .tc) α
  run : St F B → α × St F B
  ok : ∀ (defs : Defs nD τ sig (Elt F) Λ) (𝒱 : Variants) (c : Dev nD) σ, Runs defs 𝒱 c R prog σ (run σ).1 (run σ).2

namespace Act

def bind {α β : Type} (p : Act nD τ Λ (F := F) R α) (k : α → Act nD τ Λ (F := F) R β) : Act nD τ Λ (F := F) R β where
  prog := p.prog >>= fun a => (k a).prog
  run σ := (k (p.run σ).1).run (p.run σ).2
  ok defs 𝒱 c σ := (p.ok defs 𝒱 c σ).bind ((k _).ok defs 𝒱 c _)

def pure {α : Type} (a : α) : Act nD τ Λ (F := F) R α where
  prog := Prog.ret a
  run σ := (a, σ)
  ok _ _ _ σ := Runs.ret a σ

instance : Monad (Act nD τ Λ (F := F) R) where
  pure := pure
  bind := bind

/-- Load a block. -/
def rd (l : B.L) (off size : Fin (B.shape l).rank → Nat) (inb : ∀ a, off a + size a ≤ (B.shape l).size a)
    (hp : 0 < (⟨(B.shape l).rank, size⟩ : Shape).numel) :
    Act nD τ Λ (F := F) R ((⟨(B.shape l).rank, size⟩ : Shape).Idx → Elt F (B.elt l)) where
  prog := Prog.lift (.load (R l) (Rect.unit (s := B.shape l) off size inb).toLoadRect (View.loadsAt_vmem hp))
  run σ := (fun x => σ l ((Rect.unit (s := B.shape l) off size inb).idx x), σ)
  ok _ _ _ σ := Runs.load l _ _ σ

/-- Store a block. -/
def wr (l : B.L) (off size : Fin (B.shape l).rank → Nat) (inb : ∀ a, off a + size a ≤ (B.shape l).size a)
    (hx : ((R l).access (Rect.unit (s := B.shape l) off size inb)).Stores Finset.univ)
    (w : (⟨(B.shape l).rank, size⟩ : Shape).Idx → Elt F (B.elt l)) : Act nD τ Λ (F := F) R PUnit where
  prog := Prog.lift (.store (R l) (Rect.unit (s := B.shape l) off size inb) w Finset.univ hx (.inl rfl))
  run σ := (⟨⟩, Function.update σ l (upd (Rect.unit (s := B.shape l) off size inb) w (σ l)))
  ok defs 𝒱 c σ := Runs.store (defs := defs) (𝒱 := 𝒱) (c := c) (R := R) l (Rect.unit (s := B.shape l) off size inb) w hx (.inl rfl) σ

/-- Pieces in order. -/
def seq {ι : Type} (f : ι → Act nD τ Λ (F := F) R PUnit) : List ι → Act nD τ Λ (F := F) R PUnit
  | [] => pure ⟨⟩
  | i :: is => bind (f i) fun _ => seq f is

end Act

end Fox

end
-- ==== Proof.Units.lean ====
/-
  The forgetting attention's body as pieces: the logits of a block of keys, the online softmax's step, the product with
  a block of values, and their order within a group of eight blocks and two heads.
-/
module

public import proofs.«01_k».proof.Proof.Acts

@[expose] public section

noncomputable section

namespace Fox

open Idealize.ShloMosaic Idealize.ShloMosaic.TcCoe Idealize.ShloMosaic.Tactic
open Idealize.SL Idealize.SL.RA Idealize.SL.BI Idealize.SL.Sem

abbrev S1 (a : ℕ) : Shape := ⟨1, ![a]⟩
abbrev S2 (a b : ℕ) : Shape := ⟨2, ![a, b]⟩
abbrev S3 (a b c : ℕ) : Shape := ⟨3, ![a, b, c]⟩

/-- The buffers: queries and their extension, keys and theirs, values, the result; the two logits slots, the two
    weight slots, and per head the accumulator, the running maximum and the last scale. -/
inductive Bu where
  | q | qx | k | kx | v | o
  | s (b : Bool)
  | p (b : Bool)
  | ac | mx | al
  deriving DecidableEq

instance : Fintype Bu :=
  ⟨{.q, .qx, .k, .kx, .v, .o, .s false, .s true, .p false, .p true, .ac, .mx, .al}, by
    intro x; cases x <;> first | decide | (rename_i b; cases b <;> decide)⟩

@[reducible] def Bu.shape : Bu → Shape
  | .q => S3 1 2048 256
  | .qx => S3 1 2048 128
  | .k => S3 1 8192 256
  | .kx => S3 1 8192 128
  | .v => S3 1 8192 256
  | .o => S3 1 2048 256
  | .s _ => S2 2048 256
  | .p _ => S2 2048 256
  | .ac => S3 2 2048 256
  | .mx => S3 2 2048 128
  | .al => S3 2 2048 128

@[reducible] def Bu.elt : Bu → EltTy
  | .q => .bf16
  | .qx => .bf16
  | .k => .bf16
  | .kx => .bf16
  | .v => .bf16
  | .o => .bf16
  | .s _ => .f32
  | .p _ => .bf16
  | .ac => .f32
  | .mx => .f32
  | .al => .f32

@[reducible] def fam : Fam := { L := Bu, shape := Bu.shape, elt := Bu.elt }

variable {nD : Nat} {τ : Topo} {sig : RefSig} {Λ : Labels} {F : FTy → Type} [FloatOps F]

/-! ## The values the pieces compute -/

theorem sc3 (n k : ℕ) : (S3 1 n k).ShapeCasts (S2 n k) := by unfold Shape.ShapeCasts; simp [Shape.numel, Fin.prod_univ_succ]
theorem sc2 (n k : ℕ) : (S2 n k).ShapeCasts (S3 1 n k) := by unfold Shape.ShapeCasts; simp [Shape.numel, Fin.prod_univ_succ]
theorem sc1 (n : ℕ) : (S1 n).ShapeCasts (S2 n 1) := by unfold Shape.ShapeCasts; simp [Shape.numel, Fin.prod_univ_succ]
theorem red1 (n : ℕ) : (S2 n 256).Reduces [1] (S1 n) := ⟨rfl, Nat.one_pos, fun b => by fin_cases b; rfl⟩
theorem bc1 (n : ℕ) : (S2 n 1).Broadcasts (S2 n 128) := ⟨le_rfl, fun a => by fin_cases a <;> simp⟩
theorem cat2 (n : ℕ) : Shape.Concatenates [S2 n 128, S2 n 128] (S2 n 256) 1 := by
  refine ⟨by simp, ?_, by simp⟩
  intro s hs
  simp only [List.mem_cons, List.not_mem_nil, or_false, or_self] at hs
  subst hs
  exact ⟨rfl, fun b hb => by fin_cases b <;> simp_all⟩
theorem slr (ρ : ℕ) (h : ρ < 8) : (S2 2048 256).Slices ![256 * ρ, 0] (S2 (2048 - 256 * ρ) 256) :=
  ⟨rfl, fun a => by fin_cases a <;> simp <;> omega⟩
theorem slm (ρ : ℕ) (h : ρ < 8) : (S2 2048 256).Slices ![0, 0] (S2 (2048 - 256 * ρ) 256) :=
  ⟨rfl, fun a => by fin_cases a <;> simp⟩
theorem slh (j : ℕ) (h : j = 0 ∨ j = 128) : (S2 2048 256).Slices ![0, j] (S2 2048 128) :=
  ⟨rfl, fun a => by fin_cases a <;> simp <;> omega⟩

def cat {φ : FTy} (n : ℕ) (x y : FVec F (S2 n 128) φ) : FVec F (S2 n 256) φ :=
  concatenate (S2 n 256) 1 [⟨S2 n 128, x⟩, ⟨S2 n 128, y⟩] (cat2 n)

/-- The rows of the queries from row `256 ρ` on. -/
def qrow (q : FVec F (S2 2048 256) .bf16) : (ρ : ℕ) → ρ < 8 → FVec F (S2 (2048 - 256 * ρ) 256) .bf16
  | 0, _ => q
  | ρ + 1, h => extractStridedSlice (S2 (2048 - 256 * (ρ + 1)) 256) ![256 * (ρ + 1), 0] q (slr (ρ + 1) h)

def lgV (n : ℕ) (q : FVec F (S2 n 256) .bf16) (k kx : FVec F (S3 1 256 128) .bf16) : FVec F (S2 n 256) .f32 :=
  shapeCast (S2 n 256)
    (matmul (DotDims.transposedRhs n 256 256) none q
      (cat 256 (shapeCast (S2 256 128) k (sc3 256 128)) (shapeCast (S2 256 128) kx (sc3 256 128)))
      (constant (S2 n 256) .f32 0x00000000#32)) rfl

def pvV (n : ℕ) (al : FVec F (S3 1 n 128) .f32) (ac : FVec F (S3 1 n 256) .f32) (p : FVec F (S2 n 256) .bf16)
    (v : FVec F (S3 1 256 128) .bf16) (ones : FVec F (S2 256 128) .bf16) : FVec F (S3 1 n 256) .f32 :=
  shapeCast (S3 1 n 256)
    (addf
      (mulf (cat n (shapeCast (S2 n 128) al (sc3 n 128)) (shapeCast (S2 n 128) al (sc3 n 128)))
        (shapeCast (S2 n 256) ac (sc3 n 256)))
      (matmul (DotDims.plain n 256 256) none p (cat 256 (shapeCast (S2 256 128) v (sc3 256 128)) ones)
        (constant (S2 n 256) .f32 0x00000000#32))) (sc2 n 256)

/-- The new maximum. -/
def mxV (n : ℕ) (m : FVec F (S3 1 n 128) .f32) (s : FVec F (S2 n 256) .f32) : FVec F (S2 n 128) .f32 :=
  maximumf (shapeCast (S2 n 128) m (sc3 n 128))
    (broadcastTo (S2 n 128)
      (shapeCast (S2 n 1) (multiReduction .maximumf [1] (S1 n) s 0xFF800000#32 (red1 n) (.inl rfl) rfl) (sc1 n)) (bc1 n))

def alV (n : ℕ) (m : FVec F (S3 1 n 128) .f32) (mn : FVec F (S2 n 128) .f32) : FVec F (S3 1 n 128) .f32 :=
  shapeCast (S3 1 n 128) (exp2 (subf (shapeCast (S2 n 128) m (sc3 n 128)) mn)) (sc2 n 128)

def pV (n : ℕ) (s : FVec F (S2 n 256) .f32) (mn : FVec F (S2 n 128) .f32) : FVec F (S2 n 256) .bf16 :=
  shapeCast (S2 n 256) (truncf .bf16 (exp2 (subf s (cat n mn mn))) (by decide)) rfl

/-- The diagonal block's mask from its first row on, at a constant. -/
def dmask (mk : F .f32) (d : IVec (S2 2048 256) 1) : (ρ : ℕ) → ρ < 8 → FVec F (S2 (2048 - 256 * ρ) 256) .f32 →
    FVec F (S2 (2048 - 256 * ρ) 256) .f32
  | 0, _ => fun s => select d s (broadcast (S2 2048 256) mk)
  | ρ + 1, h => fun s => select (extractStridedSlice (S2 (2048 - 256 * (ρ + 1)) 256) ![0, 0] d (slm (ρ + 1) h)) s
      (broadcast (S2 (2048 - 256 * (ρ + 1)) 256) mk)

/-! ## Where the pieces read and write -/

abbrev hd (b : Bool) : ℕ := cond b 1 0

theorem inb2 (ρ : ℕ) (h : ρ < 8) : ∀ a, (![256 * ρ, 0] : Fin 2 → ℕ) a + (![2048 - 256 * ρ, 256] : Fin 2 → ℕ) a ≤ (S2 2048 256).size a := by
  intro a; fin_cases a <;> simp; omega

theorem inb3 (b : Bool) (k ρ : ℕ) (h : ρ < 8) :
    ∀ a, (![hd b, 256 * ρ, 0] : Fin 3 → ℕ) a + (![1, 2048 - 256 * ρ, k] : Fin 3 → ℕ) a ≤ (S3 2 2048 k).size a := by
  intro a; fin_cases a
  · cases b <;> simp
  · simp; omega
  · simp

theorem pos2 (ρ k : ℕ) (h : ρ < 8) (hk : 0 < k) : 0 < (S2 (2048 - 256 * ρ) k).numel := by
  have : 0 < 2048 - 256 * ρ := by omega
  have := Nat.mul_pos this hk
  simp only [Shape.numel, Fin.prod_univ_succ]; simpa using this
theorem pos3 (ρ k : ℕ) (h : ρ < 8) (hk : 0 < k) : 0 < (S3 1 (2048 - 256 * ρ) k).numel := by
  have : 0 < 2048 - 256 * ρ := by omega
  have := Nat.mul_pos this hk
  simp only [Shape.numel, Fin.prod_univ_succ]; simpa using this
theorem posb : 0 < (S3 1 256 128).numel := by decide

theorem packed2 (ρ : ℕ) (h : ρ < 8) :
    (Rect.unit (s := S2 2048 256) ![256 * ρ, 0] ![2048 - 256 * ρ, 256] (inb2 ρ h)).PackedRows (EltTy.packing .bf16) := by
  refine .inr ⟨le_rfl, rfl, .inl ⟨?_, ?_⟩⟩
  · show 2 ∣ 256 * ρ
    omega
  · show 2 ∣ 2048 - 256 * ρ
    omega

variable (R : Refs sig fam)

local notation "𝔸" => Act nD τ Λ (F := F) R

/-- Load a block of buffer `l`. -/
abbrev ld (l : Bu) (off size : Fin l.shape.rank → ℕ) (inb : ∀ a, off a + size a ≤ l.shape.size a)
    (hp : 0 < (⟨l.shape.rank, size⟩ : Shape).numel) : 𝔸 ((⟨l.shape.rank, size⟩ : Shape).Idx → Elt F l.elt) :=
  Act.rd (B := fam) l off size inb hp

/-- Store a block of buffer `l`. -/
abbrev st (l : Bu) (off size : Fin l.shape.rank → ℕ) (inb : ∀ a, off a + size a ≤ l.shape.size a)
    (hx : ((R l).access (Rect.unit (s := l.shape) off size inb)).Stores Finset.univ)
    (w : (⟨l.shape.rank, size⟩ : Shape).Idx → Elt F l.elt) : 𝔸 PUnit :=
  Act.wr (B := fam) l off size inb hx w

/-! ## The pieces -/

/-- The logits of one block of keys against the rows from `256 ρ` on. -/
def lgA (b : Bool) (ρ : ℕ) (h : ρ < 8) (q : FVec F (S2 2048 256) .bf16) (ko xo : Fin 3 → ℕ)
    (hk : ∀ a, ko a + (![1, 256, 128] : Fin 3 → ℕ) a ≤ (S3 1 8192 256).size a)
    (hx : ∀ a, xo a + (![1, 256, 128] : Fin 3 → ℕ) a ≤ (S3 1 8192 128).size a) : 𝔸 PUnit := do
  let k ← ld R .k ko ![1, 256, 128] hk posb
  let kx ← ld R .kx xo ![1, 256, 128] hx posb
  let _ ← ld R (.s b) ![256 * ρ, 0] ![2048 - 256 * ρ, 256] (inb2 ρ h) (pos2 ρ 256 h (by decide))
  st R (.s b) ![256 * ρ, 0] ![2048 - 256 * ρ, 256] (inb2 ρ h) (View.stores_vmem_bits_univ (pos2 ρ 256 h (by decide)) rfl)
    (lgV (2048 - 256 * ρ) (qrow q ρ h) k kx)

/-- The accumulator's rows from `256 ρ` on, scaled, plus the weights times one block of values. -/
def pvA (b : Bool) (ρ : ℕ) (h : ρ < 8) (ones : FVec F (S2 256 128) .bf16) (vo : Fin 3 → ℕ)
    (hv : ∀ a, vo a + (![1, 256, 128] : Fin 3 → ℕ) a ≤ (S3 1 8192 256).size a) : 𝔸 PUnit := do
  let al ← ld R .al ![hd b, 256 * ρ, 0] ![1, 2048 - 256 * ρ, 128] (inb3 b 128 ρ h) (pos3 ρ 128 h (by decide))
  let ac ← ld R .ac ![hd b, 256 * ρ, 0] ![1, 2048 - 256 * ρ, 256] (inb3 b 256 ρ h) (pos3 ρ 256 h (by decide))
  let p ← ld R (.p b) ![256 * ρ, 0] ![2048 - 256 * ρ, 256] (inb2 ρ h) (pos2 ρ 256 h (by decide))
  let v ← ld R .v vo ![1, 256, 128] hv posb
  let _ ← ld R .ac ![hd b, 256 * ρ, 0] ![1, 2048 - 256 * ρ, 256] (inb3 b 256 ρ h) (pos3 ρ 256 h (by decide))
  st R .ac ![hd b, 256 * ρ, 0] ![1, 2048 - 256 * ρ, 256] (inb3 b 256 ρ h)
    (View.stores_vmem_bits_univ (pos3 ρ 256 h (by decide)) rfl) (pvV (2048 - 256 * ρ) al ac p v ones)

/-- The softmax's step on the rows from `256 ρ` on: maximum, scale, weights. -/
def smA (hp : ∀ b, (R (.p b)).IsWhole) (b : Bool) (ρ : ℕ) (h : ρ < 8)
    (f : FVec F (S2 (2048 - 256 * ρ) 256) .f32 → FVec F (S2 (2048 - 256 * ρ) 256) .f32) : 𝔸 PUnit := do
  let m ← ld R .mx ![hd b, 256 * ρ, 0] ![1, 2048 - 256 * ρ, 128] (inb3 b 128 ρ h) (pos3 ρ 128 h (by decide))
  let s ← ld R (.s b) ![256 * ρ, 0] ![2048 - 256 * ρ, 256] (inb2 ρ h) (pos2 ρ 256 h (by decide))
  let _ ← ld R .mx ![hd b, 256 * ρ, 0] ![1, 2048 - 256 * ρ, 128] (inb3 b 128 ρ h) (pos3 ρ 128 h (by decide))
  st R .mx ![hd b, 256 * ρ, 0] ![1, 2048 - 256 * ρ, 128] (inb3 b 128 ρ h)
    (View.stores_vmem_bits_univ (pos3 ρ 128 h (by decide)) rfl)
    (shapeCast (S3 1 (2048 - 256 * ρ) 128) (mxV (2048 - 256 * ρ) m (f s)) (sc2 (2048 - 256 * ρ) 128))
  let _ ← ld R .al ![hd b, 256 * ρ, 0] ![1, 2048 - 256 * ρ, 128] (inb3 b 128 ρ h) (pos3 ρ 128 h (by decide))
  st R .al ![hd b, 256 * ρ, 0] ![1, 2048 - 256 * ρ, 128] (inb3 b 128 ρ h)
    (View.stores_vmem_bits_univ (pos3 ρ 128 h (by decide)) rfl)
    (alV (2048 - 256 * ρ) m (mxV (2048 - 256 * ρ) m (f s)))
  let s' ← ld R (.s b) ![256 * ρ, 0] ![2048 - 256 * ρ, 256] (inb2 ρ h) (pos2 ρ 256 h (by decide))
  let _ ← ld R (.p b) ![256 * ρ, 0] ![2048 - 256 * ρ, 256] (inb2 ρ h) (pos2 ρ 256 h (by decide))
  st R (.p b) ![256 * ρ, 0] ![2048 - 256 * ρ, 256] (inb2 ρ h)
    (View.stores_vmem (pos2 ρ 256 h (by decide)) ((hp b).storeExact_slice rfl _ (packed2 ρ h)) (fun _ => rfl))
    (pV (2048 - 256 * ρ) (f s') (mxV (2048 - 256 * ρ) m (f s)))

/-! ## A group: eight blocks of keys, two heads, each unit's logits one ahead and its values one behind -/

/-- The offset of block `j` of the keys. -/
def blkO (j : BitVec 32) (col : ℕ) : Fin 3 → ℕ :=
  ![0, (Scalar.indexCast (Scalar.muli j 256#32)).toNat, col]

/-- The block a unit's logits are of: unit `e` of the group that starts at block `B`. -/
def lgB (B : BitVec 32) (e : ℕ) : BitVec 32 := Scalar.addi B (BitVec.ofNat 32 (e / 2))

/-- The block the product of unit `e`, one behind, is with. -/
def pvB (B : BitVec 32) : ℕ → BitVec 32
  | 0 => Scalar.maxsi (Scalar.subi B 1#32) 0#32
  | e + 1 => Scalar.maxsi (Scalar.addi B (BitVec.ofNat 32 (e / 2))) 0#32

def odd (e : ℕ) : Bool := e % 2 == 1

theorem inbK (j : BitVec 32) (hj : j.toNat < 32) (col : ℕ) (W : ℕ) (h : col + 128 ≤ W) :
    ∀ a, blkO j col a + (![1, 256, 128] : Fin 3 → ℕ) a ≤ (S3 1 8192 W).size a := by
  have e : (Scalar.indexCast (Scalar.muli j 256#32)).toNat = 256 * j.toNat := by
    show ((j * 256#32).setWidth 32).toNat = _
    rw [BitVec.toNat_setWidth, BitVec.toNat_mul, show (256#32 : BitVec 32).toNat = 256 from rfl]
    omega
  intro a; fin_cases a
  · simp [blkO]
  · show (Scalar.indexCast (Scalar.muli j 256#32)).toNat + 256 ≤ 8192
    omega
  · exact h

theorem colK (b : Bool) : 128 * hd b + 128 ≤ 256 := by cases b <;> decide

theorem lgB_toNat (B : BitVec 32) (e : ℕ) (h : B.toNat + e / 2 < 32) : (lgB B e).toNat = B.toNat + e / 2 := by
  show (B + BitVec.ofNat 32 (e / 2)).toNat = _
  rw [BitVec.toNat_add, BitVec.toNat_ofNat]
  omega

theorem maxsi0 (x : BitVec 32) (h : x.toNat < 2 ^ 31) : Scalar.maxsi x 0#32 = x := by
  have e : x.toInt = x.toNat := BitVec.toInt_eq_toNat_of_lt (by omega)
  show (if (0#32 : BitVec 32).slt x then x else 0#32) = x
  by_cases h0 : x = 0#32
  · subst h0; rfl
  · refine if_pos ?_
    have h1 : x.toNat ≠ 0 := fun h1 => h0 (BitVec.eq_of_toNat_eq h1)
    simp only [BitVec.slt, decide_eq_true_eq, e]
    show (0 : ℤ) < x.toNat
    omega

theorem pvB_toNat (B : BitVec 32) (e : ℕ) (h : B.toNat + e / 2 ≤ 32) : (pvB B e).toNat = B.toNat + (e + 1) / 2 - 1 := by
  match e with
  | 0 =>
    show (Scalar.maxsi (B - 1#32) 0#32).toNat = B.toNat - 1
    by_cases h0 : B = 0#32
    · subst h0; decide
    · have h1 : 0 < B.toNat := by
        rcases Nat.eq_zero_or_pos B.toNat with h2 | h2
        · exact absurd (BitVec.eq_of_toNat_eq h2) h0
        · exact h2
      have e1 : (B - 1#32).toNat = B.toNat - 1 := by
        rw [BitVec.toNat_sub, show (1#32 : BitVec 32).toNat = 1 from rfl]; omega
      rw [maxsi0 _ (by omega), e1]
  | e + 1 =>
    have e1 : (Scalar.addi B (BitVec.ofNat 32 (e / 2))).toNat = B.toNat + e / 2 := by
      show (B + BitVec.ofNat 32 (e / 2)).toNat = _
      rw [BitVec.toNat_add, BitVec.toNat_ofNat]
      omega
    show (Scalar.maxsi (Scalar.addi B (BitVec.ofNat 32 (e / 2))) 0#32).toNat = _
    rw [maxsi0 _ (by omega), e1]
    omega

/-- The unit `e` of a group without the diagonal. -/
def unitM (hp : ∀ b, (R (.p b)).IsWhole) (qs : Bool → FVec F (S2 2048 256) .bf16) (ones : FVec F (S2 256 128) .bf16)
    (B : BitVec 32) (hB : B.toNat < 24) (e : Fin 16) : 𝔸 PUnit := do
  lgA R (odd (e.val + 1)) 0 (by decide) (qs (odd (e.val + 1))) (blkO (lgB B (e.val + 1)) (128 * hd (odd (e.val + 1))))
    (blkO (lgB B (e.val + 1)) 0)
    (inbK _ (by rw [lgB_toNat] <;> omega) _ _ (colK _)) (inbK _ (by rw [lgB_toNat] <;> omega) _ _ (by decide))
  pvA R (odd (e.val + 1)) 0 (by decide) ones (blkO (pvB B e.val) (128 * hd (odd (e.val + 1))))
    (inbK _ (by rw [pvB_toNat] <;> omega) _ _ (colK _))
  smA R hp (odd e.val) 0 (by decide) id

def es : List (Fin 16) := [0, 1, 2, 3, 4, 5, 6, 7, 8, 9, 10, 11, 12, 13, 14, 15]
def fs : List (Fin 15) := [0, 1, 2, 3, 4, 5, 6, 7, 8, 9, 10, 11, 12, 13, 14]

/-- A group without the diagonal. -/
def grpM (hp : ∀ b, (R (.p b)).IsWhole) (qs : Bool → FVec F (S2 2048 256) .bf16) (ones : FVec F (S2 256 128) .bf16)
    (B : BitVec 32) (hB : B.toNat < 24) : 𝔸 PUnit :=
  Act.seq (unitM R hp qs ones B hB) es

theorem half_lt (e : Fin 15) : e.val / 2 < 8 := by omega

/-- The unit `e` of the group on the diagonal: the rows from block `e / 2` on. -/
def unitT (hp : ∀ b, (R (.p b)).IsWhole) (mk : F .f32) (dg : IVec (S2 2048 256) 1) (qs : Bool → FVec F (S2 2048 256) .bf16)
    (ones : FVec F (S2 256 128) .bf16) (B : BitVec 32) (hB : B.toNat ≤ 24) (e : Fin 15) : 𝔸 PUnit := do
  lgA R (odd (e.val + 1)) ((e.val + 1) / 2) (by omega) (qs (odd (e.val + 1)))
    (blkO (lgB B (e.val + 1)) (128 * hd (odd (e.val + 1)))) (blkO (lgB B (e.val + 1)) 0)
    (inbK _ (by rw [lgB_toNat] <;> omega) _ _ (colK _)) (inbK _ (by rw [lgB_toNat] <;> omega) _ _ (by decide))
  pvA R (odd (e.val + 1)) ((e.val - 1) / 2) (by omega) ones (blkO (pvB B e.val) (128 * hd (odd (e.val + 1))))
    (inbK _ (by rw [pvB_toNat] <;> omega) _ _ (colK _))
  smA R hp (odd e.val) (e.val / 2) (half_lt e) (dmask mk dg (e.val / 2) (half_lt e))

/-- The last block of a group. -/
def pvL (B : BitVec 32) : BitVec 32 := Scalar.maxsi (Scalar.subi (Scalar.addi B 8#32) 1#32) 0#32

theorem pvL_toNat (B : BitVec 32) (h : B.toNat ≤ 24) : (pvL B).toNat = B.toNat + 7 := by
  have e1 : (Scalar.subi (Scalar.addi B 8#32) 1#32).toNat = B.toNat + 7 := by
    show (B + 8#32 - 1#32).toNat = _
    simp only [BitVec.toNat_sub, BitVec.toNat_add, BitVec.toNat_ofNat]
    omega
  unfold pvL
  rw [maxsi0 _ (by omega), e1]

/-- The group on the diagonal, to its last product. -/
def grpT (hp : ∀ b, (R (.p b)).IsWhole) (mk : F .f32) (dg : IVec (S2 2048 256) 1) (qs : Bool → FVec F (S2 2048 256) .bf16)
    (ones : FVec F (S2 256 128) .bf16) (B : BitVec 32) (hB : B.toNat ≤ 24) : 𝔸 PUnit := do
  Act.seq (unitT R hp mk dg qs ones B hB) fs
  pvA R false 7 (by decide) ones (blkO (pvB B 15) 0) (inbK _ (by rw [pvB_toNat] <;> omega) _ _ (by decide))
  smA R hp true 7 (by decide) (dmask mk dg 7 (by decide))
  pvA R true 7 (by decide) ones (blkO (pvL B) 128) (inbK _ (by rw [pvL_toNat] <;> omega) _ _ (by decide))

/-! ## Before and after the groups -/

/-- The head of each lane of the extensions: eight lanes a head. -/
def lane8 : IVec (S2 2048 128) 32 :=
  have v2 : IVec (S2 2048 128) 32 := iota .tc (S2 2048 128) 32 [1] (by decide)
  have v12 : IVec (S2 2048 128) 32 :=
    subi (extui 32 (cmpi .sgt v2 (broadcast (S2 2048 128) 0#32)) (by decide)) (extui 32 (cmpi .slt v2 (broadcast (S2 2048 128) 0#32)) (by decide))
  let v17 : BitVec 32 := Scalar.subi (Scalar.extui (Scalar.cmpi .sgt 8#32 0#32)) (Scalar.extui (Scalar.cmpi .slt 8#32 0#32))
  select
    (andi (cmpi .ne v12 (broadcast (S2 2048 128) v17))
      (cmpi .ne (remsi v2 (broadcast (S2 2048 128) 8#32)) (broadcast (S2 2048 128) 0#32)))
    (subi (divsi v2 (broadcast (S2 2048 128) 8#32)) (broadcast (S2 2048 128) 1#32))
    (divsi v2 (broadcast (S2 2048 128) 8#32))

/-- A head's queries, with the lanes of its extension and zeros elsewhere. -/
def qV (x q : FVec F (S3 1 2048 128) .bf16) (h : BitVec 32) : FVec F (S2 2048 256) .bf16 :=
  cat 2048 (shapeCast (S2 2048 128) q (sc3 2048 128))
    (select (cmpi .eq lane8 (broadcast (S2 2048 128) h)) (shapeCast (S2 2048 128) x (sc3 2048 128))
      (broadcast (S2 2048 128) (Scalar.ofBits .bf16 0x0000#16)))

abbrev onesB : FVec F (S2 256 128) .bf16 := broadcast (S2 256 128) (Scalar.ofBits .bf16 0x3F80#16)

/-- The queries, and the running maximum at the mask's constant. -/
def qsA (mk : F .f32) (g : BitVec 32) : 𝔸 (Bool → FVec F (S2 2048 256) .bf16) := do
  let x ← ld R .qx ![0, 0, 0] ![1, 2048, 128] (by decide) (by decide)
  let q0 ← ld R .q ![0, 0, 0] ![1, 2048, 128] (by decide) (by decide)
  let q1 ← ld R .q ![0, 0, 128] ![1, 2048, 128] (by decide) (by decide)
  let _ ← ld R .mx ![0, 0, 0] ![2, 2048, 128] (by decide) (by decide)
  st R .mx ![0, 0, 0] ![2, 2048, 128] (by decide) (View.stores_vmem_bits_univ (by decide) rfl)
    (shapeCast (S3 2 2048 128) (broadcast (S3 2 2048 128) mk) rfl)
  let _ ← ld R .al ![1, 0, 0] ![1, 2048, 128] (by decide) (by decide)
  pure fun b => cond b (qV x q1 (Scalar.addi (Scalar.muli 2#32 g) 1#32)) (qV x q0 (Scalar.addi (Scalar.muli 2#32 g) 0#32))

/-- The second head's scale at one, the accumulators and the second head's weights at zero, the first logits. -/
def preA (hp : ∀ b, (R (.p b)).IsWhole) (q : FVec F (S2 2048 256) .bf16) (one : FVec F (S3 1 2048 128) .f32) : 𝔸 PUnit := do
  st R .al ![1, 0, 0] ![1, 2048, 128] (by decide) (View.stores_vmem_bits_univ (by decide) rfl) one
  let _ ← ld R .ac ![0, 0, 0] ![2, 2048, 256] (by decide) (by decide)
  st R .ac ![0, 0, 0] ![2, 2048, 256] (by decide) (View.stores_vmem_bits_univ (by decide) rfl)
    (shapeCast (S3 2 2048 256) (broadcast (S3 2 2048 256) (Scalar.ofBits .f32 0x00000000#32)) rfl)
  let _ ← ld R (.p true) ![0, 0] ![2048, 256] (by decide) (by decide)
  st R (.p true) ![0, 0] ![2048, 256] (by decide)
    (View.stores_vmem (by decide) ((hp true).storeExact_slice rfl _ (packed2 0 (by decide))) (fun _ => rfl))
    (shapeCast (S2 2048 256) (broadcast (S2 2048 256) (Scalar.ofBits .bf16 0x0000#16)) rfl)
  lgA R false 0 (by decide) q ![0, 0, 0] ![0, 0, 0] (by decide) (by decide)

/-- One head's result: the weighted values over the weights' sum. -/
def outV (a : FVec F (S3 1 2048 256) .f32) : FVec F (S3 1 2048 128) .bf16 :=
  shapeCast (S3 1 2048 128)
    (truncf .bf16
      (divf (extractStridedSlice (S2 2048 128) ![0, 0] (shapeCast (S2 2048 256) a (sc3 2048 256)) (slh 0 (.inl rfl)))
        (extractStridedSlice (S2 2048 128) ![0, 128] (shapeCast (S2 2048 256) a (sc3 2048 256)) (slh 128 (.inr rfl)))) (by decide))
    (sc2 2048 128)

theorem packedo (j : ℕ) (hj : j = 0 ∨ j = 128) (inb) :
    (Rect.unit (s := S3 1 2048 256) ![0, 0, j] ![1, 2048, 128] inb).PackedRows (EltTy.packing .bf16) := by
  refine .inr ⟨by decide, rfl, .inl ⟨?_, ?_⟩⟩
  · show 2 ∣ 0
    decide
  · show 2 ∣ 2048
    decide

/-- The results written, to the second head's. -/
def outA (ho : (R .o).IsWhole) : 𝔸 (FVec F (S3 1 2048 256) .f32) := do
  let a0 ← ld R .ac ![0, 0, 0] ![1, 2048, 256] (by decide) (by decide)
  let a1 ← ld R .ac ![1, 0, 0] ![1, 2048, 256] (by decide) (by decide)
  let _ ← ld R .o ![0, 0, 0] ![1, 2048, 128] (by decide) (by decide)
  st R .o ![0, 0, 0] ![1, 2048, 128] (by decide)
    (View.stores_vmem (by decide) (ho.storeExact_slice rfl _ (packedo 0 (.inl rfl) _)) (fun _ => rfl)) (outV a0)
  pure a1

def out1A (ho : (R .o).IsWhole) (a1 : FVec F (S3 1 2048 256) .f32) : 𝔸 PUnit := do
  let _ ← ld R .o ![0, 0, 128] ![1, 2048, 128] (by decide) (by decide)
  st R .o ![0, 0, 128] ![1, 2048, 128] (by decide)
    (View.stores_vmem (by decide) (ho.storeExact_slice rfl _ (packedo 128 (.inr rfl) _)) (fun _ => rfl)) (outV a1)

/-- The diagonal: columns not after rows. -/
def diagI : IVec (S2 2048 256) 1 :=
  cmpi .sle (iota .tc (S2 2048 256) 32 [1] (by decide)) (iota .tc (S2 2048 256) 32 [0] (by decide))

end Fox

end
-- ==== Proof.State.lean ====
/-
  The body as a function of what the buffers hold: the groups before the diagonal in order, then the diagonal's, then the
  results. The five inputs end as they were.
-/
module

public import proofs.«01_k».proof.Proof.Units

@[expose] public section

noncomputable section

namespace Fox

open Idealize.ShloMosaic Idealize.ShloMosaic.TcCoe
open Idealize.SL Idealize.SL.RA Idealize.SL.BI Idealize.SL.Sem

variable {nD : Nat} {τ : Topo} {sig : RefSig} {Λ : Labels} {F : FTy → Type} [FloatOps F] (R : Refs sig fam)

local notation "𝔸" => Act nD τ Λ (F := F) R
local notation "Σ₀" => St F fam

/-! ## A piece that leaves a buffer as it was -/

def Keeps (l : Bu) {α : Type} (A : 𝔸 α) : Prop := ∀ σ : Σ₀, (A.run σ).2 l = σ l

variable {R} {l : Bu}

theorem Keeps.bind {α β : Type} {A : 𝔸 α} {k : α → 𝔸 β} (hA : Keeps R l A) (hk : ∀ a, Keeps R l (k a)) : Keeps R l (A >>= k) :=
  fun σ => (hk _ _).trans (hA σ)

theorem Keeps.pure {α : Type} (a : α) : Keeps R l (Pure.pure a : 𝔸 α) := fun _ => rfl

theorem Keeps.ld (l' : Bu) (off size inb hp) : Keeps R l (ld (nD := nD) (τ := τ) (Λ := Λ) (F := F) R l' off size inb hp) := fun _ => rfl

theorem Keeps.st {l' : Bu} (h : l ≠ l') (off size inb hx w) :
    Keeps R l (st (nD := nD) (τ := τ) (Λ := Λ) (F := F) R l' off size inb hx w) := fun σ => Function.update_of_ne h _ _

theorem Keeps.seq {ι : Type} {f : ι → 𝔸 PUnit} (h : ∀ i, Keeps R l (f i)) : ∀ is, Keeps R l (Act.seq f is)
  | [] => fun _ => rfl
  | _ :: is => (h _).bind fun _ => Keeps.seq h is

/-- The buffers the body writes. -/
def Bu.isIn : Bu → Bool
  | .q | .qx | .k | .kx | .v => true
  | _ => false

variable (hl : l.isIn = true)
include hl

theorem ne_s (b) : l ≠ .s b := by rintro rfl; exact Bool.false_ne_true hl
theorem ne_p (b) : l ≠ .p b := by rintro rfl; exact Bool.false_ne_true hl
theorem ne_ac : l ≠ .ac := by rintro rfl; exact Bool.false_ne_true hl
theorem ne_mx : l ≠ .mx := by rintro rfl; exact Bool.false_ne_true hl
theorem ne_al : l ≠ .al := by rintro rfl; exact Bool.false_ne_true hl
theorem ne_o : l ≠ .o := by rintro rfl; exact Bool.false_ne_true hl

theorem keeps_lg (b ρ h q ko xo hk hx) : Keeps R l (lgA (nD := nD) (τ := τ) (Λ := Λ) (F := F) R b ρ h q ko xo hk hx) :=
  (Keeps.ld _ _ _ _ _).bind fun _ => (Keeps.ld _ _ _ _ _).bind fun _ => (Keeps.ld _ _ _ _ _).bind fun _ => Keeps.st (ne_s hl b) _ _ _ _ _

theorem keeps_pv (b ρ h ones vo hv) : Keeps R l (pvA (nD := nD) (τ := τ) (Λ := Λ) (F := F) R b ρ h ones vo hv) :=
  (Keeps.ld _ _ _ _ _).bind fun _ => (Keeps.ld _ _ _ _ _).bind fun _ => (Keeps.ld _ _ _ _ _).bind fun _ => (Keeps.ld _ _ _ _ _).bind fun _ =>
    (Keeps.ld _ _ _ _ _).bind fun _ => Keeps.st (ne_ac hl) _ _ _ _ _

theorem keeps_sm (hp b ρ h f) : Keeps R l (smA (nD := nD) (τ := τ) (Λ := Λ) (F := F) R hp b ρ h f) :=
  (Keeps.ld _ _ _ _ _).bind fun _ => (Keeps.ld _ _ _ _ _).bind fun _ => (Keeps.ld _ _ _ _ _).bind fun _ =>
    (Keeps.st (ne_mx hl) _ _ _ _ _).bind fun _ => (Keeps.ld _ _ _ _ _).bind fun _ => (Keeps.st (ne_al hl) _ _ _ _ _).bind fun _ =>
      (Keeps.ld _ _ _ _ _).bind fun _ => (Keeps.ld _ _ _ _ _).bind fun _ => Keeps.st (ne_p hl b) _ _ _ _ _

theorem keeps_unitM (hp qs ones B hB e) : Keeps R l (unitM (nD := nD) (τ := τ) (Λ := Λ) (F := F) R hp qs ones B hB e) :=
  (keeps_lg hl _ _ _ _ _ _ _ _).bind fun _ => (keeps_pv hl _ _ _ _ _ _).bind fun _ => keeps_sm hl _ _ _ _ _

theorem keeps_grpM (hp qs ones B hB) : Keeps R l (grpM (nD := nD) (τ := τ) (Λ := Λ) (F := F) R hp qs ones B hB) :=
  Keeps.seq (fun _ => keeps_unitM hl _ _ _ _ _ _) es

theorem keeps_unitT (hp mk dg qs ones B hB e) : Keeps R l (unitT (nD := nD) (τ := τ) (Λ := Λ) (F := F) R hp mk dg qs ones B hB e) :=
  (keeps_lg hl _ _ _ _ _ _ _ _).bind fun _ => (keeps_pv hl _ _ _ _ _ _).bind fun _ => keeps_sm hl _ _ _ _ _

theorem keeps_grpT (hp mk dg qs ones B hB) : Keeps R l (grpT (nD := nD) (τ := τ) (Λ := Λ) (F := F) R hp mk dg qs ones B hB) :=
  (Keeps.seq (fun _ => keeps_unitT hl _ _ _ _ _ _ _ _) fs).bind fun _ => (keeps_pv hl _ _ _ _ _ _).bind fun _ =>
    (keeps_sm hl _ _ _ _ _).bind fun _ => keeps_pv hl _ _ _ _ _ _

theorem keeps_qs (mk g) : Keeps R l (qsA (nD := nD) (τ := τ) (Λ := Λ) (F := F) R mk g) :=
  (Keeps.ld _ _ _ _ _).bind fun _ => (Keeps.ld _ _ _ _ _).bind fun _ => (Keeps.ld _ _ _ _ _).bind fun _ => (Keeps.ld _ _ _ _ _).bind fun _ =>
    (Keeps.st (ne_mx hl) _ _ _ _ _).bind fun _ => (Keeps.ld _ _ _ _ _).bind fun _ => Keeps.pure _

theorem keeps_pre (hp q one) : Keeps R l (preA (nD := nD) (τ := τ) (Λ := Λ) (F := F) R hp q one) :=
  (Keeps.st (ne_al hl) _ _ _ _ _).bind fun _ => (Keeps.ld _ _ _ _ _).bind fun _ => (Keeps.st (ne_ac hl) _ _ _ _ _).bind fun _ =>
    (Keeps.ld _ _ _ _ _).bind fun _ => (Keeps.st (ne_p hl true) _ _ _ _ _).bind fun _ => keeps_lg hl _ _ _ _ _ _ _ _

theorem keeps_out (ho) : Keeps R l (outA (nD := nD) (τ := τ) (Λ := Λ) (F := F) R ho) :=
  (Keeps.ld _ _ _ _ _).bind fun _ => (Keeps.ld _ _ _ _ _).bind fun _ => (Keeps.ld _ _ _ _ _).bind fun _ =>
    (Keeps.st (ne_o hl) _ _ _ _ _).bind fun _ => Keeps.pure _

theorem keeps_out1 (ho a) : Keeps R l (out1A (nD := nD) (τ := τ) (Λ := Λ) (F := F) R ho a) :=
  (Keeps.ld _ _ _ _ _).bind fun _ => Keeps.st (ne_o hl) _ _ _ _ _

omit hl

/-! ## The body -/

abbrev one1 : FVec F (S3 1 2048 128) .f32 :=
  shapeCast (S3 1 2048 128) (broadcast (S2 2048 128) (Scalar.ofBits .f32 0x3F800000#32)) (sc2 2048 128)

theorem base1_toNat {n : ℕ} (hn : n ≤ 3) (k : Fin n) : (Scalar.muli (Scf.iv 0#32 1#32 k) 8#32).toNat = 8 * k.val := by
  have h1 : k.val < 3 := lt_of_lt_of_le k.isLt hn
  show ((0#32 + BitVec.ofNat 32 k.val * 1#32) * 8#32).toNat = _
  simp only [BitVec.toNat_mul, BitVec.toNat_add, BitVec.toNat_ofNat]
  omega

theorem base1_lt {n : ℕ} (hn : n ≤ 3) (k : Fin n) : (Scalar.muli (Scf.iv 0#32 1#32 k) 8#32).toNat < 24 := by
  have h1 : k.val < 3 := lt_of_lt_of_le k.isLt hn
  rw [base1_toNat hn]; omega

/-- The block the diagonal group starts at. -/
abbrev base2 (n : ℕ) : BitVec 32 := Scalar.muli (BitVec.ofNat 32 n) 8#32

theorem base2_toNat {n : ℕ} (hn : n ≤ 3) : (base2 n).toNat = 8 * n := by
  show (BitVec.ofNat 32 n * 8#32).toNat = _
  simp only [BitVec.toNat_mul, BitVec.toNat_ofNat]
  omega

theorem base2_le {n : ℕ} (hn : n ≤ 3) : (base2 n).toNat ≤ 24 := by rw [base2_toNat hn]; omega

variable (R)

/-- What follows the groups before the diagonal. -/
abbrev postA (hp : ∀ b, (R (.p b)).IsWhole) (ho : (R .o).IsWhole) (mk : F .f32) (dg : IVec (S2 2048 256) 1)
    (q : Bool → FVec F (S2 2048 256) .bf16) (n : ℕ) (hn : n ≤ 3) : 𝔸 PUnit := do
  grpT R hp mk dg q onesB (base2 n) (base2_le hn)
  let a1 ← outA R ho
  out1A R ho a1

variable (nD τ Λ)

/-- What a group leaves. -/
def stepS (hp : ∀ b, (R (.p b)).IsWhole) (q : Bool → FVec F (S2 2048 256) .bf16) {n : ℕ} (hn : n ≤ 3) (k : Fin n) (σ : Σ₀) : Σ₀ :=
  ((grpM (nD := nD) (τ := τ) (Λ := Λ) R hp q onesB (Scalar.muli (Scf.iv 0#32 1#32 k) 8#32) (base1_lt hn k)).run σ).2

/-- What the buffers hold when the groups have begun, and after those before the diagonal. -/
def initS (hp : ∀ b, (R (.p b)).IsWhole) (mk : F .f32) (g : BitVec 32) (σ : Σ₀) : Σ₀ :=
  ((preA (nD := nD) (τ := τ) (Λ := Λ) R hp (((qsA (nD := nD) (τ := τ) (Λ := Λ) R mk g).run σ).1 false) one1).run
    ((qsA (nD := nD) (τ := τ) (Λ := Λ) R mk g).run σ).2).2

def loopS (hp : ∀ b, (R (.p b)).IsWhole) (mk : F .f32) (g : BitVec 32) {n : ℕ} (hn : n ≤ 3) (σ : Σ₀) : Σ₀ :=
  (List.finRange n).foldl (fun τ' k => stepS nD τ Λ R hp ((qsA (nD := nD) (τ := τ) (Λ := Λ) R mk g).run σ).1 hn k τ')
    (initS nD τ Λ R hp mk g σ)

/-- What the buffers hold after the body. -/
def bodyS (hp : ∀ b, (R (.p b)).IsWhole) (ho : (R .o).IsWhole) (mk : F .f32) (g : BitVec 32) {n : ℕ} (hn : n ≤ 3) (σ : Σ₀) : Σ₀ :=
  ((postA (nD := nD) (τ := τ) (Λ := Λ) R hp ho mk diagI ((qsA (nD := nD) (τ := τ) (Λ := Λ) R mk g).run σ).1 n hn).run
    (loopS nD τ Λ R hp mk g hn σ)).2

theorem foldl_keeps {n : ℕ} {f : Σ₀ → Fin n → Σ₀} (hf : ∀ σ k, f σ k l = σ l) (ks : List (Fin n)) (σ : Σ₀) :
    ks.foldl f σ l = σ l := by
  induction ks generalizing σ with
  | nil => rfl
  | cons k ks ih => exact (ih _).trans (hf σ k)

theorem loopS_in (hl : l.isIn = true) (hp mk g) {n : ℕ} (hn : n ≤ 3) (σ : Σ₀) : loopS nD τ Λ R hp mk g hn σ l = σ l :=
  (foldl_keeps (l := l) (fun σ k => keeps_grpM hl hp _ _ _ _ σ) _ _).trans
    ((keeps_pre hl hp _ _ _).trans (keeps_qs hl mk g σ))

/-- The body's inputs end as they were. -/
theorem bodyS_in (hl : l.isIn = true) (hp ho mk g) {n : ℕ} (hn : n ≤ 3) (σ : Σ₀) : bodyS nD τ Λ R hp ho mk g hn σ l = σ l :=
  ((keeps_grpT hl _ _ _ _ _ _ _).bind (fun _ => (keeps_out hl _).bind fun _ => keeps_out1 hl _ _) _).trans (loopS_in nD τ Λ R hl hp mk g hn σ)

end Fox

end
-- ==== Proof.KI.Body.lean ====
/-
  The forgetting attention's body is the pieces in order.
-/
module

public import proofs.«01_k».proof.Proof.Units
public import proofs.«01_k».proof.Proof.Gen.KernelIdeal

@[expose] public section

set_option maxRecDepth 16384

noncomputable section

namespace Cert.KernelIdeal.Gen

open Idealize.ShloMosaic Idealize.ShloMosaic.TcCoe Idealize.SL.Sem
open Fox

variable {F : FTy → Type} [FloatOps F] [Named F]

/-- The kernel's arguments as the buffers. -/
def refs (arg3 : Memref sig .tc .vmem S1x2048x256 .bf16) (arg4 : Memref sig .tc .vmem S1x2048x128 .bf16)
    (arg5 : Memref sig .tc .vmem S1x8192x256 .bf16) (arg6 : Memref sig .tc .vmem S1x8192x128 .bf16)
    (arg7 : Memref sig .tc .vmem S1x8192x256 .bf16) (arg8 : Memref sig .tc .vmem S1x2048x256 .bf16)
    (arg9 arg10 : Memref sig .tc .vmem S2048x256 .f32) (arg11 arg12 : Memref sig .tc .vmem S2048x256 .bf16)
    (arg13 : Memref sig .tc .vmem S2x2048x256 .f32) (arg14 arg15 : Memref sig .tc .vmem S2x2048x128 .f32) : Refs sig fam
  | .q => arg3
  | .qx => arg4
  | .k => arg5
  | .kx => arg6
  | .v => arg7
  | .o => arg8
  | .s false => arg9
  | .s true => arg10
  | .p false => arg11
  | .p true => arg12
  | .ac => arg13
  | .mx => arg14
  | .al => arg15

theorem op_congr {E : Type → Type} {α β : Type} {e e' : E β} {k k' : β → Prog E α} (he : e = e') (hk : ∀ x, k x = k' x) :
    Prog.op e k = Prog.op e' k' := by
  rw [he, show k = k' from funext hk]

theorem bind_congr2 {E : Type → Type} {α β : Type} {p p' : Prog E α} {k k' : α → Prog E β} (hp : p = p') (hk : ∀ x, k x = k' x) :
    p.bind k = p'.bind k' := by
  rw [hp, show k = k' from funext hk]

theorem bind2_congr {E : Type → Type} {α β γ : Type} {p p' : Prog E α} {k : α → Prog E β} {t : β → Prog E γ} {k' : α → Prog E γ}
    (hp : p = p') (hk : ∀ x, (k x).bind t = k' x) : (p.bind k).bind t = p'.bind k' := by
  rw [hp, ← show _ = k' from funext hk]
  exact Prog.bind_assoc p' k t

theorem for_congr {E : Type → Type} {α β : Type} {w : ℕ} (l : Scf.Loop w) (hok : l.OK) (a : α) {b b' : Fin l.trips → α → Prog E α}
    {k k' : α → Prog E β} (hb : ∀ k a, b k a = b' k a) (hk : ∀ x, k x = k' x) : (l.for hok a b).bind k = (l.for hok a b').bind k' := by
  rw [show b = b' from funext fun k => funext fun a => hb k a, show k = k' from funext hk]

section
variable (i : grid0.Coords) (arg3 : Memref sig .tc .vmem S1x2048x256 .bf16) (harg3 : arg3.IsWhole) (arg4 : Memref sig .tc .vmem S1x2048x128 .bf16) (harg4 : arg4.IsWhole) (arg5 : Memref sig .tc .vmem S1x8192x256 .bf16) (harg5 : arg5.IsWhole) (arg6 : Memref sig .tc .vmem S1x8192x128 .bf16) (harg6 : arg6.IsWhole) (arg7 : Memref sig .tc .vmem S1x8192x256 .bf16) (harg7 : arg7.IsWhole) (arg8 : Memref sig .tc .vmem S1x2048x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2x2048x256 .f32) (harg13 : arg13.IsWhole) (arg14 : Memref sig .tc .vmem S2x2048x128 .f32) (harg14 : arg14.IsWhole) (arg15 : Memref sig .tc .vmem S2x2048x128 .f32) (harg15 : arg15.IsWhole)

local notation "ℛ" => refs arg3 arg4 arg5 arg6 arg7 arg8 arg9 arg10 arg11 arg12 arg13 arg14 arg15

include harg11 harg12 in
theorem hpR : ∀ b, (ℛ (.p b)).IsWhole
  | false => harg11
  | true => harg12

theorem trips1 : ∀ i : grid0.Coords, (k0_t1_loop i).trips = (i 2).val := by decide +kernel
theorem trips2 : ∀ i : grid0.Coords, (k0_t2_loop i).trips = 0 := by decide +kernel

theorem base1 (k : Fin (k0_t1_loop i).trips) : (Scalar.muli (Scf.iv 0#32 1#32 k) 8#32).toNat = 8 * k.val := by
  have h1 : k.val < 4 := lt_of_lt_of_le k.isLt ((trips1 i).le.trans (by have : (i 2).val < 4 := (i 2).isLt; omega))
  show ((0#32 + BitVec.ofNat 32 k.val * 1#32) * 8#32).toNat = _
  simp only [BitVec.toNat_mul, BitVec.toNat_add, BitVec.toNat_ofNat]
  omega

theorem base1_lt (k : Fin (k0_t1_loop i).trips) : (Scalar.muli (Scf.iv 0#32 1#32 k) 8#32).toNat < 24 := by
  have h1 : k.val < 3 := lt_of_lt_of_le k.isLt ((trips1 i).le.trans (by have : (i 2).val < 4 := (i 2).isLt; omega))
  rw [base1]; omega

/-- The queries of the two heads. -/
abbrev qs (v36 v69 : FVec F S2048x256 .bf16) (b : Bool) : FVec F (Fox.S2 2048 256) .bf16 := cond b v69 v36

local notation "𝒽" => hpR arg3 arg4 arg5 arg6 arg7 arg8 arg9 arg10 arg11 harg11 arg12 harg12 arg13 arg14 arg15

/-- The block the diagonal group starts at. -/
abbrev base2 : BitVec 32 := Scalar.muli (BitVec.ofNat 32 (i 2).val) 8#32

theorem base2_toNat : (base2 i).toNat = 8 * (i 2).val := by
  have h1 : (i 2).val < 4 := (i 2).isLt
  show (BitVec.ofNat 32 (i 2).val * 8#32).toNat = _
  simp only [BitVec.toNat_mul, BitVec.toNat_ofNat]
  omega

theorem base2_le : (base2 i).toNat ≤ 24 := by
  have h1 : (i 2).val < 4 := (i 2).isLt
  rw [base2_toNat]; omega

abbrev mkC : F .f32 := Named.named Cert.KernelIdeal.κ "mask" 0xF149F2CA#32

abbrev one1 : FVec F (Fox.S3 1 2048 128) .f32 :=
  shapeCast (Fox.S3 1 2048 128) (broadcast (Fox.S2 2048 128) (Scalar.ofBits .f32 0x3F800000#32)) (sc2 2048 128)

/-- The trip of the loop. -/
abbrev trip (v36 v69 : FVec F S2048x256 .bf16) (k : Fin (k0_t1_loop i).trips) :=
  grpM (nD := nD) (τ := τ) (Λ := Λ₀) ℛ 𝒽 (qs v36 v69) onesB (Scalar.muli (Scf.iv 0#32 1#32 k) 8#32) (base1_lt i k)

set_option maxHeartbeats 8000000 in
theorem part59_eq (v36 v69 : FVec F S2048x256 .bf16) (v77 : FVec F S1x2048x128 .f32) : ∃ b2,
    k0_part59 i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) onesB v36 v69 v77 =
      (preA (nD := nD) (τ := τ) (Λ := Λ₀) ℛ 𝒽 v36 v77).prog.bind fun _ =>
        ((k0_t1_loop i).for (k0_t1_ok i) 0#32 fun k _ =>
          (trip i arg3 arg4 arg5 arg6 arg7 arg8 arg9 arg10 arg11 harg11 arg12 harg12 arg13 arg14 arg15 v36 v69 k).prog.bind fun _ => Prog.ret 0#32).bind fun v =>
        ((k0_t2_loop i).for (k0_t2_ok i) v b2).bind fun _ =>
        Prog.ret ⟨base2 i, diagI, Scalar.muli (Scalar.addi (base2 i) 0#32) 256#32⟩ := by
  refine Exists.intro ?w ?h
  swap
  iterate 9 refine op_congr rfl fun _ => ?_
  refine for_congr (k0_t1_loop i) (k0_t1_ok i) 0#32 (fun k a => ?_) fun v => ?_
  · iterate 304 refine op_congr rfl fun _ => ?_
    rfl
  · rfl

/-- What follows the loop. -/
abbrev postA (dg : IVec (Fox.S2 2048 256) 1) (q : Bool → FVec F (Fox.S2 2048 256) .bf16) :
    Act nD τ Λ₀ (F := F) ℛ PUnit := do
  grpT ℛ 𝒽 mkC dg q onesB (base2 i) (base2_le i)
  let a1 ← outA ℛ harg8
  out1A ℛ harg8 a1

attribute [local irreducible] k0_part59

set_option maxHeartbeats 8000000 in
theorem body_eq : cc0_fox_attn (F := F) i arg3 harg3 arg4 harg4 arg5 harg5 arg6 harg6 arg7 harg7 arg8 harg8 arg9 harg9 arg10 harg10 arg11 harg11 arg12 harg12 arg13 harg13 arg14 harg14 arg15 harg15 =
    (qsA (nD := nD) (τ := τ) (Λ := Λ₀) ℛ mkC (BitVec.ofNat 32 (i 1).val)).prog.bind fun q =>
      (k0_part59 i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) onesB (q false) (q true) one1).bind fun x =>
        (postA i arg3 arg4 arg5 arg6 arg7 arg8 harg8 arg9 arg10 arg11 harg11 arg12 harg12 arg13 arg14 arg15 x.2.1 q).prog := by
  iterate 6 refine op_congr rfl fun _ => ?_
  refine bind2_congr (p := k0_part59 i arg3 harg3 arg4 harg4 arg5 harg5 arg6 harg6 arg7 harg7 arg8 harg8 arg9 harg9 arg10 harg10 arg11 harg11 arg12 harg12 arg13 harg13 arg14 harg14 arg15 harg15 _ _ _ _ _) (p' := k0_part59 i arg3 harg3 arg4 harg4 arg5 harg5 arg6 harg6 arg7 harg7 arg8 harg8 arg9 harg9 arg10 harg10 arg11 harg11 arg12 harg12 arg13 harg13 arg14 harg14 arg15 harg15 _ _ _ _ _) rfl ?_
  rintro ⟨v107, v108, v110⟩
  iterate 312 refine op_congr rfl fun _ => ?_
  rfl

end

end Cert.KernelIdeal.Gen

end
-- ==== Proof.KI.Run.lean ====
/-
  The body runs: from any contents of the buffers to what the pieces leave. Then the launch, the output's contents not
  followed: the frame.
-/
module

public import proofs.«01_k».proof.Proof.State
public import proofs.«01_k».proof.Proof.KI.Body
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Pipeline
open Idealize.SL Idealize.SL.RA Idealize.SL.BI Idealize.SL.Sem
open Fox (Bu fam Runs SP St upd)

variable {F : FTy → Type} [FloatOps F] [Named F]

theorem foldl_snd {α ι : Type} {β : Type} (f : β → ι → β) (x : α) (ks : List ι) (a : α) (σ : β) :
    (ks.foldl (fun (y : α × β) k => (x, f y.2 k)) (a, σ)).2 = ks.foldl f σ := by
  induction ks generalizing a σ with
  | nil => rfl
  | cons k ks ih => exact ih x (f σ k)

theorem coords2_le (i : grid0.Coords) : (i 2).val ≤ 3 := by have : (i 2).val < 4 := (i 2).isLt; omega

section
variable (i : grid0.Coords) (arg3 : Memref sig .tc .vmem S1x2048x256 .bf16) (harg3 : arg3.IsWhole) (arg4 : Memref sig .tc .vmem S1x2048x128 .bf16) (harg4 : arg4.IsWhole) (arg5 : Memref sig .tc .vmem S1x8192x256 .bf16) (harg5 : arg5.IsWhole) (arg6 : Memref sig .tc .vmem S1x8192x128 .bf16) (harg6 : arg6.IsWhole) (arg7 : Memref sig .tc .vmem S1x8192x256 .bf16) (harg7 : arg7.IsWhole) (arg8 : Memref sig .tc .vmem S1x2048x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2x2048x256 .f32) (harg13 : arg13.IsWhole) (arg14 : Memref sig .tc .vmem S2x2048x128 .f32) (harg14 : arg14.IsWhole) (arg15 : Memref sig .tc .vmem S2x2048x128 .f32) (harg15 : arg15.IsWhole)

local notation "ℛ" => refs arg3 arg4 arg5 arg6 arg7 arg8 arg9 arg10 arg11 arg12 arg13 arg14 arg15
local notation "𝒽" => hpR arg3 arg4 arg5 arg6 arg7 arg8 arg9 arg10 arg11 harg11 arg12 harg12 arg13 arg14 arg15

theorem loopS_congr {n n' : ℕ} (h : n = n') (hn : n ≤ 3) (hn' : n' ≤ 3) (mk : F .f32) (g : BitVec 32) (σ : St F fam) :
    Fox.loopS nD τ Λ₀ ℛ 𝒽 mk g hn σ = Fox.loopS nD τ Λ₀ ℛ 𝒽 mk g hn' σ := by
  subst h; rfl

/-- What the buffers hold after the body at point `i`. -/
abbrev endS (σ : St F fam) : St F fam :=
  Fox.bodyS nD τ Λ₀ ℛ 𝒽 harg8 mkC (BitVec.ofNat 32 (i 1).val) (coords2_le i) σ

theorem body_runs (defs : Defs nD τ sig (Elt F) Λ₀) (𝒱 : Variants) (c : Dev nD) (σ : St F fam) :
    Runs defs 𝒱 c ℛ (cc0_fox_attn (F := F) i arg3 harg3 arg4 harg4 arg5 harg5 arg6 harg6 arg7 harg7 arg8 harg8 arg9 harg9 arg10 harg10 arg11 harg11 arg12 harg12 arg13 harg13 arg14 harg14 arg15 harg15)
      σ ⟨⟩ (endS i arg3 arg4 arg5 arg6 arg7 arg8 harg8 arg9 arg10 arg11 harg11 arg12 harg12 arg13 arg14 arg15 σ) := by
  have ht : (k0_t1_loop i).trips = (i 2).val := trips1 i
  have hn : (k0_t1_loop i).trips ≤ 3 := ht.le.trans (coords2_le i)
  rw [body_eq]
  refine Runs.bind (Fox.Act.ok _ defs 𝒱 c σ) ?_
  obtain ⟨b2, hb⟩ := part59_eq i arg3 harg3 arg4 harg4 arg5 harg5 arg6 harg6 arg7 harg7 arg8 harg8 arg9 harg9 arg10 harg10 arg11 harg11 arg12 harg12 arg13 harg13 arg14 harg14 arg15 harg15
    (((Fox.qsA (nD := nD) (τ := τ) (Λ := Λ₀) ℛ mkC (BitVec.ofNat 32 (i 1).val)).run σ).1 false)
    (((Fox.qsA (nD := nD) (τ := τ) (Λ := Λ₀) ℛ mkC (BitVec.ofNat 32 (i 1).val)).run σ).1 true) (one1 (F := F))
  rw [hb]
  have hq : qs (((Fox.qsA (nD := nD) (τ := τ) (Λ := Λ₀) ℛ mkC (BitVec.ofNat 32 (i 1).val)).run σ).1 false)
      (((Fox.qsA (nD := nD) (τ := τ) (Λ := Λ₀) ℛ mkC (BitVec.ofNat 32 (i 1).val)).run σ).1 true) =
      ((Fox.qsA (nD := nD) (τ := τ) (Λ := Λ₀) ℛ mkC (BitVec.ofNat 32 (i 1).val)).run σ).1 := by
    funext b; cases b <;> rfl
  refine Runs.bind (Runs.bind (Fox.Act.ok _ defs 𝒱 c _) (Runs.bind (Runs.for (k0_t1_loop i) (k0_t1_ok i) 0#32
    (g := fun k x => (0#32, Fox.stepS nD τ Λ₀ ℛ 𝒽 ((Fox.qsA (nD := nD) (τ := τ) (Λ := Λ₀) ℛ mkC (BitVec.ofNat 32 (i 1).val)).run σ).1 hn k x.2))
    (fun k a σ' => ?_) _) (Runs.bind (Runs.for (k0_t2_loop i) (k0_t2_ok i) _ (g := fun k x => x) (fun k => ?_) _) (Runs.ret _ _)))) ?_
  · unfold trip
    rw [hq]
    exact Runs.bind (Fox.Act.ok _ defs 𝒱 c σ') (Runs.ret _ _)
  · exact absurd k.isLt (by have := trips2 i; omega)
  · have e : (List.finRange (k0_t2_loop i).trips) = [] := by rw [List.finRange_eq_nil_iff]; exact trips2 i
    have h2 := Fox.Act.ok (postA i arg3 arg4 arg5 arg6 arg7 arg8 harg8 arg9 arg10 arg11 harg11 arg12 harg12 arg13 arg14 arg15 Fox.diagI
      (((Fox.qsA (nD := nD) (τ := τ) (Λ := Λ₀) ℛ mkC (BitVec.ofNat 32 (i 1).val)).run σ).1)) defs 𝒱 c
      (Fox.loopS nD τ Λ₀ ℛ 𝒽 mkC (BitVec.ofNat 32 (i 1).val) (coords2_le i) σ)
    have h3 : _ = Fox.loopS nD τ Λ₀ ℛ 𝒽 mkC (BitVec.ofNat 32 (i 1).val) hn σ := foldl_snd (fun τ' k => Fox.stepS nD τ Λ₀ ℛ 𝒽 ((Fox.qsA (nD := nD) (τ := τ) (Λ := Λ₀) ℛ mkC (BitVec.ofNat 32 (i 1).val)).run σ).1 hn k τ')
      0#32 (List.finRange (k0_t1_loop i).trips) 0#32 (Fox.initS nD τ Λ₀ ℛ 𝒽 mkC (BitVec.ofNat 32 (i 1).val) σ)
    have h4 := h3.trans (loopS_congr arg3 arg4 arg5 arg6 arg7 arg8 arg9 arg10 arg11 harg11 arg12 harg12 arg13 arg14 arg15 ht hn (coords2_le i) mkC _ σ)
    rw [← h4] at h2
    rw [e]
    unfold endS Fox.bodyS
    rw [← h4]
    exact h2

end

end Cert.KernelIdeal.Gen

end
-- ==== Proof.KI.Point.lean ====
/-
  A grid point: the body at the staging buffers, the scratch at any contents; and the launch with the output's contents
  either named by a function of the point or left unnamed.
-/
module

public import proofs.«01_k».proof.Proof.KI.Run
public import Idealize.ShloMosaic.Lib.Pipeline.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation scopedRest)
open Fox (Bu fam Runs SP St upd)

variable {F : FTy → Type} [FloatOps F] [Named F]

local notation "𝕄" => MT nD τ sig Unit (Elt F) ℕ (UR sig nD τ) ℕ

/-- The buffers conjoined one by one. -/
theorem SP13 (c : Dev nD) (R : Fox.Refs sig fam) (σ : St F fam) : (SP c R σ : sProp 𝕄) =
    iprop(owns (c : Thread nD τ) (R .q) fullShare (σ .q) ∗ owns (c : Thread nD τ) (R .qx) fullShare (σ .qx)
      ∗ owns (c : Thread nD τ) (R .k) fullShare (σ .k) ∗ owns (c : Thread nD τ) (R .kx) fullShare (σ .kx)
      ∗ owns (c : Thread nD τ) (R .v) fullShare (σ .v) ∗ owns (c : Thread nD τ) (R .o) fullShare (σ .o)
      ∗ owns (c : Thread nD τ) (R (.s false)) fullShare (σ (.s false)) ∗ owns (c : Thread nD τ) (R (.s true)) fullShare (σ (.s true))
      ∗ owns (c : Thread nD τ) (R (.p false)) fullShare (σ (.p false)) ∗ owns (c : Thread nD τ) (R (.p true)) fullShare (σ (.p true))
      ∗ owns (c : Thread nD τ) (R .ac) fullShare (σ .ac) ∗ owns (c : Thread nD τ) (R .mx) fullShare (σ .mx)
      ∗ owns (c : Thread nD τ) (R .al) fullShare (σ .al)) :=
  bigSep_univ_eq_bigSepL [Bu.q, .qx, .k, .kx, .v, .o, .s false, .s true, .p false, .p true, .ac, .mx, .al] (by decide) (by decide) _

/-- The contents of the thirteen buffers. -/
def mkS (x3 : S1x2048x256.Idx → Elt F .bf16) (x4 : S1x2048x128.Idx → Elt F .bf16) (x5 : S1x8192x256.Idx → Elt F .bf16)
    (x6 : S1x8192x128.Idx → Elt F .bf16) (x7 : S1x8192x256.Idx → Elt F .bf16) (x8 : S1x2048x256.Idx → Elt F .bf16)
    (x9 x10 : S2048x256.Idx → Elt F .f32) (x11 x12 : S2048x256.Idx → Elt F .bf16)
    (x13 : S2x2048x256.Idx → Elt F .f32) (x14 x15 : S2x2048x128.Idx → Elt F .f32) : St F fam
  | .q => x3
  | .qx => x4
  | .k => x5
  | .kx => x6
  | .v => x7
  | .o => x8
  | .s false => x9
  | .s true => x10
  | .p false => x11
  | .p true => x12
  | .ac => x13
  | .mx => x14
  | .al => x15

section
variable (i : grid0.Coords) (arg3 : Memref sig .tc .vmem S1x2048x256 .bf16) (harg3 : arg3.IsWhole) (arg4 : Memref sig .tc .vmem S1x2048x128 .bf16) (harg4 : arg4.IsWhole) (arg5 : Memref sig .tc .vmem S1x8192x256 .bf16) (harg5 : arg5.IsWhole) (arg6 : Memref sig .tc .vmem S1x8192x128 .bf16) (harg6 : arg6.IsWhole) (arg7 : Memref sig .tc .vmem S1x8192x256 .bf16) (harg7 : arg7.IsWhole) (arg8 : Memref sig .tc .vmem S1x2048x256 .bf16) (harg8 : arg8.IsWhole)

/-- The buffers of a point: the staging buffers and the scratch. -/
abbrev ptRefs : Fox.Refs sig fam :=
  refs arg3 arg4 arg5 arg6 arg7 arg8 (Memref.whole cc0_scratch0) (Memref.whole cc0_scratch1) (Memref.whole cc0_scratch2) (Memref.whole cc0_scratch3) (Memref.whole cc0_scratch4) (Memref.whole cc0_scratch5) (Memref.whole cc0_scratch6)

/-- What they hold after the body. -/
abbrev ptEnd (σ : St F fam) : St F fam :=
  endS i arg3 arg4 arg5 arg6 arg7 arg8 harg8 (Memref.whole cc0_scratch0) (Memref.whole cc0_scratch1) (Memref.whole cc0_scratch2) (Memref.isWhole_whole _) (Memref.whole cc0_scratch3) (Memref.isWhole_whole _) (Memref.whole cc0_scratch4) (Memref.whole cc0_scratch5) (Memref.whole cc0_scratch6) σ

theorem point_run (defs : Defs nD τ sig (Elt F) Λ₀) (𝒱 : Variants) (c : Dev nD)
    (x3 : S1x2048x256.Idx → Elt F .bf16) (x4 : S1x2048x128.Idx → Elt F .bf16) (x5 : S1x8192x256.Idx → Elt F .bf16)
    (x6 : S1x8192x128.Idx → Elt F .bf16) (x7 : S1x8192x256.Idx → Elt F .bf16) (x8 : S1x2048x256.Idx → Elt F .bf16) (Φ : PUnit → sProp 𝕄) :
    iprop(owns (c : Thread nD τ) arg3 fullShare x3 ∗ owns (c : Thread nD τ) arg4 fullShare x4 ∗ owns (c : Thread nD τ) arg5 fullShare x5
      ∗ owns (c : Thread nD τ) arg6 fullShare x6 ∗ owns (c : Thread nD τ) arg7 fullShare x7 ∗ owns (c : Thread nD τ) arg8 fullShare x8
      ∗ scopedRest (Ix := Unit) (Name := ℕ) (U := UR sig nD τ) (Lvl := ℕ) (Val := Elt F) spec0 c
      ∗ ((owns (c : Thread nD τ) arg3 fullShare x3 ∗ owns (c : Thread nD τ) arg4 fullShare x4 ∗ owns (c : Thread nD τ) arg5 fullShare x5
          ∗ owns (c : Thread nD τ) arg6 fullShare x6 ∗ owns (c : Thread nD τ) arg7 fullShare x7
          ∗ (∃ σ : St F fam, ⌜σ .q = x3 ∧ σ .qx = x4 ∧ σ .k = x5 ∧ σ .kx = x6 ∧ σ .v = x7⌝
              ∗ owns (c : Thread nD τ) arg8 fullShare (ptEnd i arg3 arg4 arg5 arg6 arg7 arg8 harg8 σ .o))
          ∗ scopedRest (Ix := Unit) (Name := ℕ) (U := UR sig nD τ) (Lvl := ℕ) (Val := Elt F) spec0 c) -∗ Φ ⟨⟩))
    ⊢ wp frame (wpE (Lvl := ℕ) (U := UR sig nD τ) defs 𝒱 (c : Thread nD τ) none) Set.univ
        (cc0_fox_attn (F := F) i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) Φ := by
  rw [scopedRest0_eq]
  iintro ⟨H3, H4, H5, H6, H7, H8, ⟨⟨%f0, S0⟩, ⟨%f1, S1⟩, ⟨%f2, S2⟩, ⟨%f3, S3⟩, ⟨%f4, S4⟩, ⟨%f5, S5⟩, ⟨%f6, S6⟩⟩, Hk⟩
  have hin : ∀ l, Bu.isIn l = true → ptEnd i arg3 arg4 arg5 arg6 arg7 arg8 harg8 (mkS x3 x4 x5 x6 x7 x8 f0 f1 f2 f3 f4 f5 f6) l = mkS x3 x4 x5 x6 x7 x8 f0 f1 f2 f3 f4 f5 f6 l :=
    fun l hl => Fox.bodyS_in nD τ Λ₀ _ hl _ _ _ _ _ _
  iapply (body_runs i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) defs 𝒱 c (mkS x3 x4 x5 x6 x7 x8 f0 f1 f2 f3 f4 f5 f6) Φ)
  rw [SP13, SP13]
  isplitr [Hk]
  · dsimp only [refs, mkS]
    simp only [owns_whole_eq]
    isplitl [H3]; · iexact H3
    isplitl [H4]; · iexact H4
    isplitl [H5]; · iexact H5
    isplitl [H6]; · iexact H6
    isplitl [H7]; · iexact H7
    isplitl [H8]; · iexact H8
    isplitl [S0]; · iexists f0; isplitr; · ipureintro; rfl
                    iexact S0
    isplitl [S1]; · iexists f1; isplitr; · ipureintro; rfl
                    iexact S1
    isplitl [S2]; · iexists f2; isplitr; · ipureintro; rfl
                    iexact S2
    isplitl [S3]; · iexists f3; isplitr; · ipureintro; rfl
                    iexact S3
    isplitl [S4]; · iexists f4; isplitr; · ipureintro; rfl
                    iexact S4
    isplitl [S5]; · iexists f5; isplitr; · ipureintro; rfl
                    iexact S5
    iexists f6; isplitr; · ipureintro; rfl
    iexact S6
  rw [show endS i arg3 arg4 arg5 arg6 arg7 arg8 harg8 (Memref.whole cc0_scratch0) (Memref.whole cc0_scratch1) (Memref.whole cc0_scratch2) (Memref.isWhole_whole _) (Memref.whole cc0_scratch3) (Memref.isWhole_whole _) (Memref.whole cc0_scratch4) (Memref.whole cc0_scratch5) (Memref.whole cc0_scratch6) (mkS x3 x4 x5 x6 x7 x8 f0 f1 f2 f3 f4 f5 f6) = ptEnd i arg3 arg4 arg5 arg6 arg7 arg8 harg8 (mkS x3 x4 x5 x6 x7 x8 f0 f1 f2 f3 f4 f5 f6) from rfl,
    hin .q rfl, hin .qx rfl, hin .k rfl, hin .kx rfl, hin .v rfl]
  dsimp only [refs]
  generalize hE : ptEnd i arg3 arg4 arg5 arg6 arg7 arg8 harg8 (mkS x3 x4 x5 x6 x7 x8 f0 f1 f2 f3 f4 f5 f6) = E
  dsimp only [mkS]
  simp only [owns_whole_eq]
  iintro ⟨H3, H4, H5, H6, H7, H8, ⟨%g0, -, S0⟩, ⟨%g1, -, S1⟩, ⟨%g2, -, S2⟩, ⟨%g3, -, S3⟩, ⟨%g4, -, S4⟩, ⟨%g5, -, S5⟩, ⟨%g6, -, S6⟩⟩
  iapply Hk
  isplitl [H3]; · iexact H3
  isplitl [H4]; · iexact H4
  isplitl [H5]; · iexact H5
  isplitl [H6]; · iexact H6
  isplitl [H7]; · iexact H7
  isplitl [H8]
  · iexists (mkS x3 x4 x5 x6 x7 x8 f0 f1 f2 f3 f4 f5 f6)
    isplitr; · ipureintro; exact ⟨rfl, rfl, rfl, rfl, rfl⟩
    rw [hE]; iexact H8
  isplitl [S0]; · iexists g0; iexact S0
  isplitl [S1]; · iexists g1; iexact S1
  isplitl [S2]; · iexists g2; iexact S2
  isplitl [S3]; · iexists g3; iexact S3
  isplitl [S4]; · iexists g4; iexact S4
  isplitl [S5]; · iexists g5; iexact S5
  iexists g6; iexact S6

end

end Cert.KernelIdeal.Gen

end
-- ==== Proof.KI.Frame.lean ====
/-
  The launch: the inputs' windows at their blocks, the output's block either named by a function of the point or left
  unnamed; and from the launch with the output unnamed, the frame.
-/
module

public import proofs.«01_k».proof.Proof.KI.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation scopedRest)
open Fox (Bu fam Runs SP St upd)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (O : (c : Dev nD) → (t : Fin cfg0.N) → S1x2048x256.Idx → Elt F .bf16)

/-- The output's window forgotten, or not. -/
def outOnly : Fin cfg0.W → Bool := fun w => w == 5

/-- The proof data: every input's block stays, the output's becomes `O`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => O c t
  Φ _ := Pipeline.ΦA spec0 c
  q w := Pipeline.shareOf spec0 w
  owed _ := 0

theorem A_eq (c : Dev nD) (w : Fin cfg0.W) : (dats m O 0 c).A w = V m c (Pipeline.arrRef spec0 w) := by dsimp only [dats]

theorem defs₀_row (t : Fin cfg0.N) : defs₀ (F := F) .tc cfg0.body (cfg0.bodyArgs t (cfg0.slots t)) = bodyAt0 t := by
  unfold defs₀; rw [Defs.onTc_tc]

theorem bef0 (c : Dev nD) (t d) : (dats m O 0 c).before 0 t d = iblk m c 0 t := before0_0_of m _ (A_eq m O c 0) (fun _ => rfl) t d
theorem bef1 (c : Dev nD) (t d) : (dats m O 0 c).before 1 t d = iblk m c 1 t := before0_1_of m _ (A_eq m O c 1) (fun _ => rfl) t d
theorem bef2 (c : Dev nD) (t d) : (dats m O 0 c).before 2 t d = iblk m c 2 t := before0_2_of m _ (A_eq m O c 2) (fun _ => rfl) t d
theorem bef3 (c : Dev nD) (t d) : (dats m O 0 c).before 3 t d = iblk m c 3 t := before0_3_of m _ (A_eq m O c 3) (fun _ => rfl) t d
theorem bef4 (c : Dev nD) (t d) : (dats m O 0 c).before 4 t d = iblk m c 4 t := before0_4_of m _ (A_eq m O c 4) (fun _ => rfl) t d

/-- The output's block after the body at the point, from some contents of the scratch. -/
abbrev outAt (t : Fin cfg0.N) (σ : St F fam) : S1x2048x256.Idx → Elt F .bf16 :=
  ptEnd (grid0.coords t) (st0_0 t) (st0_1 t) (st0_2 t) (st0_3 t) (st0_4 t) (st0_5 t) (hstage0_5 ((cfg0.slots t 5).cast nbuf0_5)) σ .o

/-- The buffers hold the inputs' blocks of the point. -/
def Holds (c : Dev nD) (t : Fin cfg0.N) (σ : St F fam) : Prop :=
  σ .q = iblk m c 0 t ∧ σ .qx = iblk m c 1 t ∧ σ .k = iblk m c 2 t ∧ σ .kx = iblk m c 3 t ∧ σ .v = iblk m c 4 t

theorem body_unnamed (c : Dev nD) : BodyObligation (dats m O 0 c) (defs₀ (F := F)) Variants.none () Set.univ outOnly := fun t => by
  rw [bigSep_W0, bigSep_W0, defs₀_row]
  simp only [show outOnly 0 = false from rfl, show outOnly 1 = false from rfl, show outOnly 2 = false from rfl, show outOnly 3 = false from rfl, show outOnly 4 = false from rfl, show outOnly 5 = true from rfl]
  rw [show (dats m O 0 c).Φ t.castSucc = Pipeline.ΦA spec0 c from rfl, show (dats m O 0 c).Φ t.succ = Pipeline.ΦA spec0 c from rfl]
  unfold Pipeline.ΦA Dat.owesAt Pipeline.owesWithin
  rw [show (dats m O 0 c).owed t.castSucc = 0 from rfl, show (dats m O 0 c).owed t.succ = 0 from rfl]
  simp only [bef0, bef1, bef2, bef3, bef4]
  iintro ⟨⟨HS, HG⟩, HW, ⟨%d0, H0⟩, ⟨%d1, H1⟩, ⟨%d2, H2⟩, ⟨%d3, H3⟩, ⟨%d4, H4⟩, ⟨%x5, H5⟩⟩
  iapply (point_run (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) defs₀ Variants.none c
    (iblk m c 0 t) (iblk m c 1 t) (iblk m c 2 t) (iblk m c 3 t) (iblk m c 4 t) x5 _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, ⟨%σ, %hσ, H5⟩, HS⟩
  isplitl [HS HG]
  · isplitl [HS]; · iexact HS
    iexact HG
  isplitl [HW]; · iexact HW
  isplitl [H0]; · iexact H0
  isplitl [H1]; · iexact H1
  isplitl [H2]; · iexact H2
  isplitl [H3]; · iexact H3
  isplitl [H4]; · iexact H4
  iexists _; iexact H5

theorem body_named (c : Dev nD) (hO : ∀ t σ, Holds m c t σ → outAt t σ = O c t) :
    BodyObligation (dats m O 0 c) (defs₀ (F := F)) Variants.none () Set.univ := fun t => by
  rw [bigSep_W0, bigSep_W0, defs₀_row]
  rw [show (dats m O 0 c).Φ t.castSucc = Pipeline.ΦA spec0 c from rfl, show (dats m O 0 c).Φ t.succ = Pipeline.ΦA spec0 c from rfl]
  unfold Pipeline.ΦA Dat.owesAt Pipeline.owesWithin
  rw [show (dats m O 0 c).owed t.castSucc = 0 from rfl, show (dats m O 0 c).owed t.succ = 0 from rfl]
  simp only [bef0, bef1, bef2, bef3, bef4]
  iintro ⟨⟨HS, HG⟩, HW, ⟨%d0, H0⟩, ⟨%d1, H1⟩, ⟨%d2, H2⟩, ⟨%d3, H3⟩, ⟨%d4, H4⟩, ⟨%d5, H5⟩⟩
  iapply (point_run (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) defs₀ Variants.none c
    (iblk m c 0 t) (iblk m c 1 t) (iblk m c 2 t) (iblk m c 3 t) (iblk m c 4 t) _ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, ⟨%σ, %hσ, H5⟩, HS⟩
  isplitl [HS HG]
  · isplitl [HS]; · iexact HS
    iexact HG
  isplitl [HW]; · iexact HW
  isplitl [H0]; · iexact H0
  isplitl [H1]; · iexact H1
  isplitl [H2]; · iexact H2
  isplitl [H3]; · iexact H3
  isplitl [H4]; · iexact H4
  have h := hO t σ hσ
  unfold outAt at h
  rw [h]
  iexact H5

-- the library's implicit arguments are found only when a metavariable's type may unfold
set_option backward.isDefEq.respectTransparency.types false in
theorem run_unnamed :
    θ_run defs (onTc (τ := τ) (main (F := F))) (s₀ m ρ)
      (fun r => RDat.FramePost (cfgs 0) (fun c => (dats m O 0 c).toRForget outOnly) (V m) r ∧ r.2.sem = fun _ => 0) :=
  Pipeline.θ_run_frame_forget_shared (Q' := _) cfgs (dats m O) (0 : Fin 1) launch₀0 defs₀ Variants.none outOnly m ρ main
    (hbody := fun c => (body_unnamed m O c).loose) (hq := fun _ _ _ => rfl) (howed := fun _ _ => rfl) (V := V m)
    (hmain := hmain m Variants.none) (hA := A_eq m O) (hΦ := fun _ _ => rfl) (hQ' := fun _ h => h)

set_option backward.isDefEq.respectTransparency.types false in
theorem run_named (hO : ∀ c t σ, Holds m c t σ → outAt t σ = O c t) :
    θ_run defs (onTc (τ := τ) (main (F := F))) (s₀ m ρ)
      (fun r => Pipeline.FramePost cfgs (dats m O) 0 (V m) r ∧ r.2.sem = fun _ => 0) :=
  Pipeline.θ_run_frame_shared (Q' := _) cfgs (dats m O) (0 : Fin 1) launch₀0 defs₀ Variants.none m ρ main
    (hbody := fun c => (body_named m O c (hO c)).loose) (hq := fun _ _ _ => rfl) (howed := fun _ _ => rfl) (V := V m)
    (hmain := hmain m Variants.none) (hA := A_eq m O) (hΦ := fun _ _ => rfl) (hQ' := fun _ h => h)

/-- The run ends, nothing pending, the arguments as they were. -/
theorem frame_all :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine (θ_run defs _ _).mono (fun r h => ⟨fun c => ?_, h.2⟩) (run_unnamed m ρ fun _ _ _ => (Scalar.ofBits .bf16 0#16 : F .bf16))
  have h1 := fun w hw => (congrFun (RDat.ArrAt_in _ w hw cfg0.N) _).mp ((h.1 c).1 w)
  exact ⟨h1 4 rfl, h1 1 rfl, h1 3 rfl⟩

end Cert.KernelIdeal.Gen

end
-- ==== Proof.Row.lean ====
/-
  One row of the forgetting attention, at the extended reals: the online softmax over the blocks of keys, with the
  logits one unit ahead and the products one unit behind, ends at the plain weighted sum.
-/
module

public import proofs.«01_k».proof.Proof.Units
public import Idealize.ShloMosaic.Lib.ValueIdx
public import Idealize.ShloMosaic.Lib.MatmulPlain
public import Idealize.ShloMosaic.PureOps.Ideal.Laws

@[expose] public section

noncomputable section

namespace Fox

open Idealize.ShloMosaic
open scoped BigOperators

/-! ## Powers of two of differences -/

theorem exp2_nonneg (x : EReal) : 0 ≤ Ideal.exp2 x := by
  induction x with
  | bot => simp
  | top => simp
  | coe r => rw [Ideal.exp2_coe]; exact_mod_cast Real.rpow_nonneg (by norm_num) r

theorem exp2_sub_ne_top {x y : EReal} (h : x ≤ y) : Ideal.exp2 (x - y) ≠ ⊤ := by
  induction y with
  | bot => rw [le_bot_iff.mp h]; simp [sub_eq_add_neg]
  | top => simp [sub_eq_add_neg]
  | coe r =>
    induction x with
    | bot => simp [sub_eq_add_neg]
    | top => exact absurd (top_le_iff.mp h) (EReal.coe_ne_top r)
    | coe s => rw [← EReal.coe_sub, Ideal.exp2_coe]; exact EReal.coe_ne_top _

/-- A scale from one maximum to a larger one times a weight below the first is the weight below the second. -/
theorem exp2_chain {x m m' : EReal} (h : x ≤ m) (h' : m ≤ m') :
    Ideal.exp2 (m - m') * Ideal.exp2 (x - m) = Ideal.exp2 (x - m') := by
  induction m' with
  | bot =>
    obtain rfl := le_bot_iff.mp h'
    obtain rfl := le_bot_iff.mp h
    simp [sub_eq_add_neg]
  | top => simp [sub_eq_add_neg]
  | coe r =>
    induction m with
    | bot => obtain rfl := le_bot_iff.mp h; simp [sub_eq_add_neg]
    | top => exact absurd (top_le_iff.mp h') (EReal.coe_ne_top r)
    | coe s =>
      induction x with
      | bot => simp [sub_eq_add_neg]
      | top => exact absurd (top_le_iff.mp h) (EReal.coe_ne_top s)
      | coe t =>
        rw [← EReal.coe_sub, ← EReal.coe_sub, ← EReal.coe_sub, Ideal.exp2_coe, Ideal.exp2_coe, Ideal.exp2_coe, ← EReal.coe_mul]
        congr 1
        show (2 : ℝ) ^ (s - r) * (2 : ℝ) ^ (t - s) = (2 : ℝ) ^ (t - r)
        rw [← Real.rpow_add (by norm_num)]
        congr 1
        ring

theorem exp2_bot_sub (m : EReal) : Ideal.exp2 (⊥ - m) = 0 := by simp [sub_eq_add_neg]

theorem mul_sum_nonneg {ι : Type*} (s : Finset ι) (a : EReal) (h0 : 0 ≤ a) (h1 : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-! ## A row's buffers and the pieces on them -/

abbrev lo (j : Fin 256) : Fin 128 := ⟨j.val % 128, Nat.mod_lt _ (by decide)⟩

/-- A row: per head its logits, weights, accumulator, maximum and scale. -/
@[ext] structure Row where
  S : Bool → Fin 256 → EReal
  P : Bool → Fin 256 → EReal
  A : Bool → Fin 256 → EReal
  M : Bool → Fin 128 → EReal
  L : Bool → Fin 128 → EReal

namespace Row

def lg (x : Row) (b : Bool) (g : Fin 256 → EReal) : Row := { x with S := Function.update x.S b g }

def pv (x : Row) (b : Bool) (v : Fin 256 → Fin 256 → EReal) : Row :=
  { x with A := Function.update x.A b fun j => x.L b (lo j) * x.A b j + ∑ c, x.P b c * v c j }

/-- The new maximum. -/
def mx (m : Fin 128 → EReal) (s : Fin 256 → EReal) (l : Fin 128) : EReal := max (m l) (Finset.univ.sup s)

def sm (x : Row) (b : Bool) (f : (Fin 256 → EReal) → Fin 256 → EReal) : Row :=
  { x with
    M := Function.update x.M b (mx (x.M b) (f (x.S b)))
    L := Function.update x.L b fun l => Ideal.exp2 (x.M b l - mx (x.M b) (f (x.S b)) l)
    P := Function.update x.P b fun c => Ideal.exp2 (f (x.S b) c - mx (x.M b) (f (x.S b)) (lo c)) }

end Row

variable (D : ℕ) (G : Bool → ℕ → Fin 256 → EReal) (f : ℕ → (Fin 256 → EReal) → Fin 256 → EReal)
  (V : Bool → ℕ → Fin 256 → Fin 256 → EReal)

/-- One unit on a row whose last block is `D`: pieces of later blocks do nothing. -/
def rstep (u : ℕ) (x : Row) : Row :=
  let x1 := if (u + 1) / 2 ≤ D then x.lg (odd (u + 1)) (G (odd (u + 1)) ((u + 1) / 2)) else x
  let x2 := if (u + 1) / 2 - 1 ≤ D then x1.pv (odd (u + 1)) (V (odd (u + 1)) ((u + 1) / 2 - 1)) else x1
  if u / 2 ≤ D then x2.sm (odd u) (f (u / 2)) else x2

/-- Units in order. -/
def rrun : ℕ → Row → Row
  | 0, x => x
  | u + 1, x => rstep D G f V u (rrun u x)

/-- The masked logits. -/
abbrev lm (b : Bool) (n : ℕ) : Fin 256 → EReal := f n (G b n)

/-- The maximum over the first blocks, -/
def bmax (b : Bool) (N : ℕ) : EReal := (Finset.range N).sup fun n => Finset.univ.sup (lm G f b n)

/-- and the weighted sum. -/
def bsum (b : Bool) (N : ℕ) (j : Fin 256) : EReal :=
  ∑ n ∈ Finset.range N, ∑ c, Ideal.exp2 (lm G f b n c - bmax G f b N) * V b n c j

theorem bmax_succ (b : Bool) (N : ℕ) : bmax G f b (N + 1) = max (bmax G f b N) (Finset.univ.sup (lm G f b N)) := by
  unfold bmax
  rw [Finset.range_add_one, Finset.sup_insert, max_comm]

theorem le_bmax {b : Bool} {n N : ℕ} (h : n < N) (c : Fin 256) : lm G f b n c ≤ bmax G f b N :=
  (Finset.le_sup (f := lm G f b n) (Finset.mem_univ c)).trans
    (Finset.le_sup (f := fun n => Finset.univ.sup (lm G f b n)) (Finset.mem_range.mpr h))

theorem bsum_succ (b : Bool) (N : ℕ) (j : Fin 256) :
    Ideal.exp2 (bmax G f b N - bmax G f b (N + 1)) * bsum G f V b N j
      + ∑ c, Ideal.exp2 (lm G f b N c - bmax G f b (N + 1)) * V b N c j = bsum G f V b (N + 1) j := by
  have hle : bmax G f b N ≤ bmax G f b (N + 1) := by rw [bmax_succ]; exact le_max_left _ _
  unfold bsum
  rw [Finset.sum_range_succ, mul_sum_nonneg _ _ (exp2_nonneg _) (exp2_sub_ne_top hle)]
  refine congrArg (· + _) (Finset.sum_congr rfl fun n hn => ?_)
  rw [mul_sum_nonneg _ _ (exp2_nonneg _) (exp2_sub_ne_top hle)]
  refine Finset.sum_congr rfl fun c _ => ?_
  rw [← mul_assoc, exp2_chain (le_bmax G f (Finset.mem_range.mp hn) c) hle]

/-- Blocks whose logits are all masked change nothing. -/
theorem bmax_stay (b : Bool) {N N' : ℕ} (h : N ≤ N') (hb : ∀ n, N ≤ n → n < N' → ∀ c, lm G f b n c = ⊥) :
    bmax G f b N' = bmax G f b N := by
  induction N', h using Nat.le_induction with
  | base => rfl
  | succ k hk ih =>
    rw [bmax_succ, ih fun n h1 h2 => hb n h1 (by omega)]
    refine max_eq_left ?_
    rw [show lm G f b k = fun _ => ⊥ from funext (hb k hk (by omega))]
    simp

theorem bsum_stay (b : Bool) {N N' : ℕ} (h : N ≤ N') (hb : ∀ n, N ≤ n → n < N' → ∀ c, lm G f b n c = ⊥) (j : Fin 256) :
    bsum G f V b N' j = bsum G f V b N j := by
  unfold bsum
  rw [bmax_stay G f b h hb, ← Finset.sum_subset (Finset.range_mono h)]
  intro n h1 h2
  refine Finset.sum_eq_zero fun c _ => ?_
  rw [hb n (not_lt.mp fun h => h2 (Finset.mem_range.mpr h)) (Finset.mem_range.mp h1) c, exp2_bot_sub, zero_mul]

/-! ## The units' invariant -/

theorem odd_ne (u : ℕ) : odd (u + 1) ≠ odd u := by
  unfold odd; rcases Nat.mod_two_eq_zero_or_one u with h | h <;> simp [Nat.add_mod, h]
theorem odd_two (u : ℕ) : odd (u + 1 + 1) = odd u := by unfold odd; rw [show u + 1 + 1 = u + 2 from rfl, Nat.add_mod_right]

/-- Before unit `u`. -/
structure Inv (u : ℕ) (x : Row) : Prop where
  m : ∀ l, x.M (odd u) l = bmax G f (odd u) (u / 2)
  m' : ∀ l, x.M (odd (u + 1)) l = bmax G f (odd (u + 1)) ((u + 1) / 2)
  s : u / 2 ≤ D → x.S (odd u) = G (odd u) (u / 2)
  a : ∀ j, x.A (odd u) j = bsum G f V (odd u) (u / 2) j
  a' : ∀ j, x.L (odd (u + 1)) (lo j) * x.A (odd (u + 1)) j + ∑ c, x.P (odd (u + 1)) c * V (odd (u + 1)) ((u + 1) / 2 - 1) c j
    = bsum G f V (odd (u + 1)) ((u + 1) / 2) j

theorem Inv.step {u : ℕ} {x : Row} (hu : u / 2 ≤ D) (h : Inv D G f V u x) : Inv D G f V (u + 1) (rstep D G f V u x) := by
  have hne := odd_ne u
  have h2 : (u + 1 + 1) / 2 = u / 2 + 1 := by omega
  have c2 : (u + 1) / 2 - 1 ≤ D := by omega
  unfold rstep
  simp only [if_pos c2, if_pos hu]
  set x1 := if (u + 1) / 2 ≤ D then x.lg (odd (u + 1)) (G (odd (u + 1)) ((u + 1) / 2)) else x with hx1
  have eM : x1.M = x.M := by rw [hx1]; split <;> rfl
  have eA : x1.A = x.A := by rw [hx1]; split <;> rfl
  have eL : x1.L = x.L := by rw [hx1]; split <;> rfl
  have eP : x1.P = x.P := by rw [hx1]; split <;> rfl
  have eS : x1.S (odd u) = G (odd u) (u / 2) := by
    rw [hx1]; split
    · show Function.update x.S _ _ _ = _
      rw [Function.update_of_ne hne.symm, h.s hu]
    · exact h.s hu
  have eS' : (u + 1) / 2 ≤ D → x1.S (odd (u + 1)) = G (odd (u + 1)) ((u + 1) / 2) := by
    intro h1; rw [hx1, if_pos h1]; exact Function.update_self _ _ _
  have hm : ∀ l, Row.mx (x1.M (odd u)) (f (u / 2) (x1.S (odd u))) l = bmax G f (odd u) (u / 2 + 1) := by
    intro l; rw [Row.mx, eM, eS, h.m, bmax_succ]
  refine ⟨?_, ?_, ?_, ?_, ?_⟩
  · intro l
    show Function.update x1.M _ _ _ l = _
    rw [Function.update_of_ne hne, eM, h.m']
  · intro l
    rw [odd_two, h2]
    show Function.update x1.M _ _ _ l = _
    rw [Function.update_self]
    exact hm l
  · intro h1; exact eS' h1
  · intro j
    show Function.update x1.A _ _ _ j = _
    rw [Function.update_self, eL, eA, eP, h.a']
  · intro j
    rw [odd_two, h2, Nat.add_sub_cancel]
    show Function.update x1.L _ _ _ (lo j) * Function.update x1.A _ _ _ j + ∑ c, Function.update x1.P _ _ _ c * _ = _
    rw [Function.update_self, Function.update_of_ne hne.symm, Function.update_self, ← bsum_succ, eA, h.a]
    refine congrArg₂ (· + ·) ?_ (Finset.sum_congr rfl fun c _ => ?_)
    · have e := hm (lo j)
      show Ideal.exp2 (x1.M (odd u) (lo j) - Row.mx (x1.M (odd u)) (f (u / 2) (x1.S (odd u))) (lo j)) * _ = _
      rw [e, eM, h.m]
    · have e := hm (lo c)
      show Ideal.exp2 (f (u / 2) (x1.S (odd u)) c - Row.mx (x1.M (odd u)) (f (u / 2) (x1.S (odd u))) (lo c)) * _ = _
      rw [e, eS]

theorem Inv.run {x : Row} (h : Inv D G f V 0 x) : ∀ u, u ≤ 2 * D + 2 → Inv D G f V u (rrun D G f V u x)
  | 0, _ => h
  | u + 1, hu => Inv.step D G f V (by omega) (Inv.run h u (by omega))

theorem rrun_stay (x : Row) : ∀ k, rrun D G f V (2 * D + 3 + k) x = rrun D G f V (2 * D + 3) x
  | 0 => rfl
  | k + 1 => by
    show rstep D G f V (2 * D + 3 + k) (rrun D G f V (2 * D + 3 + k) x) = _
    rw [rrun_stay x k]
    unfold rstep
    simp only [if_neg (show ¬ (2 * D + 3 + k + 1) / 2 ≤ D by omega), if_neg (show ¬ (2 * D + 3 + k + 1) / 2 - 1 ≤ D by omega),
      if_neg (show ¬ (2 * D + 3 + k) / 2 ≤ D by omega)]

/-- After every unit both accumulators are the weighted sums. -/
theorem rrun_end {x : Row} (h : Inv D G f V 0 x) {U : ℕ} (hU : 2 * D + 3 ≤ U) (b : Bool) (j : Fin 256) :
    (rrun D G f V U x).A b j = bsum G f V b (D + 1) j := by
  obtain ⟨k, rfl⟩ := Nat.exists_eq_add_of_le hU
  rw [rrun_stay]
  have h1 := Inv.run D G f V h (2 * D + 2) le_rfl
  show (rstep D G f V (2 * D + 2) (rrun D G f V (2 * D + 2) x)).A b j = _
  unfold rstep
  simp only [if_neg (show ¬ (2 * D + 2 + 1) / 2 ≤ D by omega), if_pos (show (2 * D + 2 + 1) / 2 - 1 ≤ D by omega),
      if_neg (show ¬ (2 * D + 2) / 2 ≤ D by omega)]
  have o0 : odd (2 * D + 2) = false := by unfold odd; simp
  have o1 : odd (2 * D + 2 + 1) = true := by unfold odd; rw [show (2 * D + 2 + 1) % 2 = 1 by omega]; rfl
  have ha := h1.a j
  have ha' := h1.a' j
  rw [o1, show (2 * D + 2 + 1) / 2 = D + 1 by omega] at ha'
  rw [o0, show (2 * D + 2) / 2 = D + 1 by omega] at ha
  rw [o1, show (2 * D + 2 + 1) / 2 = D + 1 by omega]
  cases b
  · simp only [Row.pv]
    rw [Function.update_of_ne (by decide)]
    exact ha
  · simp only [Row.pv]
    rw [Function.update_self]
    exact ha'

end Fox

end
-- ==== Proof.Vals.lean ====
/-
  The pieces' values read entry by entry, at the extended reals.
-/
module

public import proofs.«01_k».proof.Proof.Row
public import Idealize.ShloMosaic.Lib.Pipeline.Value

@[expose] public section

noncomputable section

namespace Fox

open Idealize.ShloMosaic Idealize.ShloMosaic.ValueIdx
open scoped BigOperators

variable {α : Type}

theorem sc3_apply {n k : ℕ} (v : (S3 1 n k).Idx → α) (h) (r : Fin n) (c : Fin k) :
    shapeCast (S2 n k) v h (ix2 r c) = v (ix3 0 r c) :=
  (shapeCast_dropUnit_apply ![n, k] v h (ix2 r c)).trans (congrArg v (by
    funext a; match a with | ⟨0, _⟩ => rfl | ⟨1, _⟩ => rfl | ⟨2, _⟩ => rfl))

theorem sc2_apply {n k : ℕ} (v : (S2 n k).Idx → α) (h) (a : Fin 1) (r : Fin n) (c : Fin k) :
    shapeCast (S3 1 n k) v h (ix3 a r c) = v (ix2 r c) :=
  (shapeCast_addUnit_apply ![n, k] v h (ix3 a r c)).trans (congrArg v (by
    funext a; match a with | ⟨0, _⟩ => rfl | ⟨1, _⟩ => rfl))

abbrev up (j : Fin 128) : Fin 256 := ⟨128 + j.val, by omega⟩
abbrev dn (j : Fin 128) : Fin 256 := ⟨j.val, by omega⟩

variable {φ : FTy}

theorem cat_dn (n : ℕ) (x y : FVec Ideal (S2 n 128) φ) (r : Fin n) (j : Fin 128) : cat n x y (ix2 r (dn j)) = x (ix2 r j) :=
  concatenate_pair_apply_left (t := S2 n 256) 1 x y (cat2 n) (ix2 r (dn j)) rfl (ix2 r j) fun b => by
    match b with | ⟨0, _⟩ => rfl | ⟨1, _⟩ => rfl

theorem cat_up (n : ℕ) (x y : FVec Ideal (S2 n 128) φ) (r : Fin n) (j : Fin 128) : cat n x y (ix2 r (up j)) = y (ix2 r j) :=
  concatenate_pair_apply_right (t := S2 n 256) 1 x y (cat2 n) (ix2 r (up j)) rfl rfl (ix2 r j)
    (fun b hb => by
      match b with
      | ⟨0, _⟩ => rfl
      | ⟨1, _⟩ => exact absurd rfl hb)
    (by show j.val + 128 = 128 + j.val; omega)

theorem cat_same (n : ℕ) (x : FVec Ideal (S2 n 128) φ) (r : Fin n) (j : Fin 256) : cat n x x (ix2 r j) = x (ix2 r (lo j)) := by
  rcases lt_or_ge j.val 128 with h | h
  · have e : j = dn ⟨j.val, h⟩ := Fin.ext rfl
    have e' : lo j = ⟨j.val, h⟩ := Fin.ext (Nat.mod_eq_of_lt h)
    rw [e', ← cat_dn n x x]
  · have e : j = up ⟨j.val - 128, by omega⟩ := Fin.ext (by show j.val = 128 + (j.val - 128); omega)
    have e' : lo j = ⟨j.val - 128, by omega⟩ := Fin.ext (by show j.val % 128 = j.val - 128; omega)
    rw [e', ← cat_up n x x, ← e]

theorem sum_halves (f : Fin 256 → EReal) : ∑ j, f j = ∑ j : Fin 128, f (dn j) + ∑ j : Fin 128, f (up j) :=
  Fin.sum_univ_add (a := 128) (b := 128) f

theorem zero_apply {s : Shape} (i : s.Idx) : (constant (F := Ideal) s .f32 0x00000000#32) i = 0 := Ideal.ofBits_zero_f32

theorem lgV_apply (n : ℕ) (q : FVec Ideal (S2 n 256) .bf16) (k kx : FVec Ideal (S3 1 256 128) .bf16) (r : Fin n) (c : Fin 256) :
    lgV n q k kx (ix2 r c)
      = ∑ j : Fin 128, q (ix2 r (dn j)) * k (ix3 0 c j) + ∑ j : Fin 128, q (ix2 r (up j)) * kx (ix3 0 c j) := by
  unfold lgV
  rw [shapeCast_self]
  refine (Ideal.matmul_transposedRhs_apply none _ _ _ r c).trans ?_
  rw [zero_apply, zero_add, sum_halves]
  simp only [cat_dn, cat_up, sc3_apply]

theorem pvV_apply (n : ℕ) (al : FVec Ideal (S3 1 n 128) .f32) (ac : FVec Ideal (S3 1 n 256) .f32) (p : FVec Ideal (S2 n 256) .bf16)
    (v : FVec Ideal (S3 1 256 128) .bf16) (ones : FVec Ideal (S2 256 128) .bf16) (a : Fin 1) (r : Fin n) (j : Fin 256) :
    pvV n al ac p v ones (ix3 a r j) = al (ix3 0 r (lo j)) * ac (ix3 0 r j)
      + ∑ c : Fin 256, p (ix2 r c) * cat 256 (shapeCast (S2 256 128) v (sc3 256 128)) ones (ix2 c j) := by
  unfold pvV
  rw [sc2_apply, addf_apply, mulf_apply, cat_same, sc3_apply, sc3_apply]
  refine congrArg (_ + ·) ((Ideal.matmul_plain_apply none _ _ _ r j).trans ?_)
  rw [zero_apply, zero_add]

theorem fold_max_sup {ι : Type*} (s : Finset ι) (f : ι → EReal) : s.fold max ⊥ f = s.sup f := rfl

theorem ofBits_bot : Ideal.ofBits .f32 0xFF800000#32 = ⊥ := by simp [Ideal.ofBits, Ideal.ieee]

theorem mxV_apply (n : ℕ) (m : FVec Ideal (S3 1 n 128) .f32) (s : FVec Ideal (S2 n 256) .f32) (r : Fin n) (l : Fin 128) :
    mxV n m s (ix2 r l) = max (m (ix3 0 r l)) (Finset.univ.sup fun c : Fin 256 => s (ix2 r c)) := by
  unfold mxV
  rw [maximumf_apply, sc3_apply]
  refine congrArg (max _) ?_
  refine (broadcastTo_apply _ (bc1 n) (ix2 r l) (ix2 r 0) fun a => ?_).trans ?_
  · match a with
    | ⟨0, _⟩ =>
      show r.val = if n = 1 then 0 else r.val
      split
      · have := r.isLt; omega
      · rfl
    | ⟨1, _⟩ => rfl
  refine (shapeCast_apply _ (sc1 n) (ix2 r 0) (ix1 r) ?_).trans ?_
  · rw [Shape.rowMajor_val_one, Shape.rowMajor_val_two]
    show r.val = r.val * 1 + 0
    omega
  refine (Ideal.multiReduction_maximumf_single s _ (red1 n) _ rfl (ix1 r)).trans ?_
  show Finset.univ.fold max (Ideal.ofBits .f32 0xFF800000#32) _ = _
  rw [ofBits_bot, fold_max_sup]
  refine Finset.sup_congr rfl fun c _ => congrArg s ?_
  funext a; match a with | ⟨0, _⟩ => rfl | ⟨1, _⟩ => rfl

theorem alV_apply (n : ℕ) (m : FVec Ideal (S3 1 n 128) .f32) (mn : FVec Ideal (S2 n 128) .f32) (a : Fin 1) (r : Fin n) (l : Fin 128) :
    alV n m mn (ix3 a r l) = Ideal.exp2 (m (ix3 0 r l) - mn (ix2 r l)) := by
  unfold alV
  rw [sc2_apply]
  show Ideal.exp2 (shapeCast (S2 n 128) m (sc3 n 128) (ix2 r l) - mn (ix2 r l)) = _
  rw [sc3_apply]

theorem pV_apply (n : ℕ) (s : FVec Ideal (S2 n 256) .f32) (mn : FVec Ideal (S2 n 128) .f32) (r : Fin n) (c : Fin 256) :
    pV n s mn (ix2 r c) = Ideal.exp2 (s (ix2 r c) - mn (ix2 r (lo c))) := by
  unfold pV
  rw [shapeCast_self]
  show Ideal.exp2 (s (ix2 r c) - cat n mn mn (ix2 r c)) = _
  rw [cat_same]

theorem qrow_apply (q : FVec Ideal (S2 2048 256) .bf16) (ρ : ℕ) (h : ρ < 8) (r : Fin (2048 - 256 * ρ)) (j : Fin 256) :
    qrow q ρ h (ix2 r j) = q (ix2 ⟨256 * ρ + r.val, by have := r.isLt; omega⟩ j) := by
  match ρ with
  | 0 => exact congrArg q (by funext a; match a with | ⟨0, _⟩ => exact Fin.ext (by show r.val = 256 * 0 + r.val; omega) | ⟨1, _⟩ => rfl)
  | ρ + 1 =>
    refine extractStridedSlice_apply _ q (slr (ρ + 1) h) _ _ fun a => ?_
    match a with
    | ⟨0, _⟩ => rfl
    | ⟨1, _⟩ => show j.val = 0 + j.val; omega

theorem diagI_apply (r : Fin 2048) (c : Fin 256) : diagI (ix2 r c) = BitVec.ofBool (decide (c.val ≤ r.val)) := by
  unfold diagI
  show IntOp.cmpi .sle (iota .tc (S2 2048 256) 32 [1] _ (ix2 r c)) (iota .tc (S2 2048 256) 32 [0] _ (ix2 r c)) = _
  rw [iota_single_apply, iota_single_apply]
  show BitVec.ofBool ((BitVec.ofNat 32 c.val).sle (BitVec.ofNat 32 r.val)) = _
  have h1 : (BitVec.ofNat 32 c.val).toInt = c.val := by
    rw [BitVec.toInt_eq_toNat_of_lt] <;> rw [BitVec.toNat_ofNat] <;> omega
  have h2 : (BitVec.ofNat 32 r.val).toInt = r.val := by
    rw [BitVec.toInt_eq_toNat_of_lt] <;> rw [BitVec.toNat_ofNat] <;> omega
  rw [BitVec.sle, h1, h2]
  simp

theorem select_ofBool (p : Prop) [Decidable p] (a b : α) : Scalar.select (BitVec.ofBool (decide p)) a b = if p then a else b := by
  by_cases h : p <;> simp [h, select_one, select_zero]

theorem dmask_apply (mk : EReal) (ρ : ℕ) (h : ρ < 8) (s : FVec Ideal (S2 (2048 - 256 * ρ) 256) .f32) (r : Fin (2048 - 256 * ρ))
    (c : Fin 256) : dmask (F := Ideal) mk diagI ρ h s (ix2 r c) = if c.val ≤ r.val then s (ix2 r c) else mk := by
  match ρ with
  | 0 =>
    show Scalar.select (diagI (ix2 r c)) (s (ix2 r c)) mk = _
    rw [← select_ofBool]
    exact congrArg (fun z => Scalar.select z (s (ix2 r c)) mk) (diagI_apply r c)
  | ρ + 1 =>
    show Scalar.select (extractStridedSlice _ _ diagI _ (ix2 r c)) (s (ix2 r c)) mk = _
    rw [extractStridedSlice_apply (s := S2 2048 256) _ diagI (slm (ρ + 1) h) (ix2 r c) (ix2 ⟨r.val, by have := r.isLt; omega⟩ c) (fun a => by
      match a with
      | ⟨0, _⟩ => show r.val = 0 + r.val; omega
      | ⟨1, _⟩ => show c.val = 0 + c.val; omega), diagI_apply, select_ofBool]

theorem outV_apply (x : FVec Ideal (S3 1 2048 256) .f32) (a : Fin 1) (r : Fin 2048) (j : Fin 128) :
    outV x (ix3 a r j) = Ideal.div (x (ix3 0 r (dn j))) (x (ix3 0 r (up j))) := by
  unfold outV
  rw [sc2_apply, truncf_apply, divf_apply]
  rw [extractStridedSlice_apply (s := S2 2048 256) _ _ (slh 0 (.inl rfl)) (ix2 r j) (ix2 r (dn j)) (fun a => by
      match a with
      | ⟨0, _⟩ => show r.val = 0 + r.val; omega
      | ⟨1, _⟩ => show j.val = 0 + j.val; omega),
    extractStridedSlice_apply (s := S2 2048 256) _ _ (slh 128 (.inr rfl)) (ix2 r j) (ix2 r (up j)) (fun a => by
      match a with
      | ⟨0, _⟩ => show r.val = 0 + r.val; omega
      | ⟨1, _⟩ => rfl), sc3_apply, sc3_apply]

theorem lane8_apply (r : Fin 2048) (l : Fin 128) : lane8 (ix2 r l) = BitVec.ofNat 32 (l.val / 8) := by
  have e : ∀ κ h, iota κ (S2 2048 128) 32 [1] h (ix2 r l) = BitVec.ofNat 32 l.val := fun κ h => iota_single_apply ..
  unfold lane8
  simp only [select_apply, subi, andi, cmpi, extui, divsi, remsi, broadcast, e]
  clear e
  revert l
  decide

theorem zero16 : Ideal.ofBits .bf16 0x0000#16 = 0 := by simp [Ideal.ofBits, Ideal.ieee]
theorem one16 : Ideal.ofBits .bf16 0x3F80#16 = 1 := by simp [Ideal.ofBits, Ideal.ieee, -EReal.coe_mul]; norm_num
theorem one32 : Ideal.ofBits .f32 0x3F800000#32 = 1 := by simp [Ideal.ofBits, Ideal.ieee, -EReal.coe_mul]; norm_num
theorem zero32 : Ideal.ofBits .f32 0x00000000#32 = 0 := Ideal.ofBits_zero_f32

theorem qV_dn (x q : FVec Ideal (S3 1 2048 128) .bf16) (h : BitVec 32) (r : Fin 2048) (j : Fin 128) :
    qV x q h (ix2 r (dn j)) = q (ix3 0 r j) := by
  unfold qV; rw [cat_dn, sc3_apply]

theorem qV_up (x q : FVec Ideal (S3 1 2048 128) .bf16) (h : BitVec 32) (r : Fin 2048) (j : Fin 128) :
    qV x q h (ix2 r (up j)) = if BitVec.ofNat 32 (j.val / 8) = h then x (ix3 0 r j) else 0 := by
  unfold qV
  rw [cat_up, select_apply, sc3_apply]
  show Scalar.select (BitVec.ofBool (lane8 (ix2 r j) == h)) _ (Ideal.ofBits .bf16 0x0000#16) = _
  rw [lane8_apply, zero16]
  by_cases e : BitVec.ofNat 32 (j.val / 8) = h
  · rw [if_pos e, show (BitVec.ofNat 32 (j.val / 8) == h) = true from beq_iff_eq.mpr e]; rfl
  · rw [if_neg e, show (BitVec.ofNat 32 (j.val / 8) == h) = false from beq_eq_false_iff_ne.mpr e]; rfl

end Fox

end
-- ==== Proof.Pieces.lean ====
/-
  What each piece of the forgetting attention leaves in one row, at the extended reals.
-/
module

public import proofs.«01_k».proof.Proof.Vals
public import proofs.«01_k».proof.Proof.State

@[expose] public section

noncomputable section

namespace Fox

open Idealize.ShloMosaic Idealize.ShloMosaic.ValueIdx Idealize.ShloMosaic.TcCoe
open Idealize.SL Idealize.SL.RA Idealize.SL.BI Idealize.SL.Sem
open scoped BigOperators

variable {α : Type}

abbrev hf (b : Bool) : Fin 2 := cond b 1 0

theorem hf_val (b : Bool) : (hf b).val = hd b := by cases b <;> rfl
theorem hf_inj {b b' : Bool} (h : hd b = hd b') : b = b' := by cases b <;> cases b' <;> first | rfl | exact absurd h (by decide)

/-! ## Rows of a block replaced -/

theorem unit_val {s : Shape} (off size : Fin s.rank → ℕ) (inb) (j : (Rect.unit (s := s) off size inb).shape.Idx) (a : Fin s.rank) :
    ((Rect.unit (s := s) off size inb).idx j a : ℕ) = off a + 1 * (j a).val := rfl

theorem upd2_in {k : ℕ} (ρ : ℕ) (inb) (w : (S2 (2048 - 256 * ρ) k).Idx → α) (X : (S2 2048 k).Idx → α) (r : Fin 2048) (c : Fin k)
    (hr : 256 * ρ ≤ r.val) :
    upd (Rect.unit (s := S2 2048 k) ![256 * ρ, 0] ![2048 - 256 * ρ, k] inb) w X (ix2 r c)
      = w (ix2 ⟨r.val - 256 * ρ, by have := r.isLt; omega⟩ c) := by
  have e : (Rect.unit (s := S2 2048 k) ![256 * ρ, 0] ![2048 - 256 * ρ, k] inb).idx (ix2 ⟨r.val - 256 * ρ, by have := r.isLt; omega⟩ c) = ix2 r c := by
    funext a
    match a with
    | ⟨0, _⟩ => exact Fin.ext (by rw [unit_val]; show 256 * ρ + 1 * (r.val - 256 * ρ) = r.val; omega)
    | ⟨1, _⟩ => exact Fin.ext (by rw [unit_val]; show 0 + 1 * c.val = c.val; omega)
  rw [← e, upd_idx]

theorem upd2_out {k : ℕ} (ρ : ℕ) (inb) (w : (S2 (2048 - 256 * ρ) k).Idx → α) (X : (S2 2048 k).Idx → α) (r : Fin 2048) (c : Fin k)
    (hr : ¬ 256 * ρ ≤ r.val) :
    upd (Rect.unit (s := S2 2048 k) ![256 * ρ, 0] ![2048 - 256 * ρ, k] inb) w X (ix2 r c) = X (ix2 r c) := by
  refine upd_off _ _ _ fun x hx => hr ?_
  have h := congrArg Fin.val (congrFun hx 0)
  rw [unit_val] at h
  have h' : 256 * ρ + 1 * (x 0).val = r.val := h
  omega

theorem upd3_in {k : ℕ} (b : Bool) (ρ : ℕ) (inb) (w : (S3 1 (2048 - 256 * ρ) k).Idx → α) (X : (S3 2 2048 k).Idx → α) (r : Fin 2048)
    (c : Fin k) (hr : 256 * ρ ≤ r.val) :
    upd (Rect.unit (s := S3 2 2048 k) ![hd b, 256 * ρ, 0] ![1, 2048 - 256 * ρ, k] inb) w X (ix3 (hf b) r c)
      = w (ix3 0 ⟨r.val - 256 * ρ, by have := r.isLt; omega⟩ c) := by
  have e : (Rect.unit (s := S3 2 2048 k) ![hd b, 256 * ρ, 0] ![1, 2048 - 256 * ρ, k] inb).idx
      (ix3 0 ⟨r.val - 256 * ρ, by have := r.isLt; omega⟩ c) = ix3 (hf b) r c := by
    funext a
    match a with
    | ⟨0, _⟩ => exact Fin.ext (by rw [unit_val]; show hd b + 1 * 0 = (hf b).val; rw [hf_val]; omega)
    | ⟨1, _⟩ => exact Fin.ext (by rw [unit_val]; show 256 * ρ + 1 * (r.val - 256 * ρ) = r.val; omega)
    | ⟨2, _⟩ => exact Fin.ext (by rw [unit_val]; show 0 + 1 * c.val = c.val; omega)
  rw [← e, upd_idx]

theorem upd3_out {k : ℕ} (b b' : Bool) (ρ : ℕ) (inb) (w : (S3 1 (2048 - 256 * ρ) k).Idx → α) (X : (S3 2 2048 k).Idx → α)
    (r : Fin 2048) (c : Fin k) (hr : ¬ (b' = b ∧ 256 * ρ ≤ r.val)) :
    upd (Rect.unit (s := S3 2 2048 k) ![hd b, 256 * ρ, 0] ![1, 2048 - 256 * ρ, k] inb) w X (ix3 (hf b') r c) = X (ix3 (hf b') r c) := by
  refine upd_off _ _ _ fun x hx => hr ?_
  have h := congrArg Fin.val (congrFun hx 1)
  have g := congrArg Fin.val (congrFun hx 0)
  rw [unit_val] at h g
  have h' : 256 * ρ + 1 * (x 1).val = r.val := h
  have g' : hd b + 1 * (x 0).val = (hf b').val := g
  have x0 : (x 0).val < 1 := (x 0).isLt
  rw [hf_val] at g'
  exact ⟨hf_inj (by omega), by omega⟩

theorem rd2 {k : ℕ} (ρ : ℕ) (inb) (X : (S2 2048 k).Idx → α) (r : Fin (2048 - 256 * ρ)) (c : Fin k) (r' : Fin 2048) (hr : r'.val = 256 * ρ + r.val) :
    X ((Rect.unit (s := S2 2048 k) ![256 * ρ, 0] ![2048 - 256 * ρ, k] inb).idx (ix2 r c)) = X (ix2 r' c) := by
  congr 1
  funext a
  match a with
  | ⟨0, _⟩ => exact Fin.ext (by rw [unit_val]; show 256 * ρ + 1 * r.val = r'.val; omega)
  | ⟨1, _⟩ => exact Fin.ext (by rw [unit_val]; show 0 + 1 * c.val = c.val; omega)

theorem rd3 {k : ℕ} (b : Bool) (ρ : ℕ) (inb) (X : (S3 2 2048 k).Idx → α) (r : Fin (2048 - 256 * ρ)) (c : Fin k) (r' : Fin 2048)
    (hr : r'.val = 256 * ρ + r.val) :
    X ((Rect.unit (s := S3 2 2048 k) ![hd b, 256 * ρ, 0] ![1, 2048 - 256 * ρ, k] inb).idx (ix3 0 r c)) = X (ix3 (hf b) r' c) := by
  congr 1
  funext a
  match a with
  | ⟨0, _⟩ => exact Fin.ext (by rw [unit_val]; show hd b + 1 * 0 = (hf b).val; rw [hf_val]; omega)
  | ⟨1, _⟩ => exact Fin.ext (by rw [unit_val]; show 256 * ρ + 1 * r.val = r'.val; omega)
  | ⟨2, _⟩ => exact Fin.ext (by rw [unit_val]; show 0 + 1 * c.val = c.val; omega)

/-- A block of keys or values read. -/
theorem rdk {W : ℕ} (o : Fin 3 → ℕ) (inb : ∀ a, o a + (![1, 256, 128] : Fin 3 → ℕ) a ≤ (S3 1 8192 W).size a) (X : (S3 1 8192 W).Idx → α)
    (c : Fin 256) (j : Fin 128) (c' : Fin 8192) (j' : Fin W) (h1 : c'.val = o 1 + c.val) (h2 : j'.val = o 2 + j.val) :
    X ((Rect.unit (s := S3 1 8192 W) o ![1, 256, 128] inb).idx (ix3 0 c j)) = X (ix3 0 c' j') := by
  congr 1
  funext a
  match a with
  | ⟨0, _⟩ => exact Subsingleton.elim (α := Fin 1) _ _
  | ⟨1, _⟩ => exact Fin.ext (by rw [unit_val]; show o 1 + 1 * c.val = c'.val; omega)
  | ⟨2, _⟩ => exact Fin.ext (by rw [unit_val]; show o 2 + 1 * j.val = j'.val; omega)

/-! ## A row -/

abbrev SI := St Ideal fam

def rowOf (σ : SI) (r : Fin 2048) : Row where
  S b c := σ (Bu.s b) (ix2 r c)
  P b c := σ (Bu.p b) (ix2 r c)
  A b j := σ Bu.ac (ix3 (hf b) r j)
  M b l := σ Bu.mx (ix3 (hf b) r l)
  L b l := σ Bu.al (ix3 (hf b) r l)

variable {nD : Nat} {τ : Topo} {sig : RefSig} {Λ : Labels} {R : Refs sig fam}

theorem lgA_in (b : Bool) (ρ : ℕ) (h : ρ < 8) (q : FVec Ideal (S2 2048 256) .bf16) (ko xo : Fin 3 → ℕ) (hk hx) (σ : SI) (r : Fin 2048)
    (hr : 256 * ρ ≤ r.val) :
    rowOf ((lgA (nD := nD) (τ := τ) (Λ := Λ) R b ρ h q ko xo hk hx).run σ).2 r
      = (rowOf σ r).lg b fun c => ∑ j : Fin 128, q (ix2 r (dn j)) * σ Bu.k ((Rect.unit (s := S3 1 8192 256) ko ![1, 256, 128] hk).idx (ix3 0 c j))
          + ∑ j : Fin 128, q (ix2 r (up j)) * σ Bu.kx ((Rect.unit (s := S3 1 8192 128) xo ![1, 256, 128] hx).idx (ix3 0 c j)) := by
  refine Row.ext ?_ rfl rfl rfl rfl
  funext b' c
  by_cases hb : b' = b
  · subst hb
    show Function.update σ (Bu.s b') _ (Bu.s b') (ix2 r c) = Function.update (rowOf σ r).S b' _ b' c
    rw [Function.update_self, Function.update_self]
    refine (upd2_in ρ _ _ _ r c hr).trans ?_
    rw [lgV_apply]
    simp only [qrow_apply]
    have e : (⟨256 * ρ + (r.val - 256 * ρ), by have := r.isLt; omega⟩ : Fin 2048) = r := Fin.ext (by show 256 * ρ + (r.val - 256 * ρ) = _; omega)
    rw [e]
    rfl
  · show Function.update σ (Bu.s b) _ (Bu.s b') (ix2 r c) = Function.update (rowOf σ r).S b _ b' c
    rw [Function.update_of_ne (fun e => hb (Bu.s.inj e)), Function.update_of_ne hb]
    rfl

theorem lgA_out (b : Bool) (ρ : ℕ) (h : ρ < 8) (q : FVec Ideal (S2 2048 256) .bf16) (ko xo : Fin 3 → ℕ) (hk hx) (σ : SI) (r : Fin 2048)
    (hr : ¬ 256 * ρ ≤ r.val) :
    rowOf ((lgA (nD := nD) (τ := τ) (Λ := Λ) R b ρ h q ko xo hk hx).run σ).2 r = rowOf σ r := by
  refine Row.ext ?_ rfl rfl rfl rfl
  funext b' c
  show Function.update σ (Bu.s b) _ (Bu.s b') (ix2 r c) = _
  by_cases hb : b' = b
  · subst hb
    rw [Function.update_self]
    exact upd2_out ρ _ _ _ r c hr
  · rw [Function.update_of_ne (fun e => hb (Bu.s.inj e))]
    rfl

theorem pvA_run (b : Bool) (ρ : ℕ) (h : ρ < 8) (ones : FVec Ideal (S2 256 128) .bf16) (vo : Fin 3 → ℕ) (hv) (σ : SI) :
    ((pvA (nD := nD) (τ := τ) (Λ := Λ) R b ρ h ones vo hv).run σ).2
      = Function.update σ Bu.ac (upd (Rect.unit (s := S3 2 2048 256) ![hd b, 256 * ρ, 0] ![1, 2048 - 256 * ρ, 256] (inb3 b 256 ρ h))
          (pvV (2048 - 256 * ρ)
            (fun x => σ Bu.al ((Rect.unit (s := S3 2 2048 128) ![hd b, 256 * ρ, 0] ![1, 2048 - 256 * ρ, 128] (inb3 b 128 ρ h)).idx x))
            (fun x => σ Bu.ac ((Rect.unit (s := S3 2 2048 256) ![hd b, 256 * ρ, 0] ![1, 2048 - 256 * ρ, 256] (inb3 b 256 ρ h)).idx x))
            (fun x => σ (Bu.p b) ((Rect.unit (s := S2 2048 256) ![256 * ρ, 0] ![2048 - 256 * ρ, 256] (inb2 ρ h)).idx x))
            (fun x => σ Bu.v ((Rect.unit (s := S3 1 8192 256) vo ![1, 256, 128] hv).idx x)) ones) (σ Bu.ac)) := rfl

theorem pvA_in (b : Bool) (ρ : ℕ) (h : ρ < 8) (ones : FVec Ideal (S2 256 128) .bf16) (vo : Fin 3 → ℕ) (hv) (σ : SI) (r : Fin 2048)
    (hr : 256 * ρ ≤ r.val) (v : Fin 256 → Fin 256 → EReal)
    (hvv : ∀ c j, cat (F := Ideal) (φ := .bf16) 256 (fun i => σ Bu.v ((Rect.unit (s := S3 1 8192 256) vo ![1, 256, 128] hv).idx (ix3 0 (i 0) (i 1)))) ones (ix2 c j) = v c j) :
    rowOf ((pvA (nD := nD) (τ := τ) (Λ := Λ) R b ρ h ones vo hv).run σ).2 r = (rowOf σ r).pv b v := by
  rw [pvA_run]
  refine Row.ext rfl rfl ?_ rfl rfl
  funext b' j
  simp only [rowOf, Row.pv]
  rw [Function.update_self]
  by_cases hb : b' = b
  · subst hb
    rw [Function.update_self]
    refine (upd3_in b' ρ _ _ _ r j hr).trans ?_
    rw [pvV_apply]
    have hr' : r.val = 256 * ρ + (r.val - 256 * ρ) := by omega
    refine congrArg₂ (· + ·) (congrArg₂ (· * ·) ?_ ?_) (Finset.sum_congr rfl fun c _ => congrArg₂ (· * ·) ?_ ?_)
    · exact rd3 b' ρ _ (σ Bu.al) _ (lo j) r hr'
    · exact rd3 b' ρ _ (σ Bu.ac) _ j r hr'
    · exact rd2 ρ _ (σ (Bu.p b')) _ c r hr'
    · rw [← hvv]
      refine congrArg (fun z => cat (F := Ideal) (φ := .bf16) 256 z ones (ix2 c j)) ?_
      funext i
      exact (congrArg _ (eq_ix2 i)).trans (sc3_apply (n := 256) (k := 128) _ _ (i 0) (i 1))
  · rw [Function.update_of_ne hb]
    exact upd3_out b b' ρ _ _ _ r j fun e => hb e.1

theorem pvA_out (b : Bool) (ρ : ℕ) (h : ρ < 8) (ones : FVec Ideal (S2 256 128) .bf16) (vo : Fin 3 → ℕ) (hv) (σ : SI) (r : Fin 2048)
    (hr : ¬ 256 * ρ ≤ r.val) :
    rowOf ((pvA (nD := nD) (τ := τ) (Λ := Λ) R b ρ h ones vo hv).run σ).2 r = rowOf σ r := by
  rw [pvA_run]
  refine Row.ext rfl rfl ?_ rfl rfl
  funext b' j
  simp only [rowOf]
  rw [Function.update_self]
  exact upd3_out b b' ρ _ _ _ r j fun e => hr e.2

/-- What the softmax's step leaves in the buffers. -/
def smS (b : Bool) (ρ : ℕ) (h : ρ < 8) (f : FVec Ideal (S2 (2048 - 256 * ρ) 256) .f32 → FVec Ideal (S2 (2048 - 256 * ρ) 256) .f32) (σ : SI) :
    FVec Ideal (S3 1 (2048 - 256 * ρ) 128) .f32 × FVec Ideal (S2 (2048 - 256 * ρ) 256) .f32 :=
  ⟨fun x => σ Bu.mx ((Rect.unit (s := S3 2 2048 128) ![hd b, 256 * ρ, 0] ![1, 2048 - 256 * ρ, 128] (inb3 b 128 ρ h)).idx x),
   f fun x => σ (Bu.s b) ((Rect.unit (s := S2 2048 256) ![256 * ρ, 0] ![2048 - 256 * ρ, 256] (inb2 ρ h)).idx x)⟩

theorem smA_run (hp : ∀ b, (R (.p b)).IsWhole) (b : Bool) (ρ : ℕ) (h : ρ < 8)
    (f : FVec Ideal (S2 (2048 - 256 * ρ) 256) .f32 → FVec Ideal (S2 (2048 - 256 * ρ) 256) .f32) (σ : SI) :
    ((smA (nD := nD) (τ := τ) (Λ := Λ) R hp b ρ h f).run σ).2
      = Function.update (Function.update (Function.update σ Bu.mx
          (upd (Rect.unit (s := S3 2 2048 128) ![hd b, 256 * ρ, 0] ![1, 2048 - 256 * ρ, 128] (inb3 b 128 ρ h))
            (shapeCast (S3 1 (2048 - 256 * ρ) 128) (mxV (2048 - 256 * ρ) (smS b ρ h f σ).1 (smS b ρ h f σ).2) (sc2 (2048 - 256 * ρ) 128)) (σ Bu.mx)))
          Bu.al (upd (Rect.unit (s := S3 2 2048 128) ![hd b, 256 * ρ, 0] ![1, 2048 - 256 * ρ, 128] (inb3 b 128 ρ h))
            (alV (2048 - 256 * ρ) (smS b ρ h f σ).1 (mxV (2048 - 256 * ρ) (smS b ρ h f σ).1 (smS b ρ h f σ).2)) (σ Bu.al)))
          (Bu.p b) (upd (Rect.unit (s := S2 2048 256) ![256 * ρ, 0] ![2048 - 256 * ρ, 256] (inb2 ρ h))
            (pV (2048 - 256 * ρ) (smS b ρ h f σ).2 (mxV (2048 - 256 * ρ) (smS b ρ h f σ).1 (smS b ρ h f σ).2)) (σ (Bu.p b))) := rfl

theorem smA_in (hp : ∀ b, (R (.p b)).IsWhole) (b : Bool) (ρ : ℕ) (h : ρ < 8)
    (f : FVec Ideal (S2 (2048 - 256 * ρ) 256) .f32 → FVec Ideal (S2 (2048 - 256 * ρ) 256) .f32) (σ : SI) (r : Fin 2048)
    (hr : 256 * ρ ≤ r.val) (g : (Fin 256 → EReal) → Fin 256 → EReal)
    (hg : ∀ s, (fun c => f s (ix2 (⟨r.val - 256 * ρ, by have := r.isLt; omega⟩ : Fin (2048 - 256 * ρ)) c))
      = g fun c => s (ix2 (⟨r.val - 256 * ρ, by have := r.isLt; omega⟩ : Fin (2048 - 256 * ρ)) c)) :
    rowOf ((smA (nD := nD) (τ := τ) (Λ := Λ) R hp b ρ h f).run σ).2 r = (rowOf σ r).sm b g := by
  rw [smA_run]
  have hr' : r.val = 256 * ρ + (r.val - 256 * ρ) := by omega
  have e1 : ∀ l : Fin 128, (smS b ρ h f σ).1 (ix3 0 ⟨r.val - 256 * ρ, by have := r.isLt; omega⟩ l) = (rowOf σ r).M b l := fun l =>
    rd3 b ρ _ (σ Bu.mx) _ l r hr'
  have e2 : (fun c => (smS b ρ h f σ).2 (ix2 (⟨r.val - 256 * ρ, by have := r.isLt; omega⟩ : Fin (2048 - 256 * ρ)) c)) = g ((rowOf σ r).S b) := by
    refine (hg _).trans (congrArg g ?_)
    funext c
    exact rd2 ρ _ (σ (Bu.s b)) _ c r hr'
  have e3 : ∀ l : Fin 128, mxV (2048 - 256 * ρ) (smS b ρ h f σ).1 (smS b ρ h f σ).2 (ix2 ⟨r.val - 256 * ρ, by have := r.isLt; omega⟩ l)
      = Row.mx ((rowOf σ r).M b) (g ((rowOf σ r).S b)) l := by
    intro l; rw [mxV_apply, e1, e2]; rfl
  refine Row.ext ?_ ?_ ?_ ?_ ?_
  · funext b' c
    simp only [rowOf, Row.sm]
    rw [Function.update_of_ne (by simp), Function.update_of_ne (by simp), Function.update_of_ne (by simp)]
  · funext b' c
    simp only [rowOf, Row.sm]
    by_cases hb : b' = b
    · subst hb
      rw [Function.update_self, Function.update_self]
      refine (upd2_in ρ _ _ _ r c hr).trans ?_
      rw [pV_apply, e3]
      exact congrArg (fun z => Ideal.exp2 (z - _)) (congrFun e2 c)
    · rw [Function.update_of_ne (fun e => hb (Bu.p.inj e)), Function.update_of_ne hb, Function.update_of_ne (by simp), Function.update_of_ne (by simp)]
  · funext b' c
    simp only [rowOf, Row.sm]
    rw [Function.update_of_ne (by simp), Function.update_of_ne (by simp), Function.update_of_ne (by simp)]
  · funext b' l
    simp only [rowOf, Row.sm]
    rw [Function.update_of_ne (by simp), Function.update_of_ne (by simp), Function.update_self]
    by_cases hb : b' = b
    · subst hb
      rw [Function.update_self]
      refine (upd3_in b' ρ _ _ _ r l hr).trans ?_
      rw [sc2_apply, e3]
      rfl
    · rw [Function.update_of_ne hb]
      exact upd3_out b b' ρ _ _ _ r l fun e => hb e.1
  · funext b' l
    simp only [rowOf, Row.sm]
    rw [Function.update_of_ne (by simp), Function.update_self]
    by_cases hb : b' = b
    · subst hb
      rw [Function.update_self]
      refine (upd3_in b' ρ _ _ _ r l hr).trans ?_
      rw [alV_apply, e3, e1]
      rfl
    · rw [Function.update_of_ne hb]
      exact upd3_out b b' ρ _ _ _ r l fun e => hb e.1

theorem smA_out (hp : ∀ b, (R (.p b)).IsWhole) (b : Bool) (ρ : ℕ) (h : ρ < 8)
    (f : FVec Ideal (S2 (2048 - 256 * ρ) 256) .f32 → FVec Ideal (S2 (2048 - 256 * ρ) 256) .f32) (σ : SI) (r : Fin 2048)
    (hr : ¬ 256 * ρ ≤ r.val) :
    rowOf ((smA (nD := nD) (τ := τ) (Λ := Λ) R hp b ρ h f).run σ).2 r = rowOf σ r := by
  rw [smA_run]
  refine Row.ext ?_ ?_ ?_ ?_ ?_
  · funext b' c
    simp only [rowOf]
    rw [Function.update_of_ne (by simp), Function.update_of_ne (by simp), Function.update_of_ne (by simp)]
  · funext b' c
    simp only [rowOf]
    by_cases hb : b' = b
    · subst hb
      rw [Function.update_self]
      exact upd2_out ρ _ _ _ r c hr
    · rw [Function.update_of_ne (fun e => hb (Bu.p.inj e)), Function.update_of_ne (by simp), Function.update_of_ne (by simp)]
  · funext b' c
    simp only [rowOf]
    rw [Function.update_of_ne (by simp), Function.update_of_ne (by simp), Function.update_of_ne (by simp)]
  · funext b' l
    simp only [rowOf]
    rw [Function.update_of_ne (by simp), Function.update_of_ne (by simp), Function.update_self]
    exact upd3_out b b' ρ _ _ _ r l fun e => hr e.2
  · funext b' l
    simp only [rowOf]
    rw [Function.update_of_ne (by simp), Function.update_self]
    exact upd3_out b b' ρ _ _ _ r l fun e => hr e.2

end Fox

end
-- ==== Proof.Whole.lean ====
/-
  The forgetting attention's body on one row: its units in order are the row's, so each accumulator ends at the weighted
  sum over the row's blocks, and the result is the weighted values over the weights' sum.
-/
module

public import proofs.«01_k».proof.Proof.Pieces

@[expose] public section

noncomputable section

namespace Fox

open Idealize.ShloMosaic Idealize.ShloMosaic.ValueIdx Idealize.ShloMosaic.TcCoe
open Idealize.SL Idealize.SL.RA Idealize.SL.BI Idealize.SL.Sem
open scoped BigOperators

/-- A block's key, -/
abbrev kb (n : ℕ) (c : Fin 256) : Fin 8192 := ⟨(256 * n + c.val) % 8192, Nat.mod_lt _ (by decide)⟩
/-- and a head's column. -/
abbrev col (b : Bool) (j : Fin 128) : Fin 256 := ⟨128 * hd b + j.val, by cases b <;> simp <;> omega⟩

/-- The logits of a row against a block, -/
def gF (q : Bool → FVec Ideal (S2 2048 256) .bf16) (σ : SI) (r : Fin 2048) (b : Bool) (n : ℕ) (c : Fin 256) : EReal :=
  ∑ j : Fin 128, q b (ix2 r (dn j)) * σ Bu.k (ix3 0 (kb n c) (col b j))
    + ∑ j : Fin 128, q b (ix2 r (up j)) * σ Bu.kx (ix3 0 (kb n c) j)

/-- the values of a block with ones after them, -/
def vF (σ : SI) (b : Bool) (n : ℕ) (c j : Fin 256) : EReal :=
  cat (F := Ideal) (φ := .bf16) 256 (fun i => σ Bu.v (ix3 0 (kb n (i 0)) (col b (i 1)))) onesB (ix2 c j)

/-- and the mask: keys not after the row. -/
def fF (t : ℕ) (n : ℕ) (s : Fin 256 → EReal) (c : Fin 256) : EReal := if 256 * n + c.val ≤ t then s c else ⊥

theorem blkO_one (j : BitVec 32) (hj : j.toNat < 32) (c : ℕ) : blkO j c 1 = 256 * j.toNat := by
  show ((j * 256#32).setWidth 32).toNat = _
  rw [BitVec.toNat_setWidth, BitVec.toNat_mul, show (256#32 : BitVec 32).toNat = 256 from rfl]
  omega

theorem odd_add (k e : ℕ) : odd (16 * k + e) = odd e := by
  unfold odd; rw [show (16 * k + e) % 2 = e % 2 by omega]

variable {nD : Nat} {τ : Topo} {sig : RefSig} {Λ : Labels} {R : Refs sig fam}
variable (q : Bool → FVec Ideal (S2 2048 256) .bf16) (σ0 : SI) (r : Fin 2048) (i : ℕ) (hi : i ≤ 3)

/-- The buffers hold the inputs. -/
def Ins (σ : SI) : Prop := ∀ l : Bu, l.isIn = true → σ l = σ0 l

theorem Ins.keep {σ0 σ : SI} (h : Ins σ0 σ) {α : Type} {A : Act nD τ Λ (F := Ideal) R α} (hA : ∀ l : Bu, l.isIn = true → Keeps R l A) :
    Ins σ0 (A.run σ).2 := fun l hl => (hA l hl σ).trans (h l hl)

variable {q σ0 r}

theorem lg_blk {σ : SI} (hσ : Ins σ0 σ) (b : Bool) (n : ℕ) (hn : n < 32) (ρ : ℕ) (h : ρ < 8) (ko xo : Fin 3 → ℕ) (hk hx)
    (k1 : ko 1 = 256 * n) (k2 : ko 2 = 128 * hd b) (x1 : xo 1 = 256 * n) (x2 : xo 2 = 0) (hr : 256 * ρ ≤ r.val) :
    rowOf ((lgA (nD := nD) (τ := τ) (Λ := Λ) R b ρ h (q b) ko xo hk hx).run σ).2 r = (rowOf σ r).lg b (gF q σ0 r b n) := by
  rw [lgA_in b ρ h (q b) ko xo hk hx σ r hr]
  congr 1
  funext c
  have hc : (kb n c).val = 256 * n + c.val := Nat.mod_eq_of_lt (by omega)
  refine congrArg₂ (· + ·) (Finset.sum_congr rfl fun j _ => congrArg₂ (· * ·) rfl ?_)
    (Finset.sum_congr rfl fun j _ => congrArg₂ (· * ·) rfl ?_)
  · rw [hσ Bu.k rfl]
    exact rdk (W := 256) ko hk (σ0 Bu.k) c j (kb n c) (col b j) (by rw [hc, k1]) (by rw [k2])
  · rw [hσ Bu.kx rfl]
    exact rdk (W := 128) xo hx (σ0 Bu.kx) c j (kb n c) j (by rw [hc, x1]) (by rw [x2]; omega)

theorem pv_blk {σ : SI} (hσ : Ins σ0 σ) (b : Bool) (n : ℕ) (hn : n < 32) (ρ : ℕ) (h : ρ < 8) (vo : Fin 3 → ℕ) (hv)
    (v1 : vo 1 = 256 * n) (v2 : vo 2 = 128 * hd b) (hr : 256 * ρ ≤ r.val) :
    rowOf ((pvA (nD := nD) (τ := τ) (Λ := Λ) R b ρ h onesB vo hv).run σ).2 r = (rowOf σ r).pv b (vF σ0 b n) := by
  refine pvA_in b ρ h onesB vo hv σ r hr _ fun c j => ?_
  unfold vF
  refine congrArg (fun z => cat (F := Ideal) (φ := .bf16) 256 z onesB (ix2 c j)) ?_
  funext x
  have hc : (kb n (x 0)).val = 256 * n + (x 0).val := Nat.mod_eq_of_lt (by have : (x 0).val < 256 := (x 0).isLt; omega)
  rw [hσ Bu.v rfl]
  exact rdk (W := 256) vo hv (σ0 Bu.v) (x 0) (x 1) (kb n (x 0)) (col b (x 1)) (by rw [hc, v1]) (by rw [v2])

variable (q σ0 r)

theorem bind_run {A B : Act nD τ Λ (F := Ideal) R PUnit} (σ : SI) : ((A >>= fun _ => B).run σ).2 = (B.run (A.run σ).2).2 := rfl

/-- The row's last block. -/
abbrev dB : ℕ := 8 * i + r.val / 256
abbrev rw1 (u : ℕ) (x : Row) : Row := rstep (dB r i) (gF q σ0 r) (fF (2048 * i + r.val)) (vF σ0) u x

variable {q σ0 r i}

theorem unitM_row (hp : ∀ b, (R (.p b)).IsWhole) (B : BitVec 32) (hB : B.toNat < 24) (k : ℕ) (hk : B.toNat = 8 * k) (hki : k < i)
    (e : Fin 16) {σ : SI} (hσ : Ins σ0 σ) :
    rowOf ((unitM (nD := nD) (τ := τ) (Λ := Λ) R hp q onesB B hB e).run σ).2 r = rw1 q σ0 r i (16 * k + e.val) (rowOf σ r) := by
  have he := e.isLt
  have h1 : (lgB B (e.val + 1)).toNat = (16 * k + e.val + 1) / 2 := by rw [lgB_toNat] <;> omega
  have h2 : (pvB B e.val).toNat = (16 * k + e.val + 1) / 2 - 1 := by rw [pvB_toNat] <;> omega
  unfold unitM
  rw [bind_run, bind_run]
  unfold rw1 rstep
  simp only [if_pos (show (16 * k + e.val + 1) / 2 ≤ dB r i by unfold dB; omega),
    if_pos (show (16 * k + e.val + 1) / 2 - 1 ≤ dB r i by unfold dB; omega), if_pos (show (16 * k + e.val) / 2 ≤ dB r i by unfold dB; omega),
    show odd (16 * k + e.val + 1) = odd (e.val + 1) from odd_add k (e.val + 1), odd_add]
  rw [smA_in hp _ 0 _ id _ r (by omega) (fF (2048 * i + r.val) ((16 * k + e.val) / 2)) (fun s => ?_),
    pv_blk (σ0 := σ0) (hσ.keep fun l hl => keeps_lg hl _ _ _ _ _ _ _ _) _ ((16 * k + e.val + 1) / 2 - 1) (by omega) 0 _ _ _
      (by rw [blkO_one _ (by omega), h2]) rfl (by omega),
    lg_blk (q := q) hσ _ ((16 * k + e.val + 1) / 2) (by omega) 0 _ _ _ _ _
      (by rw [blkO_one _ (by omega), h1]) rfl (by rw [blkO_one _ (by omega), h1]) rfl (by omega)]
  funext c
  unfold fF
  rw [if_pos (by have := c.isLt; omega)]
  rfl

theorem unitT_row (hp : ∀ b, (R (.p b)).IsWhole) (B : BitVec 32) (hB : B.toNat ≤ 24) (hk : B.toNat = 8 * i)
    (e : Fin 15) {σ : SI} (hσ : Ins σ0 σ) :
    rowOf ((unitT (nD := nD) (τ := τ) (Λ := Λ) (F := Ideal) R hp (⊥ : EReal) diagI q onesB B hB e).run σ).2 r
      = rw1 q σ0 r i (16 * i + e.val) (rowOf σ r) := by
  have he := e.isLt
  have hrr := r.isLt
  have h1 : (lgB B (e.val + 1)).toNat = (16 * i + e.val + 1) / 2 := by rw [lgB_toNat] <;> omega
  have h2 : (pvB B e.val).toNat = (16 * i + e.val + 1) / 2 - 1 := by rw [pvB_toNat] <;> omega
  unfold unitT
  rw [bind_run, bind_run]
  unfold rw1 rstep
  simp only [show odd (16 * i + e.val + 1) = odd (e.val + 1) from odd_add i (e.val + 1), odd_add]
  have i1 : Ins σ0 ((lgA (nD := nD) (τ := τ) (Λ := Λ) R (odd (e.val + 1)) ((e.val + 1) / 2) (by omega) (q (odd (e.val + 1)))
      (blkO (lgB B (e.val + 1)) (128 * hd (odd (e.val + 1)))) (blkO (lgB B (e.val + 1)) 0)
      (inbK _ (by omega) _ _ (colK _)) (inbK _ (by omega) _ _ (by decide))).run σ).2 :=
    hσ.keep fun l hl => keeps_lg hl _ _ _ _ _ _ _ _
  have r1 : rowOf ((lgA (nD := nD) (τ := τ) (Λ := Λ) R (odd (e.val + 1)) ((e.val + 1) / 2) (by omega) (q (odd (e.val + 1)))
      (blkO (lgB B (e.val + 1)) (128 * hd (odd (e.val + 1)))) (blkO (lgB B (e.val + 1)) 0)
      (inbK _ (by omega) _ _ (colK _)) (inbK _ (by omega) _ _ (by decide))).run σ).2 r
      = if (16 * i + e.val + 1) / 2 ≤ dB r i then (rowOf σ r).lg (odd (e.val + 1)) (gF q σ0 r (odd (e.val + 1)) ((16 * i + e.val + 1) / 2))
        else rowOf σ r := by
    split
    · next h =>
      exact lg_blk (q := q) hσ _ ((16 * i + e.val + 1) / 2) (by omega) _ _ _ _ _ _
        (by rw [blkO_one _ (by omega), h1]) rfl (by rw [blkO_one _ (by omega), h1]) rfl (by unfold dB at h; omega)
    · next h => exact lgA_out _ _ _ _ _ _ _ _ _ _ (by unfold dB at h; omega)
  rw [← r1]
  generalize ((lgA (nD := nD) (τ := τ) (Λ := Λ) R (odd (e.val + 1)) ((e.val + 1) / 2) (by omega) (q (odd (e.val + 1)))
      (blkO (lgB B (e.val + 1)) (128 * hd (odd (e.val + 1)))) (blkO (lgB B (e.val + 1)) 0)
      (inbK _ (by omega) _ _ (colK _)) (inbK _ (by omega) _ _ (by decide))).run σ).2 = σ1 at i1 ⊢
  have r2 : rowOf ((pvA (nD := nD) (τ := τ) (Λ := Λ) R (odd (e.val + 1)) ((e.val - 1) / 2) (by omega) onesB
      (blkO (pvB B e.val) (128 * hd (odd (e.val + 1)))) (inbK _ (by omega) _ _ (colK _))).run σ1).2 r
      = if (16 * i + e.val + 1) / 2 - 1 ≤ dB r i then (rowOf σ1 r).pv (odd (e.val + 1)) (vF σ0 (odd (e.val + 1)) ((16 * i + e.val + 1) / 2 - 1))
        else rowOf σ1 r := by
    split
    · next h =>
      exact pv_blk i1 _ ((16 * i + e.val + 1) / 2 - 1) (by omega) _ _ _ _ (by rw [blkO_one _ (by omega), h2]) rfl (by unfold dB at h; omega)
    · next h => exact pvA_out _ _ _ _ _ _ _ _ (by unfold dB at h; omega)
  rw [← r2]
  generalize ((pvA (nD := nD) (τ := τ) (Λ := Λ) R (odd (e.val + 1)) ((e.val - 1) / 2) (by omega) onesB
      (blkO (pvB B e.val) (128 * hd (odd (e.val + 1)))) (inbK _ (by omega) _ _ (colK _))).run σ1).2 = σ2
  split
  · next h =>
    refine smA_in hp _ _ _ _ σ2 r (by unfold dB at h; omega) _ fun s => ?_
    funext c
    rw [dmask_apply]
    unfold fF
    refine if_congr ?_ rfl rfl
    show c.val ≤ r.val - 256 * (e.val / 2) ↔ _
    unfold dB at h
    omega
  · next h => exact smA_out _ _ _ _ _ _ _ (by unfold dB at h; omega)

/-! ## The units in order -/

theorem seq_run {n : ℕ} (f : Fin n → Act nD τ Λ (F := Ideal) R PUnit) (P : ℕ → SI → Prop)
    (h : ∀ (x : Fin n) σ, P x.val σ → P (x.val + 1) ((f x).run σ).2) :
    ∀ (is : List (Fin n)) (e : ℕ) (_ : is.map Fin.val = List.range' e is.length) σ, P e σ → P (e + is.length) ((Act.seq f is).run σ).2
  | [], e, _, σ, hP => hP
  | x :: is, e, hl, σ, hP => by
    rw [List.map_cons, List.length_cons, List.range'_succ, List.cons.injEq] at hl
    obtain ⟨rfl, hl⟩ := hl
    have := seq_run f P h is (x.val + 1) hl _ (h x σ hP)
    rw [List.length_cons, show x.val + (is.length + 1) = x.val + 1 + is.length by omega]
    exact this

theorem foldl_run {n : ℕ} (f : SI → Fin n → SI) (P : ℕ → SI → Prop) (h : ∀ (x : Fin n) σ, P x.val σ → P (x.val + 1) (f σ x)) :
    ∀ (is : List (Fin n)) (e : ℕ) (_ : is.map Fin.val = List.range' e is.length) σ, P e σ → P (e + is.length) (is.foldl f σ)
  | [], e, _, σ, hP => hP
  | x :: is, e, hl, σ, hP => by
    rw [List.map_cons, List.length_cons, List.range'_succ, List.cons.injEq] at hl
    obtain ⟨rfl, hl⟩ := hl
    have := foldl_run f P h is (x.val + 1) hl _ (h x σ hP)
    rw [List.length_cons, show x.val + (is.length + 1) = x.val + 1 + is.length by omega]
    exact this

variable (q σ0 r i)

/-- The row after the first units, its inputs as they were. -/
def Good (x0 : Row) (u : ℕ) (σ : SI) : Prop :=
  Ins σ0 σ ∧ rowOf σ r = rrun (dB r i) (gF q σ0 r) (fF (2048 * i + r.val)) (vF σ0) u x0

variable {q σ0 r i}

theorem grpM_good (hp : ∀ b, (R (.p b)).IsWhole) (B : BitVec 32) (hB : B.toNat < 24) (k : ℕ) (hk : B.toNat = 8 * k) (hki : k < i)
    {x0 : Row} {σ : SI} (h : Good q σ0 r i x0 (16 * k) σ) :
    Good q σ0 r i x0 (16 * (k + 1)) ((grpM (nD := nD) (τ := τ) (Λ := Λ) R hp q onesB B hB).run σ).2 :=
  seq_run (unitM (nD := nD) (τ := τ) (Λ := Λ) R hp q onesB B hB) (fun e σ => Good q σ0 r i x0 (16 * k + e) σ)
    (fun e σ hg => ⟨hg.1.keep fun l hl => keeps_unitM hl _ _ _ _ _ _, by
      rw [unitM_row hp B hB k hk hki e hg.1, hg.2]; rfl⟩) es 0 (by decide) σ h

theorem grpT_good (hp : ∀ b, (R (.p b)).IsWhole) (B : BitVec 32) (hB : B.toNat ≤ 24) (hk : B.toNat = 8 * i)
    {x0 : Row} {σ : SI} (h : Good q σ0 r i x0 (16 * i) σ) :
    Good q σ0 r i x0 (16 * i + 17) ((grpT (nD := nD) (τ := τ) (Λ := Λ) (F := Ideal) R hp (⊥ : EReal) diagI q onesB B hB).run σ).2 := by
  have hrr := r.isLt
  have h15 : Good q σ0 r i x0 (16 * i + 15) ((Act.seq (unitT (nD := nD) (τ := τ) (Λ := Λ) (F := Ideal) R hp (⊥ : EReal) diagI q onesB B hB) fs).run σ).2 :=
    seq_run (unitT (nD := nD) (τ := τ) (Λ := Λ) (F := Ideal) R hp (⊥ : EReal) diagI q onesB B hB) (fun e σ => Good q σ0 r i x0 (16 * i + e) σ)
      (fun e σ hg => ⟨hg.1.keep fun l hl => keeps_unitT hl _ _ _ _ _ _ _ _, by
        rw [unitT_row hp B hB hk e hg.1, hg.2]; rfl⟩) fs 0 (by decide) σ h
  have h2 : (pvB B 15).toNat = 8 * i + 7 := by rw [pvB_toNat] <;> omega
  have h3 : (pvL B).toNat = 8 * i + 7 := by rw [pvL_toNat] <;> omega
  unfold grpT
  rw [bind_run, bind_run, bind_run]
  generalize ((Act.seq (unitT (nD := nD) (τ := τ) (Λ := Λ) (F := Ideal) R hp (⊥ : EReal) diagI q onesB B hB) fs).run σ).2 = σ1 at h15
  have i2 := h15.1.keep (R := R) (A := pvA (nD := nD) (τ := τ) (Λ := Λ) R false 7 (by decide) onesB (blkO (pvB B 15) 0)
    (inbK _ (by omega) _ _ (by decide))) fun l hl => keeps_pv hl _ _ _ _ _ _
  have r2 : rowOf ((pvA (nD := nD) (τ := τ) (Λ := Λ) R false 7 (by decide) onesB (blkO (pvB B 15) 0)
      (inbK _ (by omega) _ _ (by decide))).run σ1).2 r
      = if 8 * i + 7 ≤ dB r i then (rowOf σ1 r).pv false (vF σ0 false (8 * i + 7)) else rowOf σ1 r := by
    split
    · next h => exact pv_blk h15.1 _ (8 * i + 7) (by unfold dB at h; omega) _ _ _ _ (by rw [blkO_one _ (by unfold dB at h; omega), h2]) rfl (by unfold dB at h; omega)
    · next h => exact pvA_out _ _ _ _ _ _ _ _ (by unfold dB at h; omega)
  generalize ((pvA (nD := nD) (τ := τ) (Λ := Λ) R false 7 (by decide) onesB (blkO (pvB B 15) 0)
      (inbK _ (by omega) _ _ (by decide))).run σ1).2 = σ2 at i2 r2
  have i3 := i2.keep (R := R) (A := smA (nD := nD) (τ := τ) (Λ := Λ) R hp true 7 (by decide) (dmask (F := Ideal) (⊥ : EReal) diagI 7 (by decide)))
    fun l hl => keeps_sm hl _ _ _ _ _
  have r3 : rowOf ((smA (nD := nD) (τ := τ) (Λ := Λ) R hp true 7 (by decide) (dmask (F := Ideal) (⊥ : EReal) diagI 7 (by decide))).run σ2).2 r
      = if 8 * i + 7 ≤ dB r i then (rowOf σ2 r).sm true (fF (2048 * i + r.val) (8 * i + 7)) else rowOf σ2 r := by
    split
    · next h =>
      refine smA_in hp _ _ _ _ σ2 r (by unfold dB at h; omega) _ fun s => ?_
      funext c
      rw [dmask_apply]
      unfold fF
      refine if_congr ?_ rfl rfl
      show c.val ≤ r.val - 256 * 7 ↔ _
      unfold dB at h
      omega
    · next h => exact smA_out _ _ _ _ _ _ _ (by unfold dB at h; omega)
  generalize ((smA (nD := nD) (τ := τ) (Λ := Λ) R hp true 7 (by decide) (dmask (F := Ideal) (⊥ : EReal) diagI 7 (by decide))).run σ2).2 = σ3 at i3 r3
  refine ⟨i3.keep fun l hl => keeps_pv hl _ _ _ _ _ _, ?_⟩
  have r4 : rowOf ((pvA (nD := nD) (τ := τ) (Λ := Λ) R true 7 (by decide) onesB (blkO (pvL B) 128)
      (inbK _ (by omega) _ _ (by decide))).run σ3).2 r
      = if 8 * i + 7 ≤ dB r i then (rowOf σ3 r).pv true (vF σ0 true (8 * i + 7)) else rowOf σ3 r := by
    split
    · next h => exact pv_blk i3 _ (8 * i + 7) (by unfold dB at h; omega) _ _ _ _ (by rw [blkO_one _ (by unfold dB at h; omega), h3]) rfl (by unfold dB at h; omega)
    · next h => exact pvA_out _ _ _ _ _ _ _ _ (by unfold dB at h; omega)
  refine r4.trans ?_
  rw [r3, r2, h15.2]
  show _ = rstep _ _ _ _ (16 * i + 15 + 1) (rstep _ _ _ _ (16 * i + 15) _)
  unfold rstep
  have n1 : ¬ (16 * i + 15 + 1) / 2 ≤ dB r i := by unfold dB; omega
  have n2 : ¬ (16 * i + 15 + 1 + 1) / 2 ≤ dB r i := by unfold dB; omega
  simp only [if_neg n1, if_neg n2, show (16 * i + 15 + 1) / 2 - 1 = 8 * i + 7 by omega, show (16 * i + 15) / 2 = 8 * i + 7 by omega,
    show (16 * i + 15 + 1 + 1) / 2 - 1 = 8 * i + 7 by omega, show odd (16 * i + 15 + 1) = false from odd_add i 16,
    show odd (16 * i + 15) = true from odd_add i 15, show odd (16 * i + 15 + 1 + 1) = true from odd_add i 17]

end Fox

end
-- ==== Proof.Body.lean ====
/-
  The forgetting attention's body, at the extended reals: each row of each head of the result is the weighted values over
  the weights' sum, over the row's blocks of keys.
-/
module

public import proofs.«01_k».proof.Proof.Whole

@[expose] public section

noncomputable section

namespace Fox

open Idealize.ShloMosaic Idealize.ShloMosaic.ValueIdx Idealize.ShloMosaic.TcCoe
open Idealize.SL Idealize.SL.RA Idealize.SL.BI Idealize.SL.Sem
open scoped BigOperators

variable {α : Type}

theorem upd_all3 {a b c : ℕ} (inb) (w : (S3 a b c).Idx → α) (X : (S3 a b c).Idx → α) (x : Fin a) (y : Fin b) (z : Fin c) :
    upd (Rect.unit (s := S3 a b c) ![0, 0, 0] ![a, b, c] inb) w X (ix3 x y z) = w (ix3 x y z) := by
  have e : (Rect.unit (s := S3 a b c) ![0, 0, 0] ![a, b, c] inb).idx (ix3 x y z) = ix3 x y z := by
    funext d
    match d with
    | ⟨0, _⟩ => exact Fin.ext (by rw [unit_val]; show 0 + 1 * x.val = x.val; omega)
    | ⟨1, _⟩ => exact Fin.ext (by rw [unit_val]; show 0 + 1 * y.val = y.val; omega)
    | ⟨2, _⟩ => exact Fin.ext (by rw [unit_val]; show 0 + 1 * z.val = z.val; omega)
  exact (congrArg _ e.symm).trans (upd_idx _ _ _ _)

theorem updo_in (b : Bool) (o : Fin 3 → ℕ) (inb) (h0 : o 0 = 0) (h1 : o 1 = 0) (h2 : o 2 = 128 * hd b) (w : (S3 1 2048 128).Idx → α)
    (X : (S3 1 2048 256).Idx → α) (r : Fin 2048) (j : Fin 128) :
    upd (Rect.unit (s := S3 1 2048 256) o ![1, 2048, 128] inb) w X (ix3 0 r (col b j)) = w (ix3 0 r j) := by
  have e : (Rect.unit (s := S3 1 2048 256) o ![1, 2048, 128] inb).idx (ix3 0 r j) = ix3 0 r (col b j) := by
    funext d
    match d with
    | ⟨0, _⟩ => exact Subsingleton.elim (α := Fin 1) _ _
    | ⟨1, _⟩ => exact Fin.ext (by rw [unit_val]; show o 1 + 1 * r.val = r.val; omega)
    | ⟨2, _⟩ => exact Fin.ext (by rw [unit_val]; show o 2 + 1 * j.val = 128 * hd b + j.val; omega)
  exact (congrArg _ e.symm).trans (upd_idx _ _ _ _)

theorem updo_out (b b' : Bool) (hb : b' ≠ b) (o : Fin 3 → ℕ) (inb) (h2 : o 2 = 128 * hd b) (w : (S3 1 2048 128).Idx → α)
    (X : (S3 1 2048 256).Idx → α) (r : Fin 2048) (j : Fin 128) :
    upd (Rect.unit (s := S3 1 2048 256) o ![1, 2048, 128] inb) w X (ix3 0 r (col b' j)) = X (ix3 0 r (col b' j)) := by
  refine upd_off _ _ _ fun x hx => hb ?_
  have g := congrArg Fin.val (congrFun hx 2)
  rw [unit_val] at g
  have g' : o 2 + 1 * (x 2).val = 128 * hd b' + j.val := g
  have x2 : (x 2).val < 128 := (x 2).isLt
  exact hf_inj (by omega)

variable {nD : Nat} {τ : Topo} {sig : RefSig} {Λ : Labels} {R : Refs sig fam}

theorem bind_run' {α β : Type} {A : Act nD τ Λ (F := Ideal) R α} {k : α → Act nD τ Λ (F := Ideal) R β} (σ : SI) :
    (A >>= k).run σ = (k (A.run σ).1).run (A.run σ).2 := rfl

/-- The queries of a point, with the lanes of its heads. -/
def qI (g : BitVec 32) (σ : SI) (b : Bool) : FVec Ideal (S2 2048 256) .bf16 :=
  qV (fun x => σ Bu.qx ((Rect.unit (s := S3 1 2048 128) ![0, 0, 0] ![1, 2048, 128] (by decide)).idx x))
    (fun x => σ Bu.q ((Rect.unit (s := S3 1 2048 256) ![0, 0, 128 * hd b] ![1, 2048, 128] (by cases b <;> decide)).idx x))
    (Scalar.addi (Scalar.muli 2#32 g) (cond b 1#32 0#32))

theorem qsA_val (g : BitVec 32) (σ : SI) : ((qsA (nD := nD) (τ := τ) (Λ := Λ) (F := Ideal) R (⊥ : EReal) g).run σ).1 = qI g σ := by
  funext b; cases b <;> rfl

theorem qI_dn (g : BitVec 32) (σ : SI) (b : Bool) (r : Fin 2048) (j : Fin 128) : qI g σ b (ix2 r (dn j)) = σ Bu.q (ix3 0 r (col b j)) := by
  unfold qI
  rw [qV_dn]
  refine congrArg (σ Bu.q) ?_
  funext d
  match d with
  | ⟨0, _⟩ => exact Subsingleton.elim (α := Fin 1) _ _
  | ⟨1, _⟩ => exact Fin.ext (by rw [unit_val]; show 0 + 1 * r.val = r.val; omega)
  | ⟨2, _⟩ => exact Fin.ext (by rw [unit_val]; show 128 * hd b + 1 * j.val = 128 * hd b + j.val; omega)

theorem qI_up (g : BitVec 32) (σ : SI) (b : Bool) (r : Fin 2048) (j : Fin 128) :
    qI g σ b (ix2 r (up j)) = if BitVec.ofNat 32 (j.val / 8) = Scalar.addi (Scalar.muli 2#32 g) (cond b 1#32 0#32) then σ Bu.qx (ix3 0 r j) else 0 := by
  unfold qI
  rw [qV_up]
  refine if_congr Iff.rfl (congrArg (σ Bu.qx) ?_) rfl
  funext d
  match d with
  | ⟨0, _⟩ => exact Subsingleton.elim (α := Fin 1) _ _
  | ⟨1, _⟩ => exact Fin.ext (by rw [unit_val]; show 0 + 1 * r.val = r.val; omega)
  | ⟨2, _⟩ => exact Fin.ext (by rw [unit_val]; show 0 + 1 * j.val = j.val; omega)

/-- What the buffers hold before the first logits. -/
def preS (σ : SI) : SI :=
  Function.update (Function.update (Function.update
    (Function.update σ Bu.mx (upd (Rect.unit (s := S3 2 2048 128) ![0, 0, 0] ![2, 2048, 128] (by decide))
      (shapeCast (S3 2 2048 128) (broadcast (S3 2 2048 128) (⊥ : EReal)) rfl) (σ Bu.mx)))
    Bu.al (upd (Rect.unit (s := S3 2 2048 128) ![1, 0, 0] ![1, 2048, 128] (by decide)) (one1 (F := Ideal)) (σ Bu.al)))
    Bu.ac (upd (Rect.unit (s := S3 2 2048 256) ![0, 0, 0] ![2, 2048, 256] (by decide))
      (shapeCast (S3 2 2048 256) (broadcast (S3 2 2048 256) (Ideal.ofBits .f32 0x00000000#32)) rfl) (σ Bu.ac)))
    (Bu.p true) (upd (Rect.unit (s := S2 2048 256) ![0, 0] ![2048, 256] (by decide))
      (shapeCast (S2 2048 256) (broadcast (S2 2048 256) (Ideal.ofBits .bf16 0x0000#16)) rfl) (σ (Bu.p true)))

theorem initS_eq (hp : ∀ b, (R (.p b)).IsWhole) (g : BitVec 32) (σ : SI) :
    initS nD τ Λ (F := Ideal) R hp (⊥ : EReal) g σ
      = ((lgA (nD := nD) (τ := τ) (Λ := Λ) R false 0 (by decide) (qI g σ false) ![0, 0, 0] ![0, 0, 0] (by decide) (by decide)).run (preS σ)).2 := by
  rw [← qsA_val (nD := nD) (τ := τ) (Λ := Λ) (R := R) g σ]
  rfl

variable (g : BitVec 32) (σ : SI) (r : Fin 2048) (i : ℕ)

theorem pre_row : (rowOf (preS σ) r).M = (fun _ _ => ⊥) ∧ (rowOf (preS σ) r).L true = (fun _ => 1) ∧ (rowOf (preS σ) r).A = (fun _ _ => 0)
    ∧ (rowOf (preS σ) r).P true = fun _ => 0 := by
  refine ⟨?_, ?_, ?_, ?_⟩
  · funext b l
    simp only [rowOf, preS]
    rw [Function.update_of_ne (by simp), Function.update_of_ne (by simp), Function.update_of_ne (by simp), Function.update_self]
    refine (upd_all3 _ _ _ _ _ _).trans ?_
    rw [shapeCast_self]; rfl
  · funext l
    simp only [rowOf, preS]
    rw [Function.update_of_ne (by simp), Function.update_of_ne (by simp), Function.update_self]
    refine (upd3_in true 0 _ _ _ r l (by omega)).trans ?_
    refine (sc2_apply (n := 2048) (k := 128) _ _ _ _ _).trans ?_
    exact one32
  · funext b j
    simp only [rowOf, preS]
    rw [Function.update_of_ne (by simp), Function.update_self]
    refine (upd_all3 _ _ _ _ _ _).trans ?_
    rw [shapeCast_self]; exact zero32
  · funext c
    simp only [rowOf, preS]
    rw [Function.update_self]
    refine (upd2_in 0 _ _ _ r c (by omega)).trans ?_
    rw [shapeCast_self]; exact zero16

theorem pre_ins : Ins σ (preS σ) := by
  intro l hl
  unfold preS
  rw [Function.update_of_ne (ne_p hl true), Function.update_of_ne (ne_ac hl), Function.update_of_ne (ne_al hl), Function.update_of_ne (ne_mx hl)]

theorem inv0 (D : ℕ) (G : Bool → ℕ → Fin 256 → EReal) (f : ℕ → (Fin 256 → EReal) → Fin 256 → EReal)
    (V : Bool → ℕ → Fin 256 → Fin 256 → EReal) (x : Row) (h1 : x.M = fun _ _ => ⊥) (h2 : x.L true = fun _ => 1) (h3 : x.A = fun _ _ => 0)
    (h4 : x.P true = fun _ => 0) : Inv D G f V 0 (x.lg false (G false 0)) := by
  have o1 : odd (0 + 1) = true := rfl
  have o0 : odd 0 = false := rfl
  refine ⟨?_, ?_, ?_, ?_, ?_⟩
  · intro l; simp [Row.lg, h1, bmax]
  · intro l; simp [Row.lg, h1, bmax]
  · intro _; rw [o0]; simp only [Row.lg]; rw [Function.update_self]
  · intro j; simp [Row.lg, h3, bsum]
  · intro j
    rw [o1]
    simp only [Row.lg]
    rw [h2, h3, h4]; simp [bsum]

theorem init_inv (hp : ∀ b, (R (.p b)).IsWhole) :
    Inv (dB r i) (gF (qI g σ) σ r) (fF (2048 * i + r.val)) (vF σ) 0 (rowOf (initS nD τ Λ (F := Ideal) R hp (⊥ : EReal) g σ) r) := by
  obtain ⟨h1, h2, h3, h4⟩ := pre_row σ r
  rw [initS_eq, lg_blk (q := qI g σ) (pre_ins σ) false 0 (by decide) 0 _ _ _ _ _ rfl rfl rfl rfl (by omega)]
  exact inv0 _ _ _ _ _ h1 h2 h3 h4

theorem loop_good (hp : ∀ b, (R (.p b)).IsWhole) (hn : i ≤ 3) :
    Good (qI g σ) σ r i (rowOf (initS nD τ Λ (F := Ideal) R hp (⊥ : EReal) g σ) r) (16 * i) (loopS nD τ Λ (F := Ideal) R hp (⊥ : EReal) g hn σ) := by
  have h := foldl_run (fun τ' k => stepS nD τ Λ (F := Ideal) R hp ((qsA (nD := nD) (τ := τ) (Λ := Λ) (F := Ideal) R (⊥ : EReal) g).run σ).1 hn k τ')
    (fun k σ' => Good (qI g σ) σ r i (rowOf (initS nD τ Λ (F := Ideal) R hp (⊥ : EReal) g σ) r) (16 * k) σ')
    (fun k σ' hg => by
      show Good _ _ _ _ _ _ (stepS nD τ Λ (F := Ideal) R hp ((qsA (nD := nD) (τ := τ) (Λ := Λ) (F := Ideal) R (⊥ : EReal) g).run σ).1 hn k σ')
      rw [qsA_val]
      exact grpM_good hp _ _ k.val (base1_toNat hn k) k.isLt hg) (List.finRange i) 0 (by
        rw [List.map_coe_finRange_eq_range, List.length_finRange, List.range_eq_range']) (initS nD τ Λ (F := Ideal) R hp (⊥ : EReal) g σ)
    ⟨by rw [initS_eq]; exact (pre_ins σ).keep fun l hl => keeps_lg hl _ _ _ _ _ _ _ _, rfl⟩
  rw [List.length_finRange, zero_add] at h
  exact h

theorem outA_run (ho : (R .o).IsWhole) (σ : SI) : (outA (nD := nD) (τ := τ) (Λ := Λ) (F := Ideal) R ho).run σ
    = (fun x => σ Bu.ac ((Rect.unit (s := S3 2 2048 256) ![1, 0, 0] ![1, 2048, 256] (by decide)).idx x),
       Function.update σ Bu.o (upd (Rect.unit (s := S3 1 2048 256) ![0, 0, 0] ![1, 2048, 128] (by decide))
        (outV (F := Ideal) fun x => σ Bu.ac ((Rect.unit (s := S3 2 2048 256) ![0, 0, 0] ![1, 2048, 256] (by decide)).idx x)) (σ Bu.o))) := rfl

theorem out1A_run (ho : (R .o).IsWhole) (a : FVec Ideal (S3 1 2048 256) .f32) (σ : SI) :
    ((out1A (nD := nD) (τ := τ) (Λ := Λ) (F := Ideal) R ho a).run σ).2
    = Function.update σ Bu.o (upd (Rect.unit (s := S3 1 2048 256) ![0, 0, 128] ![1, 2048, 128] (by decide)) (outV a) (σ Bu.o)) := rfl

/-- The result's row of a head. -/
theorem body_o (hp : ∀ b, (R (.p b)).IsWhole) (ho : (R .o).IsWhole) (hn : i ≤ 3) (b : Bool) (j : Fin 128) :
    bodyS nD τ Λ (F := Ideal) R hp ho (⊥ : EReal) g hn σ Bu.o (ix3 0 r (col b j))
      = Ideal.div (bsum (gF (qI g σ) σ r) (fF (2048 * i + r.val)) (vF σ) b (dB r i + 1) (dn j))
          (bsum (gF (qI g σ) σ r) (fF (2048 * i + r.val)) (vF σ) b (dB r i + 1) (up j)) := by
  have hg := grpT_good (nD := nD) (τ := τ) (Λ := Λ) hp (base2 i) (base2_le hn) (base2_toNat hn) (loop_good (nD := nD) (τ := τ) (Λ := Λ) g σ r i hp hn)
  have hA := fun b j => (congrFun (congrFun (congrArg Row.A hg.2) b) j).trans
    (rrun_end _ _ _ _ (init_inv (nD := nD) (τ := τ) (Λ := Λ) g σ r i hp) (by have := r.isLt; unfold dB; omega) b j)
  have hb : ∀ b : Bool, ∀ inb x, outV (F := Ideal) (fun x => ((grpT (nD := nD) (τ := τ) (Λ := Λ) (F := Ideal) R hp (⊥ : EReal) diagI (qI g σ) onesB (base2 i) (base2_le hn)).run
      (loopS nD τ Λ (F := Ideal) R hp (⊥ : EReal) g hn σ)).2 Bu.ac ((Rect.unit (s := S3 2 2048 256) ![hd b, 256 * 0, 0] ![1, 2048 - 256 * 0, 256] inb).idx x)) (ix3 x r j)
      = Ideal.div (bsum (gF (qI g σ) σ r) (fF (2048 * i + r.val)) (vF σ) b (dB r i + 1) (dn j))
          (bsum (gF (qI g σ) σ r) (fF (2048 * i + r.val)) (vF σ) b (dB r i + 1) (up j)) := by
    intro b inb x
    rw [outV_apply]
    refine congrArg₂ Ideal.div ?_ ?_
    · exact (rd3 b 0 inb _ r (dn j) r (by omega)).trans (hA b (dn j))
    · exact (rd3 b 0 inb _ r (up j) r (by omega)).trans (hA b (up j))
  unfold bodyS
  rw [qsA_val]
  unfold postA
  rw [bind_run', bind_run', outA_run, out1A_run]
  cases b
  · refine Eq.trans ?_ (hb false (inb3 false 256 0 (by decide)) 0)
    rw [Function.update_self]
    refine (updo_out true false (by decide) _ _ rfl _ _ r j).trans ?_
    dsimp only
    rw [Function.update_self]
    exact updo_in false _ _ rfl rfl rfl _ _ r j
  · refine Eq.trans ?_ (hb true (inb3 true 256 0 (by decide)) 0)
    rw [Function.update_self]
    exact updo_in true _ _ rfl rfl rfl _ _ r j

end Fox

end
-- ==== Proof.RefVal.lean ====
/-
  The reference's result read entry by entry, at the extended reals.
-/
module

public import proofs.«01_k».proof.Proof.Vals
public import proofs.«01_k».proof.Proof.Gen.ReferenceIdeal.Run
public import Idealize.ShloMosaic.Lib.IdealHost
public import Idealize.ShloMosaic.Lib.KernelVsHost

@[expose] public section

set_option maxRecDepth 8192

noncomputable section

namespace Cert.ReferenceIdeal.Value

open Cert.ReferenceIdeal Cert.ReferenceIdeal.Gen Idealize.ShloMosaic Idealize.ShloMosaic.ValueIdx Idealize.ShloMosaic.TcCoe Idealize.SL.Sem Idealize.ShloMosaic.StableHlo
open scoped BigOperators

/-- Raising e to the product of log 2 with a value is raising 2 to it. -/
theorem exp_log2 (x : EReal) : Ideal.exp (Ideal.log (Ideal.ofBits .f32 0x40000000#32) * x) = Ideal.exp2 x := by
  have h2 : Ideal.ofBits .f32 0x40000000#32 = ((2 : ℝ) : EReal) := by
    simp [Ideal.ofBits, Ideal.ieee]
    rw [← EReal.coe_mul]
    norm_num
  have hl : Ideal.log ((2 : ℝ) : EReal) = ((Real.log 2 : ℝ) : EReal) := by
    show (if (2 : ℝ) ≤ 0 then (⊥ : EReal) else ((Real.log 2 : ℝ) : EReal)) = _
    norm_num
  have hp : 0 < Real.log 2 := Real.log_pos (by norm_num)
  rw [h2, hl]
  induction x using EReal.rec with
  | bot => rw [EReal.coe_mul_bot_of_pos hp]; rfl
  | top => rw [EReal.coe_mul_top_of_pos hp]; rfl
  | coe r =>
    rw [← EReal.coe_mul]
    show ((Real.exp (Real.log 2 * r) : ℝ) : EReal) = ((Real.rpow 2 r : ℝ) : EReal)
    congr 1
    exact (Real.rpow_def_of_pos (by norm_num) r).symm

variable {α : Type}

theorem heads_big (o : ℕ) (x : S2x8192x3072.Idx → α) (h1 : S2x8192x3072.Slices ![0, 0, o] S2x8192x512)
    (h2 : S2x8192x512.ShapeCasts S2x8192x4x128) (h3 : S2x8192x4x128.Transposes [0, 2, 1, 3] S2x4x8192x128)
    (n : Fin 2) (h : Fin 4) (r : Fin 8192) (d : Fin 128) (e : Fin 3072) (he : e.val = o + 128 * h.val + d.val) :
    transpose S2x4x8192x128 [0, 2, 1, 3] (shapeCast S2x8192x4x128 (extractStridedSlice S2x8192x512 ![0, 0, o] x h1) h2) h3 (ix4 n h r d)
      = x (ix3 n r e) := by
  refine (transpose_apply [0, 2, 1, 3] _ h3 (ix4 n h r d) (ix4 n r h d) fun b => ?_).trans ?_
  · fin_cases b <;> rfl
  refine (shapeCast_apply _ h2 (ix4 n r h d) (ix3 n r ⟨128 * h.val + d.val, by have := h.isLt; have := d.isLt; omega⟩) ?_).trans ?_
  · rw [Shape.rowMajor_val_three, Shape.rowMajor_val_four]
    show (n.val * 8192 + r.val) * 512 + (128 * h.val + d.val) = ((n.val * 8192 + r.val) * 4 + h.val) * 128 + d.val
    omega
  · refine (extractStridedSlice_apply _ _ h1 _ (ix3 n r e) fun a => ?_)
    match a with
    | ⟨0, _⟩ => show n.val = 0 + n.val; omega
    | ⟨1, _⟩ => show r.val = 0 + r.val; omega
    | ⟨2, _⟩ => show e.val = o + (128 * h.val + d.val); omega

theorem heads_sm (x : S2x8192x128.Idx → α) (h1 : S2x8192x128.Slices ![0, 0, 0] S2x8192x32)
    (h2 : S2x8192x32.ShapeCasts S2x8192x4x8) (h3 : S2x8192x4x8.Transposes [0, 2, 1, 3] S2x4x8192x8)
    (n : Fin 2) (h : Fin 4) (r : Fin 8192) (d : Fin 8) (e : Fin 128) (he : e.val = 8 * h.val + d.val) :
    transpose S2x4x8192x8 [0, 2, 1, 3] (shapeCast S2x8192x4x8 (extractStridedSlice S2x8192x32 ![0, 0, 0] x h1) h2) h3 (ix4 n h r d)
      = x (ix3 n r e) := by
  refine (transpose_apply [0, 2, 1, 3] _ h3 (ix4 n h r d) (ix4 n r h d) fun b => ?_).trans ?_
  · fin_cases b <;> rfl
  refine (shapeCast_apply _ h2 (ix4 n r h d) (ix3 n r ⟨8 * h.val + d.val, by have := h.isLt; have := d.isLt; omega⟩) ?_).trans ?_
  · rw [Shape.rowMajor_val_three, Shape.rowMajor_val_four]
    show (n.val * 8192 + r.val) * 32 + (8 * h.val + d.val) = ((n.val * 8192 + r.val) * 4 + h.val) * 8 + d.val
    omega
  · refine (extractStridedSlice_apply _ _ h1 _ (ix3 n r e) fun a => ?_)
    match a with
    | ⟨0, _⟩ => show n.val = 0 + n.val; omega
    | ⟨1, _⟩ => show r.val = 0 + r.val; omega
    | ⟨2, _⟩ => show e.val = 0 + (8 * h.val + d.val); omega

theorem dot_big (L R : FVec Ideal S2x4x8192x128 .f32) (n : Fin 2) (h : Fin 4) (r t : Fin 8192) :
    Host.dotGeneral (F := Ideal) dot_S2x4x8192x128_S2x4x8192x128_S2x4x8192x8192_3_3_2_2_01_01 none L R (ix4 n h r t)
      = ∑ d : Fin 128, (L (ix4 n h r d) : EReal) * R (ix4 n h t d) := by
  simp only [Host.dotGeneral]
  have hr : dot_S2x4x8192x128_S2x4x8192x128_S2x4x8192x8192_3_3_2_2_01_01.contr.rank = 1 := rfl
  have c0 : dot_S2x4x8192x128_S2x4x8192x128_S2x4x8192x8192_3_3_2_2_01_01.contr.size ⟨0, by rw [hr]; omega⟩ = 128 := rfl
  rw [Ideal.dotGeneral_apply, ← Equiv.sum_comp (contrEquiv1 _ 128 hr c0).symm]
  refine Finset.sum_congr rfl fun d _ => ?_
  have hk := contrEquiv1_symm_val dot_S2x4x8192x128_S2x4x8192x128_S2x4x8192x8192_3_3_2_2_01_01 128 hr c0 d
  refine congrArg₂ (· * ·) (congrArg L ?_) (congrArg R ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem dot_sm (L R : FVec Ideal S2x4x8192x8 .f32) (n : Fin 2) (h : Fin 4) (r t : Fin 8192) :
    Host.dotGeneral (F := Ideal) dot_S2x4x8192x8_S2x4x8192x8_S2x4x8192x8192_3_3_2_2_01_01 none L R (ix4 n h r t)
      = ∑ d : Fin 8, (L (ix4 n h r d) : EReal) * R (ix4 n h t d) := by
  simp only [Host.dotGeneral]
  have hr : dot_S2x4x8192x8_S2x4x8192x8_S2x4x8192x8192_3_3_2_2_01_01.contr.rank = 1 := rfl
  have c0 : dot_S2x4x8192x8_S2x4x8192x8_S2x4x8192x8192_3_3_2_2_01_01.contr.size ⟨0, by rw [hr]; omega⟩ = 8 := rfl
  rw [Ideal.dotGeneral_apply, ← Equiv.sum_comp (contrEquiv1 _ 8 hr c0).symm]
  refine Finset.sum_congr rfl fun d _ => ?_
  have hk := contrEquiv1_symm_val dot_S2x4x8192x8_S2x4x8192x8_S2x4x8192x8192_3_3_2_2_01_01 8 hr c0 d
  refine congrArg₂ (· * ·) (congrArg L ?_) (congrArg R ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem dot_val (L : FVec Ideal S2x4x8192x8192 .f32) (R : FVec Ideal S2x4x8192x128 .f32) (n : Fin 2) (h : Fin 4) (r : Fin 8192) (j : Fin 128) :
    Host.dotGeneral (F := Ideal) dot_S2x4x8192x8192_S2x4x8192x128_S2x4x8192x128_3_2_2_3_01_01 none L R (ix4 n h r j)
      = ∑ t : Fin 8192, (L (ix4 n h r t) : EReal) * R (ix4 n h t j) := by
  simp only [Host.dotGeneral]
  have hr : dot_S2x4x8192x8192_S2x4x8192x128_S2x4x8192x128_3_2_2_3_01_01.contr.rank = 1 := rfl
  have c0 : dot_S2x4x8192x8192_S2x4x8192x128_S2x4x8192x128_3_2_2_3_01_01.contr.size ⟨0, by rw [hr]; omega⟩ = 8192 := rfl
  rw [Ideal.dotGeneral_apply, ← Equiv.sum_comp (contrEquiv1 _ 8192 hr c0).symm]
  refine Finset.sum_congr rfl fun d _ => ?_
  have hk := contrEquiv1_symm_val dot_S2x4x8192x8192_S2x4x8192x128_S2x4x8192x128_3_2_2_3_01_01 8192 hr c0 d
  refine congrArg₂ (· * ·) (congrArg L ?_) (congrArg R ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => exact hk
    | ⟨3, _⟩ => rfl

theorem red_rc : S2x4x8192x8192.Reduces [3] S2x4x8192 := by decide

theorem lift_rc (n : Fin 2) (h : Fin 4) (r t : Fin 8192) : red_rc.lift (ix3 n h r) t = ix4 n h r t := by
  funext a
  match a with
  | ⟨0, _⟩ => rfl
  | ⟨1, _⟩ => rfl
  | ⟨2, _⟩ => rfl
  | ⟨3, _⟩ => rfl

theorem max_row (x : FVec Ideal S2x4x8192x8192 .f32) (h1 h2) (n : Fin 2) (h : Fin 4) (r : Fin 8192) :
    Host.reduce (FloatOps.maximumf (F := Ideal)) x (constant S_ .f32 0xFF800000#32) (axes := [3]) (t := S2x4x8192) h1 h2 (ix3 n h r)
      = Finset.univ.sup fun t : Fin 8192 => (x (ix4 n h r t) : EReal) := by
  rw [hostReduce_maximumf_eq_multiReduction x 0xFF800000#32 h1 h2 red_rc (.inl rfl) rfl]
  refine (Ideal.multiReduction_maximumf_single x _ red_rc _ rfl (ix3 n h r)).trans ?_
  show Finset.univ.fold max (Ideal.ofBits .f32 0xFF800000#32) _ = _
  rw [Fox.ofBits_bot, Fox.fold_max_sup]
  exact Finset.sup_congr rfl fun t _ => congrArg x (lift_rc n h r t)

theorem sum_row (x : FVec Ideal S2x4x8192x8192 .f32) (h1 h2) (n : Fin 2) (h : Fin 4) (r : Fin 8192) :
    Host.reduceAdd x (constant S_ .f32 0x00000000#32) (axes := [3]) (t := S2x4x8192) h1 h2 (ix3 n h r)
      = ∑ t : Fin 8192, (x (ix4 n h r t) : EReal) := by
  rw [hostReduceAdd_apply, Ideal.hostReduceAdd_single h1 red_rc]
  have h0 : (constant (F := Ideal) S_ .f32 0x00000000#32 (Shape.Idx.first h2) : EReal) = 0 := Fox.zero_apply _
  rw [h0, zero_add]
  exact Finset.sum_congr rfl fun t _ => congrArg x (lift_rc n h r t)

/-- A column of per-row values broadcast back along the rows. -/
theorem bc_row (K : ℕ) (x : S2x4x8192.Idx → α) (h1 : S2x4x8192.BroadcastsInDim S2x4x8192x1 (![0, 1, 2] : Fin 3 → Fin 4))
    (h2 : S2x4x8192x1.BroadcastsInDim (⟨4, ![2, 4, 8192, K]⟩ : Shape) (![0, 1, 2, 3] : Fin 4 → Fin 4)) (n : Fin 2) (h : Fin 4) (r : Fin 8192) (t : Fin K) :
    broadcastInDim (⟨4, ![2, 4, 8192, K]⟩ : Shape) ![0, 1, 2, 3] h2 (broadcastInDim S2x4x8192x1 ![0, 1, 2] h1 x) (ix4 n h r t) = x (ix3 n h r) := by
  refine (broadcastInDim_apply _ h2 _ (ix4 n h r t) (ix4 n h r 0) fun a => ?_).trans ?_
  · match a with | ⟨0, _⟩ => rfl | ⟨1, _⟩ => rfl | ⟨2, _⟩ => rfl | ⟨3, _⟩ => rfl
  · refine broadcastInDim_apply _ h1 _ (ix4 n h r 0) (ix3 n h r) fun a => ?_
    match a with | ⟨0, _⟩ => rfl | ⟨1, _⟩ => rfl | ⟨2, _⟩ => rfl

theorem mask_apply (h1 h2 h3 h4 h5) (n : Fin 2) (h : Fin 4) (r t : Fin 8192) :
    broadcastInDim S2x4x8192x8192 ![2, 3] h5 (cmpi .sle (broadcastInDim S8192x8192 ![0, 1] h3 (broadcastInDim S1x8192 ![1] h1 (iotaInDim S8192 32 0)))
      (broadcastInDim S8192x8192 ![0, 1] h4 (broadcastInDim S8192x1 ![0] h2 (iotaInDim S8192 32 0)))) (ix4 n h r t)
      = BitVec.ofBool (decide (t.val ≤ r.val)) := by
  refine (broadcastInDim_apply _ h5 _ (ix4 n h r t) (ix2 r t) fun a => ?_).trans ?_
  · match a with | ⟨0, _⟩ => rfl | ⟨1, _⟩ => rfl
  have e1 : broadcastInDim S8192x8192 ![0, 1] h3 (broadcastInDim S1x8192 ![1] h1 (iotaInDim S8192 32 0)) (ix2 r t) = BitVec.ofNat 32 t.val := by
    refine (broadcastInDim_apply _ h3 _ (ix2 r t) (ix2 0 t) fun a => ?_).trans ?_
    · match a with | ⟨0, _⟩ => rfl | ⟨1, _⟩ => rfl
    refine (broadcastInDim_apply _ h1 _ (ix2 0 t) (ix1 t) fun a => ?_).trans rfl
    match a with | ⟨0, _⟩ => rfl
  have e2 : broadcastInDim S8192x8192 ![0, 1] h4 (broadcastInDim S8192x1 ![0] h2 (iotaInDim S8192 32 0)) (ix2 r t) = BitVec.ofNat 32 r.val := by
    refine (broadcastInDim_apply _ h4 _ (ix2 r t) (ix2 r 0) fun a => ?_).trans ?_
    · match a with | ⟨0, _⟩ => rfl | ⟨1, _⟩ => rfl
    refine (broadcastInDim_apply _ h2 _ (ix2 r 0) (ix1 r) fun a => ?_).trans rfl
    match a with | ⟨0, _⟩ => rfl
  show BitVec.ofBool (BitVec.sle (broadcastInDim S8192x8192 ![0, 1] h3 (broadcastInDim S1x8192 ![1] h1 (iotaInDim S8192 32 0)) (ix2 r t))
    (broadcastInDim S8192x8192 ![0, 1] h4 (broadcastInDim S8192x1 ![0] h2 (iotaInDim S8192 32 0)) (ix2 r t))) = _
  rw [e1, e2]
  congr 1
  have ht := t.isLt
  have hr := r.isLt
  rw [BitVec.sle_eq_decide]
  refine decide_eq_decide.mpr ?_
  rw [BitVec.toInt_eq_toNat_of_lt (by rw [BitVec.toNat_ofNat]; omega), BitVec.toInt_eq_toNat_of_lt (by rw [BitVec.toNat_ofNat]; omega),
    BitVec.toNat_ofNat, BitVec.toNat_ofNat]
  omega

/-! ## The result -/

/-- The logit of query row `r` against position `t`, of head `h` of example `n`: −∞ past the row. -/
def lgR (p : S2x8192x3072.Idx → EReal) (qx kx : S2x8192x128.Idx → EReal) (n : Fin 2) (h : Fin 4) (r t : Fin 8192) : EReal :=
  if t.val ≤ r.val then
    (∑ d : Fin 128, p (ix3 n r ⟨1536 + 128 * h.val + d.val, by have := h.isLt; have := d.isLt; omega⟩)
        * p (ix3 n t ⟨2048 + 128 * h.val + d.val, by have := h.isLt; have := d.isLt; omega⟩))
      + ∑ d : Fin 8, qx (ix3 n r ⟨8 * h.val + d.val, by have := h.isLt; have := d.isLt; omega⟩)
        * kx (ix3 n t ⟨8 * h.val + d.val, by have := h.isLt; have := d.isLt; omega⟩)
  else ⊥

/-- A row's weight at position `t`, not yet divided. -/
def wt (L : Fin 8192 → EReal) (t : Fin 8192) : EReal := Ideal.exp2 (L t - Finset.univ.sup L)

/-- The attention's entry. -/
def att (p : S2x8192x3072.Idx → EReal) (qx kx : S2x8192x128.Idx → EReal) (n : Fin 2) (h : Fin 4) (r : Fin 8192) (j : Fin 128) : EReal :=
  Ideal.div (∑ t, wt (lgR p qx kx n h r) t * p (ix3 n t ⟨2560 + 128 * h.val + j.val, by have := h.isLt; have := j.isLt; omega⟩))
    (∑ t, wt (lgR p qx kx n h r) t)

section Steps

variable (p : FVec Ideal S2x8192x3072 .bf16) (qx kx : FVec Ideal S2x8192x128 .bf16)

def scR : FVec Ideal S2x4x8192x8192 .f32 :=
  select (broadcastInDim S2x4x8192x8192 ![2, 3] bcast_S8192x8192_S2x4x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (addf (Host.dotGeneral dot_S2x4x8192x128_S2x4x8192x128_S2x4x8192x8192_3_3_2_2_01_01 none
        (transpose S2x4x8192x128 [0, 2, 1, 3] (shapeCast _ (extractStridedSlice S2x8192x512 ![0, 0, 1536] (extf .f32 p bitsLt_bf16_f32) slices_S2x8192x3072_S2x8192x512_0_0_1536) shapeCasts_S2x8192x512_S2x8192x4x128) transposes_S2x8192x4x128_S2x4x8192x128_0_2_1_3)
        (transpose S2x4x8192x128 [0, 2, 1, 3] (shapeCast _ (extractStridedSlice S2x8192x512 ![0, 0, 2048] (extf .f32 p bitsLt_bf16_f32) slices_S2x8192x3072_S2x8192x512_0_0_2048) shapeCasts_S2x8192x512_S2x8192x4x128) transposes_S2x8192x4x128_S2x4x8192x128_0_2_1_3))
      (Host.dotGeneral dot_S2x4x8192x8_S2x4x8192x8_S2x4x8192x8192_3_3_2_2_01_01 none
        (transpose S2x4x8192x8 [0, 2, 1, 3] (shapeCast _ (extractStridedSlice S2x8192x32 ![0, 0, 0] (extf .f32 qx bitsLt_bf16_f32) slices_S2x8192x128_S2x8192x32_0_0_0) shapeCasts_S2x8192x32_S2x8192x4x8) transposes_S2x8192x4x8_S2x4x8192x8_0_2_1_3)
        (transpose S2x4x8192x8 [0, 2, 1, 3] (shapeCast _ (extractStridedSlice S2x8192x32 ![0, 0, 0] (extf .f32 kx bitsLt_bf16_f32) slices_S2x8192x128_S2x8192x32_0_0_0) shapeCasts_S2x8192x32_S2x8192x4x8) transposes_S2x8192x4x8_S2x4x8192x8_0_2_1_3)))
    (broadcastInDim S2x4x8192x8192 ![] bcast_S_S2x4x8192x8192 (constant S_ .f32 0xFF800000#32))

def exR (s : FVec Ideal S2x4x8192x8192 .f32) : FVec Ideal S2x4x8192x8192 .f32 :=
  Host.exp (mulf (broadcastInDim S2x4x8192x8192 ![] bcast_S_S2x4x8192x8192 (Host.log (constant S_ .f32 0x40000000#32)))
    (subf s (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduce FloatOps.maximumf s (constant S_ .f32 0xFF800000#32) reducesTo_S2x4x8192x8192_S2x4x8192_d3 h_S_)))))

def otR (e : FVec Ideal S2x4x8192x8192 .f32) : FVec Ideal S2x8192x512 .bf16 :=
  truncf .bf16 (shapeCast _ (transpose S2x8192x4x128 [0, 2, 1, 3] (Host.divf (Host.dotGeneral dot_S2x4x8192x8192_S2x4x8192x128_S2x4x8192x128_3_2_2_3_01_01 none e
      (transpose S2x4x8192x128 [0, 2, 1, 3] (shapeCast _ (extractStridedSlice S2x8192x512 ![0, 0, 2560] (extf .f32 p bitsLt_bf16_f32) slices_S2x8192x3072_S2x8192x512_0_0_2560) shapeCasts_S2x8192x512_S2x8192x4x128) transposes_S2x8192x4x128_S2x4x8192x128_0_2_1_3))
    (broadcastInDim S2x4x8192x128 ![0, 1, 2, 3] bcast_S2x4x8192x1_S2x4x8192x128_0_1_2_3 (broadcastInDim S2x4x8192x1 ![0, 1, 2] bcast_S2x4x8192_S2x4x8192x1_0_1_2 (Host.reduceAdd e (constant S_ .f32 0x00000000#32) reducesTo_S2x4x8192x8192_S2x4x8192_d3 h_S_)))) transposes_S2x4x8192x128_S2x8192x4x128_0_2_1_3) shapeCasts_S2x8192x4x128_S2x8192x512) bitsLt_bf16_f32

theorem scR_apply (n : Fin 2) (h : Fin 4) (r t : Fin 8192) : scR p qx kx (ix4 n h r t) = lgR p qx kx n h r t := by
  unfold scR lgR
  have hb : broadcastInDim S2x4x8192x8192 ![] bcast_S_S2x4x8192x8192 (constant (F := Ideal) S_ .f32 0xFF800000#32) (ix4 n h r t) = (⊥ : EReal) :=
    (broadcastInDim_scalar_apply _ _ _).trans Fox.ofBits_bot
  rw [select_apply, mask_apply, hb, Fox.select_ofBool]
  simp only [decide_eq_true_eq]
  split
  · rw [addf_apply, dot_big, dot_sm]
    refine congrArg₂ (· + ·) (Finset.sum_congr rfl fun d _ => ?_) (Finset.sum_congr rfl fun d _ => ?_)
    · exact congrArg₂ (· * ·) (heads_big _ _ _ _ _ n h r d _ rfl) (heads_big _ _ _ _ _ n h t d _ rfl)
    · exact congrArg₂ (· * ·) (heads_sm _ _ _ _ n h r d _ rfl) (heads_sm _ _ _ _ n h t d _ rfl)
  · rfl

theorem exR_apply (s : FVec Ideal S2x4x8192x8192 .f32) (n : Fin 2) (h : Fin 4) (r t : Fin 8192) :
    exR s (ix4 n h r t) = wt (fun t => s (ix4 n h r t)) t := by
  unfold exR wt
  rw [← exp_log2]
  show Ideal.exp (broadcastInDim S2x4x8192x8192 ![] bcast_S_S2x4x8192x8192 (Host.log (constant (F := Ideal) S_ .f32 0x40000000#32)) (ix4 n h r t)
    * (s (ix4 n h r t) - broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduce (FloatOps.maximumf (F := Ideal)) s (constant S_ .f32 0xFF800000#32) reducesTo_S2x4x8192x8192_S2x4x8192_d3 h_S_)) (ix4 n h r t))) = _
  rw [broadcastInDim_scalar_apply, bc_row 8192, max_row]
  rfl

theorem otR_apply (e : FVec Ideal S2x4x8192x8192 .f32) (n : Fin 2) (h : Fin 4) (r : Fin 8192) (j : Fin 128) :
    otR p e (ix3 n r ⟨128 * h.val + j.val, by have := h.isLt; have := j.isLt; omega⟩)
      = Ideal.div (∑ t : Fin 8192, (e (ix4 n h r t) : EReal) * p (ix3 n t ⟨2560 + 128 * h.val + j.val, by have := h.isLt; have := j.isLt; omega⟩))
          (∑ t : Fin 8192, (e (ix4 n h r t) : EReal)) := by
  unfold otR
  rw [truncf_apply]
  refine (shapeCast_apply _ shapeCasts_S2x8192x4x128_S2x8192x512 _ (ix4 n r h j) ?_).trans ?_
  · rw [Shape.rowMajor_val_three, Shape.rowMajor_val_four]
    show ((n.val * 8192 + r.val) * 4 + h.val) * 128 + j.val = (n.val * 8192 + r.val) * 512 + (128 * h.val + j.val)
    omega
  refine (transpose_apply [0, 2, 1, 3] _ transposes_S2x4x8192x128_S2x8192x4x128_0_2_1_3 (ix4 n r h j) (ix4 n h r j) fun b => ?_).trans ?_
  · fin_cases b <;> rfl
  rw [hostDivf_apply, dot_val, bc_row 128, sum_row]
  have hs : ∀ t : Fin 8192, transpose S2x4x8192x128 [0, 2, 1, 3] (shapeCast S2x8192x4x128 (extractStridedSlice S2x8192x512 ![0, 0, 2560] (extf .f32 p bitsLt_bf16_f32) slices_S2x8192x3072_S2x8192x512_0_0_2560) shapeCasts_S2x8192x512_S2x8192x4x128) transposes_S2x8192x4x128_S2x4x8192x128_0_2_1_3 (ix4 n h t j)
      = p (ix3 n t ⟨2560 + 128 * h.val + j.val, by have := h.isLt; have := j.isLt; omega⟩) := fun t => heads_big _ _ _ _ _ n h t j _ rfl
  simp only [hs]

end Steps

theorem res_steps (m : (ℓ : Loc nD τ sig) → Buf (Elt Ideal) ℓ) (c : Dev nD) :
    res_out0 m c = otR (m ((c.tc : Thread nD τ).loc main_arg0)) (exR (scR (m ((c.tc : Thread nD τ).loc main_arg0)) (m ((c.tc : Thread nD τ).loc main_arg1)) (m ((c.tc : Thread nD τ).loc main_arg2)))) := by
  delta res_out0 res_main_v46
  delta otR exR scR
  exact rfl

theorem res_apply (m : (ℓ : Loc nD τ sig) → Buf (Elt Ideal) ℓ) (c : Dev nD) (n : Fin 2) (h : Fin 4) (r : Fin 8192) (j : Fin 128) :
    res_out0 m c (ix3 n r ⟨128 * h.val + j.val, by have := h.isLt; have := j.isLt; omega⟩)
      = att (m ((c.tc : Thread nD τ).loc main_arg0)) (m ((c.tc : Thread nD τ).loc main_arg1)) (m ((c.tc : Thread nD τ).loc main_arg2)) n h r j := by
  rw [res_steps, otR_apply]
  unfold att
  simp only [exR_apply, scR_apply]

end Cert.ReferenceIdeal.Value

end
-- ==== Proof.Att.lean ====
/-
  A row's sums over the blocks of keys, as sums over the keys; and so the entry of the attention that a run of the body leaves.
-/
module

public import proofs.«01_k».proof.Proof.Body
public import proofs.«01_k».proof.Proof.RefVal

@[expose] public section

noncomputable section

namespace Fox

open Idealize.ShloMosaic Idealize.ShloMosaic.ValueIdx Idealize.ShloMosaic.TcCoe
open Idealize.SL Idealize.SL.RA Idealize.SL.BI Idealize.SL.Sem
open Cert.ReferenceIdeal.Value (wt lgR att)
open scoped BigOperators

/-- Keys by block and place. -/
def keyE : Fin 32 × Fin 256 ≃ Fin 8192 := finProdFinEquiv

theorem keyE_val (n : Fin 32) (c : Fin 256) : (keyE (n, c)).val = c.val + 256 * n.val := rfl

theorem sum_keys (f : Fin 8192 → EReal) : ∑ t, f t = ∑ n : Fin 32, ∑ c : Fin 256, f (keyE (n, c)) := by
  rw [← Equiv.sum_comp keyE, Fintype.sum_prod_type]

theorem sup_keys (f : Fin 8192 → EReal) : Finset.univ.sup f = Finset.univ.sup fun n : Fin 32 => Finset.univ.sup fun c : Fin 256 => f (keyE (n, c)) := by
  refine le_antisymm (Finset.sup_le fun t _ => ?_) (Finset.sup_le fun n _ => Finset.sup_le fun c _ => Finset.le_sup (f := f) (Finset.mem_univ _))
  obtain ⟨⟨n, c⟩, rfl⟩ := keyE.surjective t
  exact (Finset.le_sup (f := fun c => f (keyE (n, c))) (Finset.mem_univ c)).trans
    (Finset.le_sup (f := fun n : Fin 32 => Finset.univ.sup fun c : Fin 256 => f (keyE (n, c))) (Finset.mem_univ n))

theorem sup_range (N : ℕ) (f : ℕ → EReal) : (Finset.range N).sup f = Finset.univ.sup fun n : Fin N => f n.val :=
  le_antisymm (Finset.sup_le fun n h => Finset.le_sup (f := fun n : Fin N => f n.val) (Finset.mem_univ (⟨n, Finset.mem_range.mp h⟩ : Fin N)))
    (Finset.sup_le fun n _ => Finset.le_sup (Finset.mem_range.mpr n.isLt))

section Blocks

variable (G : Bool → ℕ → Fin 256 → EReal) (f : ℕ → (Fin 256 → EReal) → Fin 256 → EReal) (V : Bool → ℕ → Fin 256 → Fin 256 → EReal) (b : Bool)
  (L : Fin 8192 → EReal) (hL : ∀ (n : Fin 32) c, lm G f b n.val c = L (keyE (n, c)))

include hL

theorem bmax_keys : bmax G f b 32 = Finset.univ.sup L := by
  unfold bmax
  rw [sup_range, sup_keys]
  exact Finset.sup_congr rfl fun n _ => Finset.sup_congr rfl fun c _ => hL n c

theorem bsum_keys (j : Fin 256) (W : Fin 8192 → EReal) (hW : ∀ (n : Fin 32) c, V b n.val c j = W (keyE (n, c))) :
    bsum G f V b 32 j = ∑ t, wt L t * W t := by
  unfold bsum wt
  rw [bmax_keys G f b L hL, Finset.sum_range, sum_keys]
  refine Finset.sum_congr rfl fun n _ => Finset.sum_congr rfl fun c _ => ?_
  rw [hL, hW]

end Blocks

/-- Only a head's own lanes count. -/
theorem sum_lanes (h : Fin 4) (a k : Fin 128 → EReal) :
    (∑ j : Fin 128, (if j.val / 8 = h.val then a j else 0) * k j)
      = ∑ d : Fin 8, a ⟨8 * h.val + d.val, by have := h.isLt; have := d.isLt; omega⟩ * k ⟨8 * h.val + d.val, by have := h.isLt; have := d.isLt; omega⟩ := by
  let e : Fin 16 × Fin 8 ≃ Fin 128 := finProdFinEquiv
  have ev : ∀ x d, (e (x, d)).val = d.val + 8 * x.val := fun x d => rfl
  rw [← Equiv.sum_comp e, Fintype.sum_prod_type, Finset.sum_eq_single (⟨h.val, by omega⟩ : Fin 16)]
  · refine Finset.sum_congr rfl fun d _ => ?_
    have hd : e (⟨h.val, by omega⟩, d) = ⟨8 * h.val + d.val, by have := h.isLt; have := d.isLt; omega⟩ := Fin.ext (by rw [ev]; show d.val + 8 * h.val = 8 * h.val + d.val; omega)
    rw [hd, if_pos (by show (8 * h.val + d.val) / 8 = h.val; have := d.isLt; omega)]
  · intro x _ hx
    refine Finset.sum_eq_zero fun d _ => ?_
    rw [if_neg, zero_mul]
    intro hh
    rw [ev] at hh
    exact hx (Fin.ext (by show x.val = h.val; have := d.isLt; omega))
  · intro hh; exact absurd (Finset.mem_univ _) hh

section Entry

variable {nD : Nat} {τ : Topo} {sig : RefSig} {Λ : Labels} {R : Refs sig fam}

theorem hd_lt (b : Bool) : hd b < 2 := by cases b <;> decide

/-- The head's number. -/
abbrev hn4 (gn : ℕ) (hgn : gn < 2) (b : Bool) : Fin 4 := ⟨2 * gn + hd b, by have := hd_lt b; omega⟩

theorem lane_eq (gn : ℕ) (hgn : gn < 2) (b : Bool) (j : Fin 128) :
    (BitVec.ofNat 32 (j.val / 8) = Scalar.addi (Scalar.muli 2#32 (BitVec.ofNat 32 gn)) (cond b 1#32 0#32)) ↔ j.val / 8 = 2 * gn + hd b := by
  have hj := j.isLt
  have e : Scalar.addi (Scalar.muli 2#32 (BitVec.ofNat 32 gn)) (cond b 1#32 0#32) = BitVec.ofNat 32 (2 * gn + hd b) := by
    interval_cases gn <;> cases b <;> rfl
  rw [e]
  have := hd_lt b
  constructor
  · intro h
    have h' := congrArg BitVec.toNat h
    rw [BitVec.toNat_ofNat, BitVec.toNat_ofNat] at h'
    omega
  · intro h; rw [h]

variable (σ : SI) (p : (S3 2 8192 3072).Idx → EReal) (qx kx : (S3 2 8192 128).Idx → EReal) (n : Fin 2) (gn i : ℕ) (hgn : gn < 2) (hi : i ≤ 3)

/-- The buffers' contents, of the arrays. -/
structure Blk : Prop where
  q : ∀ (r : Fin 2048) (c : Fin 256), σ Bu.q (ix3 0 r c) = p (ix3 n ⟨2048 * i + r.val, by have := r.isLt; omega⟩ ⟨1536 + 256 * gn + c.val, by have := c.isLt; omega⟩)
  qx : ∀ (r : Fin 2048) (l : Fin 128), σ Bu.qx (ix3 0 r l) = qx (ix3 n ⟨2048 * i + r.val, by have := r.isLt; omega⟩ l)
  k : ∀ (t : Fin 8192) (c : Fin 256), σ Bu.k (ix3 0 t c) = p (ix3 n t ⟨2048 + 256 * gn + c.val, by have := c.isLt; omega⟩)
  kx : ∀ (t : Fin 8192) (l : Fin 128), σ Bu.kx (ix3 0 t l) = kx (ix3 n t l)
  v : ∀ (t : Fin 8192) (c : Fin 256), σ Bu.v (ix3 0 t c) = p (ix3 n t ⟨2560 + 256 * gn + c.val, by have := c.isLt; omega⟩)

variable {σ p qx kx n gn i hgn hi}

theorem kb_key (x : Fin 32) (c : Fin 256) : kb x.val c = keyE (x, c) :=
  Fin.ext (by have := x.isLt; have := c.isLt; rw [keyE_val]; show (256 * x.val + c.val) % 8192 = _; omega)

theorem Blk.logits (H : Blk σ p qx kx n gn i hgn hi) (r : Fin 2048) (b : Bool) (x : Fin 32) (c : Fin 256) :
    lm (gF (qI (BitVec.ofNat 32 gn) σ) σ r) (fF (2048 * i + r.val)) b x.val c
      = lgR p qx kx n (hn4 gn hgn b) ⟨2048 * i + r.val, by have := r.isLt; omega⟩ (keyE (x, c)) := by
  show (if 256 * x.val + c.val ≤ 2048 * i + r.val then gF (qI (BitVec.ofNat 32 gn) σ) σ r b x.val c else ⊥) = _
  unfold lgR
  rw [keyE_val, show c.val + 256 * x.val = 256 * x.val + c.val from Nat.add_comm _ _]
  refine if_congr Iff.rfl ?_ rfl
  unfold gF
  refine congrArg₂ (· + ·) (Finset.sum_congr rfl fun d _ => ?_) ?_
  · rw [qI_dn, H.q, H.k, kb_key]
    have hb := hd_lt b
    refine congrArg₂ (· * ·) (congrArg (fun e => p (ix3 n _ e)) (Fin.ext ?_)) (congrArg (fun e => p (ix3 n _ e)) (Fin.ext ?_))
    · show 1536 + 256 * gn + (128 * hd b + d.val) = 1536 + 128 * (2 * gn + hd b) + d.val; omega
    · show 2048 + 256 * gn + (128 * hd b + d.val) = 2048 + 128 * (2 * gn + hd b) + d.val; omega
  · rw [← sum_lanes (hn4 gn hgn b) (fun l => qx (ix3 n ⟨2048 * i + r.val, by have := r.isLt; omega⟩ l)) (fun l => kx (ix3 n (keyE (x, c)) l))]
    refine Finset.sum_congr rfl fun l _ => ?_
    rw [qI_up, H.qx, H.kx, kb_key]
    refine congrArg (· * _) (if_congr (lane_eq gn hgn b l) rfl rfl)

theorem Blk.vals (H : Blk σ p qx kx n gn i hgn hi) (b : Bool) (x : Fin 32) (c : Fin 256) (j : Fin 128) :
    vF σ b x.val c (dn j) = p (ix3 n (keyE (x, c)) ⟨2560 + 128 * (hn4 gn hgn b).val + j.val, by have := (hn4 gn hgn b).isLt; have := j.isLt; omega⟩) := by
  unfold vF
  rw [cat_dn]
  show σ Bu.v (ix3 0 (kb x.val c) (col b j)) = _
  rw [H.v, kb_key]
  refine congrArg (fun e => p (ix3 n _ e)) (Fin.ext ?_)
  show 2560 + 256 * gn + (128 * hd b + j.val) = 2560 + 128 * (2 * gn + hd b) + j.val
  omega

theorem vF_up (b : Bool) (x : Fin 32) (c : Fin 256) (j : Fin 128) : vF σ b x.val c (up j) = 1 := by
  unfold vF
  rw [cat_up]
  exact one16

/-- The entry that a run of the body leaves. -/
theorem Blk.body (H : Blk σ p qx kx n gn i hgn hi) (hp : ∀ b, (R (.p b)).IsWhole) (ho : (R .o).IsWhole) (hn : i ≤ 3) (r : Fin 2048) (b : Bool) (j : Fin 128) :
    bodyS nD τ Λ (F := Ideal) R hp ho (⊥ : EReal) (BitVec.ofNat 32 gn) hn σ Bu.o (ix3 0 r (col b j))
      = att p qx kx n (hn4 gn hgn b) ⟨2048 * i + r.val, by have := r.isLt; omega⟩ j := by
  rw [body_o]
  have hr := r.isLt
  have hs : ∀ j, bsum (gF (qI (BitVec.ofNat 32 gn) σ) σ r) (fF (2048 * i + r.val)) (vF σ) b (dB r i + 1) j
      = bsum (gF (qI (BitVec.ofNat 32 gn) σ) σ r) (fF (2048 * i + r.val)) (vF σ) b 32 j := fun j =>
    (bsum_stay _ _ _ b (by unfold dB; omega) (fun x hx _ c => by
      show (if 256 * x + c.val ≤ 2048 * i + r.val then _ else ⊥) = ⊥
      rw [if_neg]
      unfold dB at hx
      omega) j).symm
  rw [hs, hs, bsum_keys _ _ _ b _ (H.logits r b) (dn j) (fun t => p (ix3 n t ⟨2560 + 128 * (hn4 gn hgn b).val + j.val, by have := (hn4 gn hgn b).isLt; have := j.isLt; omega⟩)) (fun x c => H.vals b x c j),
    bsum_keys _ _ _ b _ (H.logits r b) (up j) (fun _ => 1) (fun x c => vF_up b x c j)]
  unfold att
  simp only [mul_one]

end Entry

end Fox

end
-- ==== Proof.KI.Value.lean ====
/-
  The launch's result at the extended reals: every block is the attention's, and the blocks fill the array.
-/
module

public import proofs.«01_k».proof.Proof.KI.Frame
public import proofs.«01_k».proof.Proof.Att
public import Idealize.ShloMosaic.Lib.Pipeline.Covers

@[expose] public section

set_option maxRecDepth 16384

noncomputable section

namespace Cert.KernelIdeal.Gen

open Idealize.ShloMosaic Idealize.ShloMosaic.ValueIdx Idealize.ShloMosaic.TcCoe
open Idealize.SL Idealize.SL.RA Idealize.SL.BI Idealize.SL.Sem
open Idealize.ShloMosaic.Pipeline (Dat)
open Fox (Bu fam St SI Blk hd hd_lt col hn4)
open Cert.ReferenceIdeal.Value (att)

variable (m : (ℓ : Loc nD τ sig) → Buf (Elt Ideal) ℓ) (ρ : Dev nD → PrngReg)

/-- The attention, as an array. -/
def attA (p : S2x8192x3072.Idx → EReal) (qx kx : S2x8192x128.Idx → EReal) (i : S2x8192x512.Idx) : EReal :=
  att p qx kx (i 0) ⟨(i 2).val / 128, by have : (i 2).val < 512 := (i 2).isLt; omega⟩ (i 1) ⟨(i 2).val % 128, Nat.mod_lt _ (by decide)⟩

theorem attA_head (p : S2x8192x3072.Idx → EReal) (qx kx : S2x8192x128.Idx → EReal) (n : Fin 2) (h : Fin 4) (r : Fin 8192) (j : Fin 128)
    (e : Fin 512) (he : e.val = 128 * h.val + j.val) : attA p qx kx (ix3 n r e) = att p qx kx n h r j := by
  unfold attA
  have hj := j.isLt
  have e1 : (⟨e.val / 128, by have := e.isLt; omega⟩ : Fin 4) = h :=
    Fin.ext (by show e.val / 128 = h.val; omega)
  have e2 : (⟨e.val % 128, Nat.mod_lt _ (by decide)⟩ : Fin 128) = j := Fin.ext (by show e.val % 128 = j.val; omega)
  exact congrArg₂ (fun x y => att p qx kx n x r y) e1 e2

section Points

variable (t : Fin cfg0.N)

theorem c0_lt : ((grid0.coords t) 0).val < 2 := ((grid0.coords t) 0).isLt
theorem c1_lt : ((grid0.coords t) 1).val < 2 := ((grid0.coords t) 1).isLt
theorem c2_lt : ((grid0.coords t) 2).val < 4 := ((grid0.coords t) 2).isLt

theorem bv_small (x : ℕ) (h : x < 4) : (BitVec.ofNat 32 x).toNat = x := by
  rw [BitVec.toNat_ofNat]; omega

theorem bv_add (k x : ℕ) (hk : k < 100) (h : x < 4) : (Scalar.addi (BitVec.ofNat 32 k) (BitVec.ofNat 32 x)).toNat = k + x := by
  show (BitVec.ofNat 32 k + BitVec.ofNat 32 x).toNat = _
  rw [BitVec.toNat_add, BitVec.toNat_ofNat, BitVec.toNat_ofNat]; omega

theorem read0 (c : Dev nD) (r : Fin 2048) (l : Fin 256) : (iblk m c 0 t : S1x2048x256.Idx → EReal) (ix3 0 r l)
    = (m ((c.tc : Thread nD τ).loc main_arg0) : S2x8192x3072.Idx → EReal) (ix3 ⟨_, c0_lt t⟩ ⟨2048 * ((grid0.coords t) 2).val + r.val, by have := c2_lt t; omega⟩
        ⟨1536 + 256 * ((grid0.coords t) 1).val + l.val, by have := c1_lt t; omega⟩) := by
  unfold iblk
  rw [View.read_apply]
  show V m c main_arg0 _ = m (c.tc.loc main_arg0) _
  unfold V
  congr 1
  funext a
  apply Fin.ext
  match a with
  | ⟨0, _⟩ => show (BitVec.ofNat 32 ((grid0.coords t) 0).val).toNat * 1 + 1 * 0 = ((grid0.coords t) 0).val
              rw [bv_small _ (by have := c0_lt t; omega)]; omega
  | ⟨1, _⟩ => show (BitVec.ofNat 32 ((grid0.coords t) 2).val).toNat * 2048 + 1 * r.val = 2048 * ((grid0.coords t) 2).val + r.val
              rw [bv_small _ (c2_lt t)]; omega
  | ⟨2, _⟩ => show (Scalar.addi (BitVec.ofNat 32 6) (BitVec.ofNat 32 ((grid0.coords t) 1).val)).toNat * 256 + 1 * l.val = 1536 + 256 * ((grid0.coords t) 1).val + l.val
              rw [bv_add _ _ (by decide) (by have := c1_lt t; omega)]; omega

theorem read1 (c : Dev nD) (r : Fin 2048) (l : Fin 128) : (iblk m c 1 t : S1x2048x128.Idx → EReal) (ix3 0 r l)
    = (m ((c.tc : Thread nD τ).loc main_arg1) : S2x8192x128.Idx → EReal) (ix3 ⟨_, c0_lt t⟩ ⟨2048 * ((grid0.coords t) 2).val + r.val, by have := c2_lt t; omega⟩ l) := by
  unfold iblk
  rw [View.read_apply]
  show V m c main_arg1 _ = m (c.tc.loc main_arg1) _
  unfold V
  congr 1
  funext a
  apply Fin.ext
  match a with
  | ⟨0, _⟩ => show (BitVec.ofNat 32 ((grid0.coords t) 0).val).toNat * 1 + 1 * 0 = ((grid0.coords t) 0).val
              rw [bv_small _ (by have := c0_lt t; omega)]; omega
  | ⟨1, _⟩ => show (BitVec.ofNat 32 ((grid0.coords t) 2).val).toNat * 2048 + 1 * r.val = 2048 * ((grid0.coords t) 2).val + r.val
              rw [bv_small _ (c2_lt t)]; omega
  | ⟨2, _⟩ => show (0#32 : BitVec 32).toNat * 128 + 1 * l.val = l.val
              rw [show (0#32 : BitVec 32).toNat = 0 from rfl]; omega

theorem read2 (c : Dev nD) (r : Fin 8192) (l : Fin 256) : (iblk m c 2 t : S1x8192x256.Idx → EReal) (ix3 0 r l)
    = (m ((c.tc : Thread nD τ).loc main_arg0) : S2x8192x3072.Idx → EReal) (ix3 ⟨_, c0_lt t⟩ r
        ⟨2048 + 256 * ((grid0.coords t) 1).val + l.val, by have := c1_lt t; omega⟩) := by
  unfold iblk
  rw [View.read_apply]
  show V m c main_arg0 _ = m (c.tc.loc main_arg0) _
  unfold V
  congr 1
  funext a
  apply Fin.ext
  match a with
  | ⟨0, _⟩ => show (BitVec.ofNat 32 ((grid0.coords t) 0).val).toNat * 1 + 1 * 0 = ((grid0.coords t) 0).val
              rw [bv_small _ (by have := c0_lt t; omega)]; omega
  | ⟨1, _⟩ => show (0#32 : BitVec 32).toNat * 8192 + 1 * r.val = r.val
              rw [show (0#32 : BitVec 32).toNat = 0 from rfl]; omega
  | ⟨2, _⟩ => show (Scalar.addi (BitVec.ofNat 32 8) (BitVec.ofNat 32 ((grid0.coords t) 1).val)).toNat * 256 + 1 * l.val = 2048 + 256 * ((grid0.coords t) 1).val + l.val
              rw [bv_add _ _ (by decide) (by have := c1_lt t; omega)]; omega

theorem read3 (c : Dev nD) (r : Fin 8192) (l : Fin 128) : (iblk m c 3 t : S1x8192x128.Idx → EReal) (ix3 0 r l)
    = (m ((c.tc : Thread nD τ).loc main_arg2) : S2x8192x128.Idx → EReal) (ix3 ⟨_, c0_lt t⟩ r l) := by
  unfold iblk
  rw [View.read_apply]
  show V m c main_arg2 _ = m (c.tc.loc main_arg2) _
  unfold V
  congr 1
  funext a
  apply Fin.ext
  match a with
  | ⟨0, _⟩ => show (BitVec.ofNat 32 ((grid0.coords t) 0).val).toNat * 1 + 1 * 0 = ((grid0.coords t) 0).val
              rw [bv_small _ (by have := c0_lt t; omega)]; omega
  | ⟨1, _⟩ => show (0#32 : BitVec 32).toNat * 8192 + 1 * r.val = r.val
              rw [show (0#32 : BitVec 32).toNat = 0 from rfl]; omega
  | ⟨2, _⟩ => show (0#32 : BitVec 32).toNat * 128 + 1 * l.val = l.val
              rw [show (0#32 : BitVec 32).toNat = 0 from rfl]; omega

theorem read4 (c : Dev nD) (r : Fin 8192) (l : Fin 256) : (iblk m c 4 t : S1x8192x256.Idx → EReal) (ix3 0 r l)
    = (m ((c.tc : Thread nD τ).loc main_arg0) : S2x8192x3072.Idx → EReal) (ix3 ⟨_, c0_lt t⟩ r
        ⟨2560 + 256 * ((grid0.coords t) 1).val + l.val, by have := c1_lt t; omega⟩) := by
  unfold iblk
  rw [View.read_apply]
  show V m c main_arg0 _ = m (c.tc.loc main_arg0) _
  unfold V
  congr 1
  funext a
  apply Fin.ext
  match a with
  | ⟨0, _⟩ => show (BitVec.ofNat 32 ((grid0.coords t) 0).val).toNat * 1 + 1 * 0 = ((grid0.coords t) 0).val
              rw [bv_small _ (by have := c0_lt t; omega)]; omega
  | ⟨1, _⟩ => show (0#32 : BitVec 32).toNat * 8192 + 1 * r.val = r.val
              rw [show (0#32 : BitVec 32).toNat = 0 from rfl]; omega
  | ⟨2, _⟩ => show (Scalar.addi (BitVec.ofNat 32 10) (BitVec.ofNat 32 ((grid0.coords t) 1).val)).toNat * 256 + 1 * l.val = 2560 + 256 * ((grid0.coords t) 1).val + l.val
              rw [bv_add _ _ (by decide) (by have := c1_lt t; omega)]; omega

/-- The result's array. -/
def resA (c : Dev nD) : S2x8192x512.Idx → EReal :=
  attA (m ((c.tc : Thread nD τ).loc main_arg0)) (m ((c.tc : Thread nD τ).loc main_arg1)) (m ((c.tc : Thread nD τ).loc main_arg2))

/-- The result's block of a point. -/
def resO (c : Dev nD) (t : Fin cfg0.N) : S1x2048x256.Idx → EReal := ((cfg0.win 5).blk t).view.read (Elt Ideal) (resA m c)

theorem resO_apply (c : Dev nD) (r : Fin 2048) (l : Fin 256) : resO m c t (ix3 0 r l)
    = resA m c (ix3 ⟨_, c0_lt t⟩ ⟨2048 * ((grid0.coords t) 2).val + r.val, by have := c2_lt t; omega⟩
        ⟨256 * ((grid0.coords t) 1).val + l.val, by have := c1_lt t; omega⟩) := by
  unfold resO
  rw [View.read_apply]
  show resA m c _ = resA m c _
  congr 1
  funext a
  apply Fin.ext
  match a with
  | ⟨0, _⟩ => show (BitVec.ofNat 32 ((grid0.coords t) 0).val).toNat * 1 + 1 * 0 = ((grid0.coords t) 0).val
              rw [bv_small _ (by have := c0_lt t; omega)]; omega
  | ⟨1, _⟩ => show (BitVec.ofNat 32 ((grid0.coords t) 2).val).toNat * 2048 + 1 * r.val = 2048 * ((grid0.coords t) 2).val + r.val
              rw [bv_small _ (c2_lt t)]; omega
  | ⟨2, _⟩ => show (BitVec.ofNat 32 ((grid0.coords t) 1).val).toNat * 256 + 1 * l.val = 256 * ((grid0.coords t) 1).val + l.val
              rw [bv_small _ (by have := c1_lt t; omega)]; omega

theorem mkC_bot : (mkC (F := Ideal) : EReal) = ⊥ := IdealRules.named_const.ideal_named_scalar _ _ _ _ rfl

theorem holds_blk (c : Dev nD) (σ : SI) (H : Holds m c t σ) :
    Blk σ (m ((c.tc : Thread nD τ).loc main_arg0)) (m ((c.tc : Thread nD τ).loc main_arg1)) (m ((c.tc : Thread nD τ).loc main_arg2))
      ⟨_, c0_lt t⟩ ((grid0.coords t) 1).val ((grid0.coords t) 2).val (c1_lt t) (by have := c2_lt t; omega) := by
  obtain ⟨h0, h1, h2, h3, h4⟩ := H
  exact ⟨fun r l => (congrFun h0 _).trans (read0 m t c r l), fun r l => (congrFun h1 _).trans (read1 m t c r l),
    fun r l => (congrFun h2 _).trans (read2 m t c r l), fun r l => (congrFun h3 _).trans (read3 m t c r l),
    fun r l => (congrFun h4 _).trans (read4 m t c r l)⟩

theorem col_split (l : Fin 256) : ∃ b j, l = col b j := by
  by_cases h : l.val < 128
  · exact ⟨false, ⟨l.val, h⟩, Fin.ext (by show l.val = 128 * 0 + l.val; omega)⟩
  · exact ⟨true, ⟨l.val - 128, by omega⟩, Fin.ext (by show l.val = 128 * 1 + (l.val - 128); omega)⟩

theorem outAt_eq (c : Dev nD) (σ : SI) (H : Holds m c t σ) : outAt t σ = resO m c t := by
  funext x
  obtain ⟨a, r, l, rfl⟩ : ∃ (a : Fin 1) (r : Fin 2048) (l : Fin 256), x = ix3 a r l := ⟨_, _, _, eq_ix3 x⟩
  obtain rfl : a = 0 := Subsingleton.elim _ _
  obtain ⟨b, j, rfl⟩ := col_split l
  rw [resO_apply]
  unfold resA
  rw [attA_head _ _ _ _ (hn4 ((grid0.coords t) 1).val (c1_lt t) b) _ j _ (by
    show 256 * ((grid0.coords t) 1).val + (128 * hd b + j.val) = 128 * (2 * ((grid0.coords t) 1).val + hd b) + j.val; omega)]
  rw [← (holds_blk m t c σ H).body (nD := nD) (τ := τ) (Λ := Λ₀) _ _ (coords2_le (grid0.coords t)) r b j]
  · rw [← mkC_bot]
  · intro b; cases b <;> exact Memref.isWhole_whole _
  · exact hstage0_5 ((cfg0.slots t 5).cast nbuf0_5)

end Points

theorem flushed_eq (c : Dev nD) (t : Fin cfg0.N) :
    (dats m (resO m) 0 c).flushed 5 t = ((cfg0.win 5).blk t).view.read (Elt Ideal) (resA m c) := rfl

theorem mem_blk (t : Fin cfg0.N) (i : S2x8192x512.Idx) (h0 : (i 0).val = ((grid0.coords t) 0).val)
    (h1 : (i 1).val / 2048 = ((grid0.coords t) 2).val) (h2 : (i 2).val / 256 = ((grid0.coords t) 1).val) : i ∈ ((cfg0.win 5).blk t).view.set := by
  show i ∈ ((View.whole main_v0).slice (win0_5.rect t)).set
  rw [View.set_slice_whole, Rect.mem_set_unit]
  intro a
  match a with
  | ⟨0, _⟩ => show (BitVec.ofNat 32 ((grid0.coords t) 0).val).toNat * 1 ≤ (i 0).val ∧ (i 0).val < (BitVec.ofNat 32 ((grid0.coords t) 0).val).toNat * 1 + 1
              rw [bv_small _ (by have := c0_lt t; omega)]; omega
  | ⟨1, _⟩ => show (BitVec.ofNat 32 ((grid0.coords t) 2).val).toNat * 2048 ≤ (i 1).val ∧ (i 1).val < (BitVec.ofNat 32 ((grid0.coords t) 2).val).toNat * 2048 + 2048
              rw [bv_small _ (c2_lt t)]; omega
  | ⟨2, _⟩ => show (BitVec.ofNat 32 ((grid0.coords t) 1).val).toNat * 256 ≤ (i 2).val ∧ (i 2).val < (BitVec.ofNat 32 ((grid0.coords t) 1).val).toNat * 256 + 256
              rw [bv_small _ (by have := c1_lt t; omega)]; omega

theorem final_o (c : Dev nD) : (dats m (resO m) 0 c).arrAt 5 cfg0.N = resA m c :=
  (dats m (resO m) 0 c).arrAt_eq_of_cover 5 (resA m c) (fun t _ => flushed_eq m c t) fun i => by
    have h0 : (i 0).val < 2 := (i 0).isLt
    have h1 : (i 1).val < 8192 := (i 1).isLt
    have h2 : (i 2).val < 512 := (i 2).isLt
    obtain ⟨t, ht⟩ := Pipeline.Grid.coords_surjective grid0 (fun a => match a with
      | ⟨0, _⟩ => ⟨(i 0).val, h0⟩ | ⟨1, _⟩ => ⟨(i 2).val / 256, by show _ < 2; omega⟩ | ⟨2, _⟩ => ⟨(i 1).val / 2048, by show _ < 4; omega⟩)
    exact ⟨t, flush0_5 t, mem_blk t i (by rw [ht]) (by rw [ht]) (by rw [ht])⟩

/-- The run, its result the attention. -/
theorem run_value : θ_run defs (onTc (τ := τ) (main (F := Ideal))) (s₀ m ρ) fun r => ∀ c : Dev nD,
      r.2.mem ((c.tc : Thread nD τ).loc main_v0) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 5).trans (final_o m c), ((h.1 c).1 4).trans ((dats m (resO m) 0 c).arrAt_in 4 rfl _),
      ((h.1 c).1 1).trans ((dats m (resO m) 0 c).arrAt_in 1 rfl _), ((h.1 c).1 3).trans ((dats m (resO m) 0 c).arrAt_in 3 rfl _)⟩)
    (run_named m ρ (resO m) fun c t σ H => outAt_eq m t c σ H)

end Cert.KernelIdeal.Gen

end
-- ==== Proof.Ref.lean ====
/-
  The reference's run.
-/
module

public import proofs.«01_k».proof.Proof.Gen.ReferenceIdeal.Run
public import Idealize.ShloMosaic.Lib.Quiescent

@[expose] public section

end
-- ==== Proof.Tail.Math.lean ====
/-
  One token's residual row through the end of a layer, at the extended reals: the squared-relu feed-forward part and the
  gated per-layer embedding, each after an rms norm, and the same with the norm's factor taken out of the products.
-/
module

public import proofs.«01_k».proof.Proof.Row
public import Idealize.ShloMosaic.Lib.ValueIdx
public import Idealize.ShloMosaic.Lib.IdealHost
public import Idealize.ShloMosaic.PureOps.Ideal.Laws

@[expose] public section

noncomputable section

namespace Tail

open Idealize.ShloMosaic
open scoped BigOperators

/-- A row of the residual stream. -/
abbrev Row := Fin 1024 → EReal

/-- The norm's small constant. -/
def eps : EReal := Ideal.ofBits .f32 0x358637BD#32
/-- The width of a row. -/
def wid : EReal := Ideal.ofBits .f32 0x44800000#32

/-- The factor of the rms norm of a row. -/
def inv (x : Row) : EReal := Ideal.rsqrt (Ideal.div (∑ j, x j * x j) wid + eps)

/-- The rms norm of a row. -/
def nrm (x g : Row) (j : Fin 1024) : EReal := x j * inv x * g j

/-- The square of the positive part. -/
def sq (a : EReal) : EReal := max a 0 * max a 0

/-- The feed-forward part, added to its row. -/
def ffn (x g : Row) (wu : Fin 1024 → Fin 4096 → EReal) (wd : Fin 4096 → Fin 1024 → EReal) (e : Fin 1024) : EReal :=
  x e + ∑ f, sq (∑ j, nrm x g j * wu j f) * wd f e

/-- The gated embedding, added to its row. -/
def gate (x g : Row) (wg : Fin 1024 → Fin 1024 → EReal) (p : Fin 256 → EReal) (wp : Fin 256 → Fin 1024 → EReal) (e : Fin 1024) : EReal :=
  x e + Ideal.logistic (∑ j, nrm x g j * wg j e) * ∑ q, p q * wp q e

/-- The residual row with the two mixers' halves added. -/
def head (h : Row) (a b : Fin 512 → EReal) (w : Fin 1024 → Fin 1024 → EReal) (e : Fin 1024) : EReal :=
  h e + (∑ k : Fin 512, a k * w ⟨k.val, by omega⟩ e + ∑ k : Fin 512, b k * w ⟨512 + k.val, by omega⟩ e)

/-- The residual row with the mixer's row added. -/
def head1 (h o : Row) (w : Fin 1024 → Fin 1024 → EReal) (e : Fin 1024) : EReal := h e + ∑ k : Fin 1024, o k * w k e

/-- A row in two halves is one row. -/
theorem head_eq (h : Row) (a b : Fin 512 → EReal) (o : Row) (w : Fin 1024 → Fin 1024 → EReal) (ha : ∀ k : Fin 512, o ⟨k.val, by omega⟩ = a k)
    (hb : ∀ k : Fin 512, o ⟨512 + k.val, by omega⟩ = b k) : head1 h o w = head h a b w := by
  funext e
  unfold head1 head
  refine congrArg (h e + ·) ((Fin.sum_univ_add (a := 512) (b := 512) fun k => o k * w k e).trans ?_)
  exact congrArg₂ (· + ·) (Finset.sum_congr rfl fun k _ => congrArg (· * w ⟨k.val, by omega⟩ e) (ha k))
    (Finset.sum_congr rfl fun k _ => congrArg (· * w ⟨512 + k.val, by omega⟩ e) (hb k))

/-- Both, one after the other. -/
def rest (x g : Row) (wu : Fin 1024 → Fin 4096 → EReal) (wd : Fin 4096 → Fin 1024 → EReal) (g' : Row) (wg : Fin 1024 → Fin 1024 → EReal)
    (p : Fin 256 → EReal) (wp : Fin 256 → Fin 1024 → EReal) : Row :=
  gate (ffn x g wu wd) g' wg p wp

/-! ## The norm's factor is a nonnegative real -/

theorem mul_self_nonneg (a : EReal) : 0 ≤ a * a := by
  induction a with
  | bot => simp
  | top => simp
  | coe r => rw [← EReal.coe_mul]; exact_mod_cast _root_.mul_self_nonneg r

theorem wid_eq : wid = ((1024 : ℝ) : EReal) := by
  simp [wid, Ideal.ofBits, Ideal.ieee]; rw [← EReal.coe_mul]; norm_num

theorem eps_pos : 0 < eps := by
  simp [eps, Ideal.ofBits, Ideal.ieee]; rw [← EReal.coe_mul]; exact EReal.coe_pos.mpr (by positivity)

theorem rsqrt_pos {y : EReal} (h : 0 < y) : 0 ≤ Ideal.rsqrt y ∧ Ideal.rsqrt y ≠ ⊤ := by
  induction y with
  | bot => exact absurd h (by simp)
  | top => exact ⟨le_refl _, EReal.zero_ne_top⟩
  | coe r =>
    have hr : 0 < r := by exact_mod_cast h
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [e]
    exact ⟨by exact_mod_cast inv_nonneg.mpr (Real.sqrt_nonneg r), EReal.coe_ne_top _⟩

theorem inv_arg (x : Row) : 0 < Ideal.div (∑ j, x j * x j) wid + eps := by
  have h0 : 0 ≤ ∑ j, x j * x j := Finset.sum_nonneg fun j _ => mul_self_nonneg (x j)
  have h1 : 0 ≤ Ideal.div (∑ j, x j * x j) wid := by
    rw [wid_eq]
    unfold Ideal.div
    rw [if_neg (by exact_mod_cast (by norm_num : (1024 : ℝ) ≠ 0)), ← EReal.coe_inv]
    exact mul_nonneg h0 (by exact_mod_cast (by norm_num : (0 : ℝ) ≤ (1024 : ℝ)⁻¹))
  exact lt_of_lt_of_le eps_pos (le_add_of_nonneg_left h1)

theorem inv_nonneg' (x : Row) : 0 ≤ inv x := (rsqrt_pos (inv_arg x)).1
theorem inv_ne_top (x : Row) : inv x ≠ ⊤ := (rsqrt_pos (inv_arg x)).2

/-! ## The norm's factor taken out -/

/-- A product with a normed row is the factor times the product with the row. -/
theorem sum_nrm (x g w : Row) : ∑ j, nrm x g j * w j = inv x * ∑ j, x j * g j * w j := by
  rw [Fox.mul_sum_nonneg _ _ (inv_nonneg' x) (inv_ne_top x)]
  refine Finset.sum_congr rfl fun j _ => ?_
  unfold nrm
  rw [mul_comm (x j) (inv x), mul_assoc, mul_assoc, mul_assoc]

/-- A nonnegative factor leaves the square of the positive part as its square. -/
theorem sq_mul {r : EReal} (h : 0 ≤ r) (a : EReal) : sq (r * a) = r * r * sq a := by
  unfold sq
  have e : max (r * a) 0 = r * max a 0 := by
    rcases le_total 0 a with ha | ha
    · rw [max_eq_left ha, max_eq_left (mul_nonneg h ha)]
    · rw [max_eq_right ha, mul_zero, max_eq_right]
      rw [mul_comm]; exact EReal.mul_nonpos_iff.mpr (Or.inr ⟨ha, h⟩)
  rw [e]
  exact mul_mul_mul_comm r (max a 0) r (max a 0)

/-- The feed-forward part with the factor taken out and its inner width cut in two. -/
theorem ffn_eq (x g : Row) (wu : Fin 1024 → Fin 4096 → EReal) (wd : Fin 4096 → Fin 1024 → EReal) (e : Fin 1024) :
    ffn x g wu wd e = x e + inv x * inv x *
      (∑ f : Fin 2048, sq (∑ j, x j * g j * wu j ⟨f.val, by omega⟩) * wd ⟨f.val, by omega⟩ e
        + ∑ f : Fin 2048, sq (∑ j, x j * g j * wu j ⟨2048 + f.val, by omega⟩) * wd ⟨2048 + f.val, by omega⟩ e) := by
  have hr : 0 ≤ inv x * inv x := mul_nonneg (inv_nonneg' x) (inv_nonneg' x)
  have ht : inv x * inv x ≠ ⊤ := by
    have h0 := inv_nonneg' x
    have h1 := inv_ne_top x
    revert h0 h1
    generalize inv x = i
    intro h0 h1
    induction i with
    | bot => exact absurd h0 (by simp)
    | top => exact absurd rfl h1
    | coe r => rw [← EReal.coe_mul]; exact EReal.coe_ne_top _
  unfold ffn
  refine congrArg (x e + ·) ?_
  have s : ∀ f, sq (∑ j, nrm x g j * wu j f) * wd f e = inv x * inv x * (sq (∑ j, x j * g j * wu j f) * wd f e) := fun f => by
    rw [sum_nrm x g (fun j => wu j f), sq_mul (inv_nonneg' x), mul_assoc]
  rw [Finset.sum_congr rfl fun f _ => s f, ← Fox.mul_sum_nonneg _ _ hr ht]
  refine congrArg (inv x * inv x * ·) ?_
  exact Fin.sum_univ_add (M := EReal) (a := 2048) (b := 2048) fun f => sq (∑ j, x j * g j * wu j f) * wd f e

/-- The gated embedding with the factor taken out. -/
theorem gate_eq (x g : Row) (wg : Fin 1024 → Fin 1024 → EReal) (p : Fin 256 → EReal) (wp : Fin 256 → Fin 1024 → EReal) (e : Fin 1024) :
    gate x g wg p wp e = x e + Ideal.logistic (inv x * ∑ j, x j * g j * wg j e) * ∑ q, p q * wp q e := by
  unfold gate
  rw [sum_nrm x g (fun j => wg j e)]

end Tail

end
-- ==== Proof.Tail.Kern.lean ====
/-
  The kernel's end of a layer on a tile of 512 rows, at the extended reals: its array operations, entry by entry.
-/
module

public import proofs.«01_k».proof.Proof.Tail.Math
public import proofs.«01_k».proof.Proof.Vals
public import Idealize.ShloMosaic.Lib.MatmulPlain
public import Idealize.ShloMosaic.Lib.Pipeline.Value
public import Idealize.ShloMosaic.Lib.Pipeline.ValueKit.Tiles
public import Idealize.ShloMosaic.Lib.Pipeline.Value

@[expose] public section

noncomputable section

namespace Tail

open Idealize.ShloMosaic Idealize.ShloMosaic.ValueIdx
open scoped BigOperators

/-- A matrix's shape. -/
abbrev M (a b : ℕ) : Shape := ⟨2, ![a, b]⟩
/-- A stack's shape. -/
abbrev T (a b c : ℕ) : Shape := ⟨3, ![a, b, c]⟩

/-- A product from a zero accumulator, at an entry. -/
theorem mm {m k n : ℕ} {φ₁ φ₂ : FTy} (L : FVec Ideal (M m k) φ₁) (R : FVec Ideal (M k n) φ₂) (r : Fin m) (c : Fin n) :
    matmul (DotDims.plain m k n) none L R (constant (M m n) .f32 0x00000000#32) (ix2 r c) = ∑ j : Fin k, (L (ix2 r j) : EReal) * R (ix2 j c) := by
  refine (Ideal.matmul_plain_apply none L R _ r c).trans ?_
  rw [Fox.zero_apply, zero_add]

section Stages

variable (h1 : (M 512 1024).Reduces [1] ⟨1, ![512]⟩) (h2 : (⟨1, ![512]⟩ : Shape).ShapeCasts (M 512 1)) (h3 : (M 1 1024).Broadcasts (M 512 1024))
  (h4 : FTy.bits .bf16 < FTy.bits .f32) (h5 : (M 512 1).ShapeCasts (M 512 1)) (h6 : (M 512 1).Broadcasts (M 512 128))
  (h7 : Shape.Concatenates [M 512 128, M 512 128, M 512 128, M 512 128, M 512 128, M 512 128, M 512 128, M 512 128] (M 512 1024) 1)
  (h8 : (T 1 512 256).ShapeCasts (M 512 256)) (h9 : (T 1 256 1024).ShapeCasts (M 256 1024)) (h10 : (M 512 1).Broadcasts (M 512 1024))

/-- The norm's factors, a column. -/
def colK (x : FVec Ideal (M 512 1024) .f32) : FVec Ideal (M 512 1) .f32 :=
  rsqrt (addf (divf (shapeCast (M 512 1) (multiReduction .add [1] ⟨1, ![512]⟩ (mulf x x) 0x00000000#32 h1 (.inl rfl) rfl) h2)
    (broadcast (M 512 1) (Scalar.ofBits .f32 0x44800000#32))) (broadcast (M 512 1) (Scalar.ofBits .f32 0x358637BD#32)))

/-- The norm's factors on 128 columns. -/
def facK (x : FVec Ideal (M 512 1024) .f32) : FVec Ideal (M 512 128) .f32 :=
  broadcastTo (M 512 128) (shapeCast (M 512 1) (colK h1 h2 x) h5) h6

/-- Eight copies side by side. -/
def repK (x : FVec Ideal (M 512 128) .f32) : FVec Ideal (M 512 1024) .f32 :=
  concatenate (M 512 1024) 1 [⟨M 512 128, x⟩, ⟨M 512 128, x⟩, ⟨M 512 128, x⟩, ⟨M 512 128, x⟩, ⟨M 512 128, x⟩, ⟨M 512 128, x⟩, ⟨M 512 128, x⟩, ⟨M 512 128, x⟩] h7

/-- The rows with the norm's weights. -/
def wtdK (x : FVec Ideal (M 512 1024) .f32) (g : FVec Ideal (M 1 1024) .f32) : FVec Ideal (M 512 1024) .bf16 :=
  truncf .bf16 (mulf x (broadcastTo (M 512 1024) g h3)) h4

/-- Half of the feed-forward part. -/
def halfK (y : FVec Ideal (M 512 1024) .bf16) (wu : FVec Ideal (M 1024 2048) .bf16) (wd : FVec Ideal (M 2048 1024) .bf16) : FVec Ideal (M 512 1024) .f32 :=
  matmul (DotDims.plain 512 2048 1024) none
    (truncf .bf16 (mulf (maximumf (matmul (DotDims.plain 512 1024 2048) none y wu (constant (M 512 2048) .f32 0x00000000#32)) (broadcast (M 512 2048) (Scalar.ofBits .f32 0x00000000#32)))
      (maximumf (matmul (DotDims.plain 512 1024 2048) none y wu (constant (M 512 2048) .f32 0x00000000#32)) (broadcast (M 512 2048) (Scalar.ofBits .f32 0x00000000#32)))) h4)
    wd (constant (M 512 1024) .f32 0x00000000#32)

/-- The feed-forward part added. -/
def ffnK (x : FVec Ideal (M 512 1024) .f32) (g : FVec Ideal (M 1 1024) .f32) (wu wu' : FVec Ideal (M 1024 2048) .bf16)
    (wd wd' : FVec Ideal (M 2048 1024) .bf16) : FVec Ideal (M 512 1024) .f32 :=
  addf x (mulf (repK h7 (mulf (facK h1 h2 h5 h6 x) (facK h1 h2 h5 h6 x)))
    (addf (halfK h4 (wtdK h3 h4 x g) wu wd) (halfK h4 (wtdK h3 h4 x g) wu' wd')))

/-- The gated embedding added. -/
def gateK (x : FVec Ideal (M 512 1024) .f32) (g : FVec Ideal (M 1 1024) .f32) (wg : FVec Ideal (M 1024 1024) .bf16)
    (p : FVec Ideal (T 1 512 256) .f32) (wp : FVec Ideal (T 1 256 1024) .bf16) : FVec Ideal (M 512 1024) .f32 :=
  addf x (mulf (logistic (mulf (repK h7 (facK h1 h2 h5 h6 x)) (matmul (DotDims.plain 512 1024 1024) none (wtdK h3 h4 x g) wg (constant (M 512 1024) .f32 0x00000000#32))))
    (matmul (DotDims.plain 512 256 1024) none (truncf .bf16 (shapeCast (M 512 256) p h8) h4) (shapeCast (M 256 1024) wp h9) (constant (M 512 1024) .f32 0x00000000#32)))

/-- The rms norm. -/
def normK (x : FVec Ideal (M 512 1024) .f32) (g : FVec Ideal (M 1 1024) .f32) : FVec Ideal (M 512 1024) .f32 :=
  mulf (mulf x (broadcastTo (M 512 1024) (colK h1 h2 x) h10)) (broadcastTo (M 512 1024) g h3)

theorem lift_row (r : Fin 512) (j : Fin 1024) : h1.lift (ix1 r) j = ix2 r j := by
  funext b
  match b with | ⟨0, _⟩ => rfl | ⟨1, _⟩ => rfl

theorem colK_apply (x : FVec Ideal (M 512 1024) .f32) (r : Fin 512) : colK h1 h2 x (ix2 r 0) = inv (fun j => x (ix2 r j)) := by
  have e : shapeCast (M 512 1) (multiReduction .add [1] ⟨1, ![512]⟩ (mulf x x) 0x00000000#32 h1 (.inl rfl) rfl) h2 (ix2 r 0)
      = ∑ j : Fin 1024, (x (ix2 r j) : EReal) * x (ix2 r j) := by
    refine (shapeCast_apply _ h2 _ (ix1 r) ?_).trans ?_
    · rw [Shape.rowMajor_val_one, Shape.rowMajor_val_two]
      show r.val = r.val * 1 + 0
      omega
    · refine (Ideal.multiReduction_add_single (mulf x x) _ h1 _ _ (ix1 r)).trans ?_
      exact Finset.sum_congr rfl fun j _ => congrArg (fun i => (x i : EReal) * x i) (lift_row h1 r j)
  show Ideal.rsqrt (Ideal.div (shapeCast (M 512 1) (multiReduction .add [1] ⟨1, ![512]⟩ (mulf x x) 0x00000000#32 h1 (.inl rfl) rfl) h2 (ix2 r 0)) wid + eps) = _
  rw [e]
  rfl

theorem facK_apply (x : FVec Ideal (M 512 1024) .f32) (r : Fin 512) (l : Fin 128) :
    facK h1 h2 h5 h6 x (ix2 r l) = inv (fun j => x (ix2 r j)) := by
  unfold facK
  refine (broadcastTo_apply _ h6 _ (ix2 r 0) fun a => ?_).trans ?_
  · match a with | ⟨0, _⟩ => rfl | ⟨1, _⟩ => rfl
  · rw [shapeCast_self]
    exact colK_apply h1 h2 x r

theorem repK_apply (x : FVec Ideal (M 512 128) .f32) (r : Fin 512) (e : Fin 1024) :
    repK h7 x (ix2 r e) = x (ix2 r ⟨e.val % 128, Nat.mod_lt _ (by decide)⟩) := by
  unfold repK
  refine concatenate_replicate_apply (s₁ := M 512 128) (t := M 512 1024) 1 8 x h7 rfl _ _ rfl fun b hb => ?_
  match b, hb with
  | ⟨0, _⟩, _ => rfl
  | ⟨1, _⟩, hb => exact absurd rfl hb

theorem wtdK_apply (x : FVec Ideal (M 512 1024) .f32) (g : FVec Ideal (M 1 1024) .f32) (r : Fin 512) (j : Fin 1024) :
    (wtdK h3 h4 x g (ix2 r j) : EReal) = x (ix2 r j) * g (ix2 0 j) := by
  show (x (ix2 r j) : EReal) * broadcastTo (M 512 1024) g h3 (ix2 r j) = _
  refine congrArg ((x (ix2 r j) : EReal) * ·) (broadcastTo_apply _ h3 _ (ix2 0 j) fun a => ?_)
  match a with | ⟨0, _⟩ => rfl | ⟨1, _⟩ => rfl

theorem halfK_apply (y : FVec Ideal (M 512 1024) .bf16) (wu : FVec Ideal (M 1024 2048) .bf16) (wd : FVec Ideal (M 2048 1024) .bf16)
    (r : Fin 512) (e : Fin 1024) :
    (halfK h4 y wu wd (ix2 r e) : EReal) = ∑ f : Fin 2048, sq (∑ j : Fin 1024, (y (ix2 r j) : EReal) * wu (ix2 j f)) * wd (ix2 f e) := by
  unfold halfK
  rw [mm]
  refine Finset.sum_congr rfl fun f _ => congrArg (· * (wd (ix2 f e) : EReal)) ?_
  show max (matmul (DotDims.plain 512 1024 2048) none y wu (constant (M 512 2048) .f32 0x00000000#32) (ix2 r f)) (Ideal.ofBits .f32 0x00000000#32)
    * max (matmul (DotDims.plain 512 1024 2048) none y wu (constant (M 512 2048) .f32 0x00000000#32) (ix2 r f)) (Ideal.ofBits .f32 0x00000000#32) = _
  rw [mm, Ideal.ofBits_zero_f32]
  rfl

/-- The kernel's feed-forward part is the row's. -/
theorem ffnK_apply (x : FVec Ideal (M 512 1024) .f32) (g : FVec Ideal (M 1 1024) .f32) (wu wu' : FVec Ideal (M 1024 2048) .bf16)
    (wd wd' : FVec Ideal (M 2048 1024) .bf16) (U : Fin 1024 → Fin 4096 → EReal) (D : Fin 4096 → Fin 1024 → EReal)
    (hu : ∀ j (f : Fin 2048), wu (ix2 j f) = U j ⟨f.val, by omega⟩) (hu' : ∀ j (f : Fin 2048), wu' (ix2 j f) = U j ⟨2048 + f.val, by omega⟩)
    (hd : ∀ (f : Fin 2048) e, wd (ix2 f e) = D ⟨f.val, by omega⟩ e) (hd' : ∀ (f : Fin 2048) e, wd' (ix2 f e) = D ⟨2048 + f.val, by omega⟩ e)
    (r : Fin 512) (e : Fin 1024) :
    ffnK h1 h2 h3 h4 h5 h6 h7 x g wu wu' wd wd' (ix2 r e) = ffn (fun j => x (ix2 r j)) (fun j => g (ix2 0 j)) U D e := by
  rw [ffn_eq]
  show (x (ix2 r e) : EReal) + repK h7 (mulf (facK h1 h2 h5 h6 x) (facK h1 h2 h5 h6 x)) (ix2 r e)
    * (halfK h4 (wtdK h3 h4 x g) wu wd (ix2 r e) + halfK h4 (wtdK h3 h4 x g) wu' wd' (ix2 r e)) = _
  rw [repK_apply, halfK_apply, halfK_apply, mulf_apply, facK_apply]
  simp only [wtdK_apply, hu, hu', hd, hd']

/-- The kernel's gated embedding is the row's. -/
theorem gateK_apply (x : FVec Ideal (M 512 1024) .f32) (g : FVec Ideal (M 1 1024) .f32) (wg : FVec Ideal (M 1024 1024) .bf16)
    (p : FVec Ideal (T 1 512 256) .f32) (wp : FVec Ideal (T 1 256 1024) .bf16) (r : Fin 512) (e : Fin 1024) :
    gateK h1 h2 h3 h4 h5 h6 h7 h8 h9 x g wg p wp (ix2 r e)
      = gate (fun j => x (ix2 r j)) (fun j => g (ix2 0 j)) (fun j e => wg (ix2 j e)) (fun q => p (ix3 0 r q)) (fun q e => wp (ix3 0 q e)) e := by
  have ep : ∀ q : Fin 256, (truncf .bf16 (shapeCast (M 512 256) p h8) h4 (ix2 r q) : EReal) = p (ix3 0 r q) := fun q => by
    rw [truncf_apply]
    refine shapeCast_apply _ h8 _ (ix3 0 r q) ?_
    rw [Shape.rowMajor_val_three, Shape.rowMajor_val_two]
    show (0 * 512 + r.val) * 256 + q.val = r.val * 256 + q.val
    omega
  have ew : ∀ q : Fin 256, (shapeCast (M 256 1024) wp h9 (ix2 q e) : EReal) = wp (ix3 0 q e) := fun q => by
    refine shapeCast_apply _ h9 _ (ix3 0 q e) ?_
    rw [Shape.rowMajor_val_three, Shape.rowMajor_val_two]
    show (0 * 256 + q.val) * 1024 + e.val = q.val * 1024 + e.val
    omega
  rw [gate_eq]
  show (x (ix2 r e) : EReal) + Ideal.logistic (repK h7 (facK h1 h2 h5 h6 x) (ix2 r e)
      * matmul (DotDims.plain 512 1024 1024) none (wtdK h3 h4 x g) wg (constant (M 512 1024) .f32 0x00000000#32) (ix2 r e))
    * matmul (DotDims.plain 512 256 1024) none (truncf .bf16 (shapeCast (M 512 256) p h8) h4) (shapeCast (M 256 1024) wp h9) (constant (M 512 1024) .f32 0x00000000#32) (ix2 r e) = _
  rw [repK_apply, facK_apply, mm, mm]
  simp only [wtdK_apply, ep, ew]

/-- Both parts of the kernel are the row's. -/
theorem restK_apply (x : FVec Ideal (M 512 1024) .f32) (g : FVec Ideal (M 1 1024) .f32) (wu wu' : FVec Ideal (M 1024 2048) .bf16)
    (wd wd' : FVec Ideal (M 2048 1024) .bf16) (g' : FVec Ideal (M 1 1024) .f32) (wg : FVec Ideal (M 1024 1024) .bf16)
    (p : FVec Ideal (T 1 512 256) .f32) (wp : FVec Ideal (T 1 256 1024) .bf16) (U : Fin 1024 → Fin 4096 → EReal) (D : Fin 4096 → Fin 1024 → EReal)
    (hu : ∀ j (f : Fin 2048), wu (ix2 j f) = U j ⟨f.val, by omega⟩) (hu' : ∀ j (f : Fin 2048), wu' (ix2 j f) = U j ⟨2048 + f.val, by omega⟩)
    (hd : ∀ (f : Fin 2048) e, wd (ix2 f e) = D ⟨f.val, by omega⟩ e) (hd' : ∀ (f : Fin 2048) e, wd' (ix2 f e) = D ⟨2048 + f.val, by omega⟩ e)
    (r : Fin 512) (e : Fin 1024) :
    gateK h1 h2 h3 h4 h5 h6 h7 h8 h9 (ffnK h1 h2 h3 h4 h5 h6 h7 x g wu wu' wd wd') g' wg p wp (ix2 r e)
      = rest (fun j => x (ix2 r j)) (fun j => g (ix2 0 j)) U D (fun j => g' (ix2 0 j)) (fun j e => wg (ix2 j e)) (fun q => p (ix3 0 r q)) (fun q e => wp (ix3 0 q e)) e := by
  rw [gateK_apply]
  unfold rest
  exact congrArg (fun y => gate y _ _ _ _ e) (funext fun j => ffnK_apply h1 h2 h3 h4 h5 h6 h7 x g wu wu' wd wd' U D hu hu' hd hd' r j)

/-- The kernel's norm is the row's. -/
theorem normK_apply (x : FVec Ideal (M 512 1024) .f32) (g : FVec Ideal (M 1 1024) .f32) (r : Fin 512) (e : Fin 1024) :
    normK h1 h2 h3 h10 x g (ix2 r e) = nrm (fun j => x (ix2 r j)) (fun j => g (ix2 0 j)) e := by
  show (x (ix2 r e) : EReal) * broadcastTo (M 512 1024) (colK h1 h2 x) h10 (ix2 r e) * broadcastTo (M 512 1024) g h3 (ix2 r e) = _
  have e1 : broadcastTo (M 512 1024) (colK h1 h2 x) h10 (ix2 r e) = inv (fun j => x (ix2 r j)) :=
    (broadcastTo_apply _ h10 _ (ix2 r 0) fun a => by match a with | ⟨0, _⟩ => rfl | ⟨1, _⟩ => rfl).trans (colK_apply h1 h2 x r)
  have e2 : broadcastTo (M 512 1024) g h3 (ix2 r e) = g (ix2 0 e) :=
    broadcastTo_apply _ h3 _ (ix2 0 e) fun a => by match a with | ⟨0, _⟩ => rfl | ⟨1, _⟩ => rfl
  rw [e1, e2]
  rfl

end Stages

/-! ## Places -/

theorem z2 : (![0, 0] : Fin 2 → ℕ) = fun _ => 0 := by funext a; fin_cases a <;> rfl
theorem z3 : (![0, 0, 0] : Fin 3 → ℕ) = fun _ => 0 := by funext a; fin_cases a <;> rfl

/-- A part of a matrix read from a corner. -/
theorem ld_at {Val : EltTy → Type} {k : EltTy} {A B a b : ℕ} {X : (M A B).Idx → Val k} (o o' : ℕ) (inb : ∀ i, (![o, o'] : Fin 2 → ℕ) i + (M a b).size i ≤ (M A B).size i)
    (r : Fin a) (c : Fin b) (R : Fin A) (C : Fin B) (hr : R.val = o + r.val) (hc : C.val = o' + c.val) :
    View.ld X (Rect.unit (s := M A B) ![o, o'] (M a b).size inb) (ix2 r c) = X (ix2 R C) :=
  View.ld_unit_apply_of X _ _ inb (ix2 r c) (ix2 R C) fun i => match i with
    | ⟨0, _⟩ => hr
    | ⟨1, _⟩ => hc

theorem at0 (s x : ℕ) : (0#32 : BitVec 32).toNat * s + 1 * x = x := by
  rw [show (0#32 : BitVec 32).toNat = 0 from rfl]; omega

theorem at1 (x : ℕ) : (1#32 : BitVec 32).toNat * 1 + 1 * x = 1 + x := by
  rw [show (1#32 : BitVec 32).toNat = 1 from rfl]; omega

theorem atT (n x : ℕ) (h : n < 32) : (BitVec.ofNat 32 n).toNat * 512 + 1 * x = 512 * n + x := by
  rw [BitVec.toNat_ofNat]; omega

/-- A window that covers its whole matrix reads it. -/
theorem whole_read {A B : ℕ} {α : Type} {X : (M A B).Idx → α} (f : (M A B).Idx → (M A B).Idx)
    (h0 : ∀ i, (f i 0).val = (0#32 : BitVec 32).toNat * A + 1 * (i 0).val) (h1 : ∀ i, (f i 1).val = (0#32 : BitVec 32).toNat * B + 1 * (i 1).val) :
    (fun i => X (f i)) = X := by
  funext i
  congr 1
  funext a
  apply Fin.ext
  match a with
  | ⟨0, _⟩ => exact (h0 i).trans (at0 _ _)
  | ⟨1, _⟩ => exact (h1 i).trans (at0 _ _)

/-- A window over a tile of rows reads the tile. -/
theorem tile_read {A B n : ℕ} {α : Type} {X : (M A B).Idx → α} (i : (M A B).Idx) (r : Fin 512) (j : Fin B) (R : Fin A) (hn : n < 32) (hR : R.val = 512 * n + r.val)
    (h0 : (i 0).val = (BitVec.ofNat 32 n).toNat * 512 + 1 * r.val) (h1 : (i 1).val = (0#32 : BitVec 32).toNat * B + 1 * j.val) :
    X i = X (ix2 R j) := by
  congr 1
  funext a
  apply Fin.ext
  match a with
  | ⟨0, _⟩ => exact h0.trans ((atT _ _ hn).trans hR.symm)
  | ⟨1, _⟩ => exact h1.trans (at0 _ _)

end Tail

end
-- ==== Proof.Tail.K2.lean ====
/-
  The first layer's end: what the launch leaves, at the extended reals.
-/
module

public import proofs.«01_k».proof.Proof.Gen.Kernel2Ideal.Value
public import proofs.«01_k».proof.Proof.Tail.Kern
public import Idealize.ShloMosaic.Lib.Pipeline.Covers
public import Idealize.ShloMosaic.Lib.Pipeline.ValueKit.Tiles

@[expose] public section

set_option maxRecDepth 16384

noncomputable section

namespace Cert.Kernel2Ideal.Gen

open Cert.Kernel2Ideal.Facts₀
open Idealize.ShloMosaic Idealize.ShloMosaic.ValueIdx Idealize.ShloMosaic.TcCoe
open Idealize.SL Idealize.SL.RA Idealize.SL.BI Idealize.SL.Sem
open Idealize.ShloMosaic.Pipeline (Dat)
open Tail
open scoped BigOperators

theorem pay1_apply (v0 : Vec Ideal S512x512 .bf16) (v1 : Vec Ideal S512x1024 .bf16) (v3 : Vec Ideal S512x512 .bf16) (v4 : Vec Ideal S512x1024 .bf16)
    (v7 : Vec Ideal S512x1024 .f32) (r : Fin 512) (e : Fin 1024) :
    (k0_pay1 v0 v1 v3 v4 v7 (ix2 r e) : EReal)
      = v7 (ix2 r e) + (∑ k : Fin 512, (v0 (ix2 r k) : EReal) * v1 (ix2 k e) + ∑ k : Fin 512, (v3 (ix2 r k) : EReal) * v4 (ix2 k e)) :=
  congrArg₂ (fun s t : EReal => (v7 (ix2 r e) : EReal) + (s + t)) (mm v0 v1 r e) (mm v3 v4 r e)

theorem pay_eq (v0 : Vec Ideal S512x512 .bf16) (v1 : Vec Ideal S512x1024 .bf16) (v3 : Vec Ideal S512x512 .bf16) (v4 : Vec Ideal S512x1024 .bf16)
    (v7 : Vec Ideal S512x1024 .f32) (g : Vec Ideal S1x1024 .f32) (wu wu' : Vec Ideal S1024x2048 .bf16) (wd wd' : Vec Ideal S2048x1024 .bf16)
    (g' : Vec Ideal S1x1024 .f32) (wg : Vec Ideal S1024x1024 .bf16) (p : Vec Ideal S1x512x256 .f32) (wp : Vec Ideal S1x256x1024 .bf16) :
    k0_pay5 (k0_pay1 v0 v1 v3 v4 v7) (k0_pay2 v0 v1 v3 v4 v7 g) (k0_pay3 v0 v1 v3 v4 v7) (k0_pay4 v0 v1 v3 v4 v7 g wu wd) wu'
        (constant S512x2048 .f32 0x00000000#32) wd' g' wg p wp
      = gateK reduces_S512x1024_S512 shapeCasts_S512_S512x1 broadcasts_S1x1024_S512x1024 bitsLt_bf16_f32 shapeCasts_S512x1_S512x1 broadcasts_S512x1_S512x128
          concatenates_S512x128_S512x128_S512x128_S512x128_S512x128_S512x128_S512x128_S512x128_S512x1024_d1 shapeCasts_S1x512x256_S512x256 shapeCasts_S1x256x1024_S256x1024
          (ffnK reduces_S512x1024_S512 shapeCasts_S512_S512x1 broadcasts_S1x1024_S512x1024 bitsLt_bf16_f32 shapeCasts_S512x1_S512x1 broadcasts_S512x1_S512x128
            concatenates_S512x128_S512x128_S512x128_S512x128_S512x128_S512x128_S512x128_S512x128_S512x1024_d1 (k0_pay1 v0 v1 v3 v4 v7) g wu wu' wd wd') g' wg p wp := rfl

/-- A block of the launch, entry by entry. -/
theorem out_apply (x0 : Vec Ideal S512x1024 .f32) (x1 x2 : Vec Ideal S512x512 .bf16) (x3 : Vec Ideal S1024x1024 .bf16) (x4 : Vec Ideal S1x1024 .f32)
    (x5 : Vec Ideal S1024x4096 .bf16) (x6 : Vec Ideal S4096x1024 .bf16) (x7 : Vec Ideal S1x1024 .f32) (x8 : Vec Ideal S1024x1024 .bf16)
    (x9 : Vec Ideal S1x512x256 .f32) (x10 : Vec Ideal S1x256x1024 .bf16) (r : Fin 512) (e : Fin 1024) :
    (out0_11 x0 x1 x2 x3 x4 x5 x6 x7 x8 x9 x10 (ix2 r e) : EReal)
      = rest (head (fun j => x0 (ix2 r j)) (fun k => x1 (ix2 r k)) (fun k => x2 (ix2 r k)) (fun k e => x3 (ix2 k e)))
          (fun j => x4 (ix2 0 j)) (fun j f => x5 (ix2 j f)) (fun f e => x6 (ix2 f e)) (fun j => x7 (ix2 0 j)) (fun j e => x8 (ix2 j e))
          (fun q => x9 (ix3 0 r q)) (fun q e => x10 (ix3 0 q e)) e := by
  unfold out0_11
  rw [View.canon_unit_zero z2, View.ld_unit_zero z2, View.ld_unit_zero z2, View.ld_unit_zero z2, View.ld_unit_zero z2, View.ld_unit_zero z2,
    View.ld_unit_zero z2, View.ld_unit_zero z3, View.ld_unit_zero z3, pay_eq]
  refine (restK_apply _ _ _ _ _ _ _ _ _ _ _ _ _ _ _ _ _ _ _ (fun j f => x5 (ix2 j f)) (fun f e => x6 (ix2 f e))
    (fun j f => ld_at (A := 1024) (B := 4096) (X := x5) 0 0 _ j f _ ⟨f.val, by omega⟩ (Nat.zero_add _).symm (Nat.zero_add _).symm) (fun j f => ld_at (A := 1024) (B := 4096) (X := x5) 0 2048 _ j f _ _ (Nat.zero_add _).symm rfl)
    (fun f e => ld_at (A := 4096) (B := 1024) (X := x6) 0 0 _ f e ⟨f.val, by omega⟩ _ (Nat.zero_add _).symm (Nat.zero_add _).symm) (fun f e => ld_at (A := 4096) (B := 1024) (X := x6) 2048 0 _ f e _ _ rfl (Nat.zero_add _).symm) r e).trans ?_
  refine congrArg (fun y => rest y _ _ _ _ _ _ _ e) (funext fun j => (pay1_apply _ _ _ _ _ r j).trans ?_)
  unfold head
  refine congrArg₂ (fun s t : EReal => (x0 (ix2 r j) : EReal) + (s + t)) (Finset.sum_congr rfl fun k _ => ?_) (Finset.sum_congr rfl fun k _ => ?_)
  · exact congrArg (fun w : EReal => (x1 (ix2 r k) : EReal) * w) (ld_at (A := 1024) (B := 1024) (X := x3) 0 0 _ k j _ _ (Nat.zero_add _).symm (Nat.zero_add _).symm)
  · exact congrArg (fun w : EReal => (x2 (ix2 r k) : EReal) * w) (ld_at (A := 1024) (B := 1024) (X := x3) 512 0 _ k j _ _ rfl (Nat.zero_add _).symm)

variable (m : (ℓ : Loc nD τ sig) → Buf (Elt Ideal) ℓ) (ρ : Dev nD → PrngReg)

section Points

variable (t : Fin cfg0.N)

theorem c0_lt : ((grid0.coords t) 0).val < 32 := ((grid0.coords t) 0).isLt

/-- The row of the array that a tile's row is. -/
def row (r : Fin 512) : Fin 16384 := ⟨512 * ((grid0.coords t) 0).val + r.val, by have := c0_lt t; omega⟩

theorem read0 (c : Dev nD) (r : Fin 512) (j : Fin 1024) : (iblk m c 0 t : S512x1024.Idx → EReal) (ix2 r j)
    = (m ((c.tc : Thread nD τ).loc main_arg0) : S16384x1024.Idx → EReal) (ix2 (row t r) j) :=
  tile_read (X := (m ((c.tc : Thread nD τ).loc main_arg0) : S16384x1024.Idx → EReal)) _ r j _ (c0_lt t) rfl rfl rfl

theorem read1 (c : Dev nD) (r : Fin 512) (j : Fin 512) : (iblk m c 1 t : S512x512.Idx → EReal) (ix2 r j)
    = (m ((c.tc : Thread nD τ).loc main_arg1) : S16384x512.Idx → EReal) (ix2 (row t r) j) :=
  tile_read (X := (m ((c.tc : Thread nD τ).loc main_arg1) : S16384x512.Idx → EReal)) _ r j _ (c0_lt t) rfl rfl rfl

theorem read2 (c : Dev nD) (r : Fin 512) (j : Fin 512) : (iblk m c 2 t : S512x512.Idx → EReal) (ix2 r j)
    = (m ((c.tc : Thread nD τ).loc main_arg2) : S16384x512.Idx → EReal) (ix2 (row t r) j) :=
  tile_read (X := (m ((c.tc : Thread nD τ).loc main_arg2) : S16384x512.Idx → EReal)) _ r j _ (c0_lt t) rfl rfl rfl

theorem read3 (c : Dev nD) : (iblk m c 3 t : S1024x1024.Idx → EReal) = m ((c.tc : Thread nD τ).loc main_arg3) :=
  whole_read (X := m ((c.tc : Thread nD τ).loc main_arg3)) _ (fun _ => rfl) (fun _ => rfl)

theorem read4 (c : Dev nD) : (iblk m c 4 t : S1x1024.Idx → EReal) = m ((c.tc : Thread nD τ).loc main_arg4) :=
  whole_read (X := m ((c.tc : Thread nD τ).loc main_arg4)) _ (fun _ => rfl) (fun _ => rfl)

theorem read5 (c : Dev nD) : (iblk m c 5 t : S1024x4096.Idx → EReal) = m ((c.tc : Thread nD τ).loc main_arg5) :=
  whole_read (X := m ((c.tc : Thread nD τ).loc main_arg5)) _ (fun _ => rfl) (fun _ => rfl)

theorem read6 (c : Dev nD) : (iblk m c 6 t : S4096x1024.Idx → EReal) = m ((c.tc : Thread nD τ).loc main_arg6) :=
  whole_read (X := m ((c.tc : Thread nD τ).loc main_arg6)) _ (fun _ => rfl) (fun _ => rfl)

theorem read7 (c : Dev nD) : (iblk m c 7 t : S1x1024.Idx → EReal) = m ((c.tc : Thread nD τ).loc main_arg7) :=
  whole_read (X := m ((c.tc : Thread nD τ).loc main_arg7)) _ (fun _ => rfl) (fun _ => rfl)

theorem read8 (c : Dev nD) : (iblk m c 8 t : S1024x1024.Idx → EReal) = m ((c.tc : Thread nD τ).loc main_arg8) :=
  whole_read (X := m ((c.tc : Thread nD τ).loc main_arg8)) _ (fun _ => rfl) (fun _ => rfl)

theorem read9 (c : Dev nD) (r : Fin 512) (q : Fin 256) : (iblk m c 9 t : S1x512x256.Idx → EReal) (ix3 0 r q)
    = (m ((c.tc : Thread nD τ).loc main_arg9) : S2x16384x256.Idx → EReal) (ix3 0 (row t r) q) := by
  unfold iblk
  rw [View.read_apply]
  show V m c main_arg9 _ = m (c.tc.loc main_arg9) _
  unfold V
  congr 1
  funext a
  apply Fin.ext
  match a with
  | ⟨0, _⟩ => exact at0 1 0
  | ⟨1, _⟩ => exact atT _ _ (c0_lt t)
  | ⟨2, _⟩ => exact at0 _ _

theorem read10 (c : Dev nD) (q : Fin 256) (e : Fin 1024) : (iblk m c 10 t : S1x256x1024.Idx → EReal) (ix3 0 q e)
    = (m ((c.tc : Thread nD τ).loc main_arg10) : S2x256x1024.Idx → EReal) (ix3 0 q e) := by
  unfold iblk
  rw [View.read_apply]
  show V m c main_arg10 _ = m (c.tc.loc main_arg10) _
  unfold V
  congr 1
  funext a
  apply Fin.ext
  match a with
  | ⟨0, _⟩ => exact at0 1 0
  | ⟨1, _⟩ => exact at0 _ _
  | ⟨2, _⟩ => exact at0 _ _

/-- The written block reads the rows of its tile. -/
theorem readO (G : S16384x1024.Idx → EReal) (r : Fin 512) (e : Fin 1024) :
    (((cfg0.win 11).blk t).view.read (Elt Ideal) G : S512x1024.Idx → EReal) (ix2 r e) = G (ix2 (row t r) e) := by
  rw [View.read_apply]
  exact tile_read (X := G) _ r e _ (c0_lt t) rfl rfl rfl

theorem mem_blk (i : S16384x1024.Idx) (h0 : (i 0).val / 512 = ((grid0.coords t) 0).val) : i ∈ ((cfg0.win 11).blk t).view.set := by
  show i ∈ ((View.whole main_v0).slice (win0_11.rect t)).set
  rw [View.set_slice_whole, Rect.mem_set_unit]
  have h1 : (i 1).val < 1024 := (i 1).isLt
  have hc := c0_lt t
  intro a
  match a with
  | ⟨0, _⟩ => show (BitVec.ofNat 32 ((grid0.coords t) 0).val).toNat * 512 ≤ (i 0).val ∧ (i 0).val < (BitVec.ofNat 32 ((grid0.coords t) 0).val).toNat * 512 + 512
              rw [BitVec.toNat_ofNat]; omega
  | ⟨1, _⟩ => show (0#32 : BitVec 32).toNat * 1024 ≤ (i 1).val ∧ (i 1).val < (0#32 : BitVec 32).toNat * 1024 + 1024
              rw [show (0#32 : BitVec 32).toNat = 0 from rfl]; omega

end Points

/-- The layer's end, as an array of the arguments. -/
def tailA (h : S16384x1024.Idx → EReal) (oa ob : S16384x512.Idx → EReal) (wo : S1024x1024.Idx → EReal) (g : S1x1024.Idx → EReal)
    (wu : S1024x4096.Idx → EReal) (wd : S4096x1024.Idx → EReal) (g' : S1x1024.Idx → EReal) (wg : S1024x1024.Idx → EReal)
    (p : S2x16384x256.Idx → EReal) (wp : S2x256x1024.Idx → EReal) (n : Fin 16384) (e : Fin 1024) : EReal :=
  rest (head (fun j => h (ix2 n j)) (fun k => oa (ix2 n k)) (fun k => ob (ix2 n k)) (fun k e => wo (ix2 k e)))
    (fun j => g (ix2 0 j)) (fun j f => wu (ix2 j f)) (fun f e => wd (ix2 f e)) (fun j => g' (ix2 0 j)) (fun j e => wg (ix2 j e))
    (fun q => p (ix3 0 n q)) (fun q e => wp (ix3 0 q e)) e

def resA (c : Dev nD) (i : S16384x1024.Idx) : EReal :=
  tailA (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (i 0) (i 1)

theorem blk_eq (c : Dev nD) (t : Fin cfg0.N) (r : Fin 512) (e : Fin 1024) :
    (out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r e) : EReal) = resA m c (ix2 (row t r) e) := by
  refine (out_apply _ _ _ _ _ _ _ _ _ _ _ r e).trans ?_
  rw [read3, read4, read5, read6, read7, read8]
  simp only [read0, read1, read2, read9, read10]
  rfl

theorem flushed_eq (c : Dev nD) (t : Fin cfg0.N) : (dats m 0 c).flushed 11 t = ((cfg0.win 11).blk t).view.read (Elt Ideal) (resA m c) := by
  rw [Value.flushed11]
  funext x
  obtain ⟨r, e, rfl⟩ : ∃ (r : Fin 512) (e : Fin 1024), x = ix2 r e := ⟨_, _, eq_ix2 x⟩
  exact (blk_eq m c t r e).trans (readO t (resA m c) r e).symm

theorem final (c : Dev nD) : (dats m 0 c).arrAt 11 cfg0.N = resA m c :=
  (dats m 0 c).arrAt_eq_of_cover 11 (resA m c) (fun t _ => flushed_eq m c t) fun i => by
    have h0 : (i 0).val < 16384 := (i 0).isLt
    obtain ⟨t, ht⟩ := Pipeline.Grid.coords_surjective grid0 (fun a => match a with | ⟨0, _⟩ => ⟨(i 0).val / 512, by show _ < 32; omega⟩)
    exact ⟨t, flush0_11 t, mem_blk t i (by rw [ht])⟩

/-- The run, its result the layer's end. -/
theorem run_value : θ_run defs (onTc (τ := τ) (main (F := Ideal))) ⟨m, fun _ => 0, ρ⟩ fun r => ∀ c : Dev nD,
      r.2.mem ((c.tc : Thread nD τ).loc main_v0) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (final m c), (h c).2⟩) (Value.run_blocks (F := Ideal) m ρ)

end Cert.Kernel2Ideal.Gen

end
-- ==== Proof.Tail.Host.lean ====
/-
  The reference's end of a layer at the extended reals: its array operations, entry by entry.
-/
module

public import proofs.«01_k».proof.Proof.Tail.Kern
public import Idealize.ShloMosaic.Lib.StackMember

@[expose] public section

noncomputable section

namespace Tail

open Idealize.ShloMosaic Idealize.ShloMosaic.ValueIdx Idealize.ShloMosaic.StackMember
open scoped BigOperators

/-- The scalars' shape. -/
abbrev Z : Shape := ⟨0, ![]⟩
/-- The number of tokens. -/
abbrev N : ℕ := 16384

section Stages

variable (h1 : (M N 1024).ReducesTo [1] ⟨1, ![N]⟩) (h2 : 0 < Z.numel) (h3 : (⟨1, ![N]⟩ : Shape).BroadcastsInDim (M N 1) (![0] : Fin 1 → Fin 2))
  (h4 : Z.BroadcastsInDim (M N 1) (![] : Fin 0 → Fin 2)) (h5 : (M N 1).BroadcastsInDim (M N 1024) (![0, 1] : Fin 2 → Fin 2))
  (h6 : (M 1 1024).BroadcastsInDim (M N 1024) (![0, 1] : Fin 2 → Fin 2)) (h7 : Z.BroadcastsInDim (M N 4096) (![] : Fin 0 → Fin 2))
  (h8 : Z.BroadcastsInDim (M N 1024) (![] : Fin 0 → Fin 2)) (h9 : FTy.bits .bf16 < FTy.bits .f32)

/-- The rms norm. -/
def normH (x : FVec Ideal (M N 1024) .f32) (g : FVec Ideal (M 1 1024) .f32) : FVec Ideal (M N 1024) .f32 :=
  mulf (mulf x (broadcastInDim (M N 1024) ![0, 1] h5 (Host.rsqrt (addf (Host.divf (broadcastInDim (M N 1) ![0] h3
      (Host.reduceAdd (mulf x x) (constant Z .f32 0x00000000#32) h1 h2)) (broadcastInDim (M N 1) ![] h4 (constant Z .f32 0x44800000#32)))
      (broadcastInDim (M N 1) ![] h4 (constant Z .f32 0x358637BD#32)))))) (broadcastInDim (M N 1024) ![0, 1] h6 g)

/-- The feed-forward part added. -/
def ffnH (x : FVec Ideal (M N 1024) .f32) (g : FVec Ideal (M 1 1024) .f32) (wu : FVec Ideal (M 1024 4096) .bf16) (wd : FVec Ideal (M 4096 1024) .bf16) :
    FVec Ideal (M N 1024) .f32 :=
  addf x (Host.dotGeneral (DotDims.plain N 4096 1024) none
    (mulf (maximumf (Host.dotGeneral (DotDims.plain N 1024 4096) none (normH h1 h2 h3 h4 h5 h6 x g) (extf .f32 wu h9)) (broadcastInDim (M N 4096) ![] h7 (constant Z .f32 0x00000000#32)))
      (maximumf (Host.dotGeneral (DotDims.plain N 1024 4096) none (normH h1 h2 h3 h4 h5 h6 x g) (extf .f32 wu h9)) (broadcastInDim (M N 4096) ![] h7 (constant Z .f32 0x00000000#32))))
    (extf .f32 wd h9))

/-- The gated embedding added. -/
def gateH (x : FVec Ideal (M N 1024) .f32) (g : FVec Ideal (M 1 1024) .f32) (wg : FVec Ideal (M 1024 1024) .bf16)
    (p : FVec Ideal (M N 256) .f32) (wp : FVec Ideal (M 256 1024) .bf16) : FVec Ideal (M N 1024) .f32 :=
  addf x (mulf (Host.divf (broadcastInDim (M N 1024) ![] h8 (constant Z .f32 0x3F800000#32))
      (addf (broadcastInDim (M N 1024) ![] h8 (constant Z .f32 0x3F800000#32))
        (Host.exp (Host.negf (Host.dotGeneral (DotDims.plain N 1024 1024) none (normH h1 h2 h3 h4 h5 h6 x g) (extf .f32 wg h9))))))
    (Host.dotGeneral (DotDims.plain N 256 1024) none p (extf .f32 wp h9)))

theorem normH_apply (x : FVec Ideal (M N 1024) .f32) (g : FVec Ideal (M 1 1024) .f32) (n : Fin N) (j : Fin 1024) :
    normH h1 h2 h3 h4 h5 h6 x g (ix2 n j) = nrm (fun j => x (ix2 n j)) (fun j => g (ix2 0 j)) j := by
  have red : (M N 1024).Reduces [1] ⟨1, ![N]⟩ := by decide
  have es : Host.reduceAdd (mulf x x) (constant Z .f32 0x00000000#32) h1 h2 (ix1 n) = ∑ j : Fin 1024, (x (ix2 n j) : EReal) * x (ix2 n j) := by
    rw [hostReduceAdd_apply, Ideal.hostReduceAdd_single h1 red]
    have h0 : (constant (F := Ideal) Z .f32 0x00000000#32 (Shape.Idx.first h2) : EReal) = 0 := Fox.zero_apply _
    rw [h0, zero_add]
    refine Finset.sum_congr rfl fun k _ => congrArg (fun i => (x i : EReal) * x i) ?_
    funext b
    match b with | ⟨0, _⟩ => rfl | ⟨1, _⟩ => rfl
  have ec : broadcastInDim (M N 1) ![0] h3 (Host.reduceAdd (mulf x x) (constant Z .f32 0x00000000#32) h1 h2) (ix2 n 0)
      = ∑ j : Fin 1024, (x (ix2 n j) : EReal) * x (ix2 n j) :=
    (broadcastInDim_apply _ h3 _ (ix2 n 0) (ix1 n) fun a => by match a with | ⟨0, _⟩ => rfl).trans es
  have er : ∀ y : FVec Ideal (M N 1) .f32, broadcastInDim (M N 1024) ![0, 1] h5 y (ix2 n j) = y (ix2 n 0) := fun y =>
    broadcastInDim_apply _ h5 _ (ix2 n j) (ix2 n 0) fun a => by match a with | ⟨0, _⟩ => rfl | ⟨1, _⟩ => rfl
  have eg : broadcastInDim (M N 1024) ![0, 1] h6 g (ix2 n j) = g (ix2 0 j) :=
    broadcastInDim_apply _ h6 _ (ix2 n j) (ix2 0 j) fun a => by match a with | ⟨0, _⟩ => rfl | ⟨1, _⟩ => rfl
  unfold normH
  rw [mulf_apply, mulf_apply, er, eg]
  show (x (ix2 n j) : EReal) * Ideal.rsqrt (Ideal.div (broadcastInDim (M N 1) ![0] h3 (Host.reduceAdd (mulf x x) (constant (F := Ideal) Z .f32 0x00000000#32) h1 h2) (ix2 n 0))
    (broadcastInDim (M N 1) ![] h4 (constant (F := Ideal) Z .f32 0x44800000#32) (ix2 n 0)) + (broadcastInDim (M N 1) ![] h4 (constant (F := Ideal) Z .f32 0x358637BD#32) (ix2 n 0) : EReal)) * g (ix2 0 j) = _
  rw [ec, broadcastInDim_scalar_apply, broadcastInDim_scalar_apply]
  rfl

/-- The reference's feed-forward part is the row's. -/
theorem ffnH_apply (x : FVec Ideal (M N 1024) .f32) (g : FVec Ideal (M 1 1024) .f32) (wu : FVec Ideal (M 1024 4096) .bf16) (wd : FVec Ideal (M 4096 1024) .bf16)
    (n : Fin N) (e : Fin 1024) :
    ffnH h1 h2 h3 h4 h5 h6 h7 h9 x g wu wd (ix2 n e)
      = ffn (fun j => x (ix2 n j)) (fun j => g (ix2 0 j)) (fun j f => wu (ix2 j f)) (fun f e => wd (ix2 f e)) e := by
  unfold ffnH ffn
  rw [addf_apply, dotGeneral_plain_apply]
  refine congrArg ((x (ix2 n e) : EReal) + ·) (Finset.sum_congr rfl fun f _ => congrArg (· * (wd (ix2 f e) : EReal)) ?_)
  rw [mulf_apply, maximumf_apply, dotGeneral_plain_apply, broadcastInDim_scalar_apply]
  simp only [normH_apply]
  show max _ (Ideal.ofBits .f32 0x00000000#32) * max _ (Ideal.ofBits .f32 0x00000000#32) = _
  rw [Ideal.ofBits_zero_f32]
  rfl

/-- The reference's gated embedding is the row's. -/
theorem gateH_apply (x : FVec Ideal (M N 1024) .f32) (g : FVec Ideal (M 1 1024) .f32) (wg : FVec Ideal (M 1024 1024) .bf16)
    (p : FVec Ideal (M N 256) .f32) (wp : FVec Ideal (M 256 1024) .bf16) (n : Fin N) (e : Fin 1024) :
    gateH h1 h2 h3 h4 h5 h6 h8 h9 x g wg p wp (ix2 n e)
      = gate (fun j => x (ix2 n j)) (fun j => g (ix2 0 j)) (fun j e => wg (ix2 j e)) (fun q => p (ix2 n q)) (fun q e => wp (ix2 q e)) e := by
  unfold gateH gate
  rw [addf_apply, mulf_apply, dotGeneral_plain_apply]
  refine congrArg (fun t : EReal => (x (ix2 n e) : EReal) + t * ∑ q : Fin 256, (p (ix2 n q) : EReal) * wp (ix2 q e)) ?_
  show Ideal.div (broadcastInDim (M N 1024) ![] h8 (constant (F := Ideal) Z .f32 0x3F800000#32) (ix2 n e))
    ((broadcastInDim (M N 1024) ![] h8 (constant (F := Ideal) Z .f32 0x3F800000#32) (ix2 n e) : EReal)
      + Ideal.exp (-(Host.dotGeneral (DotDims.plain N 1024 1024) none (normH h1 h2 h3 h4 h5 h6 x g) (extf .f32 wg h9) (ix2 n e)))) = _
  rw [broadcastInDim_scalar_apply, dotGeneral_plain_apply]
  simp only [normH_apply]
  show Ideal.div (Ideal.ofBits .f32 0x3F800000#32) (Ideal.ofBits .f32 0x3F800000#32 + _) = _
  rw [Ideal.ofBits_one_f32]
  rfl

/-- Both parts of the reference are the row's. -/
theorem restH_apply (x : FVec Ideal (M N 1024) .f32) (g : FVec Ideal (M 1 1024) .f32) (wu : FVec Ideal (M 1024 4096) .bf16) (wd : FVec Ideal (M 4096 1024) .bf16)
    (g' : FVec Ideal (M 1 1024) .f32) (wg : FVec Ideal (M 1024 1024) .bf16)
    (p : FVec Ideal (M N 256) .f32) (wp : FVec Ideal (M 256 1024) .bf16) (n : Fin N) (e : Fin 1024) :
    gateH h1 h2 h3 h4 h5 h6 h8 h9 (ffnH h1 h2 h3 h4 h5 h6 h7 h9 x g wu wd) g' wg p wp (ix2 n e)
      = rest (fun j => x (ix2 n j)) (fun j => g (ix2 0 j)) (fun j f => wu (ix2 j f)) (fun f e => wd (ix2 f e)) (fun j => g' (ix2 0 j)) (fun j e => wg (ix2 j e))
          (fun q => p (ix2 n q)) (fun q e => wp (ix2 q e)) e := by
  rw [gateH_apply]
  unfold rest
  exact congrArg (fun y => gate y _ _ _ _ e) (funext fun j => ffnH_apply h1 h2 h3 h4 h5 h6 h7 h9 x g wu wd n j)

/-- The mixer's output added. -/
def headH (h : FVec Ideal (M N 1024) .f32) (o : FVec Ideal (M N 1024) .bf16) (w : FVec Ideal (M 1024 1024) .bf16) : FVec Ideal (M N 1024) .f32 :=
  addf h (Host.dotGeneral (DotDims.plain N 1024 1024) none (extf .f32 o h9) (extf .f32 w h9))

theorem headH_apply (h : FVec Ideal (M N 1024) .f32) (o : FVec Ideal (M N 1024) .bf16) (w : FVec Ideal (M 1024 1024) .bf16) (n : Fin N) (e : Fin 1024) :
    headH h9 h o w (ix2 n e) = head1 (fun j => h (ix2 n j)) (fun j => o (ix2 n j)) (fun k e => w (ix2 k e)) e := by
  unfold headH
  rw [addf_apply, dotGeneral_plain_apply]
  rfl

end Stages

/-- One layer's matrix of a pair. -/
theorem layer_apply {α : Type} {A B : ℕ} (o : ℕ) (X : (T 2 A B).Idx → α) (hs : (T 2 A B).Slices ![o, 0, 0] (T 1 A B)) (hc : (T 1 A B).ShapeCasts (M A B))
    (l : Fin 2) (hl : l.val = o) (r : Fin A) (c : Fin B) : shapeCast (M A B) (extractStridedSlice (T 1 A B) ![o, 0, 0] X hs) hc (ix2 r c) = X (ix3 l r c) := by
  refine (shapeCast_apply _ hc _ (ix3 0 r c) ?_).trans (extractStridedSlice_apply _ _ hs _ (ix3 l r c) fun a => ?_)
  · rw [Shape.rowMajor_val_three, Shape.rowMajor_val_two]
    show (0 * A + r.val) * B + c.val = r.val * B + c.val
    rw [Nat.zero_mul, Nat.zero_add]
  · match a with
    | ⟨0, _⟩ => show l.val = o + 0; omega
    | ⟨1, _⟩ => show r.val = 0 + r.val; omega
    | ⟨2, _⟩ => show c.val = 0 + c.val; omega

end Tail

end
-- ==== Proof.Tail.R2.lean ====
/-
  The first layer's end in the reference, entry by entry.
-/
module

public import proofs.«01_k».proof.Proof.Gen.Reference2Ideal.Run
public import proofs.«01_k».proof.Proof.Tail.Host

@[expose] public section

set_option maxRecDepth 16384

noncomputable section

namespace Cert.Reference2Ideal.Value

open Cert.Reference2Ideal.Facts₀
open Idealize.ShloMosaic Idealize.ShloMosaic.ValueIdx Idealize.ShloMosaic.TcCoe
open Tail

variable (m : (ℓ : Loc nD τ sig) → Buf (Elt Ideal) ℓ)

/-- The two mixers' outputs side by side. -/
def both (oa ob : Vec Ideal S16384x512 .bf16) : Vec Ideal S16384x1024 .bf16 :=
  concatenate S16384x1024 1 [⟨S16384x512, oa⟩, ⟨S16384x512, ob⟩] concatenates_S16384x512_S16384x512_S16384x1024_d1

theorem both_left (oa ob : Vec Ideal S16384x512 .bf16) (n : Fin 16384) (k : Fin 512) :
    (both oa ob (ix2 n ⟨k.val, by omega⟩) : EReal) = oa (ix2 n k) :=
  concatenate_pair_apply_left (t := S16384x1024) 1 oa ob _ _ rfl (ix2 n k) fun b => by
    match b with | ⟨0, _⟩ => rfl | ⟨1, _⟩ => rfl

theorem both_right (oa ob : Vec Ideal S16384x512 .bf16) (n : Fin 16384) (k : Fin 512) :
    (both oa ob (ix2 n ⟨512 + k.val, by omega⟩) : EReal) = ob (ix2 n k) :=
  concatenate_pair_apply_right (t := S16384x1024) 1 oa ob _ _ rfl rfl (ix2 n k)
    (fun b hb => by
      match b with
      | ⟨0, _⟩ => rfl
      | ⟨1, _⟩ => exact absurd rfl hb)
    (by show k.val + 512 = 512 + k.val; omega)

theorem res_eq (c : Dev nD) : res_out0 m c
    = gateH reducesTo_S16384x1024_S16384_d1 h_S_ bcast_S16384_S16384x1_0 bcast_S_S16384x1 bcast_S16384x1_S16384x1024_0_1 bcast_S1x1024_S16384x1024_0_1
        bcast_S_S16384x1024 bitsLt_bf16_f32
        (ffnH reducesTo_S16384x1024_S16384_d1 h_S_ bcast_S16384_S16384x1_0 bcast_S_S16384x1 bcast_S16384x1_S16384x1024_0_1 bcast_S1x1024_S16384x1024_0_1
          bcast_S_S16384x4096 bitsLt_bf16_f32
          (headH bitsLt_bf16_f32 (m ((c.tc : Thread nD τ).loc main_arg0))
            (both (m ((c.tc : Thread nD τ).loc main_arg1)) (m ((c.tc : Thread nD τ).loc main_arg2))) (m ((c.tc : Thread nD τ).loc main_arg3)))
          (m ((c.tc : Thread nD τ).loc main_arg4)) (m ((c.tc : Thread nD τ).loc main_arg5)) (m ((c.tc : Thread nD τ).loc main_arg6)))
        (m ((c.tc : Thread nD τ).loc main_arg7)) (m ((c.tc : Thread nD τ).loc main_arg8))
        (shapeCast S16384x256 (extractStridedSlice S1x16384x256 ![0, 0, 0] (m ((c.tc : Thread nD τ).loc main_arg9)) slices_S2x16384x256_S1x16384x256_0_0_0)
          shapeCasts_S1x16384x256_S16384x256)
        (shapeCast S256x1024 (extractStridedSlice S1x256x1024 ![0, 0, 0] (m ((c.tc : Thread nD τ).loc main_arg10)) slices_S2x256x1024_S1x256x1024_0_0_0)
          shapeCasts_S1x256x1024_S256x1024) := by
  delta res_out0 res_main_v52 gateH ffnH normH headH both
  exact rfl

/-- The reference's result, entry by entry. -/
theorem res_apply (c : Dev nD) (n : Fin 16384) (e : Fin 1024) : (res_out0 m c : S16384x1024.Idx → EReal) (ix2 n e)
    = rest (head (fun j => (m ((c.tc : Thread nD τ).loc main_arg0) : S16384x1024.Idx → EReal) (ix2 n j))
          (fun k => (m ((c.tc : Thread nD τ).loc main_arg1) : S16384x512.Idx → EReal) (ix2 n k))
          (fun k => (m ((c.tc : Thread nD τ).loc main_arg2) : S16384x512.Idx → EReal) (ix2 n k))
          (fun k e => (m ((c.tc : Thread nD τ).loc main_arg3) : S1024x1024.Idx → EReal) (ix2 k e)))
        (fun j => (m ((c.tc : Thread nD τ).loc main_arg4) : S1x1024.Idx → EReal) (ix2 0 j))
        (fun j f => (m ((c.tc : Thread nD τ).loc main_arg5) : S1024x4096.Idx → EReal) (ix2 j f))
        (fun f e => (m ((c.tc : Thread nD τ).loc main_arg6) : S4096x1024.Idx → EReal) (ix2 f e))
        (fun j => (m ((c.tc : Thread nD τ).loc main_arg7) : S1x1024.Idx → EReal) (ix2 0 j))
        (fun j e => (m ((c.tc : Thread nD τ).loc main_arg8) : S1024x1024.Idx → EReal) (ix2 j e))
        (fun q => (m ((c.tc : Thread nD τ).loc main_arg9) : S2x16384x256.Idx → EReal) (ix3 0 n q))
        (fun q e => (m ((c.tc : Thread nD τ).loc main_arg10) : S2x256x1024.Idx → EReal) (ix3 0 q e)) e := by
  rw [res_eq]
  refine (restH_apply _ _ _ _ _ _ _ _ _ _ _ _ _ _ _ _ _ n e).trans ?_
  have eh : (fun j => (headH bitsLt_bf16_f32 (m ((c.tc : Thread nD τ).loc main_arg0))
            (both (m ((c.tc : Thread nD τ).loc main_arg1)) (m ((c.tc : Thread nD τ).loc main_arg2))) (m ((c.tc : Thread nD τ).loc main_arg3)) (ix2 n j) : EReal)) = _ :=
    (funext fun j => headH_apply _ _ _ _ n j).trans (head_eq _ _ _ _ _ (both_left _ _ n) (both_right _ _ n))
  have ep := funext fun q : Fin 256 => layer_apply 0 (m ((c.tc : Thread nD τ).loc main_arg9) : S2x16384x256.Idx → EReal)
    slices_S2x16384x256_S1x16384x256_0_0_0 shapeCasts_S1x16384x256_S16384x256 0 rfl n q
  have ew := funext fun q : Fin 256 => funext fun e : Fin 1024 => layer_apply 0 (m ((c.tc : Thread nD τ).loc main_arg10) : S2x256x1024.Idx → EReal)
    slices_S2x256x1024_S1x256x1024_0_0_0 shapeCasts_S1x256x1024_S256x1024 0 rfl q e
  exact congr (congr (congr (congrArg (fun x p w => rest x _ _ _ _ _ p w) eh) ep) ew) rfl

end Cert.Reference2Ideal.Value

end
-- ==== Proof.Tail.K3.lean ====
/-
  The last layer's end with the final norm: what the launch leaves, at the extended reals.
-/
module

public import proofs.«01_k».proof.Proof.Gen.Kernel3Ideal.Value
public import proofs.«01_k».proof.Proof.Tail.Kern
public import Idealize.ShloMosaic.Lib.Pipeline.Covers

@[expose] public section

set_option maxRecDepth 16384

noncomputable section

namespace Cert.Kernel3Ideal.Gen

open Cert.Kernel3Ideal.Facts₀
open Idealize.ShloMosaic Idealize.ShloMosaic.ValueIdx Idealize.ShloMosaic.TcCoe
open Idealize.SL Idealize.SL.RA Idealize.SL.BI Idealize.SL.Sem
open Idealize.ShloMosaic.Pipeline (Dat)
open Tail
open scoped BigOperators

theorem pay2_apply (v0 : Vec Ideal S512x1024 .bf16) (v1 : Vec Ideal S1024x1024 .bf16) (v3 : Vec Ideal S512x1024 .f32) (r : Fin 512) (e : Fin 1024) :
    (k0_pay2 v0 v1 v3 (ix2 r e) : EReal) = head1 (fun j => v3 (ix2 r j)) (fun k => v0 (ix2 r k)) (fun k e => v1 (ix2 k e)) e :=
  congrArg (fun s : EReal => (v3 (ix2 r e) : EReal) + s) (mm v0 v1 r e)

/-- The residual rows before the final norm. -/
theorem pay7_eq (v0 : Vec Ideal S512x1024 .bf16) (v1 : Vec Ideal S1024x1024 .bf16) (v3 : Vec Ideal S512x1024 .f32) (g : Vec Ideal S1x1024 .f32)
    (wu wu' : Vec Ideal S1024x2048 .bf16) (wd wd' : Vec Ideal S2048x1024 .bf16) (g' : Vec Ideal S1x1024 .f32) (wg : Vec Ideal S1024x1024 .bf16)
    (p : Vec Ideal S1x512x256 .f32) (wp : Vec Ideal S1x256x1024 .bf16) :
    k0_pay7 (k0_pay2 v0 v1 v3) (k0_pay4 v0 v1 v3) (k0_pay5 v0 v1 v3 g wu wd) (k0_pay6 v0 v1 v3 g wu') wd' g' wg p wp
      = gateK reduces_S512x1024_S512 shapeCasts_S512_S512x1 broadcasts_S1x1024_S512x1024 bitsLt_bf16_f32 shapeCasts_S512x1_S512x1 broadcasts_S512x1_S512x128
          concatenates_S512x128_S512x128_S512x128_S512x128_S512x128_S512x128_S512x128_S512x128_S512x1024_d1 shapeCasts_S1x512x256_S512x256 shapeCasts_S1x256x1024_S256x1024
          (ffnK reduces_S512x1024_S512 shapeCasts_S512_S512x1 broadcasts_S1x1024_S512x1024 bitsLt_bf16_f32 shapeCasts_S512x1_S512x1 broadcasts_S512x1_S512x128
            concatenates_S512x128_S512x128_S512x128_S512x128_S512x128_S512x128_S512x128_S512x128_S512x1024_d1 (k0_pay2 v0 v1 v3) g wu wu' wd wd') g' wg p wp := rfl

/-- The final norm of them. -/
theorem pay1_eq (v4 : FVec Ideal S512x1024 .f32) (v18 : FVec Ideal S512x128 .f32) (v26 : FVec Ideal S512x1024 .f32) (v32 : FVec Ideal S512x2048 .bf16)
    (wd' : Vec Ideal S2048x1024 .bf16) (g' : Vec Ideal S1x1024 .f32) (wg : Vec Ideal S1024x1024 .bf16) (p : Vec Ideal S1x512x256 .f32)
    (wp : Vec Ideal S1x256x1024 .bf16) (gf : Vec Ideal S1x1024 .f32) :
    k0_pay1 (k0_pay7 v4 v18 v26 v32 wd' g' wg p wp) gf (k0_pay8 v4 v18 v26 v32 wd' g' wg p wp) (Scalar.ofBits .f32 0x358637BD#32)
      = normK reduces_S512x1024_S512 shapeCasts_S512_S512x1 broadcasts_S1x1024_S512x1024 broadcasts_S512x1_S512x1024
          (k0_pay7 v4 v18 v26 v32 wd' g' wg p wp) gf := rfl

/-- A block of the launch, entry by entry. -/
theorem out_apply (x0 : Vec Ideal S512x1024 .f32) (x1 : Vec Ideal S512x1024 .bf16) (x2 : Vec Ideal S1024x1024 .bf16) (x3 : Vec Ideal S1x1024 .f32)
    (x4 : Vec Ideal S1024x4096 .bf16) (x5 : Vec Ideal S4096x1024 .bf16) (x6 : Vec Ideal S1x1024 .f32) (x7 : Vec Ideal S1024x1024 .bf16)
    (x8 : Vec Ideal S1x512x256 .f32) (x9 : Vec Ideal S1x256x1024 .bf16) (x10 : Vec Ideal S1x1024 .f32) (r : Fin 512) (e : Fin 1024) :
    (out0_11 x0 x1 x2 x3 x4 x5 x6 x7 x8 x9 x10 (ix2 r e) : EReal)
      = nrm (rest (head1 (fun j => x0 (ix2 r j)) (fun k => x1 (ix2 r k)) (fun k e => x2 (ix2 k e)))
          (fun j => x3 (ix2 0 j)) (fun j f => x4 (ix2 j f)) (fun f e => x5 (ix2 f e)) (fun j => x6 (ix2 0 j)) (fun j e => x7 (ix2 j e))
          (fun q => x8 (ix3 0 r q)) (fun q e => x9 (ix3 0 q e))) (fun j => x10 (ix2 0 j)) e := by
  unfold out0_11 k0_pay9 k0_pay10 k0_pay11 k0_pay12
  rw [View.canon_unit_zero z2, View.ld_unit_zero z2, View.ld_unit_zero z2, View.ld_unit_zero z2, View.ld_unit_zero z2, View.ld_unit_zero z2,
    View.ld_unit_zero z2, View.ld_unit_zero z3, View.ld_unit_zero z3, View.ld_unit_zero z2, pay1_eq, normK_apply, pay7_eq]
  refine congrArg (fun y => nrm y _ e) (funext fun j => ?_)
  refine (restK_apply _ _ _ _ _ _ _ _ _ _ _ _ _ _ _ _ _ _ _ (fun j f => x4 (ix2 j f)) (fun f e => x5 (ix2 f e))
    (fun j f => ld_at (A := 1024) (B := 4096) (X := x4) 0 0 _ j f _ ⟨f.val, by omega⟩ (Nat.zero_add _).symm (Nat.zero_add _).symm)
    (fun j f => ld_at (A := 1024) (B := 4096) (X := x4) 0 2048 _ j f _ _ (Nat.zero_add _).symm rfl)
    (fun f e => ld_at (A := 4096) (B := 1024) (X := x5) 0 0 _ f e ⟨f.val, by omega⟩ _ (Nat.zero_add _).symm (Nat.zero_add _).symm)
    (fun f e => ld_at (A := 4096) (B := 1024) (X := x5) 2048 0 _ f e _ _ rfl (Nat.zero_add _).symm) r j).trans ?_
  exact congrArg (fun y => rest y _ _ _ _ _ _ _ j) (funext fun i => pay2_apply _ _ _ r i)

variable (m : (ℓ : Loc nD τ sig) → Buf (Elt Ideal) ℓ) (ρ : Dev nD → PrngReg)

section Points

variable (t : Fin cfg0.N)

theorem c0_lt : ((grid0.coords t) 0).val < 32 := ((grid0.coords t) 0).isLt

/-- The row of the array that a tile's row is. -/
def row (r : Fin 512) : Fin 16384 := ⟨512 * ((grid0.coords t) 0).val + r.val, by have := c0_lt t; omega⟩

theorem read0 (c : Dev nD) (r : Fin 512) (j : Fin 1024) : (iblk m c 0 t : S512x1024.Idx → EReal) (ix2 r j)
    = (m ((c.tc : Thread nD τ).loc main_arg0) : S16384x1024.Idx → EReal) (ix2 (row t r) j) :=
  tile_read (X := (m ((c.tc : Thread nD τ).loc main_arg0) : S16384x1024.Idx → EReal)) _ r j _ (c0_lt t) rfl rfl rfl

theorem read1 (c : Dev nD) (r : Fin 512) (j : Fin 1024) : (iblk m c 1 t : S512x1024.Idx → EReal) (ix2 r j)
    = (m ((c.tc : Thread nD τ).loc main_arg1) : S16384x1024.Idx → EReal) (ix2 (row t r) j) :=
  tile_read (X := (m ((c.tc : Thread nD τ).loc main_arg1) : S16384x1024.Idx → EReal)) _ r j _ (c0_lt t) rfl rfl rfl

theorem read2 (c : Dev nD) : (iblk m c 2 t : S1024x1024.Idx → EReal) = m ((c.tc : Thread nD τ).loc main_arg2) :=
  whole_read (X := m ((c.tc : Thread nD τ).loc main_arg2)) _ (fun _ => rfl) (fun _ => rfl)

theorem read3 (c : Dev nD) : (iblk m c 3 t : S1x1024.Idx → EReal) = m ((c.tc : Thread nD τ).loc main_arg3) :=
  whole_read (X := m ((c.tc : Thread nD τ).loc main_arg3)) _ (fun _ => rfl) (fun _ => rfl)

theorem read4 (c : Dev nD) : (iblk m c 4 t : S1024x4096.Idx → EReal) = m ((c.tc : Thread nD τ).loc main_arg4) :=
  whole_read (X := m ((c.tc : Thread nD τ).loc main_arg4)) _ (fun _ => rfl) (fun _ => rfl)

theorem read5 (c : Dev nD) : (iblk m c 5 t : S4096x1024.Idx → EReal) = m ((c.tc : Thread nD τ).loc main_arg5) :=
  whole_read (X := m ((c.tc : Thread nD τ).loc main_arg5)) _ (fun _ => rfl) (fun _ => rfl)

theorem read6 (c : Dev nD) : (iblk m c 6 t : S1x1024.Idx → EReal) = m ((c.tc : Thread nD τ).loc main_arg6) :=
  whole_read (X := m ((c.tc : Thread nD τ).loc main_arg6)) _ (fun _ => rfl) (fun _ => rfl)

theorem read7 (c : Dev nD) : (iblk m c 7 t : S1024x1024.Idx → EReal) = m ((c.tc : Thread nD τ).loc main_arg7) :=
  whole_read (X := m ((c.tc : Thread nD τ).loc main_arg7)) _ (fun _ => rfl) (fun _ => rfl)

theorem read8 (c : Dev nD) (r : Fin 512) (q : Fin 256) : (iblk m c 8 t : S1x512x256.Idx → EReal) (ix3 0 r q)
    = (m ((c.tc : Thread nD τ).loc main_arg8) : S2x16384x256.Idx → EReal) (ix3 1 (row t r) q) := by
  unfold iblk
  rw [View.read_apply]
  show V m c main_arg8 _ = m (c.tc.loc main_arg8) _
  unfold V
  congr 1
  funext a
  apply Fin.ext
  match a with
  | ⟨0, _⟩ => exact at1 0
  | ⟨1, _⟩ => exact atT _ _ (c0_lt t)
  | ⟨2, _⟩ => exact at0 _ _

theorem read9 (c : Dev nD) (q : Fin 256) (e : Fin 1024) : (iblk m c 9 t : S1x256x1024.Idx → EReal) (ix3 0 q e)
    = (m ((c.tc : Thread nD τ).loc main_arg9) : S2x256x1024.Idx → EReal) (ix3 1 q e) := by
  unfold iblk
  rw [View.read_apply]
  show V m c main_arg9 _ = m (c.tc.loc main_arg9) _
  unfold V
  congr 1
  funext a
  apply Fin.ext
  match a with
  | ⟨0, _⟩ => exact at1 0
  | ⟨1, _⟩ => exact at0 _ _
  | ⟨2, _⟩ => exact at0 _ _

theorem read10 (c : Dev nD) : (iblk m c 10 t : S1x1024.Idx → EReal) = m ((c.tc : Thread nD τ).loc main_arg10) :=
  whole_read (X := m ((c.tc : Thread nD τ).loc main_arg10)) _ (fun _ => rfl) (fun _ => rfl)

/-- The written block reads the rows of its tile. -/
theorem readO (G : S16384x1024.Idx → EReal) (r : Fin 512) (e : Fin 1024) :
    (((cfg0.win 11).blk t).view.read (Elt Ideal) G : S512x1024.Idx → EReal) (ix2 r e) = G (ix2 (row t r) e) := by
  rw [View.read_apply]
  exact tile_read (X := G) _ r e _ (c0_lt t) rfl rfl rfl

theorem mem_blk (i : S16384x1024.Idx) (h0 : (i 0).val / 512 = ((grid0.coords t) 0).val) : i ∈ ((cfg0.win 11).blk t).view.set := by
  show i ∈ ((View.whole main_v0).slice (win0_11.rect t)).set
  rw [View.set_slice_whole, Rect.mem_set_unit]
  have h1 : (i 1).val < 1024 := (i 1).isLt
  have hc := c0_lt t
  intro a
  match a with
  | ⟨0, _⟩ => show (BitVec.ofNat 32 ((grid0.coords t) 0).val).toNat * 512 ≤ (i 0).val ∧ (i 0).val < (BitVec.ofNat 32 ((grid0.coords t) 0).val).toNat * 512 + 512
              rw [BitVec.toNat_ofNat]; omega
  | ⟨1, _⟩ => show (0#32 : BitVec 32).toNat * 1024 ≤ (i 1).val ∧ (i 1).val < (0#32 : BitVec 32).toNat * 1024 + 1024
              rw [show (0#32 : BitVec 32).toNat = 0 from rfl]; omega

end Points

/-- The last layer's end, as an array of the arguments. -/
def tailA (h o : S16384x1024.Idx → EReal) (wo : S1024x1024.Idx → EReal) (g : S1x1024.Idx → EReal)
    (wu : S1024x4096.Idx → EReal) (wd : S4096x1024.Idx → EReal) (g' : S1x1024.Idx → EReal) (wg : S1024x1024.Idx → EReal)
    (p : S2x16384x256.Idx → EReal) (wp : S2x256x1024.Idx → EReal) (gf : S1x1024.Idx → EReal) (n : Fin 16384) (e : Fin 1024) : EReal :=
  nrm (rest (head1 (fun j => h (ix2 n j)) (fun k => o (ix2 n k)) (fun k e => wo (ix2 k e)))
    (fun j => g (ix2 0 j)) (fun j f => wu (ix2 j f)) (fun f e => wd (ix2 f e)) (fun j => g' (ix2 0 j)) (fun j e => wg (ix2 j e))
    (fun q => p (ix3 1 n q)) (fun q e => wp (ix3 1 q e))) (fun j => gf (ix2 0 j)) e

def resA (c : Dev nD) (i : S16384x1024.Idx) : EReal :=
  tailA (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (i 0) (i 1)

theorem blk_eq (c : Dev nD) (t : Fin cfg0.N) (r : Fin 512) (e : Fin 1024) :
    (out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r e) : EReal) = resA m c (ix2 (row t r) e) := by
  refine (out_apply _ _ _ _ _ _ _ _ _ _ _ r e).trans ?_
  rw [read2, read3, read4, read5, read6, read7, read10]
  simp only [read0, read1, read8, read9]
  rfl

theorem flushed_eq (c : Dev nD) (t : Fin cfg0.N) : (dats m 0 c).flushed 11 t = ((cfg0.win 11).blk t).view.read (Elt Ideal) (resA m c) := by
  rw [Value.flushed11]
  funext x
  obtain ⟨r, e, rfl⟩ : ∃ (r : Fin 512) (e : Fin 1024), x = ix2 r e := ⟨_, _, eq_ix2 x⟩
  exact (blk_eq m c t r e).trans (readO t (resA m c) r e).symm

theorem final (c : Dev nD) : (dats m 0 c).arrAt 11 cfg0.N = resA m c :=
  (dats m 0 c).arrAt_eq_of_cover 11 (resA m c) (fun t _ => flushed_eq m c t) fun i => by
    have h0 : (i 0).val < 16384 := (i 0).isLt
    obtain ⟨t, ht⟩ := Pipeline.Grid.coords_surjective grid0 (fun a => match a with | ⟨0, _⟩ => ⟨(i 0).val / 512, by show _ < 32; omega⟩)
    exact ⟨t, flush0_11 t, mem_blk t i (by rw [ht])⟩

/-- The run, its result the last layer's end. -/
theorem run_value : θ_run defs (onTc (τ := τ) (main (F := Ideal))) ⟨m, fun _ => 0, ρ⟩ fun r => ∀ c : Dev nD,
      r.2.mem ((c.tc : Thread nD τ).loc main_v0) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (final m c), (h c).2⟩) (Value.run_blocks (F := Ideal) m ρ)

end Cert.Kernel3Ideal.Gen

end
-- ==== Proof.Tail.R3.lean ====
/-
  The last layer's end in the reference, entry by entry.
-/
module

public import proofs.«01_k».proof.Proof.Gen.Reference3Ideal.Run
public import proofs.«01_k».proof.Proof.Tail.Host

@[expose] public section

set_option maxRecDepth 16384

noncomputable section

namespace Cert.Reference3Ideal.Value

open Cert.Reference3Ideal.Facts₀
open Idealize.ShloMosaic Idealize.ShloMosaic.ValueIdx Idealize.ShloMosaic.TcCoe
open Tail

variable (m : (ℓ : Loc nD τ sig) → Buf (Elt Ideal) ℓ)

/-- The residual stream before the final norm. -/
def stream (c : Dev nD) : FVec Ideal S16384x1024 .f32 :=
  gateH reducesTo_S16384x1024_S16384_d1 h_S_ bcast_S16384_S16384x1_0 bcast_S_S16384x1 bcast_S16384x1_S16384x1024_0_1 bcast_S1x1024_S16384x1024_0_1
    bcast_S_S16384x1024 bitsLt_bf16_f32
    (ffnH reducesTo_S16384x1024_S16384_d1 h_S_ bcast_S16384_S16384x1_0 bcast_S_S16384x1 bcast_S16384x1_S16384x1024_0_1 bcast_S1x1024_S16384x1024_0_1
      bcast_S_S16384x4096 bitsLt_bf16_f32
      (headH bitsLt_bf16_f32 (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5)))
    (m ((c.tc : Thread nD τ).loc main_arg6)) (m ((c.tc : Thread nD τ).loc main_arg7))
    (shapeCast S16384x256 (extractStridedSlice S1x16384x256 ![1, 0, 0] (m ((c.tc : Thread nD τ).loc main_arg8)) slices_S2x16384x256_S1x16384x256_1_0_0)
      shapeCasts_S1x16384x256_S16384x256)
    (shapeCast S256x1024 (extractStridedSlice S1x256x1024 ![1, 0, 0] (m ((c.tc : Thread nD τ).loc main_arg9)) slices_S2x256x1024_S1x256x1024_1_0_0)
      shapeCasts_S1x256x1024_S256x1024)

theorem res_eq (c : Dev nD) : res_out0 m c
    = normH reducesTo_S16384x1024_S16384_d1 h_S_ bcast_S16384_S16384x1_0 bcast_S_S16384x1 bcast_S16384x1_S16384x1024_0_1 bcast_S1x1024_S16384x1024_0_1
        (stream m c) (m ((c.tc : Thread nD τ).loc main_arg10)) := by
  delta res_out0 res_main_v63 stream normH gateH ffnH normH headH
  exact rfl

theorem stream_apply (c : Dev nD) (n : Fin 16384) (e : Fin 1024) : (stream m c (ix2 n e) : EReal)
    = rest (head1 (fun j => (m ((c.tc : Thread nD τ).loc main_arg0) : S16384x1024.Idx → EReal) (ix2 n j))
          (fun k => (m ((c.tc : Thread nD τ).loc main_arg1) : S16384x1024.Idx → EReal) (ix2 n k))
          (fun k e => (m ((c.tc : Thread nD τ).loc main_arg2) : S1024x1024.Idx → EReal) (ix2 k e)))
        (fun j => (m ((c.tc : Thread nD τ).loc main_arg3) : S1x1024.Idx → EReal) (ix2 0 j))
        (fun j f => (m ((c.tc : Thread nD τ).loc main_arg4) : S1024x4096.Idx → EReal) (ix2 j f))
        (fun f e => (m ((c.tc : Thread nD τ).loc main_arg5) : S4096x1024.Idx → EReal) (ix2 f e))
        (fun j => (m ((c.tc : Thread nD τ).loc main_arg6) : S1x1024.Idx → EReal) (ix2 0 j))
        (fun j e => (m ((c.tc : Thread nD τ).loc main_arg7) : S1024x1024.Idx → EReal) (ix2 j e))
        (fun q => (m ((c.tc : Thread nD τ).loc main_arg8) : S2x16384x256.Idx → EReal) (ix3 1 n q))
        (fun q e => (m ((c.tc : Thread nD τ).loc main_arg9) : S2x256x1024.Idx → EReal) (ix3 1 q e)) e := by
  unfold stream
  refine (restH_apply _ _ _ _ _ _ _ _ _ _ _ _ _ _ _ _ _ n e).trans ?_
  have eh := funext fun j : Fin 1024 => headH_apply bitsLt_bf16_f32 (m ((c.tc : Thread nD τ).loc main_arg0)) (m ((c.tc : Thread nD τ).loc main_arg1))
    (m ((c.tc : Thread nD τ).loc main_arg2)) n j
  have ep := funext fun q : Fin 256 => layer_apply 1 (m ((c.tc : Thread nD τ).loc main_arg8) : S2x16384x256.Idx → EReal)
    slices_S2x16384x256_S1x16384x256_1_0_0 shapeCasts_S1x16384x256_S16384x256 1 rfl n q
  have ew := funext fun q : Fin 256 => funext fun e : Fin 1024 => layer_apply 1 (m ((c.tc : Thread nD τ).loc main_arg9) : S2x256x1024.Idx → EReal)
    slices_S2x256x1024_S1x256x1024_1_0_0 shapeCasts_S1x256x1024_S256x1024 1 rfl q e
  exact congr (congr (congr (congrArg (fun x p w => rest x _ _ _ _ _ p w) eh) ep) ew) rfl

/-- The reference's result, entry by entry. -/
theorem res_apply (c : Dev nD) (n : Fin 16384) (e : Fin 1024) : (res_out0 m c : S16384x1024.Idx → EReal) (ix2 n e)
    = nrm (fun j => stream m c (ix2 n j)) (fun j => (m ((c.tc : Thread nD τ).loc main_arg10) : S1x1024.Idx → EReal) (ix2 0 j)) e := by
  rw [res_eq]
  exact normH_apply _ _ _ _ _ _ _ _ n e

end Cert.Reference3Ideal.Value

end
-- ==== Proof.Diff.Units.lean ====
/-
  The differential attention's body as pieces: the units of the forgetting attention, over four streams (two heads, each
  with its two halves of the lanes) that take turns in two slots, and the two halves' difference, normalised, at the end.
-/
module

public import proofs.«01_k».proof.Proof.State

@[expose] public section

noncomputable section

namespace Dif

open Idealize.ShloMosaic Idealize.ShloMosaic.TcCoe Idealize.ShloMosaic.Tactic
open Idealize.SL Idealize.SL.RA Idealize.SL.BI Idealize.SL.Sem
open Fox (S1 S2 S3 Fam Refs St Act sc3 sc2 sc1 bc1 cat slr slm slh pvV mxV alV pV dmask hd inb2 pos2 pos3 posb packed2 packedo
  blkO odd inbK maxsi0 pvL pvL_toNat onesB diagI one1)

/-- The buffers: queries, keys, values, the four vectors of the second half's weight, the gain, the result; the two logits
    slots, the two weight slots, per stream the accumulator and the running maximum, and per slot the last scale. -/
inductive Bu where
  | q | k | v | l1 | k1 | l2 | k2 | gs | o
  | s (b : Bool)
  | p (b : Bool)
  | ac | mx | al
  deriving DecidableEq

instance : Fintype Bu :=
  ⟨{.q, .k, .v, .l1, .k1, .l2, .k2, .gs, .o, .s false, .s true, .p false, .p true, .ac, .mx, .al}, by
    intro x; cases x <;> first | decide | (rename_i b; cases b <;> decide)⟩

@[reducible] def Bu.shape : Bu → Shape
  | .q => S3 1 2048 256
  | .k => S3 1 8192 256
  | .v => S3 1 8192 256
  | .l1 => S2 1 64
  | .k1 => S2 1 64
  | .l2 => S2 1 64
  | .k2 => S2 1 64
  | .gs => S2 1 128
  | .o => S3 1 2048 256
  | .s _ => S2 2048 256
  | .p _ => S2 2048 256
  | .ac => S3 4 2048 256
  | .mx => S3 4 2048 128
  | .al => S3 2 2048 128

@[reducible] def Bu.elt : Bu → EltTy
  | .q => .bf16
  | .k => .bf16
  | .v => .bf16
  | .l1 => .f32
  | .k1 => .f32
  | .l2 => .f32
  | .k2 => .f32
  | .gs => .f32
  | .o => .bf16
  | .s _ => .f32
  | .p _ => .bf16
  | .ac => .f32
  | .mx => .f32
  | .al => .f32

@[reducible] def fam : Fam := { L := Bu, shape := Bu.shape, elt := Bu.elt }

variable {nD : Nat} {τ : Topo} {sig : RefSig} {Λ : Labels} {F : FTy → Type} [FloatOps F]

/-- The stream of unit `e`. -/
def s4 (e : ℕ) : Fin 4 := ⟨e % 4, Nat.mod_lt _ (by decide)⟩

/-! ## The values the pieces compute -/

theorem redk (n k : ℕ) : (S2 n k).Reduces [1] (S1 n) := ⟨rfl, Nat.one_pos, fun b => by fin_cases b; rfl⟩
theorem bcr (n k : ℕ) : (S2 1 k).Broadcasts (S2 n k) := ⟨le_rfl, fun a => by fin_cases a <;> simp⟩
theorem bc0 (n : ℕ) : (S2 1 1).Broadcasts (S2 n 128) := ⟨le_rfl, fun a => by fin_cases a <;> simp⟩
theorem slq (ρ : ℕ) (h : ρ < 8) : (S2 2048 128).Slices ![256 * ρ, 0] (S2 (2048 - 256 * ρ) 128) :=
  ⟨rfl, fun a => by fin_cases a <;> simp <;> omega⟩

/-- The rows of the queries from row `256 ρ` on. -/
def qrow (q : FVec F (S2 2048 128) .bf16) : (ρ : ℕ) → ρ < 8 → FVec F (S2 (2048 - 256 * ρ) 128) .bf16
  | 0, _ => q
  | ρ + 1, h => extractStridedSlice (S2 (2048 - 256 * (ρ + 1)) 128) ![256 * (ρ + 1), 0] q (slq (ρ + 1) h)

def lgV (n : ℕ) (q : FVec F (S2 n 128) .bf16) (k : FVec F (S3 1 256 128) .bf16) : FVec F (S2 n 256) .f32 :=
  shapeCast (S2 n 256)
    (matmul (DotDims.transposedRhs n 128 256) none q (shapeCast (S2 256 128) k (sc3 256 128)) (constant (S2 n 256) .f32 0x00000000#32)) rfl

/-! ## Where the pieces read and write -/

theorem inb3 (N a k ρ : ℕ) (ha : a < N) (h : ρ < 8) :
    ∀ x, (![a, 256 * ρ, 0] : Fin 3 → ℕ) x + (![1, 2048 - 256 * ρ, k] : Fin 3 → ℕ) x ≤ (S3 N 2048 k).size x := by
  intro x; fin_cases x
  · show a + 1 ≤ N; omega
  · simp; omega
  · simp

theorem hd_lt (b : Bool) : hd b < 2 := by cases b <;> decide

variable (R : Refs sig fam)

local notation "𝔸" => Act nD τ Λ (F := F) R

/-- Load a block of buffer `l`. -/
abbrev ld (l : Bu) (off size : Fin l.shape.rank → ℕ) (inb : ∀ a, off a + size a ≤ l.shape.size a)
    (hp : 0 < (⟨l.shape.rank, size⟩ : Shape).numel) : 𝔸 ((⟨l.shape.rank, size⟩ : Shape).Idx → Elt F l.elt) :=
  Act.rd (B := fam) l off size inb hp

/-- Store a block of buffer `l`. -/
abbrev st (l : Bu) (off size : Fin l.shape.rank → ℕ) (inb : ∀ a, off a + size a ≤ l.shape.size a)
    (hx : ((R l).access (Rect.unit (s := l.shape) off size inb)).Stores Finset.univ)
    (w : (⟨l.shape.rank, size⟩ : Shape).Idx → Elt F l.elt) : 𝔸 PUnit :=
  Act.wr (B := fam) l off size inb hx w

/-! ## The pieces -/

/-- The logits of one block of keys against the rows from `256 ρ` on, -/
def lg0 (b : Bool) (ρ : ℕ) (h : ρ < 8) (q : FVec F (S2 2048 128) .bf16) (ko : Fin 3 → ℕ)
    (hk : ∀ a, ko a + (![1, 256, 128] : Fin 3 → ℕ) a ≤ (S3 1 8192 256).size a) : 𝔸 (FVec F (S2 (2048 - 256 * ρ) 256) .f32) := do
  let k ← ld R .k ko ![1, 256, 128] hk posb
  let _ ← ld R (.s b) ![256 * ρ, 0] ![2048 - 256 * ρ, 256] (inb2 ρ h) (pos2 ρ 256 h (by decide))
  pure (lgV (2048 - 256 * ρ) (qrow q ρ h) k)

/-- written to slot `b`. -/
def lg1 (b : Bool) (ρ : ℕ) (h : ρ < 8) (w : FVec F (S2 (2048 - 256 * ρ) 256) .f32) : 𝔸 PUnit :=
  st R (.s b) ![256 * ρ, 0] ![2048 - 256 * ρ, 256] (inb2 ρ h) (View.stores_vmem_bits_univ (pos2 ρ 256 h (by decide)) rfl)
    w

def lgA (b : Bool) (ρ : ℕ) (h : ρ < 8) (q : FVec F (S2 2048 128) .bf16) (ko : Fin 3 → ℕ)
    (hk : ∀ a, ko a + (![1, 256, 128] : Fin 3 → ℕ) a ≤ (S3 1 8192 256).size a) : 𝔸 PUnit := do
  let w ← lg0 R b ρ h q ko hk
  lg1 R b ρ h w

/-- The accumulator's rows from `256 ρ` on, scaled, plus the weights times one block of values. -/
def pvA (a : Fin 4) (b : Bool) (ρ : ℕ) (h : ρ < 8) (ones : FVec F (S2 256 128) .bf16) (vo : Fin 3 → ℕ)
    (hv : ∀ a, vo a + (![1, 256, 128] : Fin 3 → ℕ) a ≤ (S3 1 8192 256).size a) : 𝔸 PUnit := do
  let al ← ld R .al ![hd b, 256 * ρ, 0] ![1, 2048 - 256 * ρ, 128] (inb3 2 _ 128 ρ (hd_lt b) h) (pos3 ρ 128 h (by decide))
  let ac ← ld R .ac ![a.val, 256 * ρ, 0] ![1, 2048 - 256 * ρ, 256] (inb3 4 _ 256 ρ a.isLt h) (pos3 ρ 256 h (by decide))
  let p ← ld R (.p b) ![256 * ρ, 0] ![2048 - 256 * ρ, 256] (inb2 ρ h) (pos2 ρ 256 h (by decide))
  let v ← ld R .v vo ![1, 256, 128] hv posb
  let _ ← ld R .ac ![a.val, 256 * ρ, 0] ![1, 2048 - 256 * ρ, 256] (inb3 4 _ 256 ρ a.isLt h) (pos3 ρ 256 h (by decide))
  st R .ac ![a.val, 256 * ρ, 0] ![1, 2048 - 256 * ρ, 256] (inb3 4 _ 256 ρ a.isLt h)
    (View.stores_vmem_bits_univ (pos3 ρ 256 h (by decide)) rfl) (pvV (2048 - 256 * ρ) al ac p v ones)

/-- The softmax's step on the rows from `256 ρ` on: maximum, scale, weights. -/
def smA (hp : ∀ b, (R (.p b)).IsWhole) (a : Fin 4) (b : Bool) (ρ : ℕ) (h : ρ < 8)
    (f : FVec F (S2 (2048 - 256 * ρ) 256) .f32 → FVec F (S2 (2048 - 256 * ρ) 256) .f32) : 𝔸 PUnit := do
  let m ← ld R .mx ![a.val, 256 * ρ, 0] ![1, 2048 - 256 * ρ, 128] (inb3 4 _ 128 ρ a.isLt h) (pos3 ρ 128 h (by decide))
  let s ← ld R (.s b) ![256 * ρ, 0] ![2048 - 256 * ρ, 256] (inb2 ρ h) (pos2 ρ 256 h (by decide))
  let _ ← ld R .mx ![a.val, 256 * ρ, 0] ![1, 2048 - 256 * ρ, 128] (inb3 4 _ 128 ρ a.isLt h) (pos3 ρ 128 h (by decide))
  st R .mx ![a.val, 256 * ρ, 0] ![1, 2048 - 256 * ρ, 128] (inb3 4 _ 128 ρ a.isLt h)
    (View.stores_vmem_bits_univ (pos3 ρ 128 h (by decide)) rfl)
    (shapeCast (S3 1 (2048 - 256 * ρ) 128) (mxV (2048 - 256 * ρ) m (f s)) (sc2 (2048 - 256 * ρ) 128))
  let _ ← ld R .al ![hd b, 256 * ρ, 0] ![1, 2048 - 256 * ρ, 128] (inb3 2 _ 128 ρ (hd_lt b) h) (pos3 ρ 128 h (by decide))
  st R .al ![hd b, 256 * ρ, 0] ![1, 2048 - 256 * ρ, 128] (inb3 2 _ 128 ρ (hd_lt b) h)
    (View.stores_vmem_bits_univ (pos3 ρ 128 h (by decide)) rfl)
    (alV (2048 - 256 * ρ) m (mxV (2048 - 256 * ρ) m (f s)))
  let s' ← ld R (.s b) ![256 * ρ, 0] ![2048 - 256 * ρ, 256] (inb2 ρ h) (pos2 ρ 256 h (by decide))
  let _ ← ld R (.p b) ![256 * ρ, 0] ![2048 - 256 * ρ, 256] (inb2 ρ h) (pos2 ρ 256 h (by decide))
  st R (.p b) ![256 * ρ, 0] ![2048 - 256 * ρ, 256] (inb2 ρ h)
    (View.stores_vmem (pos2 ρ 256 h (by decide)) ((hp b).storeExact_slice rfl _ (packed2 ρ h)) (fun _ => rfl))
    (pV (2048 - 256 * ρ) (f s') (mxV (2048 - 256 * ρ) m (f s)))

/-! ## A group: eight blocks of keys, four streams, each unit's logits one ahead and its values one behind -/

/-- The block a unit's logits are of: unit `e` of the group that starts at block `B`. -/
def lgB (B : BitVec 32) (e : ℕ) : BitVec 32 := Scalar.addi B (BitVec.ofNat 32 (e / 4))

/-- The block the product of unit `e`, one behind, is with. -/
def pvB (B : BitVec 32) : ℕ → BitVec 32
  | 0 => Scalar.maxsi (Scalar.subi B 1#32) 0#32
  | e + 1 => Scalar.maxsi (Scalar.addi B (BitVec.ofNat 32 (e / 4))) 0#32

theorem colK (a : Fin 4) : 128 * (a.val / 2) + 128 ≤ 256 := by omega

theorem lgB_toNat (B : BitVec 32) (e : ℕ) (h : B.toNat + e / 4 < 33) : (lgB B e).toNat = B.toNat + e / 4 := by
  show (B + BitVec.ofNat 32 (e / 4)).toNat = _
  rw [BitVec.toNat_add, BitVec.toNat_ofNat]
  omega

theorem pvB_toNat (B : BitVec 32) (e : ℕ) (h : B.toNat + e / 4 ≤ 32) : (pvB B e).toNat = B.toNat + (e + 3) / 4 - 1 := by
  match e with
  | 0 => exact Fox.pvB_toNat B 0 (by simpa using h)
  | e + 1 =>
    have e1 : (Scalar.addi B (BitVec.ofNat 32 (e / 4))).toNat = B.toNat + e / 4 := lgB_toNat B e (by omega)
    show (Scalar.maxsi (Scalar.addi B (BitVec.ofNat 32 (e / 4))) 0#32).toNat = _
    rw [maxsi0 _ (by omega), e1]
    omega

/-- The unit `e` of a group without the diagonal. -/
def unitM (hp : ∀ b, (R (.p b)).IsWhole) (qs : Fin 4 → FVec F (S2 2048 128) .bf16) (ones : FVec F (S2 256 128) .bf16)
    (B : BitVec 32) (hB : B.toNat < 24) (e : Fin 32) : 𝔸 PUnit := do
  lgA R (odd (e.val + 1)) 0 (by decide) (qs (s4 (e.val + 1))) (blkO (lgB B (e.val + 1)) (128 * ((s4 (e.val + 1)).val / 2)))
    (inbK _ (by rw [lgB_toNat] <;> omega) _ _ (colK _))
  pvA R (s4 (e.val + 3)) (odd (e.val + 1)) 0 (by decide) ones (blkO (pvB B e.val) (128 * ((s4 (e.val + 3)).val / 2)))
    (inbK _ (by rw [pvB_toNat] <;> omega) _ _ (colK _))
  smA R hp (s4 e.val) (odd e.val) 0 (by decide) id

def es : List (Fin 32) := [0, 1, 2, 3, 4, 5, 6, 7, 8, 9, 10, 11, 12, 13, 14, 15, 16, 17, 18, 19, 20, 21, 22, 23, 24, 25, 26, 27,
  28, 29, 30, 31]
def fs : List (Fin 31) := [1, 2, 3, 4, 5, 6, 7, 8, 9, 10, 11, 12, 13, 14, 15, 16, 17, 18, 19, 20, 21, 22, 23, 24, 25, 26, 27,
  28, 29, 30]

/-- A group without the diagonal. -/
def grpM (hp : ∀ b, (R (.p b)).IsWhole) (qs : Fin 4 → FVec F (S2 2048 128) .bf16) (ones : FVec F (S2 256 128) .bf16)
    (B : BitVec 32) (hB : B.toNat < 24) : 𝔸 PUnit :=
  Act.seq (unitM R hp qs ones B hB) es

theorem quart_lt (e : Fin 31) : e.val / 4 < 8 := by omega

/-- The unit `e` of the group on the diagonal, the rows from block `e / 4` on: its logits, -/
def unitL (qs : Fin 4 → FVec F (S2 2048 128) .bf16) (B : BitVec 32) (hB : B.toNat ≤ 24) (e : Fin 31) :
    𝔸 (FVec F (S2 (2048 - 256 * ((e.val + 1) / 4)) 256) .f32) :=
  lg0 R (odd (e.val + 1)) ((e.val + 1) / 4) (by omega) (qs (s4 (e.val + 1)))
    (blkO (lgB B (e.val + 1)) (128 * ((s4 (e.val + 1)).val / 2))) (inbK _ (by rw [lgB_toNat] <;> omega) _ _ (colK _))

/-- and what follows them. -/
def unitR (hp : ∀ b, (R (.p b)).IsWhole) (mk : F .f32) (dg : IVec (S2 2048 256) 1) (ones : FVec F (S2 256 128) .bf16)
    (B : BitVec 32) (hB : B.toNat ≤ 24) (e : Fin 31) (w : FVec F (S2 (2048 - 256 * ((e.val + 1) / 4)) 256) .f32) : 𝔸 PUnit := do
  lg1 R (odd (e.val + 1)) ((e.val + 1) / 4) (by omega) w
  pvA R (s4 (e.val + 3)) (odd (e.val + 1)) ((e.val - 1) / 4) (by omega) ones
    (blkO (pvB B e.val) (128 * ((s4 (e.val + 3)).val / 2))) (inbK _ (by rw [pvB_toNat] <;> omega) _ _ (colK _))
  smA R hp (s4 e.val) (odd e.val) (e.val / 4) (quart_lt e) (dmask mk dg (e.val / 4) (quart_lt e))

def unitT (hp : ∀ b, (R (.p b)).IsWhole) (mk : F .f32) (dg : IVec (S2 2048 256) 1) (qs : Fin 4 → FVec F (S2 2048 128) .bf16)
    (ones : FVec F (S2 256 128) .bf16) (B : BitVec 32) (hB : B.toNat ≤ 24) (e : Fin 31) : 𝔸 PUnit := do
  let w ← unitL R qs B hB e
  unitR R hp mk dg ones B hB e w

/-- The group on the diagonal, to its last product: what follows the first unit's logits. -/
def grpR (hp : ∀ b, (R (.p b)).IsWhole) (mk : F .f32) (dg : IVec (S2 2048 256) 1) (qs : Fin 4 → FVec F (S2 2048 128) .bf16)
    (ones : FVec F (S2 256 128) .bf16) (B : BitVec 32) (hB : B.toNat ≤ 24) (w : FVec F (S2 2048 256) .f32) : 𝔸 PUnit := do
  unitR R hp mk dg ones B hB 0 w
  Act.seq (unitT R hp mk dg qs ones B hB) fs
  pvA R 2 false 7 (by decide) ones (blkO (pvB B 31) 128) (inbK _ (by rw [pvB_toNat] <;> omega) _ _ (by decide))
  smA R hp 3 true 7 (by decide) (dmask mk dg 7 (by decide))
  pvA R 3 true 7 (by decide) ones (blkO (pvL B) 128) (inbK _ (by rw [pvL_toNat] <;> omega) _ _ (by decide))

/-! ## Before and after the groups -/

/-- A stream's queries: one half of the lanes, zeros in the other. -/
def qV (c : IVec (S2 2048 128) 1) (q : FVec F (S3 1 2048 128) .bf16) : FVec F (S2 2048 128) .bf16 :=
  select c (shapeCast (S2 2048 128) q (sc3 2048 128)) (broadcast (S2 2048 128) (Scalar.ofBits .bf16 0x0000#16))

abbrev low64 : IVec (S2 2048 128) 1 :=
  cmpi .slt (iota .tc (S2 2048 128) 32 [1] (by decide)) (broadcast (S2 2048 128) 64#32)
abbrev high64 : IVec (S2 2048 128) 1 :=
  cmpi .sge (iota .tc (S2 2048 128) 32 [1] (by decide)) (broadcast (S2 2048 128) 64#32)

/-- The four streams' queries. -/
def qsV (q0 q1 : FVec F (S3 1 2048 128) .bf16) : Fin 4 → FVec F (S2 2048 128) .bf16 :=
  ![qV low64 q0, qV high64 q0, qV low64 q1, qV high64 q1]

/-- The queries; the running maximum at the mask's constant, the second slot's scale at one. -/
def qsA (mk : F .f32) : 𝔸 (Fin 4 → FVec F (S2 2048 128) .bf16) := do
  let q0 ← ld R .q ![0, 0, 0] ![1, 2048, 128] (by decide) (by decide)
  let q1 ← ld R .q ![0, 0, 128] ![1, 2048, 128] (by decide) (by decide)
  let _ ← ld R .mx ![0, 0, 0] ![4, 2048, 128] (by decide) (by decide)
  st R .mx ![0, 0, 0] ![4, 2048, 128] (by decide) (View.stores_vmem_bits_univ (by decide) rfl)
    (shapeCast (S3 4 2048 128) (broadcast (S3 4 2048 128) mk) rfl)
  let _ ← ld R .al ![1, 0, 0] ![1, 2048, 128] (by decide) (by decide)
  st R .al ![1, 0, 0] ![1, 2048, 128] (by decide) (View.stores_vmem_bits_univ (by decide) rfl) one1
  pure (qsV q0 q1)

/-- The accumulators read. -/
def acA : 𝔸 (FVec F (S3 4 2048 256) .f32) := ld R .ac ![0, 0, 0] ![4, 2048, 256] (by decide) (by decide)

abbrev zero4 : FVec F (S3 4 2048 256) .f32 := broadcast (S3 4 2048 256) (Scalar.ofBits .f32 0x00000000#32)

/-- The accumulators and the second slot's weights at zero, the first logits. -/
def preA (hp : ∀ b, (R (.p b)).IsWhole) (q : FVec F (S2 2048 128) .bf16) : 𝔸 PUnit := do
  st R .ac ![0, 0, 0] ![4, 2048, 256] (by decide) (View.stores_vmem_bits_univ (by decide) rfl) (shapeCast (S3 4 2048 256) zero4 rfl)
  let _ ← ld R (.p true) ![0, 0] ![2048, 256] (by decide) (by decide)
  st R (.p true) ![0, 0] ![2048, 256] (by decide)
    (View.stores_vmem (by decide) ((hp true).storeExact_slice rfl _ (packed2 0 (by decide))) (fun _ => rfl))
    (shapeCast (S2 2048 256) (broadcast (S2 2048 256) (Scalar.ofBits .bf16 0x0000#16)) rfl)
  lgA R false 0 (by decide) q ![0, 0, 0] (by decide)

/-- The second half's weight. -/
def lamV (l1 k1 l2 k2 : FVec F (S2 1 64) .f32) : FVec F (S2 1 1) .f32 :=
  addf
    (subf
      (exp (shapeCast (S2 1 1) (multiReduction .add [1] (S1 1) (mulf l1 k1) 0x00000000#32 (redk 1 64) (.inl rfl) rfl) (sc1 1)))
      (exp (shapeCast (S2 1 1) (multiReduction .add [1] (S1 1) (mulf l2 k2) 0x00000000#32 (redk 1 64) (.inl rfl) rfl) (sc1 1))))
    (broadcast (S2 1 1) (Scalar.ofBits .f32 0x3E4CCCCD#32))

/-- One half's result: the weighted values over the weights' sum. -/
def halfV (a : FVec F (S3 1 2048 256) .f32) : FVec F (S2 2048 128) .f32 :=
  divf (extractStridedSlice (S2 2048 128) ![0, 0] (shapeCast (S2 2048 256) a (sc3 2048 256)) (slh 0 (.inl rfl)))
    (extractStridedSlice (S2 2048 128) ![0, 128] (shapeCast (S2 2048 256) a (sc3 2048 256)) (slh 128 (.inr rfl)))

/-- The two halves' difference. -/
def difV (lam : FVec F (S2 1 1) .f32) (x y : FVec F (S2 2048 128) .f32) : FVec F (S2 2048 128) .f32 :=
  subf x (mulf (broadcastTo (S2 2048 128) lam (bc0 2048)) y)

/-- A row over its root mean square, times the gain, times four fifths. -/
def rmsV (d : FVec F (S2 2048 128) .f32) (g : FVec F (S2 1 128) .f32) : FVec F (S2 2048 128) .f32 :=
  mulf
    (mulf
      (mulf d (broadcastTo (S2 2048 128)
        (rsqrt (addf
          (divf
            (shapeCast (S2 2048 1) (multiReduction .add [1] (S1 2048) (mulf d d) 0x00000000#32 (redk 2048 128) (.inl rfl) rfl) (sc1 2048))
            (broadcast (S2 2048 1) (Scalar.ofBits .f32 0x43000000#32)))
          (broadcast (S2 2048 1) (Scalar.ofBits .f32 0x358637BD#32)))) (bc1 2048)))
      (broadcastTo (S2 2048 128) g (bcr 2048 128)))
    (broadcast (S2 2048 128) (Scalar.ofBits .f32 0x3F4CCCCD#32))

def outV (lam : FVec F (S2 1 1) .f32) (x y : FVec F (S3 1 2048 256) .f32) (g : FVec F (S2 1 128) .f32) : FVec F (S3 1 2048 128) .bf16 :=
  shapeCast (S3 1 2048 128) (truncf .bf16 (rmsV (difV lam (halfV x) (halfV y)) g) (by decide)) (sc2 2048 128)

/-- The results written. -/
def outA (ho : (R .o).IsWhole) : 𝔸 PUnit := do
  let a0 ← ld R .ac ![0, 0, 0] ![1, 2048, 256] (by decide) (by decide)
  let a1 ← ld R .ac ![1, 0, 0] ![1, 2048, 256] (by decide) (by decide)
  let a2 ← ld R .ac ![2, 0, 0] ![1, 2048, 256] (by decide) (by decide)
  let a3 ← ld R .ac ![3, 0, 0] ![1, 2048, 256] (by decide) (by decide)
  let l1 ← ld R .l1 ![0, 0] ![1, 64] (by decide) (by decide)
  let k1 ← ld R .k1 ![0, 0] ![1, 64] (by decide) (by decide)
  let l2 ← ld R .l2 ![0, 0] ![1, 64] (by decide) (by decide)
  let k2 ← ld R .k2 ![0, 0] ![1, 64] (by decide) (by decide)
  let g0 ← ld R .gs ![0, 0] ![1, 128] (by decide) (by decide)
  let _ ← ld R .o ![0, 0, 0] ![1, 2048, 128] (by decide) (by decide)
  st R .o ![0, 0, 0] ![1, 2048, 128] (by decide)
    (View.stores_vmem (by decide) (ho.storeExact_slice rfl _ (packedo 0 (.inl rfl) _)) (fun _ => rfl)) (outV (lamV l1 k1 l2 k2) a0 a1 g0)
  let g1 ← ld R .gs ![0, 0] ![1, 128] (by decide) (by decide)
  let _ ← ld R .o ![0, 0, 128] ![1, 2048, 128] (by decide) (by decide)
  st R .o ![0, 0, 128] ![1, 2048, 128] (by decide)
    (View.stores_vmem (by decide) (ho.storeExact_slice rfl _ (packedo 128 (.inr rfl) _)) (fun _ => rfl)) (outV (lamV l1 k1 l2 k2) a2 a3 g1)

/-- What follows the groups before the diagonal: the first unit's logits, and the rest. -/
def postL (q : Fin 4 → FVec F (S2 2048 128) .bf16) (B : BitVec 32) (hB : B.toNat ≤ 24) : 𝔸 (FVec F (S2 2048 256) .f32) :=
  unitL R q B hB 0

def postR (hp : ∀ b, (R (.p b)).IsWhole) (ho : (R .o).IsWhole) (mk : F .f32) (dg : IVec (S2 2048 256) 1)
    (q : Fin 4 → FVec F (S2 2048 128) .bf16) (B : BitVec 32) (hB : B.toNat ≤ 24) (w : FVec F (S2 2048 256) .f32) : 𝔸 PUnit := do
  grpR R hp mk dg q onesB B hB w
  outA R ho

end Dif

end
-- ==== Proof.Diff.State.lean ====
/-
  What the differential attention's body leaves, and that it leaves its inputs as they were.
-/
module

public import proofs.«01_k».proof.Proof.Diff.Units

@[expose] public section

noncomputable section

namespace Dif

open Idealize.ShloMosaic Idealize.ShloMosaic.TcCoe
open Idealize.SL Idealize.SL.RA Idealize.SL.BI Idealize.SL.Sem
open Fox (S1 S2 S3 Fam Refs St Act onesB diagI odd base1_toNat base1_lt base2 base2_toNat base2_le)

variable {nD : Nat} {τ : Topo} {sig : RefSig} {Λ : Labels} {F : FTy → Type} [FloatOps F] (R : Refs sig fam)

local notation "𝔸" => Act nD τ Λ (F := F) R
local notation "Σ₀" => St F fam

/-! ## A piece that leaves a buffer as it was -/

def Keeps (l : Bu) {α : Type} (A : 𝔸 α) : Prop := ∀ σ : Σ₀, (A.run σ).2 l = σ l

variable {R} {l : Bu}

theorem Keeps.bind {α β : Type} {A : 𝔸 α} {k : α → 𝔸 β} (hA : Keeps R l A) (hk : ∀ a, Keeps R l (k a)) : Keeps R l (A >>= k) :=
  fun σ => (hk _ _).trans (hA σ)

theorem Keeps.ld {α : Type} {l' : Bu} {off size inb hp} {k : _ → 𝔸 α} (hk : ∀ a, Keeps R l (k a)) :
    Keeps R l (Dif.ld (nD := nD) (τ := τ) (Λ := Λ) (F := F) R l' off size inb hp >>= k) := fun σ => hk _ _

theorem Keeps.st {l' : Bu} (h : l ≠ l') {off size inb hx w} :
    Keeps R l (Dif.st (nD := nD) (τ := τ) (Λ := Λ) (F := F) R l' off size inb hx w) := fun σ => Function.update_of_ne h _ _

theorem Keeps.stb {α : Type} {l' : Bu} (h : l ≠ l') {off size inb hx w} {k : _ → 𝔸 α} (hk : ∀ a, Keeps R l (k a)) :
    Keeps R l (Dif.st (nD := nD) (τ := τ) (Λ := Λ) (F := F) R l' off size inb hx w >>= k) := Keeps.bind (Keeps.st h) hk

theorem Keeps.seq {ι : Type} {f : ι → 𝔸 PUnit} (h : ∀ i, Keeps R l (f i)) : ∀ is, Keeps R l (Act.seq f is)
  | [] => fun _ => rfl
  | _ :: is => (h _).bind fun _ => Keeps.seq h is

/-- The buffers the body only reads. -/
def Bu.isIn : Bu → Bool
  | .s _ | .p _ | .ac | .mx | .al | .o => false
  | _ => true

variable (hl : l.isIn = true)
include hl

theorem ne_of {l' : Bu} (h : l'.isIn = false) : l ≠ l' := by rintro rfl; rw [hl] at h; exact Bool.noConfusion h

theorem keeps_lg0 (b ρ h q ko hk) : Keeps R l (lg0 (nD := nD) (τ := τ) (Λ := Λ) (F := F) R b ρ h q ko hk) := fun _ => rfl
theorem keeps_lg1 (b ρ h w) : Keeps R l (lg1 (nD := nD) (τ := τ) (Λ := Λ) (F := F) R b ρ h w) := Keeps.st (ne_of hl rfl)
theorem keeps_lg (b ρ h q ko hk) : Keeps R l (lgA (nD := nD) (τ := τ) (Λ := Λ) (F := F) R b ρ h q ko hk) :=
  (keeps_lg0 hl _ _ _ _ _ _).bind fun _ => keeps_lg1 hl _ _ _ _

theorem keeps_pv (a b ρ h ones vo hv) : Keeps R l (pvA (nD := nD) (τ := τ) (Λ := Λ) (F := F) R a b ρ h ones vo hv) :=
  .ld fun _ => .ld fun _ => .ld fun _ => .ld fun _ => .ld fun _ => Keeps.st (ne_of hl rfl)

theorem keeps_sm (hp a b ρ h f) : Keeps R l (smA (nD := nD) (τ := τ) (Λ := Λ) (F := F) R hp a b ρ h f) :=
  .ld fun _ => .ld fun _ => .ld fun _ => .stb (ne_of hl rfl) fun _ => .ld fun _ => .stb (ne_of hl rfl) fun _ =>
    .ld fun _ => .ld fun _ => Keeps.st (ne_of hl rfl)

theorem keeps_grpM (hp qs ones B hB) : Keeps R l (grpM (nD := nD) (τ := τ) (Λ := Λ) (F := F) R hp qs ones B hB) :=
  Keeps.seq (fun _ => (keeps_lg hl _ _ _ _ _ _).bind fun _ => (keeps_pv hl _ _ _ _ _ _ _).bind fun _ => keeps_sm hl _ _ _ _ _ _) es

theorem keeps_unitR (hp mk dg ones B hB e w) : Keeps R l (unitR (nD := nD) (τ := τ) (Λ := Λ) (F := F) R hp mk dg ones B hB e w) :=
  (keeps_lg1 hl _ _ _ _).bind fun _ => (keeps_pv hl _ _ _ _ _ _ _).bind fun _ => keeps_sm hl _ _ _ _ _ _

theorem keeps_grpR (hp mk dg qs ones B hB w) : Keeps R l (grpR (nD := nD) (τ := τ) (Λ := Λ) (F := F) R hp mk dg qs ones B hB w) :=
  (keeps_unitR hl _ _ _ _ _ _ _ _).bind fun _ =>
    (Keeps.seq (fun _ => (keeps_lg0 hl _ _ _ _ _ _).bind fun _ => keeps_unitR hl _ _ _ _ _ _ _ _) fs).bind fun _ =>
      (keeps_pv hl _ _ _ _ _ _ _).bind fun _ => (keeps_sm hl _ _ _ _ _ _).bind fun _ => keeps_pv hl _ _ _ _ _ _ _

theorem keeps_qs (mk) : Keeps R l (qsA (nD := nD) (τ := τ) (Λ := Λ) (F := F) R mk) :=
  .ld fun _ => .ld fun _ => .ld fun _ => .stb (ne_of hl rfl) fun _ => .ld fun _ => .stb (ne_of hl rfl) fun _ => fun _ => rfl

theorem keeps_pre (hp q) : Keeps R l (preA (nD := nD) (τ := τ) (Λ := Λ) (F := F) R hp q) :=
  .stb (ne_of hl rfl) fun _ => .ld fun _ => .stb (ne_of hl rfl) fun _ => keeps_lg hl _ _ _ _ _ _

theorem keeps_out (ho) : Keeps R l (outA (nD := nD) (τ := τ) (Λ := Λ) (F := F) R ho) :=
  .ld fun _ => .ld fun _ => .ld fun _ => .ld fun _ => .ld fun _ => .ld fun _ => .ld fun _ => .ld fun _ => .ld fun _ => .ld fun _ =>
    .stb (ne_of hl rfl) fun _ => .ld fun _ => .ld fun _ => Keeps.st (ne_of hl rfl)

omit hl

/-! ## The body -/

variable (R)

/-- What follows the groups before the diagonal. -/
abbrev postA (hp : ∀ b, (R (.p b)).IsWhole) (ho : (R .o).IsWhole) (mk : F .f32) (dg : IVec (S2 2048 256) 1)
    (q : Fin 4 → FVec F (S2 2048 128) .bf16) (n : ℕ) (hn : n ≤ 3) : 𝔸 PUnit := do
  let w ← postL R q (base2 n) (base2_le hn)
  postR R hp ho mk dg q (base2 n) (base2_le hn) w

variable (nD τ Λ)

/-- What a group leaves. -/
def stepS (hp : ∀ b, (R (.p b)).IsWhole) (q : Fin 4 → FVec F (S2 2048 128) .bf16) {n : ℕ} (hn : n ≤ 3) (k : Fin n) (σ : Σ₀) : Σ₀ :=
  ((grpM (nD := nD) (τ := τ) (Λ := Λ) R hp q onesB (Scalar.muli (Scf.iv 0#32 1#32 k) 8#32) (base1_lt hn k)).run σ).2

/-- What the buffers hold when the groups have begun, and after those before the diagonal. -/
def initS (hp : ∀ b, (R (.p b)).IsWhole) (mk : F .f32) (σ : Σ₀) : Σ₀ :=
  ((preA (nD := nD) (τ := τ) (Λ := Λ) R hp (((qsA (nD := nD) (τ := τ) (Λ := Λ) R mk).run σ).1 0)).run
    ((qsA (nD := nD) (τ := τ) (Λ := Λ) R mk).run σ).2).2

def loopS (hp : ∀ b, (R (.p b)).IsWhole) (mk : F .f32) {n : ℕ} (hn : n ≤ 3) (σ : Σ₀) : Σ₀ :=
  (List.finRange n).foldl (fun τ' k => stepS nD τ Λ R hp ((qsA (nD := nD) (τ := τ) (Λ := Λ) R mk).run σ).1 hn k τ')
    (initS nD τ Λ R hp mk σ)

/-- What the buffers hold after the body. -/
def bodyS (hp : ∀ b, (R (.p b)).IsWhole) (ho : (R .o).IsWhole) (mk : F .f32) {n : ℕ} (hn : n ≤ 3) (σ : Σ₀) : Σ₀ :=
  ((postA (nD := nD) (τ := τ) (Λ := Λ) R hp ho mk diagI ((qsA (nD := nD) (τ := τ) (Λ := Λ) R mk).run σ).1 n hn).run
    (loopS nD τ Λ R hp mk hn σ)).2

theorem foldl_keeps' {n : ℕ} {f : Σ₀ → Fin n → Σ₀} (hf : ∀ σ k, f σ k l = σ l) (ks : List (Fin n)) (σ : Σ₀) :
    ks.foldl f σ l = σ l := by
  induction ks generalizing σ with
  | nil => rfl
  | cons k ks ih => exact (ih _).trans (hf σ k)

theorem loopS_in (hl : l.isIn = true) (hp mk) {n : ℕ} (hn : n ≤ 3) (σ : Σ₀) : loopS nD τ Λ R hp mk hn σ l = σ l :=
  (foldl_keeps' (l := l) (fun σ k => keeps_grpM hl hp _ _ _ _ σ) _ _).trans ((keeps_pre hl hp _ _).trans (keeps_qs hl mk σ))

/-- The body's inputs end as they were. -/
theorem bodyS_in (hl : l.isIn = true) (hp ho mk) {n : ℕ} (hn : n ≤ 3) (σ : Σ₀) : bodyS nD τ Λ R hp ho mk hn σ l = σ l :=
  ((keeps_lg0 hl _ _ _ _ _ _).bind (fun _ => (keeps_grpR hl _ _ _ _ _ _ _ _).bind fun _ => keeps_out hl _) _).trans
    (loopS_in nD τ Λ R hl hp mk hn σ)

end Dif

end
-- ==== Proof.Diff.KI.Body.lean ====
/-
  The differential attention's body is the pieces in order.
-/
module

public import proofs.«01_k».proof.Proof.Diff.State
public import proofs.«01_k».proof.Proof.Gen.Kernel4Ideal

@[expose] public section

set_option maxRecDepth 16384

noncomputable section

namespace Cert.Kernel4Ideal.Gen

open Idealize.ShloMosaic Idealize.ShloMosaic.TcCoe Idealize.SL.Sem
open Dif
open Fox (Refs St Act onesB diagI one1 base2 base2_le base1_lt)

variable {F : FTy → Type} [FloatOps F] [Named F]

/-- The kernel's arguments as the buffers. -/
def refs (arg3 : Memref sig .tc .vmem S1x2048x256 .bf16) (arg4 : Memref sig .tc .vmem S1x8192x256 .bf16)
    (arg5 : Memref sig .tc .vmem S1x8192x256 .bf16) (arg6 arg7 arg8 arg9 : Memref sig .tc .vmem S1x64 .f32)
    (arg10 : Memref sig .tc .vmem S1x128 .f32) (arg11 : Memref sig .tc .vmem S1x2048x256 .bf16)
    (arg12 arg13 : Memref sig .tc .vmem S2048x256 .f32) (arg14 arg15 : Memref sig .tc .vmem S2048x256 .bf16)
    (arg16 : Memref sig .tc .vmem S4x2048x256 .f32) (arg17 : Memref sig .tc .vmem S4x2048x128 .f32)
    (arg18 : Memref sig .tc .vmem S2x2048x128 .f32) : Refs sig fam
  | .q => arg3
  | .k => arg4
  | .v => arg5
  | .l1 => arg6
  | .k1 => arg7
  | .l2 => arg8
  | .k2 => arg9
  | .gs => arg10
  | .o => arg11
  | .s false => arg12
  | .s true => arg13
  | .p false => arg14
  | .p true => arg15
  | .ac => arg16
  | .mx => arg17
  | .al => arg18

theorem op_congr {E : Type → Type} {α β : Type} {e e' : E β} {k k' : β → Prog E α} (he : e = e') (hk : ∀ x, k x = k' x) :
    Prog.op e k = Prog.op e' k' := by
  rw [he, show k = k' from funext hk]

theorem bind2_congr {E : Type → Type} {α β γ : Type} {p p' : Prog E α} {k : α → Prog E β} {t : β → Prog E γ} {k' : α → Prog E γ}
    (hp : p = p') (hk : ∀ x, (k x).bind t = k' x) : (p.bind k).bind t = p'.bind k' := by
  rw [hp, ← show _ = k' from funext hk]
  exact Prog.bind_assoc p' k t

theorem for_congr {E : Type → Type} {α β : Type} {w : ℕ} (l : Scf.Loop w) (hok : l.OK) (a : α) {b b' : Fin l.trips → α → Prog E α}
    {k k' : α → Prog E β} (hb : ∀ k a, b k a = b' k a) (hk : ∀ x, k x = k' x) : (l.for hok a b).bind k = (l.for hok a b').bind k' := by
  rw [show b = b' from funext fun k => funext fun a => hb k a, show k = k' from funext hk]

section
variable (i : grid0.Coords) (arg3 : Memref sig .tc .vmem S1x2048x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x2048x256 .bf16) (harg11 : arg11.IsWhole) (arg12 : Memref sig .tc .vmem S2048x256 .f32) (harg12 : arg12.IsWhole) (arg13 : Memref sig .tc .vmem S2048x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S4x2048x256 .f32) (harg16 : arg16.IsWhole) (arg17 : Memref sig .tc .vmem S4x2048x128 .f32) (harg17 : arg17.IsWhole) (arg18 : Memref sig .tc .vmem S2x2048x128 .f32) (harg18 : arg18.IsWhole)

local notation "ℛ" => refs arg3 arg4 arg5 arg6 arg7 arg8 arg9 arg10 arg11 arg12 arg13 arg14 arg15 arg16 arg17 arg18

include harg14 harg15 in
theorem hpR : ∀ b, (ℛ (.p b)).IsWhole
  | false => harg14
  | true => harg15

theorem trips1 : ∀ i : grid0.Coords, (k0_t1_loop i).trips = (i 2).val := by decide +kernel
theorem trips2 : ∀ i : grid0.Coords, (k0_t2_loop i).trips = 0 := by decide +kernel

theorem coords2_le (i : grid0.Coords) : (i 2).val ≤ 3 := by have : (i 2).val < 4 := (i 2).isLt; omega
theorem trips1_le : (k0_t1_loop i).trips ≤ 3 := (trips1 i).le.trans (coords2_le i)

local notation "𝒽" => hpR arg3 arg4 arg5 arg6 arg7 arg8 arg9 arg10 arg11 arg12 arg13 arg14 harg14 arg15 harg15 arg16 arg17 arg18

abbrev mkC : F .f32 := Named.named Cert.Kernel4Ideal.κ "mask" 0xF149F2CA#32

/-- The trip of the loop. -/
abbrev trip (q : Fin 4 → FVec F (Fox.S2 2048 128) .bf16) (k : Fin (k0_t1_loop i).trips) :=
  grpM (nD := nD) (τ := τ) (Λ := Λ₀) ℛ 𝒽 q onesB (Scalar.muli (Scf.iv 0#32 1#32 k) 8#32) (base1_lt (trips1_le i) k)

set_option maxHeartbeats 8000000 in
theorem part108_eq (v6 v9 v15 v18 : FVec F S2048x128 .bf16) (v29 : Vec F S4x2048x256 .f32) : ∃ b2,
    k0_part108 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) v6 v9 v15 v18 onesB zero4 v29 =
      (preA (nD := nD) (τ := τ) (Λ := Λ₀) ℛ 𝒽 v6).prog.bind fun _ =>
        ((k0_t1_loop i).for (k0_t1_ok i) 0#32 fun k _ =>
          (trip i arg3 arg4 arg5 arg6 arg7 arg8 arg9 arg10 arg11 arg12 arg13 arg14 harg14 arg15 harg15 arg16 arg17 arg18 ![v6, v9, v15, v18] k).prog.bind fun _ => Prog.ret 0#32).bind fun v =>
        ((k0_t2_loop i).for (k0_t2_ok i) v b2).bind fun _ =>
        (postL (nD := nD) (τ := τ) (Λ := Λ₀) ℛ ![v6, v9, v15, v18] (base2 (i 2).val) (base2_le (coords2_le i))).prog.bind fun w =>
        Prog.ret ⟨base2 (i 2).val, diagI, w⟩ := by
  apply Exists.intro
  iterate 6 refine op_congr rfl fun _ => ?_
  refine for_congr (k0_t1_loop i) (k0_t1_ok i) 0#32 (fun k a => ?_) fun v => ?_
  · iterate 576 refine op_congr rfl fun _ => ?_
    rfl
  · refine for_congr (k0_t2_loop i) (k0_t2_ok i) v (fun k a => by exact rfl) fun _ => ?_
    iterate 2 refine op_congr rfl fun _ => ?_
    rfl

attribute [local irreducible] k0_part108

set_option maxHeartbeats 8000000 in
theorem body_eq : cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
    (qsA (nD := nD) (τ := τ) (Λ := Λ₀) ℛ mkC).prog.bind fun q =>
      (acA (nD := nD) (τ := τ) (Λ := Λ₀) ℛ).prog.bind fun a =>
      (k0_part108 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (q 0) (q 1) (q 2) (q 3) onesB zero4 a).bind fun x =>
        (postR (nD := nD) (τ := τ) (Λ := Λ₀) ℛ 𝒽 harg11 mkC x.2.1 q (base2 (i 2).val) (base2_le (coords2_le i)) x.2.2).prog := by
  iterate 7 refine op_congr rfl fun _ => ?_
  refine bind2_congr (p := k0_part108 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _) (p' := k0_part108 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _) rfl ?_
  rintro ⟨v53, v54, v64⟩
  iterate 591 refine op_congr rfl fun _ => ?_
  rfl

end

end Cert.Kernel4Ideal.Gen

end
-- ==== Proof.Diff.KI.Run.lean ====
/-
  The body runs: from any contents of the buffers to what the pieces leave. Then the launch, the output's contents not
  followed: the frame.
-/
module

public import proofs.«01_k».proof.Proof.State
public import proofs.«01_k».proof.Proof.Diff.KI.Body
public import proofs.«01_k».proof.Proof.Gen.Kernel4Ideal.Frame

@[expose] public section

set_option maxRecDepth 16384

noncomputable section

namespace Cert.Kernel4Ideal.Gen

open Idealize.ShloMosaic Idealize.ShloMosaic.TcCoe Idealize.ShloMosaic.Pipeline
open Idealize.SL Idealize.SL.RA Idealize.SL.BI Idealize.SL.Sem
open Dif (Bu fam)
open Fox (Runs SP St upd)

variable {F : FTy → Type} [FloatOps F] [Named F]

theorem foldl_snd {α ι : Type} {β : Type} (f : β → ι → β) (x : α) (ks : List ι) (a : α) (σ : β) :
    (ks.foldl (fun (y : α × β) k => (x, f y.2 k)) (a, σ)).2 = ks.foldl f σ := by
  induction ks generalizing a σ with
  | nil => rfl
  | cons k ks ih => exact ih x (f σ k)

section
variable (i : grid0.Coords) (arg3 : Memref sig .tc .vmem S1x2048x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x2048x256 .bf16) (harg11 : arg11.IsWhole) (arg12 : Memref sig .tc .vmem S2048x256 .f32) (harg12 : arg12.IsWhole) (arg13 : Memref sig .tc .vmem S2048x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S4x2048x256 .f32) (harg16 : arg16.IsWhole) (arg17 : Memref sig .tc .vmem S4x2048x128 .f32) (harg17 : arg17.IsWhole) (arg18 : Memref sig .tc .vmem S2x2048x128 .f32) (harg18 : arg18.IsWhole)

local notation "ℛ" => refs arg3 arg4 arg5 arg6 arg7 arg8 arg9 arg10 arg11 arg12 arg13 arg14 arg15 arg16 arg17 arg18
local notation "𝒽" => hpR arg3 arg4 arg5 arg6 arg7 arg8 arg9 arg10 arg11 arg12 arg13 arg14 harg14 arg15 harg15 arg16 arg17 arg18

theorem loopS_congr {n n' : ℕ} (h : n = n') (hn : n ≤ 3) (hn' : n' ≤ 3) (mk : F .f32) (σ : St F fam) :
    Dif.loopS nD τ Λ₀ ℛ 𝒽 mk hn σ = Dif.loopS nD τ Λ₀ ℛ 𝒽 mk hn' σ := by
  subst h; rfl

/-- What the buffers hold after the body at point `i`. -/
abbrev endS (σ : St F fam) : St F fam :=
  Dif.bodyS nD τ Λ₀ ℛ 𝒽 harg11 mkC (coords2_le i) σ

theorem body_runs (defs : Defs nD τ sig (Elt F) Λ₀) (𝒱 : Variants) (c : Dev nD) (σ : St F fam) :
    Runs defs 𝒱 c ℛ (cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      σ ⟨⟩ (endS i arg3 arg4 arg5 arg6 arg7 arg8 arg9 arg10 arg11 harg11 arg12 arg13 arg14 harg14 arg15 harg15 arg16 arg17 arg18 σ) := by
  have ht : (k0_t1_loop i).trips = (i 2).val := trips1 i
  have hn : (k0_t1_loop i).trips ≤ 3 := trips1_le i
  rw [body_eq]
  refine Runs.bind (Fox.Act.ok _ defs 𝒱 c σ) (Runs.bind (Fox.Act.ok _ defs 𝒱 c _) ?_)
  set q := ((Dif.qsA (nD := nD) (τ := τ) (Λ := Λ₀) ℛ mkC).run σ).1 with hqd
  obtain ⟨b2, hb⟩ := part108_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (q 0) (q 1) (q 2) (q 3)
    ((Dif.acA (nD := nD) (τ := τ) (Λ := Λ₀) ℛ).run ((Dif.qsA (nD := nD) (τ := τ) (Λ := Λ₀) ℛ mkC).run σ).2).1
  rw [hb]
  have hq : ![q 0, q 1, q 2, q 3] = q := by
    funext b; fin_cases b <;> rfl
  rw [hq]
  refine Runs.bind (Runs.bind (Fox.Act.ok _ defs 𝒱 c _) (Runs.bind (Runs.for (k0_t1_loop i) (k0_t1_ok i) 0#32
    (g := fun k x => (0#32, Dif.stepS nD τ Λ₀ ℛ 𝒽 q hn k x.2))
    (fun k a σ' => ?_) _) (Runs.bind (Runs.for (k0_t2_loop i) (k0_t2_ok i) _ (g := fun k x => x) (fun k => ?_) _)
      (Runs.bind (Fox.Act.ok _ defs 𝒱 c _) (Runs.ret _ _))))) ?_
  · exact Runs.bind (Fox.Act.ok _ defs 𝒱 c σ') (Runs.ret _ _)
  · exact absurd k.isLt (by have := trips2 i; omega)
  · have e : (List.finRange (k0_t2_loop i).trips) = [] := by rw [List.finRange_eq_nil_iff]; exact trips2 i
    have h2 := Fox.Act.ok (Dif.postR (nD := nD) (τ := τ) (Λ := Λ₀) ℛ 𝒽 harg11 mkC Fox.diagI q (Fox.base2 (i 2).val) (Fox.base2_le (coords2_le i))
      ((Dif.postL (nD := nD) (τ := τ) (Λ := Λ₀) ℛ q (Fox.base2 (i 2).val) (Fox.base2_le (coords2_le i))).run
        (Dif.loopS nD τ Λ₀ ℛ 𝒽 mkC (coords2_le i) σ)).1) defs 𝒱 c
      (Dif.loopS nD τ Λ₀ ℛ 𝒽 mkC (coords2_le i) σ)
    have h3 : _ = Dif.loopS nD τ Λ₀ ℛ 𝒽 mkC hn σ := foldl_snd (fun τ' k => Dif.stepS nD τ Λ₀ ℛ 𝒽 q hn k τ')
      0#32 (List.finRange (k0_t1_loop i).trips) 0#32 (Dif.initS nD τ Λ₀ ℛ 𝒽 mkC σ)
    have h4 := h3.trans (loopS_congr arg3 arg4 arg5 arg6 arg7 arg8 arg9 arg10 arg11 arg12 arg13 arg14 harg14 arg15 harg15 arg16 arg17 arg18 ht hn (coords2_le i) mkC σ)
    rw [← h4] at h2
    rw [e]
    unfold endS Dif.bodyS
    rw [← h4]
    exact h2

end

end Cert.Kernel4Ideal.Gen

end
-- ==== Proof.Diff.KI.Point.lean ====
/-
  A grid point: the body at the staging buffers, the scratch at any contents; and the launch with the output's contents
  either named by a function of the point or left unnamed.
-/
module

public import proofs.«01_k».proof.Proof.Diff.KI.Run
public import Idealize.ShloMosaic.Lib.Pipeline.Frame

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation scopedRest)
open Dif (Bu fam)
open Fox (Runs SP St upd)

variable {F : FTy → Type} [FloatOps F] [Named F]

local notation "𝕄" => MT nD τ sig Unit (Elt F) ℕ (UR sig nD τ) ℕ

/-- The buffers conjoined one by one. -/
theorem SP16 (c : Dev nD) (R : Fox.Refs sig fam) (σ : St F fam) : (SP c R σ : sProp 𝕄) =
    iprop(owns (c : Thread nD τ) (R .q) fullShare (σ .q)
      ∗ owns (c : Thread nD τ) (R .k) fullShare (σ .k)
      ∗ owns (c : Thread nD τ) (R .v) fullShare (σ .v)
      ∗ owns (c : Thread nD τ) (R .l1) fullShare (σ .l1)
      ∗ owns (c : Thread nD τ) (R .k1) fullShare (σ .k1)
      ∗ owns (c : Thread nD τ) (R .l2) fullShare (σ .l2)
      ∗ owns (c : Thread nD τ) (R .k2) fullShare (σ .k2)
      ∗ owns (c : Thread nD τ) (R .gs) fullShare (σ .gs)
      ∗ owns (c : Thread nD τ) (R .o) fullShare (σ .o)
      ∗ owns (c : Thread nD τ) (R (.s false)) fullShare (σ (.s false))
      ∗ owns (c : Thread nD τ) (R (.s true)) fullShare (σ (.s true))
      ∗ owns (c : Thread nD τ) (R (.p false)) fullShare (σ (.p false))
      ∗ owns (c : Thread nD τ) (R (.p true)) fullShare (σ (.p true))
      ∗ owns (c : Thread nD τ) (R .ac) fullShare (σ .ac)
      ∗ owns (c : Thread nD τ) (R .mx) fullShare (σ .mx)
      ∗ owns (c : Thread nD τ) (R .al) fullShare (σ .al)) :=
  bigSep_univ_eq_bigSepL [Bu.q, .k, .v, .l1, .k1, .l2, .k2, .gs, .o, .s false, .s true, .p false, .p true, .ac, .mx, .al] (by decide) (by decide) _

/-- The contents of the sixteen buffers. -/
def mkS (x3 : S1x2048x256.Idx → Elt F .bf16)
    (x4 : S1x8192x256.Idx → Elt F .bf16)
    (x5 : S1x8192x256.Idx → Elt F .bf16)
    (x6 : S1x64.Idx → Elt F .f32)
    (x7 : S1x64.Idx → Elt F .f32)
    (x8 : S1x64.Idx → Elt F .f32)
    (x9 : S1x64.Idx → Elt F .f32)
    (x10 : S1x128.Idx → Elt F .f32)
    (x11 : S1x2048x256.Idx → Elt F .bf16)
    (x12 : S2048x256.Idx → Elt F .f32)
    (x13 : S2048x256.Idx → Elt F .f32)
    (x14 : S2048x256.Idx → Elt F .bf16)
    (x15 : S2048x256.Idx → Elt F .bf16)
    (x16 : S4x2048x256.Idx → Elt F .f32)
    (x17 : S4x2048x128.Idx → Elt F .f32)
    (x18 : S2x2048x128.Idx → Elt F .f32) : St F fam
  | .q => x3
  | .k => x4
  | .v => x5
  | .l1 => x6
  | .k1 => x7
  | .l2 => x8
  | .k2 => x9
  | .gs => x10
  | .o => x11
  | .s false => x12
  | .s true => x13
  | .p false => x14
  | .p true => x15
  | .ac => x16
  | .mx => x17
  | .al => x18

section
variable (i : grid0.Coords) (arg3 : Memref sig .tc .vmem S1x2048x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x2048x256 .bf16) (harg11 : arg11.IsWhole)

/-- The buffers of a point: the staging buffers and the scratch. -/
abbrev ptRefs : Fox.Refs sig fam :=
  refs arg3 arg4 arg5 arg6 arg7 arg8 arg9 arg10 arg11 (Memref.whole cc0_scratch0) (Memref.whole cc0_scratch1) (Memref.whole cc0_scratch2) (Memref.whole cc0_scratch3) (Memref.whole cc0_scratch4) (Memref.whole cc0_scratch5) (Memref.whole cc0_scratch6)

/-- What they hold after the body. -/
abbrev ptEnd (σ : St F fam) : St F fam :=
  endS i arg3 arg4 arg5 arg6 arg7 arg8 arg9 arg10 arg11 harg11 (Memref.whole cc0_scratch0) (Memref.whole cc0_scratch1) (Memref.whole cc0_scratch2) (Memref.isWhole_whole _) (Memref.whole cc0_scratch3) (Memref.isWhole_whole _) (Memref.whole cc0_scratch4) (Memref.whole cc0_scratch5) (Memref.whole cc0_scratch6) σ

theorem point_run (defs : Defs nD τ sig (Elt F) Λ₀) (𝒱 : Variants) (c : Dev nD)
    (x3 : S1x2048x256.Idx → Elt F .bf16)
    (x4 : S1x8192x256.Idx → Elt F .bf16)
    (x5 : S1x8192x256.Idx → Elt F .bf16)
    (x6 : S1x64.Idx → Elt F .f32)
    (x7 : S1x64.Idx → Elt F .f32)
    (x8 : S1x64.Idx → Elt F .f32)
    (x9 : S1x64.Idx → Elt F .f32)
    (x10 : S1x128.Idx → Elt F .f32)
    (x11 : S1x2048x256.Idx → Elt F .bf16) (Φ : PUnit → sProp 𝕄) :
    iprop(owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ scopedRest (Ix := Unit) (Name := ℕ) (U := UR sig nD τ) (Lvl := ℕ) (Val := Elt F) spec0 c
      ∗ ((owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (∃ σ : St F fam, ⌜σ .q = x3 ∧ σ .k = x4 ∧ σ .v = x5 ∧ σ .l1 = x6 ∧ σ .k1 = x7 ∧ σ .l2 = x8 ∧ σ .k2 = x9 ∧ σ .gs = x10⌝
              ∗ owns (c : Thread nD τ) arg11 fullShare (ptEnd i arg3 arg4 arg5 arg6 arg7 arg8 arg9 arg10 arg11 harg11 σ .o))
          ∗ scopedRest (Ix := Unit) (Name := ℕ) (U := UR sig nD τ) (Lvl := ℕ) (Val := Elt F) spec0 c) -∗ Φ ⟨⟩))
    ⊢ wp frame (wpE (Lvl := ℕ) (U := UR sig nD τ) defs 𝒱 (c : Thread nD τ) none) Set.univ
        (cc0_diff_attn (F := F) i arg3 harg3 arg4 harg4 arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) Φ := by
  rw [scopedRest0_eq]
  iintro ⟨H3, H4, H5, H6, H7, H8, H9, H10, H11, ⟨⟨%f0, S0⟩, ⟨%f1, S1⟩, ⟨%f2, S2⟩, ⟨%f3, S3⟩, ⟨%f4, S4⟩, ⟨%f5, S5⟩, ⟨%f6, S6⟩⟩, Hk⟩
  have hin : ∀ l, Bu.isIn l = true → ptEnd i arg3 arg4 arg5 arg6 arg7 arg8 arg9 arg10 arg11 harg11 (mkS x3 x4 x5 x6 x7 x8 x9 x10 x11 f0 f1 f2 f3 f4 f5 f6) l = mkS x3 x4 x5 x6 x7 x8 x9 x10 x11 f0 f1 f2 f3 f4 f5 f6 l :=
    fun l hl => Dif.bodyS_in nD τ Λ₀ _ hl _ _ _ _ _
  iapply (body_runs i arg3 harg3 arg4 harg4 arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) defs 𝒱 c (mkS x3 x4 x5 x6 x7 x8 x9 x10 x11 f0 f1 f2 f3 f4 f5 f6) Φ)
  rw [SP16, SP16]
  isplitr [Hk]
  · dsimp only [refs, mkS]
    simp only [owns_whole_eq]
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]
    · iexists f0; isplitr; · ipureintro; rfl
      iexact S0
    isplitl [S1]
    · iexists f1; isplitr; · ipureintro; rfl
      iexact S1
    isplitl [S2]
    · iexists f2; isplitr; · ipureintro; rfl
      iexact S2
    isplitl [S3]
    · iexists f3; isplitr; · ipureintro; rfl
      iexact S3
    isplitl [S4]
    · iexists f4; isplitr; · ipureintro; rfl
      iexact S4
    isplitl [S5]
    · iexists f5; isplitr; · ipureintro; rfl
      iexact S5
    iexists f6; isplitr; · ipureintro; rfl
    iexact S6
  rw [show endS i arg3 arg4 arg5 arg6 arg7 arg8 arg9 arg10 arg11 harg11 (Memref.whole cc0_scratch0) (Memref.whole cc0_scratch1) (Memref.whole cc0_scratch2) (Memref.isWhole_whole _) (Memref.whole cc0_scratch3) (Memref.isWhole_whole _) (Memref.whole cc0_scratch4) (Memref.whole cc0_scratch5) (Memref.whole cc0_scratch6) (mkS x3 x4 x5 x6 x7 x8 x9 x10 x11 f0 f1 f2 f3 f4 f5 f6) = ptEnd i arg3 arg4 arg5 arg6 arg7 arg8 arg9 arg10 arg11 harg11 (mkS x3 x4 x5 x6 x7 x8 x9 x10 x11 f0 f1 f2 f3 f4 f5 f6) from rfl,
    hin .q rfl, hin .k rfl, hin .v rfl, hin .l1 rfl, hin .k1 rfl, hin .l2 rfl, hin .k2 rfl, hin .gs rfl]
  dsimp only [refs]
  generalize hE : ptEnd i arg3 arg4 arg5 arg6 arg7 arg8 arg9 arg10 arg11 harg11 (mkS x3 x4 x5 x6 x7 x8 x9 x10 x11 f0 f1 f2 f3 f4 f5 f6) = E
  dsimp only [mkS]
  simp only [owns_whole_eq]
  iintro ⟨H3, H4, H5, H6, H7, H8, H9, H10, H11, ⟨%g0, -, S0⟩, ⟨%g1, -, S1⟩, ⟨%g2, -, S2⟩, ⟨%g3, -, S3⟩, ⟨%g4, -, S4⟩, ⟨%g5, -, S5⟩, ⟨%g6, -, S6⟩⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists (mkS x3 x4 x5 x6 x7 x8 x9 x10 x11 f0 f1 f2 f3 f4 f5 f6)
    isplitr; · ipureintro; exact ⟨rfl, rfl, rfl, rfl, rfl, rfl, rfl, rfl⟩
    rw [hE]; iexact H11
  isplitl [S0]; · iexists g0; iexact S0
  isplitl [S1]; · iexists g1; iexact S1
  isplitl [S2]; · iexists g2; iexact S2
  isplitl [S3]; · iexists g3; iexact S3
  isplitl [S4]; · iexists g4; iexact S4
  isplitl [S5]; · iexists g5; iexact S5
  iexists g6; iexact S6

end

end Cert.Kernel4Ideal.Gen

end
-- ==== Proof.Diff.KI.Frame.lean ====
/-
  The launch: the inputs' windows at their blocks, the output's block either named by a function of the point or left
  unnamed; and from the launch with the output unnamed, the frame.
-/
module

public import proofs.«01_k».proof.Proof.Diff.KI.Point

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation scopedRest)
open Dif (Bu fam)
open Fox (Runs SP St upd)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (O : (c : Dev nD) → (t : Fin cfg0.N) → S1x2048x256.Idx → Elt F .bf16)

/-- The output's window forgotten, or not. -/
def outOnly : Fin cfg0.W → Bool := fun w => w == 8

/-- The proof data: every input's block stays, the output's becomes `O`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => O c t
  Φ _ := Pipeline.ΦA spec0 c
  q w := Pipeline.shareOf spec0 w
  owed _ := 0

theorem A_eq (c : Dev nD) (w : Fin cfg0.W) : (dats m O 0 c).A w = V m c (Pipeline.arrRef spec0 w) := by dsimp only [dats]

theorem defs₀_row (t : Fin cfg0.N) : defs₀ (F := F) .tc cfg0.body (cfg0.bodyArgs t (cfg0.slots t)) = bodyAt0 t := by
  unfold defs₀; rw [Defs.onTc_tc]

theorem bef0 (c : Dev nD) (t d) : (dats m O 0 c).before 0 t d = iblk m c 0 t := before0_0_of m _ (A_eq m O c 0) (fun _ => rfl) t d
theorem bef1 (c : Dev nD) (t d) : (dats m O 0 c).before 1 t d = iblk m c 1 t := before0_1_of m _ (A_eq m O c 1) (fun _ => rfl) t d
theorem bef2 (c : Dev nD) (t d) : (dats m O 0 c).before 2 t d = iblk m c 2 t := before0_2_of m _ (A_eq m O c 2) (fun _ => rfl) t d
theorem bef3 (c : Dev nD) (t d) : (dats m O 0 c).before 3 t d = iblk m c 3 t := before0_3_of m _ (A_eq m O c 3) (fun _ => rfl) t d
theorem bef4 (c : Dev nD) (t d) : (dats m O 0 c).before 4 t d = iblk m c 4 t := before0_4_of m _ (A_eq m O c 4) (fun _ => rfl) t d
theorem bef5 (c : Dev nD) (t d) : (dats m O 0 c).before 5 t d = iblk m c 5 t := before0_5_of m _ (A_eq m O c 5) (fun _ => rfl) t d
theorem bef6 (c : Dev nD) (t d) : (dats m O 0 c).before 6 t d = iblk m c 6 t := before0_6_of m _ (A_eq m O c 6) (fun _ => rfl) t d
theorem bef7 (c : Dev nD) (t d) : (dats m O 0 c).before 7 t d = iblk m c 7 t := before0_7_of m _ (A_eq m O c 7) (fun _ => rfl) t d

/-- The output's block after the body at the point, from some contents of the scratch. -/
abbrev outAt (t : Fin cfg0.N) (σ : St F fam) : S1x2048x256.Idx → Elt F .bf16 :=
  ptEnd (grid0.coords t) (st0_0 t) (st0_1 t) (st0_2 t) (st0_3 t) (st0_4 t) (st0_5 t) (st0_6 t) (st0_7 t) (st0_8 t) (hstage0_8 ((cfg0.slots t 8).cast nbuf0_8)) σ .o

/-- The buffers hold the inputs' blocks of the point. -/
def Holds (c : Dev nD) (t : Fin cfg0.N) (σ : St F fam) : Prop :=
  σ .q = iblk m c 0 t ∧ σ .k = iblk m c 1 t ∧ σ .v = iblk m c 2 t ∧ σ .l1 = iblk m c 3 t ∧ σ .k1 = iblk m c 4 t ∧ σ .l2 = iblk m c 5 t ∧ σ .k2 = iblk m c 6 t ∧ σ .gs = iblk m c 7 t

theorem body_unnamed (c : Dev nD) : BodyObligation (dats m O 0 c) (defs₀ (F := F)) Variants.none () Set.univ outOnly := fun t => by
  rw [bigSep_W0, bigSep_W0, defs₀_row]
  simp only [show outOnly 0 = false from rfl, show outOnly 1 = false from rfl, show outOnly 2 = false from rfl, show outOnly 3 = false from rfl, show outOnly 4 = false from rfl, show outOnly 5 = false from rfl, show outOnly 6 = false from rfl, show outOnly 7 = false from rfl, show outOnly 8 = true from rfl]
  rw [show (dats m O 0 c).Φ t.castSucc = Pipeline.ΦA spec0 c from rfl, show (dats m O 0 c).Φ t.succ = Pipeline.ΦA spec0 c from rfl]
  unfold Pipeline.ΦA Dat.owesAt Pipeline.owesWithin
  rw [show (dats m O 0 c).owed t.castSucc = 0 from rfl, show (dats m O 0 c).owed t.succ = 0 from rfl]
  simp only [bef0, bef1, bef2, bef3, bef4, bef5, bef6, bef7]
  iintro ⟨⟨HS, HG⟩, HW, ⟨%d0, H0⟩, ⟨%d1, H1⟩, ⟨%d2, H2⟩, ⟨%d3, H3⟩, ⟨%d4, H4⟩, ⟨%d5, H5⟩, ⟨%d6, H6⟩, ⟨%d7, H7⟩, ⟨%x8, H8⟩⟩
  iapply (point_run (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) defs₀ Variants.none c
    (iblk m c 0 t) (iblk m c 1 t) (iblk m c 2 t) (iblk m c 3 t) (iblk m c 4 t) (iblk m c 5 t) (iblk m c 6 t) (iblk m c 7 t) x8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, ⟨%σ, %hσ, H8⟩, HS⟩
  isplitl [HS HG]
  · isplitl [HS]; · iexact HS
    iexact HG
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem body_named (c : Dev nD) (hO : ∀ t σ, Holds m c t σ → outAt t σ = O c t) :
    BodyObligation (dats m O 0 c) (defs₀ (F := F)) Variants.none () Set.univ := fun t => by
  rw [bigSep_W0, bigSep_W0, defs₀_row]
  rw [show (dats m O 0 c).Φ t.castSucc = Pipeline.ΦA spec0 c from rfl, show (dats m O 0 c).Φ t.succ = Pipeline.ΦA spec0 c from rfl]
  unfold Pipeline.ΦA Dat.owesAt Pipeline.owesWithin
  rw [show (dats m O 0 c).owed t.castSucc = 0 from rfl, show (dats m O 0 c).owed t.succ = 0 from rfl]
  simp only [bef0, bef1, bef2, bef3, bef4, bef5, bef6, bef7]
  iintro ⟨⟨HS, HG⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (point_run (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) defs₀ Variants.none c
    (iblk m c 0 t) (iblk m c 1 t) (iblk m c 2 t) (iblk m c 3 t) (iblk m c 4 t) (iblk m c 5 t) (iblk m c 6 t) (iblk m c 7 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, ⟨%σ, %hσ, H8⟩, HS⟩
  isplitl [HS HG]
  · isplitl [HS]; · iexact HS
    iexact HG
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  have h := hO t σ hσ
  unfold outAt at h
  rw [h]
  iexact H8

-- the library's implicit arguments are found only when a metavariable's type may unfold
set_option backward.isDefEq.respectTransparency.types false in
theorem run_unnamed :
    θ_run defs (onTc (τ := τ) (main (F := F))) (s₀ m ρ)
      (fun r => RDat.FramePost (cfgs 0) (fun c => (dats m O 0 c).toRForget outOnly) (V m) r ∧ r.2.sem = fun _ => 0) :=
  Pipeline.θ_run_frame_forget_shared (Q' := _) cfgs (dats m O) (0 : Fin 1) launch₀0 defs₀ Variants.none outOnly m ρ main
    (hbody := fun c => (body_unnamed m O c).loose) (hq := fun _ _ _ => rfl) (howed := fun _ _ => rfl) (V := V m)
    (hmain := hmain m Variants.none) (hA := A_eq m O) (hΦ := fun _ _ => rfl) (hQ' := fun _ h => h)

set_option backward.isDefEq.respectTransparency.types false in
theorem run_named (hO : ∀ c t σ, Holds m c t σ → outAt t σ = O c t) :
    θ_run defs (onTc (τ := τ) (main (F := F))) (s₀ m ρ)
      (fun r => Pipeline.FramePost cfgs (dats m O) 0 (V m) r ∧ r.2.sem = fun _ => 0) :=
  Pipeline.θ_run_frame_shared (Q' := _) cfgs (dats m O) (0 : Fin 1) launch₀0 defs₀ Variants.none m ρ main
    (hbody := fun c => (body_named m O c (hO c)).loose) (hq := fun _ _ _ => rfl) (howed := fun _ _ => rfl) (V := V m)
    (hmain := hmain m Variants.none) (hA := A_eq m O) (hΦ := fun _ _ => rfl) (hQ' := fun _ h => h)

/-- The run ends, nothing pending, the arguments as they were. -/
theorem frame_all :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine (θ_run defs _ _).mono (fun r h => ⟨fun c => ?_, h.2⟩) (run_unnamed m ρ fun _ _ _ => (Scalar.ofBits .bf16 0#16 : F .bf16))
  have h1 := fun w hw => (congrFun (RDat.ArrAt_in _ w hw cfg0.N) _).mp ((h.1 c).1 w)
  exact ⟨h1 0 rfl, h1 3 rfl, h1 4 rfl, h1 5 rfl, h1 6 rfl, h1 7 rfl⟩

end Cert.Kernel4Ideal.Gen

end
-- ==== Proof.Diff.Row.lean ====
/-
  One row of the differential attention, at the extended reals: four streams taking turns, the logits one unit ahead and
  the products one unit behind, end at the plain weighted sums.
-/
module

public import proofs.«01_k».proof.Proof.Diff.State
public import proofs.«01_k».proof.Proof.Row

@[expose] public section

noncomputable section

namespace Dif

open Idealize.ShloMosaic
open Fox (odd lo odd_ne odd_two)
open scoped BigOperators

/-- A row: per slot its logits, weights and scale, per stream its accumulator and maximum. -/
@[ext] structure Row where
  S : Bool → Fin 256 → EReal
  P : Bool → Fin 256 → EReal
  A : Fin 4 → Fin 256 → EReal
  M : Fin 4 → Fin 128 → EReal
  L : Bool → Fin 128 → EReal

namespace Row

def lg (x : Row) (b : Bool) (g : Fin 256 → EReal) : Row := { x with S := Function.update x.S b g }

def pv (x : Row) (a : Fin 4) (b : Bool) (v : Fin 256 → Fin 256 → EReal) : Row :=
  { x with A := Function.update x.A a fun j => x.L b (lo j) * x.A a j + ∑ c, x.P b c * v c j }

def sm (x : Row) (a : Fin 4) (b : Bool) (f : (Fin 256 → EReal) → Fin 256 → EReal) : Row :=
  { x with
    M := Function.update x.M a (Fox.Row.mx (x.M a) (f (x.S b)))
    L := Function.update x.L b fun l => Ideal.exp2 (x.M a l - Fox.Row.mx (x.M a) (f (x.S b)) l)
    P := Function.update x.P b fun c => Ideal.exp2 (f (x.S b) c - Fox.Row.mx (x.M a) (f (x.S b)) (lo c)) }

end Row

variable (D : ℕ) (G : Fin 4 → ℕ → Fin 256 → EReal) (f : ℕ → (Fin 256 → EReal) → Fin 256 → EReal)
  (V : Fin 4 → ℕ → Fin 256 → Fin 256 → EReal)

/-- One unit on a row whose last block is `D`: pieces of later blocks do nothing. -/
def rstep (u : ℕ) (x : Row) : Row :=
  let x1 := if (u + 1) / 4 ≤ D then x.lg (odd (u + 1)) (G (s4 (u + 1)) ((u + 1) / 4)) else x
  let x2 := if (u + 3) / 4 - 1 ≤ D then x1.pv (s4 (u + 3)) (odd (u + 1)) (V (s4 (u + 3)) ((u + 3) / 4 - 1)) else x1
  if u / 4 ≤ D then x2.sm (s4 u) (odd u) (f (u / 4)) else x2

/-- Units in order. -/
def rrun : ℕ → Row → Row
  | 0, x => x
  | u + 1, x => rstep D G f V u (rrun u x)

/-- A stream's maximum over its first blocks, and its weighted sum. -/
abbrev bm (a : Fin 4) (N : ℕ) : EReal := Fox.bmax (fun _ => G a) f true N
abbrev bs (a : Fin 4) (N : ℕ) (j : Fin 256) : EReal := Fox.bsum (fun _ => G a) f (fun _ => V a) true N j

/-- How many blocks a stream has done before unit `u`. -/
def cnt (u : ℕ) (a : Fin 4) : ℕ := (u + 3 - a.val) / 4

theorem s4_val (u : ℕ) : (s4 u).val = u % 4 := rfl
theorem cnt_cur (u : ℕ) : cnt u (s4 u) = u / 4 := by unfold cnt; rw [s4_val]; omega
theorem cnt_next (u : ℕ) : cnt (u + 1) (s4 u) = u / 4 + 1 := by unfold cnt; rw [s4_val]; omega
theorem cnt_ne {u : ℕ} {a : Fin 4} (h : a ≠ s4 u) : cnt (u + 1) a = cnt u a := by
  have h' : a.val ≠ u % 4 := fun e => h (Fin.ext e)
  have := a.isLt
  unfold cnt; omega
theorem cnt_prev (u : ℕ) : cnt u (s4 (u + 3)) = (u + 3) / 4 := by unfold cnt; rw [s4_val]; omega
theorem s4_ne (u : ℕ) : s4 u ≠ s4 (u + 3) := fun e => by have := congrArg Fin.val e; rw [s4_val, s4_val] at this; omega
theorem s4_four (u : ℕ) : s4 (u + 1 + 3) = s4 u := Fin.ext (by rw [s4_val, s4_val]; omega)

/-- Before unit `u`. -/
structure Inv (u : ℕ) (x : Row) : Prop where
  m : ∀ a l, x.M a l = bm G f a (cnt u a)
  s : u / 4 ≤ D → x.S (odd u) = G (s4 u) (u / 4)
  a : ∀ a, a ≠ s4 (u + 3) → ∀ j, x.A a j = bs G f V a (cnt u a) j
  a' : ∀ j, x.L (odd (u + 1)) (lo j) * x.A (s4 (u + 3)) j + ∑ c, x.P (odd (u + 1)) c * V (s4 (u + 3)) ((u + 3) / 4 - 1) c j
    = bs G f V (s4 (u + 3)) (cnt u (s4 (u + 3))) j

theorem Inv.step {u : ℕ} {x : Row} (hu : u / 4 ≤ D) (h : Inv D G f V u x) : Inv D G f V (u + 1) (rstep D G f V u x) := by
  have hne := odd_ne u
  have c2 : (u + 3) / 4 - 1 ≤ D := by omega
  unfold rstep
  simp only [if_pos c2, if_pos hu]
  set x1 := if (u + 1) / 4 ≤ D then x.lg (odd (u + 1)) (G (s4 (u + 1)) ((u + 1) / 4)) else x with hx1
  have eM : x1.M = x.M := by rw [hx1]; split <;> rfl
  have eA : x1.A = x.A := by rw [hx1]; split <;> rfl
  have eL : x1.L = x.L := by rw [hx1]; split <;> rfl
  have eP : x1.P = x.P := by rw [hx1]; split <;> rfl
  have eS : x1.S (odd u) = G (s4 u) (u / 4) := by
    rw [hx1]; split
    · show Function.update x.S _ _ _ = _
      rw [Function.update_of_ne hne.symm, h.s hu]
    · exact h.s hu
  have eS' : (u + 1) / 4 ≤ D → x1.S (odd (u + 1)) = G (s4 (u + 1)) ((u + 1) / 4) := by
    intro h1; rw [hx1, if_pos h1]; exact Function.update_self _ _ _
  have hm : ∀ l, Fox.Row.mx (x1.M (s4 u)) (f (u / 4) (x1.S (odd u))) l = bm G f (s4 u) (u / 4 + 1) := by
    intro l; rw [Fox.Row.mx, eM, eS, h.m, cnt_cur]; exact (Fox.bmax_succ _ _ _ _).symm
  refine ⟨?_, ?_, ?_, ?_⟩
  · intro a l
    show Function.update x1.M _ _ _ l = _
    by_cases ha : a = s4 u
    · subst ha
      rw [Function.update_self, cnt_next]
      exact hm l
    · rw [Function.update_of_ne ha, eM, h.m, cnt_ne ha]
  · intro h1; exact eS' h1
  · intro a ha j
    rw [s4_four] at ha
    show Function.update x1.A _ _ _ j = _
    rw [cnt_ne ha]
    by_cases ha' : a = s4 (u + 3)
    · subst ha'
      rw [Function.update_self, eL, eA, eP, h.a']
    · rw [Function.update_of_ne ha', eA, h.a a ha']
  · intro j
    rw [odd_two, s4_four, cnt_next, show (u + 1 + 3) / 4 - 1 = u / 4 by omega]
    show Function.update x1.L _ _ _ (lo j) * Function.update x1.A _ _ _ j + ∑ c, Function.update x1.P _ _ _ c * _ = _
    rw [Function.update_self, Function.update_of_ne (s4_ne u), Function.update_self]
    unfold bs
    rw [← Fox.bsum_succ, eA, h.a _ (s4_ne u), cnt_cur]
    refine congrArg₂ (· + ·) ?_ (Finset.sum_congr rfl fun c _ => ?_)
    · have e := hm (lo j)
      show Ideal.exp2 (x1.M (s4 u) (lo j) - Fox.Row.mx (x1.M (s4 u)) (f (u / 4) (x1.S (odd u))) (lo j)) * _ = _
      rw [e, eM, h.m, cnt_cur]
    · have e := hm (lo c)
      show Ideal.exp2 (f (u / 4) (x1.S (odd u)) c - Fox.Row.mx (x1.M (s4 u)) (f (u / 4) (x1.S (odd u))) (lo c)) * _ = _
      rw [e, eS]

theorem Inv.run {x : Row} (h : Inv D G f V 0 x) : ∀ u, u ≤ 4 * D + 4 → Inv D G f V u (rrun D G f V u x)
  | 0, _ => h
  | u + 1, hu => Inv.step D G f V (by omega) (Inv.run h u (by omega))

theorem rrun_stay (x : Row) : ∀ k, rrun D G f V (4 * D + 5 + k) x = rrun D G f V (4 * D + 5) x
  | 0 => rfl
  | k + 1 => by
    show rstep D G f V (4 * D + 5 + k) (rrun D G f V (4 * D + 5 + k) x) = _
    rw [rrun_stay x k]
    unfold rstep
    simp only [if_neg (show ¬ (4 * D + 5 + k + 1) / 4 ≤ D by omega), if_neg (show ¬ (4 * D + 5 + k + 3) / 4 - 1 ≤ D by omega),
      if_neg (show ¬ (4 * D + 5 + k) / 4 ≤ D by omega)]

/-- After every unit the accumulators are the weighted sums. -/
theorem rrun_end {x : Row} (h : Inv D G f V 0 x) {U : ℕ} (hU : 4 * D + 5 ≤ U) (a : Fin 4) (j : Fin 256) :
    (rrun D G f V U x).A a j = bs G f V a (D + 1) j := by
  obtain ⟨k, rfl⟩ := Nat.exists_eq_add_of_le hU
  rw [rrun_stay]
  have h1 := Inv.run D G f V h (4 * D + 4) le_rfl
  show (rstep D G f V (4 * D + 4) (rrun D G f V (4 * D + 4) x)).A a j = _
  unfold rstep
  simp only [if_neg (show ¬ (4 * D + 4 + 1) / 4 ≤ D by omega), if_pos (show (4 * D + 4 + 3) / 4 - 1 ≤ D by omega),
      if_neg (show ¬ (4 * D + 4) / 4 ≤ D by omega)]
  have hc : cnt (4 * D + 4) a = D + 1 := by have := a.isLt; unfold cnt; omega
  simp only [Row.pv]
  by_cases ha : a = s4 (4 * D + 4 + 3)
  · subst ha
    rw [Function.update_self, h1.a', hc]
  · rw [Function.update_of_ne ha, h1.a a ha, hc]

theorem inv0 {x : Row} (h1 : x.M = fun _ _ => ⊥) (h2 : x.L true = fun _ => 1) (h3 : x.A = fun _ _ => 0)
    (h4 : x.P true = fun _ => 0) : Inv D G f V 0 (x.lg false (G 0 0)) := by
  have hc : ∀ a : Fin 4, cnt 0 a = 0 := by decide
  refine ⟨?_, ?_, ?_, ?_⟩
  · intro a l; rw [hc]; simp [Row.lg, h1, Fox.bmax]
  · intro _
    show Function.update x.S false (G 0 0) false = _
    rw [Function.update_self]; rfl
  · intro a _ j; rw [hc]; simp [Row.lg, h3, Fox.bsum]
  · intro j
    rw [hc]
    show x.L true (lo j) * x.A _ j + ∑ c, x.P true c * _ = _
    rw [h2, h3, h4]; simp [Fox.bsum]

end Dif

end
-- ==== Proof.Diff.Pieces.lean ====
/-
  What each piece of the differential attention leaves in one row, at the extended reals.
-/
module

public import proofs.«01_k».proof.Proof.Pieces
public import proofs.«01_k».proof.Proof.Diff.Row

@[expose] public section

noncomputable section

namespace Dif

open Idealize.ShloMosaic Idealize.ShloMosaic.ValueIdx Idealize.ShloMosaic.TcCoe
open Idealize.SL Idealize.SL.RA Idealize.SL.BI Idealize.SL.Sem
open Fox (S1 S2 S3 Fam Refs St Act hf hf_val hf_inj hd inb2 sc3 sc2 cat pvV mxV alV pV lo up dn upd upd_idx upd_off unit_val upd2_in
  upd2_out rd2 rdk sc3_apply sc2_apply pvV_apply mxV_apply alV_apply pV_apply zero_apply)
open scoped BigOperators

variable {α : Type}

/-! ## Entries -/

theorem lgV_apply (n : ℕ) (q : FVec Ideal (S2 n 128) .bf16) (k : FVec Ideal (S3 1 256 128) .bf16) (r : Fin n) (c : Fin 256) :
    lgV n q k (ix2 r c) = ∑ j : Fin 128, q (ix2 r j) * k (ix3 0 c j) := by
  unfold lgV
  rw [shapeCast_self]
  refine (Ideal.matmul_transposedRhs_apply none _ _ _ r c).trans ?_
  rw [zero_apply, zero_add]
  simp only [sc3_apply]

theorem qrow_apply (q : FVec Ideal (S2 2048 128) .bf16) (ρ : ℕ) (h : ρ < 8) (r : Fin (2048 - 256 * ρ)) (j : Fin 128) :
    qrow q ρ h (ix2 r j) = q (ix2 ⟨256 * ρ + r.val, by have := r.isLt; omega⟩ j) := by
  match ρ with
  | 0 => exact congrArg q (by funext a; match a with | ⟨0, _⟩ => exact Fin.ext (by show r.val = 256 * 0 + r.val; omega) | ⟨1, _⟩ => rfl)
  | ρ + 1 =>
    refine extractStridedSlice_apply _ q (slq (ρ + 1) h) _ _ fun a => ?_
    match a with
    | ⟨0, _⟩ => rfl
    | ⟨1, _⟩ => show j.val = 0 + j.val; omega

/-! ## Rows of a block replaced -/

section Rows

variable {N k : ℕ} (o : ℕ) (a : Fin N) (ho : o = a.val)
include ho

theorem upd3_in (ρ : ℕ) (inb) (w : (S3 1 (2048 - 256 * ρ) k).Idx → α) (X : (S3 N 2048 k).Idx → α) (r : Fin 2048)
    (c : Fin k) (hr : 256 * ρ ≤ r.val) :
    upd (Rect.unit (s := S3 N 2048 k) ![o, 256 * ρ, 0] ![1, 2048 - 256 * ρ, k] inb) w X (ix3 a r c)
      = w (ix3 0 ⟨r.val - 256 * ρ, by have := r.isLt; omega⟩ c) := by
  have e : (Rect.unit (s := S3 N 2048 k) ![o, 256 * ρ, 0] ![1, 2048 - 256 * ρ, k] inb).idx
      (ix3 0 ⟨r.val - 256 * ρ, by have := r.isLt; omega⟩ c) = ix3 a r c := by
    funext x
    match x with
    | ⟨0, _⟩ => exact Fin.ext (by rw [unit_val]; show o + 1 * 0 = a.val; omega)
    | ⟨1, _⟩ => exact Fin.ext (by rw [unit_val]; show 256 * ρ + 1 * (r.val - 256 * ρ) = r.val; omega)
    | ⟨2, _⟩ => exact Fin.ext (by rw [unit_val]; show 0 + 1 * c.val = c.val; omega)
  rw [← e, upd_idx]

theorem upd3_out (a' : Fin N) (ρ : ℕ) (inb) (w : (S3 1 (2048 - 256 * ρ) k).Idx → α) (X : (S3 N 2048 k).Idx → α)
    (r : Fin 2048) (c : Fin k) (hr : ¬ (a' = a ∧ 256 * ρ ≤ r.val)) :
    upd (Rect.unit (s := S3 N 2048 k) ![o, 256 * ρ, 0] ![1, 2048 - 256 * ρ, k] inb) w X (ix3 a' r c) = X (ix3 a' r c) := by
  refine upd_off _ _ _ fun x hx => hr ?_
  have h := congrArg Fin.val (congrFun hx 1)
  have g := congrArg Fin.val (congrFun hx 0)
  rw [unit_val] at h g
  have h' : 256 * ρ + 1 * (x 1).val = r.val := h
  have g' : o + 1 * (x 0).val = a'.val := g
  have x0 : (x 0).val < 1 := (x 0).isLt
  exact ⟨Fin.ext (by omega), by omega⟩

theorem rd3 (ρ : ℕ) (inb) (X : (S3 N 2048 k).Idx → α) (r : Fin (2048 - 256 * ρ)) (c : Fin k) (r' : Fin 2048)
    (hr : r'.val = 256 * ρ + r.val) :
    X ((Rect.unit (s := S3 N 2048 k) ![o, 256 * ρ, 0] ![1, 2048 - 256 * ρ, k] inb).idx (ix3 0 r c)) = X (ix3 a r' c) := by
  congr 1
  funext x
  match x with
  | ⟨0, _⟩ => exact Fin.ext (by rw [unit_val]; show o + 1 * 0 = a.val; omega)
  | ⟨1, _⟩ => exact Fin.ext (by rw [unit_val]; show 256 * ρ + 1 * r.val = r'.val; omega)
  | ⟨2, _⟩ => exact Fin.ext (by rw [unit_val]; show 0 + 1 * c.val = c.val; omega)

end Rows

theorem hd_eq (b : Bool) : hd b = (hf b).val := (hf_val b).symm

/-! ## A row -/

abbrev SI := St Ideal fam

def rowOf (σ : SI) (r : Fin 2048) : Row where
  S b c := σ (Bu.s b) (ix2 r c)
  P b c := σ (Bu.p b) (ix2 r c)
  A a j := σ Bu.ac (ix3 a r j)
  M a l := σ Bu.mx (ix3 a r l)
  L b l := σ Bu.al (ix3 (hf b) r l)

variable {nD : Nat} {τ : Topo} {sig : RefSig} {Λ : Labels} {R : Refs sig fam}

theorem lgA_in (b : Bool) (ρ : ℕ) (h : ρ < 8) (q : FVec Ideal (S2 2048 128) .bf16) (ko : Fin 3 → ℕ) (hk) (σ : SI) (r : Fin 2048)
    (hr : 256 * ρ ≤ r.val) :
    rowOf ((lgA (nD := nD) (τ := τ) (Λ := Λ) R b ρ h q ko hk).run σ).2 r
      = (rowOf σ r).lg b fun c => ∑ j : Fin 128, q (ix2 r j) * σ Bu.k ((Rect.unit (s := S3 1 8192 256) ko ![1, 256, 128] hk).idx (ix3 0 c j)) := by
  refine Row.ext ?_ rfl rfl rfl rfl
  funext b' c
  by_cases hb : b' = b
  · subst hb
    show Function.update σ (Bu.s b') _ (Bu.s b') (ix2 r c) = Function.update (rowOf σ r).S b' _ b' c
    rw [Function.update_self, Function.update_self]
    refine (upd2_in ρ _ _ _ r c hr).trans ?_
    show lgV (2048 - 256 * ρ) (qrow q ρ h) (fun x => σ Bu.k ((Rect.unit (s := S3 1 8192 256) ko ![1, 256, 128] hk).idx x)) (ix2 _ c) = _
    rw [lgV_apply]
    simp only [qrow_apply]
    have e : (⟨256 * ρ + (r.val - 256 * ρ), by have := r.isLt; omega⟩ : Fin 2048) = r := Fin.ext (by show 256 * ρ + (r.val - 256 * ρ) = _; omega)
    rw [e]
  · show Function.update σ (Bu.s b) _ (Bu.s b') (ix2 r c) = Function.update (rowOf σ r).S b _ b' c
    rw [Function.update_of_ne (fun e => hb (Bu.s.inj e)), Function.update_of_ne hb]
    rfl

theorem lgA_out (b : Bool) (ρ : ℕ) (h : ρ < 8) (q : FVec Ideal (S2 2048 128) .bf16) (ko : Fin 3 → ℕ) (hk) (σ : SI) (r : Fin 2048)
    (hr : ¬ 256 * ρ ≤ r.val) :
    rowOf ((lgA (nD := nD) (τ := τ) (Λ := Λ) R b ρ h q ko hk).run σ).2 r = rowOf σ r := by
  refine Row.ext ?_ rfl rfl rfl rfl
  funext b' c
  show Function.update σ (Bu.s b) _ (Bu.s b') (ix2 r c) = _
  by_cases hb : b' = b
  · subst hb
    rw [Function.update_self]
    exact upd2_out ρ _ _ _ r c hr
  · rw [Function.update_of_ne (fun e => hb (Bu.s.inj e))]
    rfl

theorem pvA_run (a : Fin 4) (b : Bool) (ρ : ℕ) (h : ρ < 8) (ones : FVec Ideal (S2 256 128) .bf16) (vo : Fin 3 → ℕ) (hv) (σ : SI) :
    ((pvA (nD := nD) (τ := τ) (Λ := Λ) R a b ρ h ones vo hv).run σ).2
      = Function.update σ Bu.ac (upd (Rect.unit (s := S3 4 2048 256) ![a.val, 256 * ρ, 0] ![1, 2048 - 256 * ρ, 256] (inb3 4 _ 256 ρ a.isLt h))
          (pvV (2048 - 256 * ρ)
            (fun x => σ Bu.al ((Rect.unit (s := S3 2 2048 128) ![hd b, 256 * ρ, 0] ![1, 2048 - 256 * ρ, 128] (inb3 2 _ 128 ρ (hd_lt b) h)).idx x))
            (fun x => σ Bu.ac ((Rect.unit (s := S3 4 2048 256) ![a.val, 256 * ρ, 0] ![1, 2048 - 256 * ρ, 256] (inb3 4 _ 256 ρ a.isLt h)).idx x))
            (fun x => σ (Bu.p b) ((Rect.unit (s := S2 2048 256) ![256 * ρ, 0] ![2048 - 256 * ρ, 256] (inb2 ρ h)).idx x))
            (fun x => σ Bu.v ((Rect.unit (s := S3 1 8192 256) vo ![1, 256, 128] hv).idx x)) ones) (σ Bu.ac)) := rfl

theorem pvA_in (a : Fin 4) (b : Bool) (ρ : ℕ) (h : ρ < 8) (ones : FVec Ideal (S2 256 128) .bf16) (vo : Fin 3 → ℕ) (hv) (σ : SI) (r : Fin 2048)
    (hr : 256 * ρ ≤ r.val) (v : Fin 256 → Fin 256 → EReal)
    (hvv : ∀ c j, cat (F := Ideal) (φ := .bf16) 256 (fun i => σ Bu.v ((Rect.unit (s := S3 1 8192 256) vo ![1, 256, 128] hv).idx (ix3 0 (i 0) (i 1)))) ones (ix2 c j) = v c j) :
    rowOf ((pvA (nD := nD) (τ := τ) (Λ := Λ) R a b ρ h ones vo hv).run σ).2 r = (rowOf σ r).pv a b v := by
  rw [pvA_run]
  refine Row.ext rfl rfl ?_ rfl rfl
  funext a' j
  simp only [rowOf, Row.pv]
  rw [Function.update_self]
  by_cases hb : a' = a
  · subst hb
    rw [Function.update_self]
    refine (upd3_in a'.val a' rfl ρ _ _ _ r j hr).trans ?_
    rw [pvV_apply]
    have hr' : r.val = 256 * ρ + (r.val - 256 * ρ) := by omega
    refine congrArg₂ (· + ·) (congrArg₂ (· * ·) ?_ ?_) (Finset.sum_congr rfl fun c _ => congrArg₂ (· * ·) ?_ ?_)
    · exact rd3 (hd b) (hf b) (hd_eq b) ρ _ (σ Bu.al) _ (lo j) r hr'
    · exact rd3 a'.val a' rfl ρ _ (σ Bu.ac) _ j r hr'
    · exact rd2 ρ _ (σ (Bu.p b)) _ c r hr'
    · rw [← hvv]
      refine congrArg (fun z => cat (F := Ideal) (φ := .bf16) 256 z ones (ix2 c j)) ?_
      funext i
      exact (congrArg _ (eq_ix2 i)).trans (sc3_apply (n := 256) (k := 128) _ _ (i 0) (i 1))
  · rw [Function.update_of_ne hb]
    exact upd3_out a.val a rfl a' ρ _ _ _ r j fun e => hb e.1

theorem pvA_out (a : Fin 4) (b : Bool) (ρ : ℕ) (h : ρ < 8) (ones : FVec Ideal (S2 256 128) .bf16) (vo : Fin 3 → ℕ) (hv) (σ : SI) (r : Fin 2048)
    (hr : ¬ 256 * ρ ≤ r.val) :
    rowOf ((pvA (nD := nD) (τ := τ) (Λ := Λ) R a b ρ h ones vo hv).run σ).2 r = rowOf σ r := by
  rw [pvA_run]
  refine Row.ext rfl rfl ?_ rfl rfl
  funext a' j
  simp only [rowOf]
  rw [Function.update_self]
  exact upd3_out a.val a rfl a' ρ _ _ _ r j fun e => hr e.2

/-- What the softmax's step leaves in the buffers. -/
def smS (a : Fin 4) (b : Bool) (ρ : ℕ) (h : ρ < 8) (f : FVec Ideal (S2 (2048 - 256 * ρ) 256) .f32 → FVec Ideal (S2 (2048 - 256 * ρ) 256) .f32) (σ : SI) :
    FVec Ideal (S3 1 (2048 - 256 * ρ) 128) .f32 × FVec Ideal (S2 (2048 - 256 * ρ) 256) .f32 :=
  ⟨fun x => σ Bu.mx ((Rect.unit (s := S3 4 2048 128) ![a.val, 256 * ρ, 0] ![1, 2048 - 256 * ρ, 128] (inb3 4 _ 128 ρ a.isLt h)).idx x),
   f fun x => σ (Bu.s b) ((Rect.unit (s := S2 2048 256) ![256 * ρ, 0] ![2048 - 256 * ρ, 256] (inb2 ρ h)).idx x)⟩

theorem smA_run (hp : ∀ b, (R (.p b)).IsWhole) (a : Fin 4) (b : Bool) (ρ : ℕ) (h : ρ < 8)
    (f : FVec Ideal (S2 (2048 - 256 * ρ) 256) .f32 → FVec Ideal (S2 (2048 - 256 * ρ) 256) .f32) (σ : SI) :
    ((smA (nD := nD) (τ := τ) (Λ := Λ) R hp a b ρ h f).run σ).2
      = Function.update (Function.update (Function.update σ Bu.mx
          (upd (Rect.unit (s := S3 4 2048 128) ![a.val, 256 * ρ, 0] ![1, 2048 - 256 * ρ, 128] (inb3 4 _ 128 ρ a.isLt h))
            (shapeCast (S3 1 (2048 - 256 * ρ) 128) (mxV (2048 - 256 * ρ) (smS a b ρ h f σ).1 (smS a b ρ h f σ).2) (sc2 (2048 - 256 * ρ) 128)) (σ Bu.mx)))
          Bu.al (upd (Rect.unit (s := S3 2 2048 128) ![hd b, 256 * ρ, 0] ![1, 2048 - 256 * ρ, 128] (inb3 2 _ 128 ρ (hd_lt b) h))
            (alV (2048 - 256 * ρ) (smS a b ρ h f σ).1 (mxV (2048 - 256 * ρ) (smS a b ρ h f σ).1 (smS a b ρ h f σ).2)) (σ Bu.al)))
          (Bu.p b) (upd (Rect.unit (s := S2 2048 256) ![256 * ρ, 0] ![2048 - 256 * ρ, 256] (inb2 ρ h))
            (pV (2048 - 256 * ρ) (smS a b ρ h f σ).2 (mxV (2048 - 256 * ρ) (smS a b ρ h f σ).1 (smS a b ρ h f σ).2)) (σ (Bu.p b))) := rfl

theorem smA_in (hp : ∀ b, (R (.p b)).IsWhole) (a : Fin 4) (b : Bool) (ρ : ℕ) (h : ρ < 8)
    (f : FVec Ideal (S2 (2048 - 256 * ρ) 256) .f32 → FVec Ideal (S2 (2048 - 256 * ρ) 256) .f32) (σ : SI) (r : Fin 2048)
    (hr : 256 * ρ ≤ r.val) (g : (Fin 256 → EReal) → Fin 256 → EReal)
    (hg : ∀ s, (fun c => f s (ix2 (⟨r.val - 256 * ρ, by have := r.isLt; omega⟩ : Fin (2048 - 256 * ρ)) c))
      = g fun c => s (ix2 (⟨r.val - 256 * ρ, by have := r.isLt; omega⟩ : Fin (2048 - 256 * ρ)) c)) :
    rowOf ((smA (nD := nD) (τ := τ) (Λ := Λ) R hp a b ρ h f).run σ).2 r = (rowOf σ r).sm a b g := by
  rw [smA_run]
  have hr' : r.val = 256 * ρ + (r.val - 256 * ρ) := by omega
  have e1 : ∀ l : Fin 128, (smS a b ρ h f σ).1 (ix3 0 ⟨r.val - 256 * ρ, by have := r.isLt; omega⟩ l) = (rowOf σ r).M a l := fun l =>
    rd3 a.val a rfl ρ _ (σ Bu.mx) _ l r hr'
  have e2 : (fun c => (smS a b ρ h f σ).2 (ix2 (⟨r.val - 256 * ρ, by have := r.isLt; omega⟩ : Fin (2048 - 256 * ρ)) c)) = g ((rowOf σ r).S b) := by
    refine (hg _).trans (congrArg g ?_)
    funext c
    exact rd2 ρ _ (σ (Bu.s b)) _ c r hr'
  have e3 : ∀ l : Fin 128, mxV (2048 - 256 * ρ) (smS a b ρ h f σ).1 (smS a b ρ h f σ).2 (ix2 ⟨r.val - 256 * ρ, by have := r.isLt; omega⟩ l)
      = Fox.Row.mx ((rowOf σ r).M a) (g ((rowOf σ r).S b)) l := by
    intro l; rw [mxV_apply, e1, e2]; rfl
  refine Row.ext ?_ ?_ ?_ ?_ ?_
  · funext b' c
    simp only [rowOf, Row.sm]
    rw [Function.update_of_ne (by simp), Function.update_of_ne (by simp), Function.update_of_ne (by simp)]
  · funext b' c
    simp only [rowOf, Row.sm]
    by_cases hb : b' = b
    · subst hb
      rw [Function.update_self, Function.update_self]
      refine (upd2_in ρ _ _ _ r c hr).trans ?_
      rw [pV_apply, e3]
      exact congrArg (fun z => Ideal.exp2 (z - _)) (congrFun e2 c)
    · rw [Function.update_of_ne (fun e => hb (Bu.p.inj e)), Function.update_of_ne hb, Function.update_of_ne (by simp), Function.update_of_ne (by simp)]
  · funext b' c
    simp only [rowOf, Row.sm]
    rw [Function.update_of_ne (by simp), Function.update_of_ne (by simp), Function.update_of_ne (by simp)]
  · funext a' l
    simp only [rowOf, Row.sm]
    rw [Function.update_of_ne (by simp), Function.update_of_ne (by simp), Function.update_self]
    by_cases hb : a' = a
    · subst hb
      rw [Function.update_self]
      refine (upd3_in a'.val a' rfl ρ _ _ _ r l hr).trans ?_
      rw [sc2_apply, e3]
      rfl
    · rw [Function.update_of_ne hb]
      exact upd3_out a.val a rfl a' ρ _ _ _ r l fun e => hb e.1
  · funext b' l
    simp only [rowOf, Row.sm]
    rw [Function.update_of_ne (by simp), Function.update_self]
    by_cases hb : b' = b
    · subst hb
      rw [Function.update_self]
      refine (upd3_in (hd b') (hf b') (hd_eq b') ρ _ _ _ r l hr).trans ?_
      rw [alV_apply, e3, e1]
      rfl
    · rw [Function.update_of_ne hb]
      exact upd3_out (hd b) (hf b) (hd_eq b) (hf b') ρ _ _ _ r l fun e => hb (hf_inj (by rw [hd_eq, hd_eq, e.1]))

theorem smA_out (hp : ∀ b, (R (.p b)).IsWhole) (a : Fin 4) (b : Bool) (ρ : ℕ) (h : ρ < 8)
    (f : FVec Ideal (S2 (2048 - 256 * ρ) 256) .f32 → FVec Ideal (S2 (2048 - 256 * ρ) 256) .f32) (σ : SI) (r : Fin 2048)
    (hr : ¬ 256 * ρ ≤ r.val) :
    rowOf ((smA (nD := nD) (τ := τ) (Λ := Λ) R hp a b ρ h f).run σ).2 r = rowOf σ r := by
  rw [smA_run]
  refine Row.ext ?_ ?_ ?_ ?_ ?_
  · funext b' c
    simp only [rowOf]
    rw [Function.update_of_ne (by simp), Function.update_of_ne (by simp), Function.update_of_ne (by simp)]
  · funext b' c
    simp only [rowOf]
    by_cases hb : b' = b
    · subst hb
      rw [Function.update_self]
      exact upd2_out ρ _ _ _ r c hr
    · rw [Function.update_of_ne (fun e => hb (Bu.p.inj e)), Function.update_of_ne (by simp), Function.update_of_ne (by simp)]
  · funext b' c
    simp only [rowOf]
    rw [Function.update_of_ne (by simp), Function.update_of_ne (by simp), Function.update_of_ne (by simp)]
  · funext a' l
    simp only [rowOf]
    rw [Function.update_of_ne (by simp), Function.update_of_ne (by simp), Function.update_self]
    exact upd3_out a.val a rfl a' ρ _ _ _ r l fun e => hr e.2
  · funext b' l
    simp only [rowOf]
    rw [Function.update_of_ne (by simp), Function.update_self]
    exact upd3_out (hd b) (hf b) (hd_eq b) (hf b') ρ _ _ _ r l fun e => hr e.2

end Dif

end
-- ==== Proof.Diff.Whole.lean ====
/-
  The differential attention's body on one row: its units in order are the row's, so each stream's accumulator ends at the
  weighted sum over the row's blocks.
-/
module

public import proofs.«01_k».proof.Proof.Whole
public import proofs.«01_k».proof.Proof.Diff.Pieces

@[expose] public section

noncomputable section

namespace Dif

open Idealize.ShloMosaic Idealize.ShloMosaic.ValueIdx Idealize.ShloMosaic.TcCoe
open Idealize.SL Idealize.SL.RA Idealize.SL.BI Idealize.SL.Sem
open Fox (S1 S2 S3 Fam Refs St Act hf hd cat dmask diagI onesB odd blkO inbK pvL pvL_toNat kb fF blkO_one rdk dmask_apply)
open scoped BigOperators

/-- A stream's columns. -/
abbrev col (a : Fin 4) (j : Fin 128) : Fin 256 := ⟨128 * (a.val / 2) + j.val, by omega⟩

/-- The logits of a row against a block, -/
def gF (q : Fin 4 → FVec Ideal (S2 2048 128) .bf16) (σ : SI) (r : Fin 2048) (a : Fin 4) (n : ℕ) (c : Fin 256) : EReal :=
  ∑ j : Fin 128, q a (ix2 r j) * σ Bu.k (ix3 0 (kb n c) (col a j))

/-- and the values of a block with ones after them. -/
def vF (σ : SI) (a : Fin 4) (n : ℕ) (c j : Fin 256) : EReal :=
  cat (F := Ideal) (φ := .bf16) 256 (fun i => σ Bu.v (ix3 0 (kb n (i 0)) (col a (i 1)))) onesB (ix2 c j)

theorem odd_add (k e : ℕ) : odd (32 * k + e) = odd e := by
  unfold odd; rw [show (32 * k + e) % 2 = e % 2 by omega]

theorem s4_add (k e : ℕ) : s4 (32 * k + e) = s4 e := Fin.ext (by rw [s4_val, s4_val]; omega)

variable {nD : Nat} {τ : Topo} {sig : RefSig} {Λ : Labels} {R : Refs sig fam}
variable (q : Fin 4 → FVec Ideal (S2 2048 128) .bf16) (σ0 : SI) (r : Fin 2048) (i : ℕ)

/-- The buffers hold the inputs. -/
def Ins (σ : SI) : Prop := ∀ l : Bu, l.isIn = true → σ l = σ0 l

theorem Ins.keep {σ0 σ : SI} (h : Ins σ0 σ) {α : Type} {A : Act nD τ Λ (F := Ideal) R α} (hA : ∀ l : Bu, l.isIn = true → Keeps R l A) :
    Ins σ0 (A.run σ).2 := fun l hl => (hA l hl σ).trans (h l hl)

variable {q σ0 r}

theorem lg_blk {σ : SI} (hσ : Ins σ0 σ) (a : Fin 4) (b : Bool) (n : ℕ) (hn : n < 32) (ρ : ℕ) (h : ρ < 8) (ko : Fin 3 → ℕ) (hk)
    (k1 : ko 1 = 256 * n) (k2 : ko 2 = 128 * (a.val / 2)) (hr : 256 * ρ ≤ r.val) :
    rowOf ((lgA (nD := nD) (τ := τ) (Λ := Λ) R b ρ h (q a) ko hk).run σ).2 r = (rowOf σ r).lg b (gF q σ0 r a n) := by
  rw [lgA_in b ρ h (q a) ko hk σ r hr]
  congr 1
  funext c
  have hc : (kb n c).val = 256 * n + c.val := Nat.mod_eq_of_lt (by omega)
  refine Finset.sum_congr rfl fun j _ => congrArg₂ (· * ·) rfl ?_
  rw [hσ Bu.k rfl]
  exact rdk (W := 256) ko hk (σ0 Bu.k) c j (kb n c) (col a j) (by rw [hc, k1]) (by rw [k2])

theorem pv_blk {σ : SI} (hσ : Ins σ0 σ) (a : Fin 4) (b : Bool) (n : ℕ) (hn : n < 32) (ρ : ℕ) (h : ρ < 8) (vo : Fin 3 → ℕ) (hv)
    (v1 : vo 1 = 256 * n) (v2 : vo 2 = 128 * (a.val / 2)) (hr : 256 * ρ ≤ r.val) :
    rowOf ((pvA (nD := nD) (τ := τ) (Λ := Λ) R a b ρ h onesB vo hv).run σ).2 r = (rowOf σ r).pv a b (vF σ0 a n) := by
  refine pvA_in a b ρ h onesB vo hv σ r hr _ fun c j => ?_
  unfold vF
  refine congrArg (fun z => cat (F := Ideal) (φ := .bf16) 256 z onesB (ix2 c j)) ?_
  funext x
  have hc : (kb n (x 0)).val = 256 * n + (x 0).val := Nat.mod_eq_of_lt (by have : (x 0).val < 256 := (x 0).isLt; omega)
  rw [hσ Bu.v rfl]
  exact rdk (W := 256) vo hv (σ0 Bu.v) (x 0) (x 1) (kb n (x 0)) (col a (x 1)) (by rw [hc, v1]) (by rw [v2])

variable (q σ0 r)

theorem bind_run {A B : Act nD τ Λ (F := Ideal) R PUnit} (σ : SI) : ((A >>= fun _ => B).run σ).2 = (B.run (A.run σ).2).2 := rfl

/-- The row's last block. -/
abbrev dB : ℕ := 8 * i + r.val / 256
abbrev rw1 (u : ℕ) (x : Row) : Row := rstep (dB r i) (gF q σ0 r) (fF (2048 * i + r.val)) (vF σ0) u x

variable {q σ0 r i}

/-! A piece on the rows from block `ρ` of the point on: a row before them stays. -/

theorem lg_if {σ : SI} (hσ : Ins σ0 σ) (a : Fin 4) (b : Bool) (n : ℕ) (hn : n < 32) (ρ : ℕ) (h : ρ < 8) (ko : Fin 3 → ℕ) (hk)
    (k1 : ko 1 = 256 * n) (k2 : ko 2 = 128 * (a.val / 2)) (hc : n ≤ dB r i ↔ 256 * ρ ≤ r.val) :
    rowOf ((lgA (nD := nD) (τ := τ) (Λ := Λ) R b ρ h (q a) ko hk).run σ).2 r
      = if n ≤ dB r i then (rowOf σ r).lg b (gF q σ0 r a n) else rowOf σ r := by
  split
  · next hd => exact lg_blk hσ a b n hn ρ h ko hk k1 k2 (hc.1 hd)
  · next hd => exact lgA_out _ _ _ _ _ _ _ _ fun hr => hd (hc.2 hr)

theorem pv_if {σ : SI} (hσ : Ins σ0 σ) (a : Fin 4) (b : Bool) (n : ℕ) (hn : n < 32) (ρ : ℕ) (h : ρ < 8) (vo : Fin 3 → ℕ) (hv)
    (v1 : vo 1 = 256 * n) (v2 : vo 2 = 128 * (a.val / 2)) (hc : n ≤ dB r i ↔ 256 * ρ ≤ r.val) :
    rowOf ((pvA (nD := nD) (τ := τ) (Λ := Λ) R a b ρ h onesB vo hv).run σ).2 r
      = if n ≤ dB r i then (rowOf σ r).pv a b (vF σ0 a n) else rowOf σ r := by
  split
  · next hd => exact pv_blk hσ a b n hn ρ h vo hv v1 v2 (hc.1 hd)
  · next hd => exact pvA_out _ _ _ _ _ _ _ _ _ fun hr => hd (hc.2 hr)

theorem sm_if (hp : ∀ b, (R (.p b)).IsWhole) (σ : SI) (a : Fin 4) (b : Bool) (ρ : ℕ) (h : ρ < 8) :
    rowOf ((smA (nD := nD) (τ := τ) (Λ := Λ) R hp a b ρ h (dmask (F := Ideal) (⊥ : EReal) diagI ρ h)).run σ).2 r
      = if 8 * i + ρ ≤ dB r i then (rowOf σ r).sm a b (fF (2048 * i + r.val) (8 * i + ρ)) else rowOf σ r := by
  split
  · next hd =>
    unfold dB at hd
    refine smA_in hp _ _ _ _ _ σ r (by omega) _ fun s => ?_
    funext c
    rw [dmask_apply]
    unfold fF
    refine if_congr ?_ rfl rfl
    show c.val ≤ r.val - 256 * ρ ↔ _
    omega
  · next hd => exact smA_out _ _ _ _ _ _ _ _ (by unfold dB at hd; omega)

theorem unitM_row (hp : ∀ b, (R (.p b)).IsWhole) (B : BitVec 32) (hB : B.toNat < 24) (k : ℕ) (hk : B.toNat = 8 * k) (hki : k < i)
    (e : Fin 32) {σ : SI} (hσ : Ins σ0 σ) :
    rowOf ((unitM (nD := nD) (τ := τ) (Λ := Λ) R hp q onesB B hB e).run σ).2 r = rw1 q σ0 r i (32 * k + e.val) (rowOf σ r) := by
  have he := e.isLt
  have h1 : (lgB B (e.val + 1)).toNat = (32 * k + e.val + 1) / 4 := by rw [lgB_toNat] <;> omega
  have h2 : (pvB B e.val).toNat = (32 * k + e.val + 3) / 4 - 1 := by rw [pvB_toNat] <;> omega
  unfold unitM
  rw [bind_run, bind_run]
  unfold rw1 rstep
  simp only [if_pos (show (32 * k + e.val + 1) / 4 ≤ dB r i by unfold dB; omega),
    if_pos (show (32 * k + e.val + 3) / 4 - 1 ≤ dB r i by unfold dB; omega), if_pos (show (32 * k + e.val) / 4 ≤ dB r i by unfold dB; omega),
    show odd (32 * k + e.val + 1) = odd (e.val + 1) from odd_add k (e.val + 1), odd_add,
    show s4 (32 * k + e.val + 1) = s4 (e.val + 1) from s4_add k (e.val + 1),
    show s4 (32 * k + e.val + 3) = s4 (e.val + 3) from s4_add k (e.val + 3), s4_add]
  rw [smA_in hp _ _ 0 _ id _ r (by omega) (fF (2048 * i + r.val) ((32 * k + e.val) / 4)) (fun s => ?_),
    pv_blk (σ0 := σ0) (hσ.keep fun l hl => keeps_lg hl _ _ _ _ _ _) _ _ ((32 * k + e.val + 3) / 4 - 1) (by omega) 0 _ _ _
      (by rw [blkO_one _ (by omega), h2]) rfl (by omega),
    lg_blk (q := q) hσ _ _ ((32 * k + e.val + 1) / 4) (by omega) 0 _ _ _
      (by rw [blkO_one _ (by omega), h1]) rfl (by omega)]
  funext c
  unfold fF
  rw [if_pos (by have := c.isLt; omega)]
  rfl

theorem unitT_row (hp : ∀ b, (R (.p b)).IsWhole) (B : BitVec 32) (hB : B.toNat ≤ 24) (hk : B.toNat = 8 * i)
    (e : Fin 31) {σ : SI} (hσ : Ins σ0 σ) :
    rowOf ((unitT (nD := nD) (τ := τ) (Λ := Λ) (F := Ideal) R hp (⊥ : EReal) diagI q onesB B hB e).run σ).2 r
      = rw1 q σ0 r i (32 * i + e.val) (rowOf σ r) := by
  have he := e.isLt
  have hrr := r.isLt
  have h1 : (lgB B (e.val + 1)).toNat = (32 * i + e.val + 1) / 4 := by rw [lgB_toNat] <;> omega
  have h2 : (pvB B e.val).toNat = (32 * i + e.val + 3) / 4 - 1 := by rw [pvB_toNat] <;> omega
  show rowOf ((smA (nD := nD) (τ := τ) (Λ := Λ) R hp (s4 e.val) (odd e.val) (e.val / 4) (quart_lt e) (dmask (F := Ideal) (⊥ : EReal) diagI (e.val / 4) (quart_lt e))).run
    ((pvA (nD := nD) (τ := τ) (Λ := Λ) R (s4 (e.val + 3)) (odd (e.val + 1)) ((e.val - 1) / 4) (by omega) onesB
      (blkO (pvB B e.val) (128 * ((s4 (e.val + 3)).val / 2))) (inbK _ (by omega) _ _ (colK _))).run
    ((lgA (nD := nD) (τ := τ) (Λ := Λ) R (odd (e.val + 1)) ((e.val + 1) / 4) (by omega) (q (s4 (e.val + 1)))
      (blkO (lgB B (e.val + 1)) (128 * ((s4 (e.val + 1)).val / 2))) (inbK _ (by omega) _ _ (colK _))).run σ).2).2).2 r = _
  unfold rw1 rstep
  simp only [show odd (32 * i + e.val + 1) = odd (e.val + 1) from odd_add i (e.val + 1), odd_add,
    show s4 (32 * i + e.val + 1) = s4 (e.val + 1) from s4_add i (e.val + 1),
    show s4 (32 * i + e.val + 3) = s4 (e.val + 3) from s4_add i (e.val + 3), s4_add]
  rw [sm_if (i := i) hp, pv_if (i := i) (hσ.keep fun l hl => keeps_lg hl _ _ _ _ _ _) _ _ ((32 * i + e.val + 3) / 4 - 1) (by omega) _ _ _ _
      (by rw [blkO_one _ (by omega), h2]) rfl (by unfold dB; omega),
    lg_if (i := i) hσ _ _ ((32 * i + e.val + 1) / 4) (by omega) _ _ _ _ (by rw [blkO_one _ (by omega), h1]) rfl (by unfold dB; omega),
    show (32 * i + e.val) / 4 = 8 * i + e.val / 4 by omega]

/-! ## The units in order -/

theorem seq_run {n : ℕ} (f : Fin n → Act nD τ Λ (F := Ideal) R PUnit) (P : ℕ → SI → Prop)
    (h : ∀ (x : Fin n) σ, P x.val σ → P (x.val + 1) ((f x).run σ).2) :
    ∀ (is : List (Fin n)) (e : ℕ) (_ : is.map Fin.val = List.range' e is.length) σ, P e σ → P (e + is.length) ((Act.seq f is).run σ).2
  | [], e, _, σ, hP => hP
  | x :: is, e, hl, σ, hP => by
    rw [List.map_cons, List.length_cons, List.range'_succ, List.cons.injEq] at hl
    obtain ⟨rfl, hl⟩ := hl
    have := seq_run f P h is (x.val + 1) hl _ (h x σ hP)
    rw [List.length_cons, show x.val + (is.length + 1) = x.val + 1 + is.length by omega]
    exact this

theorem foldl_run {n : ℕ} (f : SI → Fin n → SI) (P : ℕ → SI → Prop) (h : ∀ (x : Fin n) σ, P x.val σ → P (x.val + 1) (f σ x)) :
    ∀ (is : List (Fin n)) (e : ℕ) (_ : is.map Fin.val = List.range' e is.length) σ, P e σ → P (e + is.length) (is.foldl f σ)
  | [], e, _, σ, hP => hP
  | x :: is, e, hl, σ, hP => by
    rw [List.map_cons, List.length_cons, List.range'_succ, List.cons.injEq] at hl
    obtain ⟨rfl, hl⟩ := hl
    have := foldl_run f P h is (x.val + 1) hl _ (h x σ hP)
    rw [List.length_cons, show x.val + (is.length + 1) = x.val + 1 + is.length by omega]
    exact this

variable (q σ0 r i)

/-- The row after the first units, its inputs as they were. -/
def Good (x0 : Row) (u : ℕ) (σ : SI) : Prop :=
  Ins σ0 σ ∧ rowOf σ r = rrun (dB r i) (gF q σ0 r) (fF (2048 * i + r.val)) (vF σ0) u x0

variable {q σ0 r i}

theorem keeps_unitM' {l : Bu} (hl : l.isIn = true) (hp : ∀ b, (R (.p b)).IsWhole) (B : BitVec 32) (hB : B.toNat < 24) (e : Fin 32) :
    Keeps R l (unitM (nD := nD) (τ := τ) (Λ := Λ) R hp q onesB B hB e) :=
  (keeps_lg hl _ _ _ _ _ _).bind fun _ => (keeps_pv hl _ _ _ _ _ _ _).bind fun _ => keeps_sm hl _ _ _ _ _ _

theorem keeps_unitT' {l : Bu} (hl : l.isIn = true) (hp : ∀ b, (R (.p b)).IsWhole) (B : BitVec 32) (hB : B.toNat ≤ 24) (e : Fin 31) :
    Keeps R l (unitT (nD := nD) (τ := τ) (Λ := Λ) (F := Ideal) R hp (⊥ : EReal) diagI q onesB B hB e) :=
  (keeps_lg0 hl _ _ _ _ _ _).bind fun _ => keeps_unitR hl _ _ _ _ _ _ _ _

theorem grpM_good (hp : ∀ b, (R (.p b)).IsWhole) (B : BitVec 32) (hB : B.toNat < 24) (k : ℕ) (hk : B.toNat = 8 * k) (hki : k < i)
    {x0 : Row} {σ : SI} (h : Good q σ0 r i x0 (32 * k) σ) :
    Good q σ0 r i x0 (32 * (k + 1)) ((grpM (nD := nD) (τ := τ) (Λ := Λ) R hp q onesB B hB).run σ).2 :=
  seq_run (unitM (nD := nD) (τ := τ) (Λ := Λ) R hp q onesB B hB) (fun e σ => Good q σ0 r i x0 (32 * k + e) σ)
    (fun e σ hg => ⟨hg.1.keep fun l hl => keeps_unitM' hl _ _ _ _, by
      rw [unitM_row hp B hB k hk hki e hg.1, hg.2]; rfl⟩) es 0 (by decide) σ h

/-- The group on the diagonal, its first unit in one. -/
theorem grpR_run (hp : ∀ b, (R (.p b)).IsWhole) (B : BitVec 32) (hB : B.toNat ≤ 24) (σ : SI) :
    ((grpR (nD := nD) (τ := τ) (Λ := Λ) (F := Ideal) R hp (⊥ : EReal) diagI q onesB B hB
        ((postL (nD := nD) (τ := τ) (Λ := Λ) (F := Ideal) R q B hB).run σ).1).run
        ((postL (nD := nD) (τ := τ) (Λ := Λ) (F := Ideal) R q B hB).run σ).2).2
      = ((pvA (nD := nD) (τ := τ) (Λ := Λ) R 3 true 7 (by decide) onesB (blkO (pvL B) 128) (inbK _ (by rw [pvL_toNat] <;> omega) _ _ (by decide))).run
          ((smA (nD := nD) (τ := τ) (Λ := Λ) R hp 3 true 7 (by decide) (dmask (F := Ideal) (⊥ : EReal) diagI 7 (by decide))).run
          ((pvA (nD := nD) (τ := τ) (Λ := Λ) R 2 false 7 (by decide) onesB (blkO (pvB B 31) 128) (inbK _ (by rw [pvB_toNat] <;> omega) _ _ (by decide))).run
          ((Act.seq (unitT (nD := nD) (τ := τ) (Λ := Λ) (F := Ideal) R hp (⊥ : EReal) diagI q onesB B hB) (0 :: fs)).run σ).2).2).2).2 := rfl

/-- Its last pieces. -/
theorem tail_good (hp : ∀ b, (R (.p b)).IsWhole) (B : BitVec 32) (hB : B.toNat ≤ 24) (hk : B.toNat = 8 * i) (hv hw)
    {x0 : Row} {σ1 : SI} (h31 : Good q σ0 r i x0 (32 * i + 31) σ1) :
    Good q σ0 r i x0 (32 * i + 33) ((pvA (nD := nD) (τ := τ) (Λ := Λ) R 3 true 7 (by decide) onesB (blkO (pvL B) 128) hv).run
          ((smA (nD := nD) (τ := τ) (Λ := Λ) R hp 3 true 7 (by decide) (dmask (F := Ideal) (⊥ : EReal) diagI 7 (by decide))).run
          ((pvA (nD := nD) (τ := τ) (Λ := Λ) R 2 false 7 (by decide) onesB (blkO (pvB B 31) 128) hw).run σ1).2).2).2 := by
  have hrr := r.isLt
  have h2 : (pvB B 31).toNat = 8 * i + 7 := by rw [pvB_toNat] <;> omega
  have h3 : (pvL B).toNat = 8 * i + 7 := by rw [pvL_toNat] <;> omega
  have i2 := h31.1.keep (R := R) (A := pvA (nD := nD) (τ := τ) (Λ := Λ) R 2 false 7 (by decide) onesB (blkO (pvB B 31) 128) hw)
    fun l hl => keeps_pv hl _ _ _ _ _ _ _
  have i3 := i2.keep (R := R) (A := smA (nD := nD) (τ := τ) (Λ := Λ) R hp 3 true 7 (by decide) (dmask (F := Ideal) (⊥ : EReal) diagI 7 (by decide)))
    fun l hl => keeps_sm hl _ _ _ _ _ _
  refine ⟨i3.keep fun l hl => keeps_pv hl _ _ _ _ _ _ _, ?_⟩
  rw [pv_if (i := i) i3 3 true (8 * i + 7) (by omega) 7 _ _ _ (by rw [blkO_one _ (by omega), h3]) rfl (by unfold dB; omega),
    sm_if (i := i) hp, pv_if (i := i) h31.1 2 false (8 * i + 7) (by omega) 7 _ _ _ (by rw [blkO_one _ (by omega), h2]) rfl (by unfold dB; omega),
    h31.2]
  show _ = rstep _ _ _ _ (32 * i + 31 + 1) (rstep _ _ _ _ (32 * i + 31) _)
  unfold rstep
  have n1 : ¬ (32 * i + 31 + 1) / 4 ≤ dB r i := by unfold dB; omega
  have n2 : ¬ (32 * i + 31 + 1 + 1) / 4 ≤ dB r i := by unfold dB; omega
  simp only [if_neg n1, if_neg n2, show (32 * i + 31 + 3) / 4 - 1 = 8 * i + 7 by omega, show (32 * i + 31) / 4 = 8 * i + 7 by omega,
    show (32 * i + 31 + 1 + 3) / 4 - 1 = 8 * i + 7 by omega, show odd (32 * i + 31 + 1) = false from odd_add i 32,
    show odd (32 * i + 31) = true from odd_add i 31, show odd (32 * i + 31 + 1 + 1) = true from odd_add i 33,
    show s4 (32 * i + 31 + 3) = 2 from s4_add i 34, show s4 (32 * i + 31 + 1 + 3) = 3 from s4_add i 35, show s4 (32 * i + 31) = 3 from s4_add i 31]

theorem grpR_good (hp : ∀ b, (R (.p b)).IsWhole) (B : BitVec 32) (hB : B.toNat ≤ 24) (hk : B.toNat = 8 * i)
    {x0 : Row} {σ : SI} (h : Good q σ0 r i x0 (32 * i) σ) :
    Good q σ0 r i x0 (32 * i + 33) ((grpR (nD := nD) (τ := τ) (Λ := Λ) (F := Ideal) R hp (⊥ : EReal) diagI q onesB B hB
        ((postL (nD := nD) (τ := τ) (Λ := Λ) (F := Ideal) R q B hB).run σ).1).run
        ((postL (nD := nD) (τ := τ) (Λ := Λ) (F := Ideal) R q B hB).run σ).2).2 := by
  rw [grpR_run]
  exact tail_good hp B hB hk _ _
    (seq_run (unitT (nD := nD) (τ := τ) (Λ := Λ) (F := Ideal) R hp (⊥ : EReal) diagI q onesB B hB) (fun e σ => Good q σ0 r i x0 (32 * i + e) σ)
      (fun e σ hg => ⟨hg.1.keep fun l hl => keeps_unitT' hl _ _ _ _, by
        rw [unitT_row hp B hB hk e hg.1, hg.2]; rfl⟩) (0 :: fs) 0 (by decide) σ h)

end Dif

end
-- ==== Proof.Diff.Vals.lean ====
/-
  The differential attention's queries and results, entry by entry, at the extended reals.
-/
module

public import proofs.«01_k».proof.Proof.Diff.Pieces
public import Idealize.ShloMosaic.Lib.IdealHost

@[expose] public section

noncomputable section

namespace Dif

open Idealize.ShloMosaic Idealize.ShloMosaic.ValueIdx Idealize.ShloMosaic.TcCoe
open Fox (S1 S2 S3 sc3 sc2 sc1 bc1 slh up dn sc3_apply sc2_apply zero16)
open scoped BigOperators

/-- The second half's weight. -/
def lam (l1 k1 l2 k2 : Fin 64 → EReal) : EReal :=
  Ideal.exp (∑ i, l1 i * k1 i) - Ideal.exp (∑ i, l2 i * k2 i) + Ideal.ofBits .f32 0x3E4CCCCD#32

/-- The rms norm of a head's row, times four fifths. -/
def rms (d g : Fin 128 → EReal) (j : Fin 128) : EReal :=
  d j * Ideal.rsqrt (Ideal.div (∑ l, d l * d l) (Ideal.ofBits .f32 0x43000000#32) + Ideal.ofBits .f32 0x358637BD#32) * g j
    * Ideal.ofBits .f32 0x3F4CCCCD#32

/-- The sum of a row, in a column. -/
theorem sumRow (n k : ℕ) (x : FVec Ideal (S2 n k) .f32) (r : Fin n) :
    shapeCast (S2 n 1) (multiReduction .add [1] (S1 n) x 0x00000000#32 (redk n k) (.inl rfl) rfl) (sc1 n) (ix2 r 0)
      = ∑ c : Fin k, x (ix2 r c) := by
  refine (shapeCast_apply _ (sc1 n) (ix2 r 0) (ix1 r) ?_).trans ?_
  · rw [Shape.rowMajor_val_one, Shape.rowMajor_val_two]
    show r.val = r.val * 1 + 0
    omega
  refine (Ideal.multiReduction_add_single x _ (redk n k) _ rfl (ix1 r)).trans ?_
  refine Finset.sum_congr rfl fun c _ => congrArg x ?_
  funext a; match a with | ⟨0, _⟩ => rfl | ⟨1, _⟩ => rfl

theorem lamV_apply (l1 k1 l2 k2 : FVec Ideal (S2 1 64) .f32) : lamV l1 k1 l2 k2 (ix2 0 0)
    = lam (fun i => l1 (ix2 0 i)) (fun i => k1 (ix2 0 i)) (fun i => l2 (ix2 0 i)) (fun i => k2 (ix2 0 i)) := by
  unfold lam
  rw [← show _ = ∑ i, l1 (ix2 0 i) * k1 (ix2 0 i) from sumRow 1 64 (mulf l1 k1) 0,
    ← show _ = ∑ i, l2 (ix2 0 i) * k2 (ix2 0 i) from sumRow 1 64 (mulf l2 k2) 0]
  rfl

theorem halfV_apply (x : FVec Ideal (S3 1 2048 256) .f32) (r : Fin 2048) (j : Fin 128) :
    halfV x (ix2 r j) = Ideal.div (x (ix3 0 r (dn j))) (x (ix3 0 r (up j))) := by
  unfold halfV
  rw [divf_apply]
  rw [extractStridedSlice_apply (s := S2 2048 256) _ _ (slh 0 (.inl rfl)) (ix2 r j) (ix2 r (dn j)) (fun a => by
      match a with
      | ⟨0, _⟩ => show r.val = 0 + r.val; omega
      | ⟨1, _⟩ => show j.val = 0 + j.val; omega),
    extractStridedSlice_apply (s := S2 2048 256) _ _ (slh 128 (.inr rfl)) (ix2 r j) (ix2 r (up j)) (fun a => by
      match a with
      | ⟨0, _⟩ => show r.val = 0 + r.val; omega
      | ⟨1, _⟩ => rfl), sc3_apply, sc3_apply]

theorem difV_apply (l : FVec Ideal (S2 1 1) .f32) (x y : FVec Ideal (S2 2048 128) .f32) (r : Fin 2048) (j : Fin 128) :
    difV l x y (ix2 r j) = x (ix2 r j) - l (ix2 0 0) * y (ix2 r j) := by
  have e : broadcastTo (S2 2048 128) l (bc0 2048) (ix2 r j) = l (ix2 0 0) :=
    broadcastTo_apply _ (bc0 2048) (ix2 r j) (ix2 0 0) fun a => by match a with | ⟨0, _⟩ => rfl | ⟨1, _⟩ => rfl
  show x (ix2 r j) - broadcastTo (S2 2048 128) l (bc0 2048) (ix2 r j) * y (ix2 r j) = _
  rw [e]

theorem rmsV_apply (d : FVec Ideal (S2 2048 128) .f32) (g : FVec Ideal (S2 1 128) .f32) (r : Fin 2048) (j : Fin 128) :
    rmsV d g (ix2 r j) = rms (fun l => d (ix2 r l)) (fun l => g (ix2 0 l)) j := by
  have e1 : ∀ y : FVec Ideal (S2 2048 1) .f32, broadcastTo (S2 2048 128) y (bc1 2048) (ix2 r j) = y (ix2 r 0) := fun y =>
    broadcastTo_apply _ (bc1 2048) (ix2 r j) (ix2 r 0) fun a => by match a with | ⟨0, _⟩ => rfl | ⟨1, _⟩ => rfl
  have e2 : broadcastTo (S2 2048 128) g (bcr 2048 128) (ix2 r j) = g (ix2 0 j) :=
    broadcastTo_apply _ (bcr 2048 128) (ix2 r j) (ix2 0 j) fun a => by match a with | ⟨0, _⟩ => rfl | ⟨1, _⟩ => rfl
  unfold rmsV rms
  rw [mulf_apply, mulf_apply, mulf_apply, e1, e2]
  rw [← show _ = ∑ l, d (ix2 r l) * d (ix2 r l) from sumRow 2048 128 (mulf d d) r]
  rfl

theorem outV_apply (l : FVec Ideal (S2 1 1) .f32) (x y : FVec Ideal (S3 1 2048 256) .f32) (g : FVec Ideal (S2 1 128) .f32) (a : Fin 1)
    (r : Fin 2048) (j : Fin 128) :
    outV l x y g (ix3 a r j) = rms (fun c => Ideal.div (x (ix3 0 r (dn c))) (x (ix3 0 r (up c)))
      - l (ix2 0 0) * Ideal.div (y (ix3 0 r (dn c))) (y (ix3 0 r (up c)))) (fun c => g (ix2 0 c)) j := by
  unfold outV
  rw [sc2_apply, truncf_apply, rmsV_apply]
  simp only [difV_apply, halfV_apply]

/-! ## The queries -/

theorem lane_apply (r : Fin 2048) (l : Fin 128) (κ h) : iota κ (S2 2048 128) 32 [1] h (ix2 r l) = BitVec.ofNat 32 l.val := iota_single_apply ..

theorem low_apply (r : Fin 2048) (l : Fin 128) : low64 (ix2 r l) = BitVec.ofBool (decide (l.val < 64)) := by
  show IntOp.cmpi .slt (iota .tc (S2 2048 128) 32 [1] _ (ix2 r l)) 64#32 = _
  rw [lane_apply]
  clear r
  revert l; decide

theorem high_apply (r : Fin 2048) (l : Fin 128) : high64 (ix2 r l) = BitVec.ofBool (decide (64 ≤ l.val)) := by
  show IntOp.cmpi .sge (iota .tc (S2 2048 128) 32 [1] _ (ix2 r l)) 64#32 = _
  rw [lane_apply]
  clear r
  revert l; decide

/-- A stream has the lanes of its half. -/
abbrev own (a : Fin 4) (l : Fin 128) : Prop := l.val / 64 = a.val % 2

theorem qV_apply (c : IVec (S2 2048 128) 1) (q : FVec Ideal (S3 1 2048 128) .bf16) (r : Fin 2048) (l : Fin 128) (p : Prop) [Decidable p]
    (h : c (ix2 r l) = BitVec.ofBool (decide p)) : qV c q (ix2 r l) = if p then q (ix3 0 r l) else 0 := by
  unfold qV
  rw [select_apply, sc3_apply, h, Fox.select_ofBool]
  exact if_congr Iff.rfl rfl zero16

theorem qsV_apply (q : Fin 2 → FVec Ideal (S3 1 2048 128) .bf16) (a : Fin 4) (r : Fin 2048) (l : Fin 128) :
    qsV (q 0) (q 1) a (ix2 r l) = if own a l then q ⟨a.val / 2, by omega⟩ (ix3 0 r l) else 0 := by
  have hl := l.isLt
  match a with
  | 0 => exact (qV_apply _ _ r l _ (low_apply r l)).trans (if_congr (by show _ ↔ l.val / 64 = 0; omega) rfl rfl)
  | 1 => exact (qV_apply _ _ r l _ (high_apply r l)).trans (if_congr (by show _ ↔ l.val / 64 = 1; omega) rfl rfl)
  | 2 => exact (qV_apply _ _ r l _ (low_apply r l)).trans (if_congr (by show _ ↔ l.val / 64 = 0; omega) rfl rfl)
  | 3 => exact (qV_apply _ _ r l _ (high_apply r l)).trans (if_congr (by show _ ↔ l.val / 64 = 1; omega) rfl rfl)

/-- Only a stream's own lanes count. -/
theorem sum_own (a : Fin 4) (x k : Fin 128 → EReal) :
    (∑ j : Fin 128, (if own a j then x j else 0) * k j)
      = ∑ d : Fin 64, x ⟨64 * (a.val % 2) + d.val, by omega⟩ * k ⟨64 * (a.val % 2) + d.val, by omega⟩ := by
  let e : Fin 2 × Fin 64 ≃ Fin 128 := finProdFinEquiv
  have ev : ∀ x d, (e (x, d)).val = d.val + 64 * x.val := fun x d => rfl
  rw [← Equiv.sum_comp e, Fintype.sum_prod_type, Finset.sum_eq_single (⟨a.val % 2, by omega⟩ : Fin 2)]
  · refine Finset.sum_congr rfl fun d _ => ?_
    have hd : e (⟨a.val % 2, by omega⟩, d) = ⟨64 * (a.val % 2) + d.val, by omega⟩ :=
      Fin.ext (by rw [ev]; show d.val + 64 * (a.val % 2) = 64 * (a.val % 2) + d.val; omega)
    rw [hd, if_pos (by show (64 * (a.val % 2) + d.val) / 64 = a.val % 2; omega)]
  · intro x _ hx
    refine Finset.sum_eq_zero fun d _ => ?_
    rw [if_neg, zero_mul]
    intro hh
    have hh' : (e (x, d)).val / 64 = a.val % 2 := hh
    rw [ev] at hh'
    exact hx (Fin.ext (by show x.val = a.val % 2; have := d.isLt; omega))
  · intro hh; exact absurd (Finset.mem_univ _) hh

end Dif

end
-- ==== Proof.Diff.Body.lean ====
/-
  The differential attention's body, at the extended reals: each row of each head of the result is the difference of its two
  streams' weighted values over their weights' sums, normalised.
-/
module

public import proofs.«01_k».proof.Proof.Body
public import proofs.«01_k».proof.Proof.Diff.Whole
public import proofs.«01_k».proof.Proof.Diff.Vals

@[expose] public section

noncomputable section

namespace Dif

open Idealize.ShloMosaic Idealize.ShloMosaic.ValueIdx Idealize.ShloMosaic.TcCoe
open Idealize.SL Idealize.SL.RA Idealize.SL.BI Idealize.SL.Sem
open Fox (S1 S2 S3 Refs Act hf hd fF diagI onesB one1 upd upd_idx unit_val upd_all3 updo_in updo_out upd2_in sc2_apply dn up one32 zero32 zero16
  base1_toNat base1_lt base2 base2_toNat base2_le)
open scoped BigOperators

variable {nD : Nat} {τ : Topo} {sig : RefSig} {Λ : Labels} {R : Refs sig fam}

theorem bind_run' {α β : Type} {A : Act nD τ Λ (F := Ideal) R α} {k : α → Act nD τ Λ (F := Ideal) R β} (σ : SI) :
    (A >>= k).run σ = (k (A.run σ).1).run (A.run σ).2 := rfl

theorem rd_all2 {α : Type} {k : ℕ} (inb) (X : (S2 1 k).Idx → α) (c : Fin k) :
    X ((Rect.unit (s := S2 1 k) ![0, 0] ![1, k] inb).idx (ix2 0 c)) = X (ix2 0 c) := by
  congr 1
  funext x
  match x with
  | ⟨0, _⟩ => exact Subsingleton.elim (α := Fin 1) _ _
  | ⟨1, _⟩ => exact Fin.ext (by rw [unit_val]; show 0 + 1 * c.val = c.val; omega)

/-- A head's queries, -/
def qB (σ : SI) (h : Fin 2) : FVec Ideal (S3 1 2048 128) .bf16 := fun x =>
  σ Bu.q ((Rect.unit (s := S3 1 2048 256) ![0, 0, 128 * h.val] ![1, 2048, 128] (by revert h; decide)).idx x)

/-- and the streams'. -/
def qI (σ : SI) : Fin 4 → FVec Ideal (S2 2048 128) .bf16 := qsV (qB σ 0) (qB σ 1)

theorem qsA_val (σ : SI) : ((qsA (nD := nD) (τ := τ) (Λ := Λ) (F := Ideal) R (⊥ : EReal)).run σ).1 = qI σ := rfl

theorem qI_apply (σ : SI) (a : Fin 4) (r : Fin 2048) (l : Fin 128) :
    qI σ a (ix2 r l) = if own a l then σ Bu.q (ix3 0 r (col a l)) else 0 := by
  refine (qsV_apply (qB σ) a r l).trans (if_congr Iff.rfl ?_ rfl)
  unfold qB
  congr 1
  funext d
  match d with
  | ⟨0, _⟩ => exact Subsingleton.elim (α := Fin 1) _ _
  | ⟨1, _⟩ => exact Fin.ext (by rw [unit_val]; show 0 + 1 * r.val = r.val; omega)
  | ⟨2, _⟩ => exact Fin.ext (by rw [unit_val]; show 128 * (a.val / 2) + 1 * l.val = 128 * (a.val / 2) + l.val; omega)

/-- What the buffers hold before the first logits. -/
def preS (σ : SI) : SI :=
  Function.update (Function.update (Function.update
    (Function.update σ Bu.mx (upd (Rect.unit (s := S3 4 2048 128) ![0, 0, 0] ![4, 2048, 128] (by decide))
      (shapeCast (S3 4 2048 128) (broadcast (S3 4 2048 128) (⊥ : EReal)) rfl) (σ Bu.mx)))
    Bu.al (upd (Rect.unit (s := S3 2 2048 128) ![1, 0, 0] ![1, 2048, 128] (by decide)) (one1 (F := Ideal)) (σ Bu.al)))
    Bu.ac (upd (Rect.unit (s := S3 4 2048 256) ![0, 0, 0] ![4, 2048, 256] (by decide))
      (shapeCast (S3 4 2048 256) (broadcast (S3 4 2048 256) (Ideal.ofBits .f32 0x00000000#32)) rfl) (σ Bu.ac)))
    (Bu.p true) (upd (Rect.unit (s := S2 2048 256) ![0, 0] ![2048, 256] (by decide))
      (shapeCast (S2 2048 256) (broadcast (S2 2048 256) (Ideal.ofBits .bf16 0x0000#16)) rfl) (σ (Bu.p true)))

theorem initS_eq (hp : ∀ b, (R (.p b)).IsWhole) (σ : SI) :
    initS nD τ Λ (F := Ideal) R hp (⊥ : EReal) σ
      = ((lgA (nD := nD) (τ := τ) (Λ := Λ) R false 0 (by decide) (qI σ 0) ![0, 0, 0] (by decide)).run (preS σ)).2 := by
  rw [← qsA_val (nD := nD) (τ := τ) (Λ := Λ) (R := R) σ]
  rfl

variable (σ : SI) (r : Fin 2048) (i : ℕ)

theorem pre_row : (rowOf (preS σ) r).M = (fun _ _ => ⊥) ∧ (rowOf (preS σ) r).L true = (fun _ => 1) ∧ (rowOf (preS σ) r).A = (fun _ _ => 0)
    ∧ (rowOf (preS σ) r).P true = fun _ => 0 := by
  refine ⟨?_, ?_, ?_, ?_⟩
  · funext b l
    simp only [rowOf, preS]
    rw [Function.update_of_ne (by simp), Function.update_of_ne (by simp), Function.update_of_ne (by simp), Function.update_self]
    refine (upd_all3 _ _ _ _ _ _).trans ?_
    rw [shapeCast_self]; rfl
  · funext l
    simp only [rowOf, preS]
    rw [Function.update_of_ne (by simp), Function.update_of_ne (by simp), Function.update_self]
    refine (upd3_in 1 (hf true) rfl 0 _ _ _ r l (by omega)).trans ?_
    refine (sc2_apply (n := 2048) (k := 128) _ _ _ _ _).trans ?_
    exact one32
  · funext b j
    simp only [rowOf, preS]
    rw [Function.update_of_ne (by simp), Function.update_self]
    refine (upd_all3 _ _ _ _ _ _).trans ?_
    rw [shapeCast_self]; exact zero32
  · funext c
    simp only [rowOf, preS]
    rw [Function.update_self]
    refine (upd2_in 0 _ _ _ r c (by omega)).trans ?_
    rw [shapeCast_self]; exact zero16

theorem pre_ins : Ins σ (preS σ) := by
  intro l hl
  unfold preS
  rw [Function.update_of_ne (ne_of hl rfl), Function.update_of_ne (ne_of hl rfl), Function.update_of_ne (ne_of hl rfl),
    Function.update_of_ne (ne_of hl rfl)]

theorem init_inv (hp : ∀ b, (R (.p b)).IsWhole) :
    Inv (dB r i) (gF (qI σ) σ r) (fF (2048 * i + r.val)) (vF σ) 0 (rowOf (initS nD τ Λ (F := Ideal) R hp (⊥ : EReal) σ) r) := by
  obtain ⟨h1, h2, h3, h4⟩ := pre_row σ r
  rw [initS_eq, lg_blk (q := qI σ) (pre_ins σ) 0 false 0 (by decide) 0 _ _ _ rfl rfl (by omega)]
  exact inv0 _ _ _ _ h1 h2 h3 h4

theorem loop_good (hp : ∀ b, (R (.p b)).IsWhole) (hn : i ≤ 3) :
    Good (qI σ) σ r i (rowOf (initS nD τ Λ (F := Ideal) R hp (⊥ : EReal) σ) r) (32 * i) (loopS nD τ Λ (F := Ideal) R hp (⊥ : EReal) hn σ) := by
  have h := foldl_run (fun τ' k => stepS nD τ Λ (F := Ideal) R hp ((qsA (nD := nD) (τ := τ) (Λ := Λ) (F := Ideal) R (⊥ : EReal)).run σ).1 hn k τ')
    (fun k σ' => Good (qI σ) σ r i (rowOf (initS nD τ Λ (F := Ideal) R hp (⊥ : EReal) σ) r) (32 * k) σ')
    (fun k σ' hg => by
      show Good _ _ _ _ _ _ (stepS nD τ Λ (F := Ideal) R hp ((qsA (nD := nD) (τ := τ) (Λ := Λ) (F := Ideal) R (⊥ : EReal)).run σ).1 hn k σ')
      rw [qsA_val]
      exact grpM_good hp _ _ k.val (base1_toNat hn k) k.isLt hg) (List.finRange i) 0 (by
        rw [List.map_coe_finRange_eq_range, List.length_finRange, List.range_eq_range']) (initS nD τ Λ (F := Ideal) R hp (⊥ : EReal) σ)
    ⟨by rw [initS_eq]; exact (pre_ins σ).keep fun l hl => keeps_lg hl _ _ _ _ _ _, rfl⟩
  rw [List.length_finRange, zero_add] at h
  exact h

/-- A stream's accumulator read, -/
def acB (σ : SI) (a : Fin 4) : FVec Ideal (S3 1 2048 256) .f32 := fun x =>
  σ Bu.ac ((Rect.unit (s := S3 4 2048 256) ![a.val, 256 * 0, 0] ![1, 2048 - 256 * 0, 256] (inb3 4 _ 256 0 a.isLt (by decide))).idx x)

/-- and the second half's weight. -/
def lamB (σ : SI) : FVec Ideal (S2 1 1) .f32 :=
  lamV (fun x => σ Bu.l1 ((Rect.unit (s := S2 1 64) ![0, 0] ![1, 64] (by decide)).idx x))
    (fun x => σ Bu.k1 ((Rect.unit (s := S2 1 64) ![0, 0] ![1, 64] (by decide)).idx x))
    (fun x => σ Bu.l2 ((Rect.unit (s := S2 1 64) ![0, 0] ![1, 64] (by decide)).idx x))
    (fun x => σ Bu.k2 ((Rect.unit (s := S2 1 64) ![0, 0] ![1, 64] (by decide)).idx x))

theorem lamB_apply : lamB σ (ix2 0 0) = lam (fun c => σ Bu.l1 (ix2 0 c)) (fun c => σ Bu.k1 (ix2 0 c)) (fun c => σ Bu.l2 (ix2 0 c))
    (fun c => σ Bu.k2 (ix2 0 c)) := by
  unfold lamB
  rw [lamV_apply]
  exact congr (congr (congr (congrArg lam (funext fun c => rd_all2 _ (σ Bu.l1) c)) (funext fun c => rd_all2 _ (σ Bu.k1) c))
    (funext fun c => rd_all2 _ (σ Bu.l2) c)) (funext fun c => rd_all2 _ (σ Bu.k2) c)

def gsB (σ : SI) : FVec Ideal (S2 1 128) .f32 := fun x => σ Bu.gs ((Rect.unit (s := S2 1 128) ![0, 0] ![1, 128] (by decide)).idx x)

theorem outA_run (ho : (R .o).IsWhole) : ((outA (nD := nD) (τ := τ) (Λ := Λ) (F := Ideal) R ho).run σ).2
    = Function.update (Function.update σ Bu.o (upd (Rect.unit (s := S3 1 2048 256) ![0, 0, 0] ![1, 2048, 128] (by decide))
          (outV (F := Ideal) (lamB σ) (acB σ 0) (acB σ 1) (gsB σ)) (σ Bu.o)))
        Bu.o (upd (Rect.unit (s := S3 1 2048 256) ![0, 0, 128] ![1, 2048, 128] (by decide))
          (outV (F := Ideal) (lamB σ) (acB σ 2) (acB σ 3) (gsB σ))
          (Function.update σ Bu.o (upd (Rect.unit (s := S3 1 2048 256) ![0, 0, 0] ![1, 2048, 128] (by decide))
            (outV (F := Ideal) (lamB σ) (acB σ 0) (acB σ 1) (gsB σ)) (σ Bu.o)) Bu.o)) := rfl

/-- A head's streams. -/
abbrev sa (b : Bool) : Fin 4 := cond b 2 0
abbrev sb (b : Bool) : Fin 4 := cond b 3 1

theorem out_o (ho : (R .o).IsWhole) (b : Bool) (j : Fin 128) : ((outA (nD := nD) (τ := τ) (Λ := Λ) (F := Ideal) R ho).run σ).2 Bu.o (ix3 0 r (Fox.col b j))
    = outV (F := Ideal) (lamB σ) (acB σ (sa b)) (acB σ (sb b)) (gsB σ) (ix3 0 r j) := by
  rw [outA_run, Function.update_self]
  cases b
  · refine (updo_out true false (by decide) _ _ rfl _ _ r j).trans ?_
    rw [Function.update_self]
    exact updo_in false _ _ rfl rfl rfl _ _ r j
  · exact updo_in true _ _ rfl rfl rfl _ _ r j

/-- A stream's weighted values over its weights' sum. -/
def hlf (a : Fin 4) (j : Fin 128) : EReal :=
  Ideal.div (bs (gF (qI σ) σ r) (fF (2048 * i + r.val)) (vF σ) a (dB r i + 1) (dn j))
    (bs (gF (qI σ) σ r) (fF (2048 * i + r.val)) (vF σ) a (dB r i + 1) (up j))

/-- The result's row of a head. -/
theorem body_o (hp : ∀ b, (R (.p b)).IsWhole) (ho : (R .o).IsWhole) (hn : i ≤ 3) (b : Bool) (j : Fin 128) :
    bodyS nD τ Λ (F := Ideal) R hp ho (⊥ : EReal) hn σ Bu.o (ix3 0 r (Fox.col b j))
      = rms (fun c => hlf σ r i (sa b) c - lam (fun c => σ Bu.l1 (ix2 0 c)) (fun c => σ Bu.k1 (ix2 0 c)) (fun c => σ Bu.l2 (ix2 0 c))
          (fun c => σ Bu.k2 (ix2 0 c)) * hlf σ r i (sb b) c) (fun c => σ Bu.gs (ix2 0 c)) j := by
  have hg := grpR_good (nD := nD) (τ := τ) (Λ := Λ) hp (base2 i) (base2_le hn) (base2_toNat hn) (loop_good (nD := nD) (τ := τ) (Λ := Λ) σ r i hp hn)
  unfold bodyS
  rw [qsA_val]
  unfold postA postR
  rw [bind_run', bind_run']
  revert hg
  generalize ((grpR (nD := nD) (τ := τ) (Λ := Λ) (F := Ideal) R hp (⊥ : EReal) diagI (qI σ) onesB (base2 i) (base2_le hn)
        ((postL (nD := nD) (τ := τ) (Λ := Λ) (F := Ideal) R (qI σ) (base2 i) (base2_le hn)).run (loopS nD τ Λ (F := Ideal) R hp (⊥ : EReal) hn σ)).1).run
        ((postL (nD := nD) (τ := τ) (Λ := Λ) (F := Ideal) R (qI σ) (base2 i) (base2_le hn)).run (loopS nD τ Λ (F := Ideal) R hp (⊥ : EReal) hn σ)).2).2 = σ1
  intro hg
  have hA : ∀ a j, acB σ1 a (ix3 0 r j) = bs (gF (qI σ) σ r) (fF (2048 * i + r.val)) (vF σ) a (dB r i + 1) j := fun a j =>
    (rd3 a.val a rfl 0 _ (σ1 Bu.ac) r j r (by omega)).trans ((congrFun (congrFun (congrArg Row.A hg.2) a) j).trans
      (rrun_end _ _ _ _ (init_inv (nD := nD) (τ := τ) (Λ := Λ) σ r i hp) (by have := r.isLt; unfold dB; omega) a j))
  rw [out_o, outV_apply, lamB_apply, hg.1 Bu.l1 rfl, hg.1 Bu.k1 rfl, hg.1 Bu.l2 rfl, hg.1 Bu.k2 rfl]
  simp only [hA]
  exact congrArg (fun g => rms _ g j) (funext fun c => (rd_all2 _ (σ1 Bu.gs) c).trans (by rw [hg.1 Bu.gs rfl]))

end Dif

end
-- ==== Proof.Diff.Lam.lean ====
/-
  The sum of all the entries of a row of 64.
-/
module

public import proofs.«01_k».proof.Proof.Gen.Reference4Ideal
public import Idealize.ShloMosaic.Lib.ValueIdx
import Idealize.ShloMosaic.Lib.IdealHost
import Idealize.ShloMosaic.Lib.KernelVsHost
import proofs.«01_k».proof.Proof.RefVal
import Idealize.ShloMosaic.Lib.Pointwise.Reduce

@[expose] public section

noncomputable section

namespace Dif

open Cert.Reference4Ideal Cert.Reference4Ideal.Gen Idealize.ShloMosaic Idealize.ShloMosaic.StableHlo
open scoped BigOperators

theorem sum_all (x : FVec Ideal S1x64 .f32) (i : S_.Idx) :
    Host.reduceAdd x (constant (F := Ideal) S_ .f32 0x00000000#32) reducesTo_S1x64_S_d0_1 h_S_ i
      = Ideal.ofBits .f32 0x00000000#32 + ∑ c : Fin 64, (x (ValueIdx.ix2 0 c) : EReal) := by
  rw [ValueIdx.hostReduceAdd_apply, Ideal.hostReduceAdd_r2_a01, Fin.sum_univ_one]
  refine congrArg₂ (· + ·) rfl (Finset.sum_congr rfl fun c _ => congrArg x ?_)
  funext a
  match a with
  | ⟨0, _⟩ => rfl
  | ⟨1, _⟩ => rfl

end Dif

end
-- ==== Proof.Diff.RefVal.lean ====
/-
  The differential attention's reference read entry by entry, at the extended reals.
-/
module

public import proofs.«01_k».proof.Proof.RefVal
public import proofs.«01_k».proof.Proof.Diff.Vals
public import proofs.«01_k».proof.Proof.Gen.Reference4Ideal.Run
public import proofs.«01_k».proof.Proof.Diff.Lam

@[expose] public section

set_option maxRecDepth 8192

noncomputable section

namespace Cert.Reference4Ideal.Value

open Cert.Reference4Ideal Cert.Reference4Ideal.Gen Idealize.ShloMosaic
open Idealize.ShloMosaic.ValueIdx Idealize.ShloMosaic.TcCoe Idealize.SL.Sem Idealize.ShloMosaic.StableHlo
open Cert.ReferenceIdeal.Value (wt exR exR_apply heads_big dot_val sum_row bc_row mask_apply)
open Dif (lam rms)
open scoped BigOperators

variable {α : Type}

theorem half_apply (o : ℕ) (x : S2x4x8192x128.Idx → α) (hs : S2x4x8192x128.Slices ![0, 0, 0, o] S2x4x8192x64) (n : Fin 2) (h : Fin 4)
    (r : Fin 8192) (d : Fin 64) (e : Fin 128) (he : e.val = o + d.val) :
    extractStridedSlice S2x4x8192x64 ![0, 0, 0, o] x hs (ix4 n h r d) = x (ix4 n h r e) := by
  refine extractStridedSlice_apply _ _ hs _ (ix4 n h r e) fun a => ?_
  match a with
  | ⟨0, _⟩ => show n.val = 0 + n.val; omega
  | ⟨1, _⟩ => show h.val = 0 + h.val; omega
  | ⟨2, _⟩ => show r.val = 0 + r.val; omega
  | ⟨3, _⟩ => exact he

theorem dot_half (L R : FVec Ideal S2x4x8192x64 .f32) (n : Fin 2) (h : Fin 4) (r t : Fin 8192) :
    Host.dotGeneral (F := Ideal) dot_S2x4x8192x64_S2x4x8192x64_S2x4x8192x8192_3_3_2_2_01_01 none L R (ix4 n h r t)
      = ∑ d : Fin 64, (L (ix4 n h r d) : EReal) * R (ix4 n h t d) := by
  simp only [Host.dotGeneral]
  have hr : dot_S2x4x8192x64_S2x4x8192x64_S2x4x8192x8192_3_3_2_2_01_01.contr.rank = 1 := rfl
  have c0 : dot_S2x4x8192x64_S2x4x8192x64_S2x4x8192x8192_3_3_2_2_01_01.contr.size ⟨0, by rw [hr]; omega⟩ = 64 := rfl
  rw [Ideal.dotGeneral_apply, ← Equiv.sum_comp (contrEquiv1 _ 64 hr c0).symm]
  refine Finset.sum_congr rfl fun d _ => ?_
  have hk := contrEquiv1_symm_val dot_S2x4x8192x64_S2x4x8192x64_S2x4x8192x8192_3_3_2_2_01_01 64 hr c0 d
  refine congrArg₂ (· * ·) (congrArg L ?_) (congrArg R ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

/-! ## The result -/

/-- The logit of query row `r` against position `t` in half `a` of head `h` of example `n`: −∞ past the row. -/
def lgD (p : S2x8192x3072.Idx → EReal) (n : Fin 2) (h : Fin 4) (a : Fin 2) (r t : Fin 8192) : EReal :=
  if t.val ≤ r.val then
    ∑ d : Fin 64, p (ix3 n r ⟨128 * h.val + (64 * a.val + d.val), by omega⟩) * p (ix3 n t ⟨512 + 128 * h.val + (64 * a.val + d.val), by omega⟩)
  else ⊥

/-- One half's attention. -/
def hfD (p : S2x8192x3072.Idx → EReal) (n : Fin 2) (h : Fin 4) (a : Fin 2) (r : Fin 8192) (j : Fin 128) : EReal :=
  Ideal.div (∑ t, wt (lgD p n h a r) t * p (ix3 n t ⟨1024 + 128 * h.val + j.val, by omega⟩)) (∑ t, wt (lgD p n h a r) t)

/-- The differential attention's entry: the halves' difference, normalised. -/
def attD (p : S2x8192x3072.Idx → EReal) (l1 k1 l2 k2 : S1x64.Idx → EReal) (g : S1x128.Idx → EReal) (n : Fin 2) (h : Fin 4) (r : Fin 8192)
    (j : Fin 128) : EReal :=
  rms (fun c => hfD p n h 0 r c
    - lam (fun i => l1 (ix2 0 i)) (fun i => k1 (ix2 0 i)) (fun i => l2 (ix2 0 i)) (fun i => k2 (ix2 0 i)) * hfD p n h 1 r c)
    (fun c => g (ix2 0 c)) j

section Steps

variable (p : FVec Ideal S2x8192x3072 .bf16)

/-- The array's columns from `o` on, by head. -/
def hdR (o : ℕ) (hs : S2x8192x3072.Slices ![0, 0, o] S2x8192x512) : FVec Ideal S2x4x8192x128 .f32 :=
  transpose S2x4x8192x128 [0, 2, 1, 3] (shapeCast _ (extractStridedSlice S2x8192x512 ![0, 0, o] (extf .f32 p bitsLt_bf16_f32) hs)
    shapeCasts_S2x8192x512_S2x8192x4x128) transposes_S2x8192x4x128_S2x4x8192x128_0_2_1_3

def scR (o : ℕ) (hs : S2x4x8192x128.Slices ![0, 0, 0, o] S2x4x8192x64) : FVec Ideal S2x4x8192x8192 .f32 :=
  select (broadcastInDim S2x4x8192x8192 ![2, 3] bcast_S8192x8192_S2x4x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.dotGeneral dot_S2x4x8192x64_S2x4x8192x64_S2x4x8192x8192_3_3_2_2_01_01 none
      (extractStridedSlice S2x4x8192x64 ![0, 0, 0, o] (hdR p 0 slices_S2x8192x3072_S2x8192x512_0_0_0) hs)
      (extractStridedSlice S2x4x8192x64 ![0, 0, 0, o] (hdR p 512 slices_S2x8192x3072_S2x8192x512_0_0_512) hs))
    (broadcastInDim S2x4x8192x8192 ![] bcast_S_S2x4x8192x8192 (constant S_ .f32 0xFF800000#32))

def hfR (e : FVec Ideal S2x4x8192x8192 .f32) : FVec Ideal S2x4x8192x128 .f32 :=
  Host.divf (Host.dotGeneral dot_S2x4x8192x8192_S2x4x8192x128_S2x4x8192x128_3_2_2_3_01_01 none e (hdR p 1024 slices_S2x8192x3072_S2x8192x512_0_0_1024))
    (broadcastInDim S2x4x8192x128 ![0, 1, 2, 3] bcast_S2x4x8192x1_S2x4x8192x128_0_1_2_3 (broadcastInDim S2x4x8192x1 ![0, 1, 2] bcast_S2x4x8192_S2x4x8192x1_0_1_2 (Host.reduceAdd e (constant S_ .f32 0x00000000#32) reducesTo_S2x4x8192x8192_S2x4x8192_d3 h_S_)))

def lamR (l1 k1 l2 k2 : FVec Ideal S1x64 .f32) : FVec Ideal S_ .f32 :=
  addf (subf (Host.exp (Host.reduceAdd (mulf l1 k1) (constant S_ .f32 0x00000000#32) reducesTo_S1x64_S_d0_1 h_S_))
    (Host.exp (Host.reduceAdd (mulf l2 k2) (constant S_ .f32 0x00000000#32) reducesTo_S1x64_S_d0_1 h_S_))) (constant S_ .f32 0x3E4CCCCD#32)

def dfR (l : FVec Ideal S_ .f32) (x y : FVec Ideal S2x4x8192x128 .f32) : FVec Ideal S2x4x8192x128 .f32 :=
  subf x (mulf (broadcastInDim S2x4x8192x128 ![] bcast_S_S2x4x8192x128 l) y)

def rmR (d : FVec Ideal S2x4x8192x128 .f32) (g : FVec Ideal S1x128 .f32) : FVec Ideal S2x4x8192x128 .f32 :=
  mulf (mulf (mulf d (broadcastInDim S2x4x8192x128 ![0, 1, 2, 3] bcast_S2x4x8192x1_S2x4x8192x128_0_1_2_3 (Host.rsqrt (addf (Host.divf (broadcastInDim S2x4x8192x1 ![0, 1, 2] bcast_S2x4x8192_S2x4x8192x1_0_1_2 (Host.reduceAdd (mulf d d) (constant S_ .f32 0x00000000#32) reducesTo_S2x4x8192x128_S2x4x8192_d3 h_S_)) (broadcastInDim S2x4x8192x1 ![] bcast_S_S2x4x8192x1 (constant S_ .f32 0x43000000#32))) (broadcastInDim S2x4x8192x1 ![] bcast_S_S2x4x8192x1 (constant S_ .f32 0x358637BD#32))))))
    (broadcastInDim S2x4x8192x128 ![0, 1, 2, 3] bcast_S1x1x1x128_S2x4x8192x128_0_1_2_3 (broadcastInDim S1x1x1x128 ![2, 3] bcast_S1x128_S1x1x1x128_2_3 g)))
    (broadcastInDim S2x4x8192x128 ![] bcast_S_S2x4x8192x128 (constant S_ .f32 0x3F4CCCCD#32))

def otR (x : FVec Ideal S2x4x8192x128 .f32) : FVec Ideal S2x8192x512 .bf16 :=
  truncf .bf16 (shapeCast _ (transpose S2x8192x4x128 [0, 2, 1, 3] x transposes_S2x4x8192x128_S2x8192x4x128_0_2_1_3) shapeCasts_S2x8192x4x128_S2x8192x512) bitsLt_bf16_f32

theorem hdR_apply (o : ℕ) (hs) (n : Fin 2) (h : Fin 4) (r : Fin 8192) (d : Fin 128) (e : Fin 3072) (he : e.val = o + 128 * h.val + d.val) :
    hdR p o hs (ix4 n h r d) = p (ix3 n r e) := heads_big o _ _ _ _ n h r d e he

theorem scR_apply (a : Fin 2) (o : ℕ) (hs) (ho : o = 64 * a.val) (n : Fin 2) (h : Fin 4) (r t : Fin 8192) :
    scR p o hs (ix4 n h r t) = lgD p n h a r t := by
  unfold scR lgD
  have hb : broadcastInDim S2x4x8192x8192 ![] bcast_S_S2x4x8192x8192 (constant (F := Ideal) S_ .f32 0xFF800000#32) (ix4 n h r t) = (⊥ : EReal) :=
    (broadcastInDim_scalar_apply _ _ _).trans Fox.ofBits_bot
  rw [select_apply, mask_apply, hb, Fox.select_ofBool]
  split
  · rw [dot_half]
    refine Finset.sum_congr rfl fun d _ => ?_
    rw [half_apply o _ hs n h r d ⟨64 * a.val + d.val, by omega⟩ (by show 64 * a.val + d.val = o + d.val; omega), half_apply o _ hs n h t d ⟨64 * a.val + d.val, by omega⟩ (by show 64 * a.val + d.val = o + d.val; omega),
      hdR_apply p 0 _ n h r _ ⟨128 * h.val + (64 * a.val + d.val), by omega⟩ (by show 128 * h.val + (64 * a.val + d.val) = 0 + 128 * h.val + (64 * a.val + d.val); omega),
      hdR_apply p 512 _ n h t _ ⟨512 + 128 * h.val + (64 * a.val + d.val), by omega⟩ rfl]
  · rfl

theorem hfR_apply (e : FVec Ideal S2x4x8192x8192 .f32) (n : Fin 2) (h : Fin 4) (r : Fin 8192) (j : Fin 128) :
    hfR p e (ix4 n h r j) = Ideal.div (∑ t : Fin 8192, (e (ix4 n h r t) : EReal) * p (ix3 n t ⟨1024 + 128 * h.val + j.val, by omega⟩))
      (∑ t : Fin 8192, (e (ix4 n h r t) : EReal)) := by
  unfold hfR
  rw [hostDivf_apply]
  refine congrArg₂ Ideal.div ((dot_val e _ n h r j).trans (Finset.sum_congr rfl fun t _ => congrArg (_ * ·) (hdR_apply p 1024 _ n h t j _ rfl))) ?_
  rw [bc_row 128, sum_row]

theorem lamR_apply (l1 k1 l2 k2 : FVec Ideal S1x64 .f32) (i : S_.Idx) :
    lamR l1 k1 l2 k2 i = lam (fun i => l1 (ix2 0 i)) (fun i => k1 (ix2 0 i)) (fun i => l2 (ix2 0 i)) (fun i => k2 (ix2 0 i)) := by
  have e : ∀ x : FVec Ideal S1x64 .f32, Host.reduceAdd x (constant S_ .f32 0x00000000#32) reducesTo_S1x64_S_d0_1 h_S_ i = ∑ c : Fin 64, x (ix2 0 c) := by
    intro x
    have h0 : Ideal.ofBits .f32 0x00000000#32 = 0 := Fox.zero_apply (Shape.Idx.first h_S_)
    rw [Dif.sum_all, h0, zero_add]
  unfold lam
  rw [← show _ = ∑ c, l1 (ix2 0 c) * k1 (ix2 0 c) from e (mulf l1 k1), ← show _ = ∑ c, l2 (ix2 0 c) * k2 (ix2 0 c) from e (mulf l2 k2)]
  rfl

theorem dfR_apply (l : FVec Ideal S_ .f32) (x y : FVec Ideal S2x4x8192x128 .f32) (L : EReal) (hl : ∀ i, l i = L) (i : S2x4x8192x128.Idx) :
    dfR l x y i = x i - L * y i := by
  show x i - broadcastInDim S2x4x8192x128 ![] bcast_S_S2x4x8192x128 l i * y i = _
  rw [broadcastInDim_scalar_apply, hl]

theorem red_d : S2x4x8192x128.Reduces [3] S2x4x8192 := by decide

theorem sum_d (x : FVec Ideal S2x4x8192x128 .f32) (n : Fin 2) (h : Fin 4) (r : Fin 8192) :
    Host.reduceAdd x (constant S_ .f32 0x00000000#32) reducesTo_S2x4x8192x128_S2x4x8192_d3 h_S_ (ix3 n h r)
      = ∑ c : Fin 128, (x (ix4 n h r c) : EReal) := by
  rw [hostReduceAdd_apply, Ideal.hostReduceAdd_single _ red_d]
  have h0 : (constant (F := Ideal) S_ .f32 0x00000000#32 (Shape.Idx.first h_S_) : EReal) = 0 := Fox.zero_apply _
  rw [h0, zero_add]
  refine Finset.sum_congr rfl fun t _ => congrArg x ?_
  funext a
  match a with
  | ⟨0, _⟩ => rfl
  | ⟨1, _⟩ => rfl
  | ⟨2, _⟩ => rfl
  | ⟨3, _⟩ => rfl

theorem rmR_apply (d : FVec Ideal S2x4x8192x128 .f32) (g : FVec Ideal S1x128 .f32) (n : Fin 2) (h : Fin 4) (r : Fin 8192) (j : Fin 128) :
    rmR d g (ix4 n h r j) = rms (fun c => d (ix4 n h r c)) (fun c => g (ix2 0 c)) j := by
  have e1 : ∀ y : FVec Ideal S2x4x8192x1 .f32, broadcastInDim S2x4x8192x128 ![0, 1, 2, 3] bcast_S2x4x8192x1_S2x4x8192x128_0_1_2_3 y (ix4 n h r j) = y (ix4 n h r 0) :=
    fun y => broadcastInDim_apply _ _ _ (ix4 n h r j) (ix4 n h r 0) fun a => by
      match a with | ⟨0, _⟩ => rfl | ⟨1, _⟩ => rfl | ⟨2, _⟩ => rfl | ⟨3, _⟩ => rfl
  have e2 : ∀ y : FVec Ideal S2x4x8192 .f32, broadcastInDim S2x4x8192x1 ![0, 1, 2] bcast_S2x4x8192_S2x4x8192x1_0_1_2 y (ix4 n h r 0) = y (ix3 n h r) :=
    fun y => broadcastInDim_apply _ _ _ (ix4 n h r 0) (ix3 n h r) fun a => by
      match a with | ⟨0, _⟩ => rfl | ⟨1, _⟩ => rfl | ⟨2, _⟩ => rfl
  have e3 : broadcastInDim S2x4x8192x128 ![0, 1, 2, 3] bcast_S1x1x1x128_S2x4x8192x128_0_1_2_3 (broadcastInDim S1x1x1x128 ![2, 3] bcast_S1x128_S1x1x1x128_2_3 g) (ix4 n h r j)
      = g (ix2 0 j) :=
    (broadcastInDim_apply _ _ _ (ix4 n h r j) (ix4 0 0 0 j) fun a => by
      match a with | ⟨0, _⟩ => rfl | ⟨1, _⟩ => rfl | ⟨2, _⟩ => rfl | ⟨3, _⟩ => rfl).trans
    (broadcastInDim_apply _ _ _ (ix4 0 0 0 j) (ix2 0 j) fun a => by match a with | ⟨0, _⟩ => rfl | ⟨1, _⟩ => rfl)
  unfold rmR rms
  rw [mulf_apply, mulf_apply, mulf_apply, e1, e3, broadcastInDim_scalar_apply]
  refine congrArg₂ (· * ·) (congrArg₂ (· * ·) (congrArg (_ * ·) ?_) rfl) rfl
  show Ideal.rsqrt (Ideal.div (broadcastInDim S2x4x8192x1 ![0, 1, 2] bcast_S2x4x8192_S2x4x8192x1_0_1_2 (Host.reduceAdd (mulf d d) (constant S_ .f32 0x00000000#32) reducesTo_S2x4x8192x128_S2x4x8192_d3 h_S_) (ix4 n h r 0))
    (broadcastInDim S2x4x8192x1 ![] bcast_S_S2x4x8192x1 (constant (F := Ideal) S_ .f32 0x43000000#32) (ix4 n h r 0))
    + broadcastInDim S2x4x8192x1 ![] bcast_S_S2x4x8192x1 (constant (F := Ideal) S_ .f32 0x358637BD#32) (ix4 n h r 0)) = _
  rw [broadcastInDim_scalar_apply, broadcastInDim_scalar_apply, e2, sum_d]
  rfl

theorem otR_apply (x : FVec Ideal S2x4x8192x128 .f32) (n : Fin 2) (h : Fin 4) (r : Fin 8192) (j : Fin 128) :
    otR x (ix3 n r ⟨128 * h.val + j.val, by omega⟩) = x (ix4 n h r j) := by
  unfold otR
  rw [truncf_apply]
  refine (shapeCast_apply _ shapeCasts_S2x8192x4x128_S2x8192x512 _ (ix4 n r h j) ?_).trans ?_
  · rw [Shape.rowMajor_val_three, Shape.rowMajor_val_four]
    show ((n.val * 8192 + r.val) * 4 + h.val) * 128 + j.val = (n.val * 8192 + r.val) * 512 + (128 * h.val + j.val)
    omega
  refine transpose_apply [0, 2, 1, 3] _ transposes_S2x4x8192x128_S2x8192x4x128_0_2_1_3 (ix4 n r h j) (ix4 n h r j) fun b => ?_
  fin_cases b <;> rfl

end Steps

theorem res_steps (m : (ℓ : Loc nD τ sig) → Buf (Elt Ideal) ℓ) (c : Dev nD) :
    let p := m ((c.tc : Thread nD τ).loc main_arg0)
    res_out0 m c = otR (rmR (dfR (lamR (m ((c.tc : Thread nD τ).loc main_arg1)) (m ((c.tc : Thread nD τ).loc main_arg2))
        (m ((c.tc : Thread nD τ).loc main_arg3)) (m ((c.tc : Thread nD τ).loc main_arg4)))
      (hfR p (exR (scR p 0 slices_S2x4x8192x128_S2x4x8192x64_0_0_0_0))) (hfR p (exR (scR p 64 slices_S2x4x8192x128_S2x4x8192x64_0_0_0_64))))
      (m ((c.tc : Thread nD τ).loc main_arg5))) := by
  delta res_out0 res_main_v83
  delta otR rmR dfR lamR hfR exR scR hdR
  exact rfl

theorem res_apply (m : (ℓ : Loc nD τ sig) → Buf (Elt Ideal) ℓ) (c : Dev nD) (n : Fin 2) (h : Fin 4) (r : Fin 8192) (j : Fin 128) :
    res_out0 m c (ix3 n r ⟨128 * h.val + j.val, by omega⟩)
      = attD (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) n h r j := by
  refine (congrFun (res_steps m c) _).trans ?_
  rw [otR_apply, rmR_apply]
  unfold attD
  refine congrArg (fun d => rms d _ j) (funext fun c' => ?_)
  rw [dfR_apply _ _ _ _ (lamR_apply _ _ _ _), hfR_apply, hfR_apply]
  unfold hfD
  simp only [exR_apply, scR_apply _ 0 0 _ rfl, scR_apply _ 1 64 _ rfl]

end Cert.Reference4Ideal.Value

end
-- ==== Proof.Diff.Att.lean ====
/-
  A row's sums over the blocks of keys, as sums over the keys; and so the entry of the differential attention that a run of the body
  leaves.
-/
module

public import proofs.«01_k».proof.Proof.Att
public import proofs.«01_k».proof.Proof.Diff.Body
public import proofs.«01_k».proof.Proof.Diff.RefVal

@[expose] public section

noncomputable section

namespace Dif

open Idealize.ShloMosaic Idealize.ShloMosaic.ValueIdx Idealize.ShloMosaic.TcCoe
open Idealize.SL Idealize.SL.RA Idealize.SL.BI Idealize.SL.Sem
open Fox (S2 S3 Refs kb kb_key keyE keyE_val lm bsum bsum_keys bsum_stay hd hd_lt hn4 fF dn up cat_dn cat_up one16 vF_up)
open Cert.ReferenceIdeal.Value (wt)
open Cert.Reference4Ideal.Value (lgD hfD attD)
open scoped BigOperators

variable {nD : Nat} {τ : Topo} {sig : RefSig} {Λ : Labels} {R : Refs sig fam}

variable (σ : SI) (p : (S3 2 8192 3072).Idx → EReal) (l1 k1 l2 k2 : (S2 1 64).Idx → EReal) (g : (S2 1 128).Idx → EReal) (n : Fin 2) (gn i : ℕ)
  (hgn : gn < 2) (hi : i ≤ 3)

/-- The buffers' contents, of the arrays. -/
structure Blk : Prop where
  q : ∀ (r : Fin 2048) (c : Fin 256), σ Bu.q (ix3 0 r c) = p (ix3 n ⟨2048 * i + r.val, by have := r.isLt; omega⟩ ⟨256 * gn + c.val, by have := c.isLt; omega⟩)
  k : ∀ (t : Fin 8192) (c : Fin 256), σ Bu.k (ix3 0 t c) = p (ix3 n t ⟨512 + 256 * gn + c.val, by have := c.isLt; omega⟩)
  v : ∀ (t : Fin 8192) (c : Fin 256), σ Bu.v (ix3 0 t c) = p (ix3 n t ⟨1024 + 256 * gn + c.val, by have := c.isLt; omega⟩)
  l1 : ∀ c : Fin 64, σ Bu.l1 (ix2 0 c) = l1 (ix2 0 c)
  k1 : ∀ c : Fin 64, σ Bu.k1 (ix2 0 c) = k1 (ix2 0 c)
  l2 : ∀ c : Fin 64, σ Bu.l2 (ix2 0 c) = l2 (ix2 0 c)
  k2 : ∀ c : Fin 64, σ Bu.k2 (ix2 0 c) = k2 (ix2 0 c)
  gs : ∀ c : Fin 128, σ Bu.gs (ix2 0 c) = g (ix2 0 c)

variable {σ p l1 k1 l2 k2 g n gn i hgn hi}

theorem Blk.logits (H : Blk σ p l1 k1 l2 k2 g n gn i hgn hi) (r : Fin 2048) (b : Bool) (h : Fin 2) (a : Fin 4) (ha : a.val = 2 * hd b + h.val)
    (x : Fin 32) (c : Fin 256) :
    lm (fun _ => gF (qI σ) σ r a) (fF (2048 * i + r.val)) true x.val c
      = lgD p n (hn4 gn hgn b) h ⟨2048 * i + r.val, by have := r.isLt; omega⟩ (keyE (x, c)) := by
  show (if 256 * x.val + c.val ≤ 2048 * i + r.val then gF (qI σ) σ r a x.val c else ⊥) = _
  unfold lgD
  rw [keyE_val, show c.val + 256 * x.val = 256 * x.val + c.val from Nat.add_comm _ _]
  refine if_congr Iff.rfl ?_ rfl
  unfold gF
  simp only [qI_apply]
  rw [sum_own a (fun l => σ Bu.q (ix3 0 r (col a l))) (fun l => σ Bu.k (ix3 0 (kb x.val c) (col a l)))]
  have hb := hd_lt b
  refine Finset.sum_congr rfl fun d _ => ?_
  rw [H.q, H.k, kb_key]
  have hd := d.isLt
  have hh := h.isLt
  refine congrArg₂ (· * ·) (congrArg (fun e => p (ix3 n _ e)) (Fin.ext ?_)) (congrArg (fun e => p (ix3 n _ e)) (Fin.ext ?_))
  · show 256 * gn + (128 * (a.val / 2) + (64 * (a.val % 2) + d.val)) = 128 * (2 * gn + Fox.hd b) + (64 * h.val + d.val); omega
  · show 512 + 256 * gn + (128 * (a.val / 2) + (64 * (a.val % 2) + d.val)) = 512 + 128 * (2 * gn + Fox.hd b) + (64 * h.val + d.val); omega

theorem Blk.vals (H : Blk σ p l1 k1 l2 k2 g n gn i hgn hi) (b : Bool) (h : Fin 2) (a : Fin 4) (ha : a.val = 2 * hd b + h.val) (x : Fin 32)
    (c : Fin 256) (j : Fin 128) :
    vF σ a x.val c (dn j) = p (ix3 n (keyE (x, c)) ⟨1024 + 128 * (hn4 gn hgn b).val + j.val, by have := (hn4 gn hgn b).isLt; have := j.isLt; omega⟩) := by
  unfold vF
  rw [cat_dn]
  show σ Bu.v (ix3 0 (kb x.val c) (col a j)) = _
  rw [H.v, kb_key]
  have hh := h.isLt
  refine congrArg (fun e => p (ix3 n _ e)) (Fin.ext ?_)
  show 1024 + 256 * gn + (128 * (a.val / 2) + j.val) = 1024 + 128 * (2 * gn + hd b) + j.val
  omega

theorem vF_one (a : Fin 4) (x : Fin 32) (c : Fin 256) (j : Fin 128) : vF σ a x.val c (up j) = 1 := by
  unfold vF
  rw [cat_up]
  exact one16

theorem Blk.half (H : Blk σ p l1 k1 l2 k2 g n gn i hgn hi) (r : Fin 2048) (b : Bool) (h : Fin 2) (a : Fin 4) (ha : a.val = 2 * hd b + h.val)
    (j : Fin 128) : hlf σ r i a j = hfD p n (hn4 gn hgn b) h ⟨2048 * i + r.val, by have := r.isLt; omega⟩ j := by
  unfold hlf
  have hr := r.isLt
  have hs : ∀ j, bs (gF (qI σ) σ r) (fF (2048 * i + r.val)) (vF σ) a (dB r i + 1) j
      = bsum (fun _ => gF (qI σ) σ r a) (fF (2048 * i + r.val)) (fun _ => vF σ a) true 32 j := fun j =>
    (bsum_stay _ _ _ true (by unfold dB; omega) (fun x hx _ c => by
      show (if 256 * x + c.val ≤ 2048 * i + r.val then _ else ⊥) = ⊥
      rw [if_neg]
      unfold dB at hx
      omega) j).symm
  rw [hs, hs, bsum_keys _ _ _ true _ (H.logits r b h a ha) (dn j) (fun t => p (ix3 n t ⟨1024 + 128 * (hn4 gn hgn b).val + j.val, by have := (hn4 gn hgn b).isLt; have := j.isLt; omega⟩)) (fun x c => H.vals b h a ha x c j),
    bsum_keys _ _ _ true _ (H.logits r b h a ha) (up j) (fun _ => 1) (fun x c => vF_one a x c j)]
  unfold hfD
  simp only [mul_one]

/-- The entry that a run of the body leaves. -/
theorem Blk.body (H : Blk σ p l1 k1 l2 k2 g n gn i hgn hi) (hp : ∀ b, (R (.p b)).IsWhole) (ho : (R .o).IsWhole) (hn : i ≤ 3) (r : Fin 2048) (b : Bool)
    (j : Fin 128) :
    bodyS nD τ Λ (F := Ideal) R hp ho (⊥ : EReal) hn σ Bu.o (ix3 0 r (Fox.col b j))
      = attD p l1 k1 l2 k2 g n (hn4 gn hgn b) ⟨2048 * i + r.val, by have := r.isLt; omega⟩ j := by
  rw [body_o]
  unfold attD
  simp only [H.l1, H.k1, H.l2, H.k2, H.gs, fun c => H.half r b 0 (sa b) (by cases b <;> rfl) c, fun c => H.half r b 1 (sb b) (by cases b <;> rfl) c]

end Dif

end
-- ==== Proof.Diff.KI.Value.lean ====
/-
  The launch's result at the extended reals: every block is the differential attention's, and the blocks fill the array.
-/
module

public import proofs.«01_k».proof.Proof.Diff.KI.Frame
public import proofs.«01_k».proof.Proof.Diff.Att
public import Idealize.ShloMosaic.Lib.Pipeline.Covers

@[expose] public section

set_option maxRecDepth 16384

noncomputable section

namespace Cert.Kernel4Ideal.Gen

open Idealize.ShloMosaic Idealize.ShloMosaic.ValueIdx Idealize.ShloMosaic.TcCoe
open Idealize.SL Idealize.SL.RA Idealize.SL.BI Idealize.SL.Sem
open Idealize.ShloMosaic.Pipeline (Dat)
open Fox (St hd hd_lt col hn4)
open Dif (Bu fam SI Blk)
open Cert.Reference4Ideal.Value (attD)

variable (m : (ℓ : Loc nD τ sig) → Buf (Elt Ideal) ℓ) (ρ : Dev nD → PrngReg)

/-- The differential attention, as an array. -/
def attA (p : S2x8192x3072.Idx → EReal) (l1 k1 l2 k2 : S1x64.Idx → EReal) (g : S1x128.Idx → EReal) (i : S2x8192x512.Idx) : EReal :=
  attD p l1 k1 l2 k2 g (i 0) ⟨(i 2).val / 128, by have : (i 2).val < 512 := (i 2).isLt; omega⟩ (i 1) ⟨(i 2).val % 128, Nat.mod_lt _ (by decide)⟩

theorem attA_head (p : S2x8192x3072.Idx → EReal) (l1 k1 l2 k2 : S1x64.Idx → EReal) (g : S1x128.Idx → EReal) (n : Fin 2) (h : Fin 4) (r : Fin 8192)
    (j : Fin 128) (e : Fin 512) (he : e.val = 128 * h.val + j.val) : attA p l1 k1 l2 k2 g (ix3 n r e) = attD p l1 k1 l2 k2 g n h r j := by
  unfold attA
  have hj := j.isLt
  have e1 : (⟨e.val / 128, by have := e.isLt; omega⟩ : Fin 4) = h :=
    Fin.ext (by show e.val / 128 = h.val; omega)
  have e2 : (⟨e.val % 128, Nat.mod_lt _ (by decide)⟩ : Fin 128) = j := Fin.ext (by show e.val % 128 = j.val; omega)
  exact congrArg₂ (fun x y => attD p l1 k1 l2 k2 g n x r y) e1 e2

section Points

variable (t : Fin cfg0.N)

theorem c0_lt : ((grid0.coords t) 0).val < 2 := ((grid0.coords t) 0).isLt
theorem c1_lt : ((grid0.coords t) 1).val < 2 := ((grid0.coords t) 1).isLt
theorem c2_lt : ((grid0.coords t) 2).val < 4 := ((grid0.coords t) 2).isLt

theorem bv_small (x : ℕ) (h : x < 4) : (BitVec.ofNat 32 x).toNat = x := by
  rw [BitVec.toNat_ofNat]; omega

theorem bv_add (k x : ℕ) (hk : k < 100) (h : x < 4) : (Scalar.addi (BitVec.ofNat 32 k) (BitVec.ofNat 32 x)).toNat = k + x := by
  show (BitVec.ofNat 32 k + BitVec.ofNat 32 x).toNat = _
  rw [BitVec.toNat_add, BitVec.toNat_ofNat, BitVec.toNat_ofNat]; omega

theorem read0 (c : Dev nD) (r : Fin 2048) (l : Fin 256) : (iblk m c 0 t : S1x2048x256.Idx → EReal) (ix3 0 r l)
    = (m ((c.tc : Thread nD τ).loc main_arg0) : S2x8192x3072.Idx → EReal) (ix3 ⟨_, c0_lt t⟩ ⟨2048 * ((grid0.coords t) 2).val + r.val, by have := c2_lt t; omega⟩
        ⟨256 * ((grid0.coords t) 1).val + l.val, by have := c1_lt t; omega⟩) := by
  unfold iblk
  rw [View.read_apply]
  show V m c main_arg0 _ = m (c.tc.loc main_arg0) _
  unfold V
  congr 1
  funext a
  apply Fin.ext
  match a with
  | ⟨0, _⟩ => show (BitVec.ofNat 32 ((grid0.coords t) 0).val).toNat * 1 + 1 * 0 = ((grid0.coords t) 0).val
              rw [bv_small _ (by have := c0_lt t; omega)]; omega
  | ⟨1, _⟩ => show (BitVec.ofNat 32 ((grid0.coords t) 2).val).toNat * 2048 + 1 * r.val = 2048 * ((grid0.coords t) 2).val + r.val
              rw [bv_small _ (c2_lt t)]; omega
  | ⟨2, _⟩ => show (BitVec.ofNat 32 ((grid0.coords t) 1).val).toNat * 256 + 1 * l.val = 256 * ((grid0.coords t) 1).val + l.val
              rw [bv_small _ (by have := c1_lt t; omega)]; omega

theorem read1 (c : Dev nD) (r : Fin 8192) (l : Fin 256) : (iblk m c 1 t : S1x8192x256.Idx → EReal) (ix3 0 r l)
    = (m ((c.tc : Thread nD τ).loc main_arg0) : S2x8192x3072.Idx → EReal) (ix3 ⟨_, c0_lt t⟩ r
        ⟨512 + 256 * ((grid0.coords t) 1).val + l.val, by have := c1_lt t; omega⟩) := by
  unfold iblk
  rw [View.read_apply]
  show V m c main_arg0 _ = m (c.tc.loc main_arg0) _
  unfold V
  congr 1
  funext a
  apply Fin.ext
  match a with
  | ⟨0, _⟩ => show (BitVec.ofNat 32 ((grid0.coords t) 0).val).toNat * 1 + 1 * 0 = ((grid0.coords t) 0).val
              rw [bv_small _ (by have := c0_lt t; omega)]; omega
  | ⟨1, _⟩ => show (0#32 : BitVec 32).toNat * 8192 + 1 * r.val = r.val
              rw [show (0#32 : BitVec 32).toNat = 0 from rfl]; omega
  | ⟨2, _⟩ => show (Scalar.addi (BitVec.ofNat 32 2) (BitVec.ofNat 32 ((grid0.coords t) 1).val)).toNat * 256 + 1 * l.val = 512 + 256 * ((grid0.coords t) 1).val + l.val
              rw [bv_add _ _ (by decide) (by have := c1_lt t; omega)]; omega

theorem read2 (c : Dev nD) (r : Fin 8192) (l : Fin 256) : (iblk m c 2 t : S1x8192x256.Idx → EReal) (ix3 0 r l)
    = (m ((c.tc : Thread nD τ).loc main_arg0) : S2x8192x3072.Idx → EReal) (ix3 ⟨_, c0_lt t⟩ r
        ⟨1024 + 256 * ((grid0.coords t) 1).val + l.val, by have := c1_lt t; omega⟩) := by
  unfold iblk
  rw [View.read_apply]
  show V m c main_arg0 _ = m (c.tc.loc main_arg0) _
  unfold V
  congr 1
  funext a
  apply Fin.ext
  match a with
  | ⟨0, _⟩ => show (BitVec.ofNat 32 ((grid0.coords t) 0).val).toNat * 1 + 1 * 0 = ((grid0.coords t) 0).val
              rw [bv_small _ (by have := c0_lt t; omega)]; omega
  | ⟨1, _⟩ => show (0#32 : BitVec 32).toNat * 8192 + 1 * r.val = r.val
              rw [show (0#32 : BitVec 32).toNat = 0 from rfl]; omega
  | ⟨2, _⟩ => show (Scalar.addi (BitVec.ofNat 32 4) (BitVec.ofNat 32 ((grid0.coords t) 1).val)).toNat * 256 + 1 * l.val = 1024 + 256 * ((grid0.coords t) 1).val + l.val
              rw [bv_add _ _ (by decide) (by have := c1_lt t; omega)]; omega

/-- A whole row's place in its array. -/
theorem row_idx {n : ℕ} {h : Fin 2 → ℕ} {j : (⟨2, ![1, n]⟩ : Shape).Idx} (l : Fin n) (h0 : h 0 = 0) (h1 : h 1 = 0)
    (hj : ∀ a, (j a).val = h a * (![1, n] : Fin 2 → ℕ) a + 1 * ((ix2 0 l : (⟨2, ![1, n]⟩ : Shape).Idx) a).val) : j = ix2 0 l := by
  funext a
  apply Fin.ext
  match a with
  | ⟨0, _⟩ => exact (hj 0).trans (by rw [h0, Nat.zero_mul, Nat.zero_add, Nat.one_mul]; rfl)
  | ⟨1, _⟩ => exact (hj 1).trans (by rw [h1, Nat.zero_mul, Nat.zero_add, Nat.one_mul]; rfl)

theorem read3 (c : Dev nD) (l : Fin 64) : (iblk m c 3 t : S1x64.Idx → EReal) (ix2 0 l)
    = (m ((c.tc : Thread nD τ).loc main_arg1) : S1x64.Idx → EReal) (ix2 0 l) := by
  unfold iblk
  rw [View.read_apply]
  exact congrArg (m (c.tc.loc main_arg1)) (row_idx (h := fun _ => (0#32 : BitVec 32).toNat) l rfl rfl fun a => by match a with | ⟨0, _⟩ => rfl | ⟨1, _⟩ => rfl)

theorem read4 (c : Dev nD) (l : Fin 64) : (iblk m c 4 t : S1x64.Idx → EReal) (ix2 0 l)
    = (m ((c.tc : Thread nD τ).loc main_arg2) : S1x64.Idx → EReal) (ix2 0 l) := by
  unfold iblk
  rw [View.read_apply]
  exact congrArg (m (c.tc.loc main_arg2)) (row_idx (h := fun _ => (0#32 : BitVec 32).toNat) l rfl rfl fun a => by match a with | ⟨0, _⟩ => rfl | ⟨1, _⟩ => rfl)

theorem read5 (c : Dev nD) (l : Fin 64) : (iblk m c 5 t : S1x64.Idx → EReal) (ix2 0 l)
    = (m ((c.tc : Thread nD τ).loc main_arg3) : S1x64.Idx → EReal) (ix2 0 l) := by
  unfold iblk
  rw [View.read_apply]
  exact congrArg (m (c.tc.loc main_arg3)) (row_idx (h := fun _ => (0#32 : BitVec 32).toNat) l rfl rfl fun a => by match a with | ⟨0, _⟩ => rfl | ⟨1, _⟩ => rfl)

theorem read6 (c : Dev nD) (l : Fin 64) : (iblk m c 6 t : S1x64.Idx → EReal) (ix2 0 l)
    = (m ((c.tc : Thread nD τ).loc main_arg4) : S1x64.Idx → EReal) (ix2 0 l) := by
  unfold iblk
  rw [View.read_apply]
  exact congrArg (m (c.tc.loc main_arg4)) (row_idx (h := fun _ => (0#32 : BitVec 32).toNat) l rfl rfl fun a => by match a with | ⟨0, _⟩ => rfl | ⟨1, _⟩ => rfl)

theorem read7 (c : Dev nD) (l : Fin 128) : (iblk m c 7 t : S1x128.Idx → EReal) (ix2 0 l)
    = (m ((c.tc : Thread nD τ).loc main_arg5) : S1x128.Idx → EReal) (ix2 0 l) := by
  unfold iblk
  rw [View.read_apply]
  exact congrArg (m (c.tc.loc main_arg5)) (row_idx (h := fun _ => (0#32 : BitVec 32).toNat) l rfl rfl fun a => by match a with | ⟨0, _⟩ => rfl | ⟨1, _⟩ => rfl)

/-- The result's array. -/
def resA (c : Dev nD) : S2x8192x512.Idx → EReal :=
  attA (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The result's block of a point. -/
def resO (c : Dev nD) (t : Fin cfg0.N) : S1x2048x256.Idx → EReal := ((cfg0.win 8).blk t).view.read (Elt Ideal) (resA m c)

theorem resO_apply (c : Dev nD) (r : Fin 2048) (l : Fin 256) : resO m c t (ix3 0 r l)
    = resA m c (ix3 ⟨_, c0_lt t⟩ ⟨2048 * ((grid0.coords t) 2).val + r.val, by have := c2_lt t; omega⟩
        ⟨256 * ((grid0.coords t) 1).val + l.val, by have := c1_lt t; omega⟩) := by
  unfold resO
  rw [View.read_apply]
  show resA m c _ = resA m c _
  congr 1
  funext a
  apply Fin.ext
  match a with
  | ⟨0, _⟩ => show (BitVec.ofNat 32 ((grid0.coords t) 0).val).toNat * 1 + 1 * 0 = ((grid0.coords t) 0).val
              rw [bv_small _ (by have := c0_lt t; omega)]; omega
  | ⟨1, _⟩ => show (BitVec.ofNat 32 ((grid0.coords t) 2).val).toNat * 2048 + 1 * r.val = 2048 * ((grid0.coords t) 2).val + r.val
              rw [bv_small _ (c2_lt t)]; omega
  | ⟨2, _⟩ => show (BitVec.ofNat 32 ((grid0.coords t) 1).val).toNat * 256 + 1 * l.val = 256 * ((grid0.coords t) 1).val + l.val
              rw [bv_small _ (by have := c1_lt t; omega)]; omega

theorem mkC_bot : (mkC (F := Ideal) : EReal) = ⊥ := IdealRules.named_const.ideal_named_scalar _ _ _ _ rfl

theorem holds_blk (c : Dev nD) (σ : SI) (H : Holds m c t σ) :
    Blk σ (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
      ⟨_, c0_lt t⟩ ((grid0.coords t) 1).val ((grid0.coords t) 2).val (c1_lt t) (by have := c2_lt t; omega) := by
  obtain ⟨h0, h1, h2, h3, h4, h5, h6, h7⟩ := H
  exact ⟨fun r l => (congrFun h0 _).trans (read0 m t c r l), fun r l => (congrFun h1 _).trans (read1 m t c r l),
    fun r l => (congrFun h2 _).trans (read2 m t c r l), fun l => (congrFun h3 _).trans (read3 m t c l),
    fun l => (congrFun h4 _).trans (read4 m t c l), fun l => (congrFun h5 _).trans (read5 m t c l),
    fun l => (congrFun h6 _).trans (read6 m t c l), fun l => (congrFun h7 _).trans (read7 m t c l)⟩

theorem col_split (l : Fin 256) : ∃ b j, l = col b j := by
  by_cases h : l.val < 128
  · exact ⟨false, ⟨l.val, h⟩, Fin.ext (by show l.val = 128 * 0 + l.val; omega)⟩
  · exact ⟨true, ⟨l.val - 128, by omega⟩, Fin.ext (by show l.val = 128 * 1 + (l.val - 128); omega)⟩

theorem outAt_eq (c : Dev nD) (σ : SI) (H : Holds m c t σ) : outAt t σ = resO m c t := by
  funext x
  obtain ⟨a, r, l, rfl⟩ : ∃ (a : Fin 1) (r : Fin 2048) (l : Fin 256), x = ix3 a r l := ⟨_, _, _, eq_ix3 x⟩
  obtain rfl : a = 0 := Subsingleton.elim _ _
  obtain ⟨b, j, rfl⟩ := col_split l
  rw [resO_apply]
  unfold resA
  rw [attA_head _ _ _ _ _ _ _ (hn4 ((grid0.coords t) 1).val (c1_lt t) b) _ j _ (by
    show 256 * ((grid0.coords t) 1).val + (128 * hd b + j.val) = 128 * (2 * ((grid0.coords t) 1).val + hd b) + j.val; omega)]
  rw [← (holds_blk m t c σ H).body (nD := nD) (τ := τ) (Λ := Λ₀) _ _ (coords2_le (grid0.coords t)) r b j]
  · rw [← mkC_bot]
  · intro b; cases b <;> exact Memref.isWhole_whole _
  · exact hstage0_8 ((cfg0.slots t 8).cast nbuf0_8)

end Points

theorem flushed_eq (c : Dev nD) (t : Fin cfg0.N) :
    (dats m (resO m) 0 c).flushed 8 t = ((cfg0.win 8).blk t).view.read (Elt Ideal) (resA m c) := rfl

theorem mem_blk (t : Fin cfg0.N) (i : S2x8192x512.Idx) (h0 : (i 0).val = ((grid0.coords t) 0).val)
    (h1 : (i 1).val / 2048 = ((grid0.coords t) 2).val) (h2 : (i 2).val / 256 = ((grid0.coords t) 1).val) : i ∈ ((cfg0.win 8).blk t).view.set := by
  show i ∈ ((View.whole main_v0).slice (win0_8.rect t)).set
  rw [View.set_slice_whole, Rect.mem_set_unit]
  intro a
  match a with
  | ⟨0, _⟩ => show (BitVec.ofNat 32 ((grid0.coords t) 0).val).toNat * 1 ≤ (i 0).val ∧ (i 0).val < (BitVec.ofNat 32 ((grid0.coords t) 0).val).toNat * 1 + 1
              rw [bv_small _ (by have := c0_lt t; omega)]; omega
  | ⟨1, _⟩ => show (BitVec.ofNat 32 ((grid0.coords t) 2).val).toNat * 2048 ≤ (i 1).val ∧ (i 1).val < (BitVec.ofNat 32 ((grid0.coords t) 2).val).toNat * 2048 + 2048
              rw [bv_small _ (c2_lt t)]; omega
  | ⟨2, _⟩ => show (BitVec.ofNat 32 ((grid0.coords t) 1).val).toNat * 256 ≤ (i 2).val ∧ (i 2).val < (BitVec.ofNat 32 ((grid0.coords t) 1).val).toNat * 256 + 256
              rw [bv_small _ (by have := c1_lt t; omega)]; omega

theorem final_o (c : Dev nD) : (dats m (resO m) 0 c).arrAt 8 cfg0.N = resA m c :=
  (dats m (resO m) 0 c).arrAt_eq_of_cover 8 (resA m c) (fun t _ => flushed_eq m c t) fun i => by
    have h0 : (i 0).val < 2 := (i 0).isLt
    have h1 : (i 1).val < 8192 := (i 1).isLt
    have h2 : (i 2).val < 512 := (i 2).isLt
    obtain ⟨t, ht⟩ := Pipeline.Grid.coords_surjective grid0 (fun a => match a with
      | ⟨0, _⟩ => ⟨(i 0).val, h0⟩ | ⟨1, _⟩ => ⟨(i 2).val / 256, by show _ < 2; omega⟩ | ⟨2, _⟩ => ⟨(i 1).val / 2048, by show _ < 4; omega⟩)
    exact ⟨t, flush0_8 t, mem_blk t i (by rw [ht]) (by rw [ht]) (by rw [ht])⟩

/-- The run, its result the differential attention. -/
theorem run_value : θ_run defs (onTc (τ := τ) (main (F := Ideal))) (s₀ m ρ) fun r => ∀ c : Dev nD,
      r.2.mem ((c.tc : Thread nD τ).loc main_v0) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 8).trans (final_o m c), ((h.1 c).1 0).trans ((dats m (resO m) 0 c).arrAt_in 0 rfl _),
      ((h.1 c).1 3).trans ((dats m (resO m) 0 c).arrAt_in 3 rfl _), ((h.1 c).1 4).trans ((dats m (resO m) 0 c).arrAt_in 4 rfl _),
      ((h.1 c).1 5).trans ((dats m (resO m) 0 c).arrAt_in 5 rfl _), ((h.1 c).1 6).trans ((dats m (resO m) 0 c).arrAt_in 6 rfl _),
      ((h.1 c).1 7).trans ((dats m (resO m) 0 c).arrAt_in 7 rfl _)⟩)
    (run_named m ρ (resO m) fun c t σ H => outAt_eq m t c σ H)

end Cert.Kernel4Ideal.Gen

end
-- ==== Proof.lean ====
/-
  The claims, for the two attentions and for the two layers' ends: the kernels and the references run and leave their
  arguments, the named constants are what they stand for, and over the extended reals the kernel's result is the reference's.
-/
module

public import proofs.«01_k».proof.Defs
public import proofs.«01_k».proof.Proof.K.Frame
public import proofs.«01_k».proof.Proof.KI.Frame
public import proofs.«01_k».proof.Proof.KI.Value
public import proofs.«01_k».proof.Proof.Ref
public import proofs.«01_k».proof.Proof.Gen.Kernel2.Frame
public import proofs.«01_k».proof.Proof.Gen.Kernel2Ideal.Value
public import proofs.«01_k».proof.Proof.Gen.Reference2Ideal.Run
public import proofs.«01_k».proof.Proof.Tail.K2
public import proofs.«01_k».proof.Proof.Tail.R2
public import proofs.«01_k».proof.Proof.Gen.Kernel3.Frame
public import proofs.«01_k».proof.Proof.Gen.Kernel3Ideal.Value
public import proofs.«01_k».proof.Proof.Gen.Reference3Ideal.Run
public import proofs.«01_k».proof.Proof.Tail.K3
public import proofs.«01_k».proof.Proof.Tail.R3
public import proofs.«01_k».proof.Proof.Gen.Kernel4.Frame
public import proofs.«01_k».proof.Proof.Gen.Kernel4Ideal.Frame
public import proofs.«01_k».proof.Proof.Gen.Reference4Ideal.Run
public import proofs.«01_k».proof.Proof.Diff.K.Frame
public import proofs.«01_k».proof.Proof.Diff.KI.Frame
public import proofs.«01_k».proof.Proof.Diff.KI.Value
public import proofs.«01_k».proof.Proof.Diff.RefVal

@[expose] public section

noncomputable section

namespace Cert.Proof

open Idealize.ShloMosaic Idealize.ShloMosaic.ValueIdx Idealize.ShloMosaic.TcCoe Idealize.SL.Sem

theorem frame_p : Cert.quiescent_Kernel := fun m ρ _ => Cert.Kernel.Gen.frame_all m ρ
theorem frame_pi : Cert.quiescent_KernelIdeal := fun m ρ _ => Cert.KernelIdeal.Gen.frame_all m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

/-- The reference's result, of the arguments, is the attention. -/
theorem ref_value (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 m' c = Cert.KernelIdeal.Gen.attA (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) := by
  funext x
  obtain ⟨n, r, e, rfl⟩ : ∃ (n : Fin 2) (r : Fin 8192) (e : Fin 512), x = ix3 n r e := ⟨_, _, _, eq_ix3 x⟩
  have he := e.isLt
  obtain ⟨h, j, hj⟩ : ∃ (h : Fin 4) (j : Fin 128), e.val = 128 * h.val + j.val :=
    ⟨⟨e.val / 128, by omega⟩, ⟨e.val % 128, by omega⟩, by show e.val = 128 * (e.val / 128) + e.val % 128; omega⟩
  have hl : 128 * h.val + j.val < 512 := by have := h.isLt; have := j.isLt; omega
  obtain ⟨e, he'⟩ := e
  obtain rfl : e = 128 * h.val + j.val := hj
  exact (Cert.ReferenceIdeal.Value.res_apply m' c n h r j).trans (Cert.KernelIdeal.Gen.attA_head _ _ _ n h r j _ rfl).symm

theorem algebraic : Cert.algebraic_KernelIdeal_ReferenceIdeal := fun m g m' g' _ hagree =>
  ⟨fun c => Cert.KernelIdeal.Gen.resA m c, Cert.KernelIdeal.Gen.run_value m g,
    (θ_run Cert.ReferenceIdeal.defs _ _).mono (fun r h c => ⟨(h c).1.trans (by
      obtain ⟨h0, h1, h2⟩ := hagree c
      refine (ref_value m' c).trans ?_
      rw [h0, h1, h2]
      rfl), (h c).2⟩) (Cert.ReferenceIdeal.Value.run (F := Ideal) m' g')⟩

/-! ## The first layer's end -/

theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves2 : Cert.preserves_Kernel2_Kernel2Ideal := trivial

/-- The reference's result, of the arguments, is the layer's end. -/
theorem ref_value2 (m' : (ℓ : Loc Cert.Reference2Ideal.nD Cert.Reference2Ideal.τ Cert.Reference2Ideal.sig) → Buf (Elt Ideal) ℓ) (c : Dev Cert.Reference2Ideal.nD) :
    let a := fun r => m' ((c.tc : Thread Cert.Reference2Ideal.nD Cert.Reference2Ideal.τ).loc r)
    Cert.Reference2Ideal.Value.res_out0 m' c = fun i : Cert.Kernel2Ideal.S16384x1024.Idx => Cert.Kernel2Ideal.Gen.tailA
      (a Cert.Reference2Ideal.main_arg0) (a Cert.Reference2Ideal.main_arg1) (a Cert.Reference2Ideal.main_arg2) (a Cert.Reference2Ideal.main_arg3)
      (a Cert.Reference2Ideal.main_arg4) (a Cert.Reference2Ideal.main_arg5) (a Cert.Reference2Ideal.main_arg6) (a Cert.Reference2Ideal.main_arg7)
      (a Cert.Reference2Ideal.main_arg8) (a Cert.Reference2Ideal.main_arg9) (a Cert.Reference2Ideal.main_arg10) (i 0) (i 1) := by
  funext x
  obtain ⟨n, e, rfl⟩ : ∃ (n : Fin 16384) (e : Fin 1024), x = ix2 n e := ⟨_, _, eq_ix2 x⟩
  exact Cert.Reference2Ideal.Value.res_apply m' c n e

theorem algebraic2 : Cert.algebraic_Kernel2Ideal_Reference2Ideal := fun m g m' g' _ hagree =>
  ⟨fun c => Cert.Kernel2Ideal.Gen.resA m c, Cert.Kernel2Ideal.Gen.run_value m g,
    (θ_run Cert.Reference2Ideal.defs _ _).mono (fun r h c => ⟨(h c).1.trans (by
      obtain ⟨h0, h1, h2, h3, h4, h5, h6, h7, h8, h9, h10⟩ := hagree c
      refine (ref_value2 m' c).trans ?_
      beta_reduce
      rw [h0, h1, h2, h3, h4, h5, h6, h7, h8, h9, h10]
      rfl), (h c).2⟩) (Cert.Reference2Ideal.Value.run (F := Ideal) m' g')⟩

/-! ## The last layer's end -/

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves3 : Cert.preserves_Kernel3_Kernel3Ideal := trivial

/-- The reference's result, of the arguments, is the last layer's end. -/
theorem ref_value3 (m' : (ℓ : Loc Cert.Reference3Ideal.nD Cert.Reference3Ideal.τ Cert.Reference3Ideal.sig) → Buf (Elt Ideal) ℓ) (c : Dev Cert.Reference3Ideal.nD) :
    let a := fun r => m' ((c.tc : Thread Cert.Reference3Ideal.nD Cert.Reference3Ideal.τ).loc r)
    Cert.Reference3Ideal.Value.res_out0 m' c = fun i : Cert.Kernel3Ideal.S16384x1024.Idx => Cert.Kernel3Ideal.Gen.tailA
      (a Cert.Reference3Ideal.main_arg0) (a Cert.Reference3Ideal.main_arg1) (a Cert.Reference3Ideal.main_arg2) (a Cert.Reference3Ideal.main_arg3)
      (a Cert.Reference3Ideal.main_arg4) (a Cert.Reference3Ideal.main_arg5) (a Cert.Reference3Ideal.main_arg6) (a Cert.Reference3Ideal.main_arg7)
      (a Cert.Reference3Ideal.main_arg8) (a Cert.Reference3Ideal.main_arg9) (a Cert.Reference3Ideal.main_arg10) (i 0) (i 1) := by
  funext x
  obtain ⟨n, e, rfl⟩ : ∃ (n : Fin 16384) (e : Fin 1024), x = ix2 n e := ⟨_, _, eq_ix2 x⟩
  exact (Cert.Reference3Ideal.Value.res_apply m' c n e).trans
    (congrArg (fun y => Tail.nrm y _ e) (funext fun j => Cert.Reference3Ideal.Value.stream_apply m' c n j))

theorem algebraic3 : Cert.algebraic_Kernel3Ideal_Reference3Ideal := fun m g m' g' _ hagree =>
  ⟨fun c => Cert.Kernel3Ideal.Gen.resA m c, Cert.Kernel3Ideal.Gen.run_value m g,
    (θ_run Cert.Reference3Ideal.defs _ _).mono (fun r h c => ⟨(h c).1.trans (by
      obtain ⟨h0, h1, h2, h3, h4, h5, h6, h7, h8, h9, h10⟩ := hagree c
      refine (ref_value3 m' c).trans ?_
      beta_reduce
      rw [h0, h1, h2, h3, h4, h5, h6, h7, h8, h9, h10]
      rfl), (h c).2⟩) (Cert.Reference3Ideal.Value.run (F := Ideal) m' g')⟩

/-! ## The differential attention -/

theorem frame_p4 : Cert.quiescent_Kernel4 := fun m ρ _ => Cert.Kernel4.Gen.frame_all m ρ
theorem frame_pi4 : Cert.quiescent_Kernel4Ideal := fun m ρ _ => Cert.Kernel4Ideal.Gen.frame_all m ρ
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves4 : Cert.preserves_Kernel4_Kernel4Ideal :=
  IdealRules.named_const.statement Cert.Kernel4Ideal.κ "mask" .f32 0xF149F2CA#32 ⊥ rfl

/-- The reference's result, of the arguments, is the differential attention. -/
theorem ref_value4 (m' : (ℓ : Loc Cert.Reference4Ideal.nD Cert.Reference4Ideal.τ Cert.Reference4Ideal.sig) → Buf (Elt Ideal) ℓ) (c : Dev Cert.Reference4Ideal.nD) :
    let a := fun r => m' ((c.tc : Thread Cert.Reference4Ideal.nD Cert.Reference4Ideal.τ).loc r)
    Cert.Reference4Ideal.Value.res_out0 m' c = Cert.Kernel4Ideal.Gen.attA
      (a Cert.Reference4Ideal.main_arg0) (a Cert.Reference4Ideal.main_arg1) (a Cert.Reference4Ideal.main_arg2) (a Cert.Reference4Ideal.main_arg3)
      (a Cert.Reference4Ideal.main_arg4) (a Cert.Reference4Ideal.main_arg5) := by
  funext x
  obtain ⟨n, r, e, rfl⟩ : ∃ (n : Fin 2) (r : Fin 8192) (e : Fin 512), x = ix3 n r e := ⟨_, _, _, eq_ix3 x⟩
  have he := e.isLt
  obtain ⟨h, j, hj⟩ : ∃ (h : Fin 4) (j : Fin 128), e.val = 128 * h.val + j.val :=
    ⟨⟨e.val / 128, by omega⟩, ⟨e.val % 128, by omega⟩, by show e.val = 128 * (e.val / 128) + e.val % 128; omega⟩
  have hl : 128 * h.val + j.val < 512 := by have := h.isLt; have := j.isLt; omega
  obtain ⟨e, he'⟩ := e
  obtain rfl : e = 128 * h.val + j.val := hj
  exact (Cert.Reference4Ideal.Value.res_apply m' c n h r j).trans (Cert.Kernel4Ideal.Gen.attA_head _ _ _ _ _ _ n h r j _ rfl).symm

theorem algebraic4 : Cert.algebraic_Kernel4Ideal_Reference4Ideal := fun m g m' g' _ hagree =>
  ⟨fun c => Cert.Kernel4Ideal.Gen.resA m c, Cert.Kernel4Ideal.Gen.run_value m g,
    (θ_run Cert.Reference4Ideal.defs _ _).mono (fun r h c => ⟨(h c).1.trans (by
      obtain ⟨h0, h1, h2, h3, h4, h5⟩ := hagree c
      refine (ref_value4 m' c).trans ?_
      beta_reduce
      rw [h0, h1, h2, h3, h4, h5]
      rfl), (h c).2⟩) (Cert.Reference4Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  frame_p, frame_pi, frame_ri, frame_p2, frame_pi2, frame_ri2, frame_p3, frame_pi3, frame_ri3, frame_p4, frame_pi4, frame_ri4,
  preserves, algebraic, preserves2, algebraic2, preserves3, algebraic3, preserves4, algebraic4⟩

end Cert.Proof

end
